-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Top (m : (ℓ : Loc Cert.Top.nD Cert.Top.τ Cert.Top.sig) → Buf (Elt Bits) ℓ) : Prop :=
  True

def Pre_TopIdeal (m : (ℓ : Loc Cert.TopIdeal.nD Cert.TopIdeal.τ Cert.TopIdeal.sig) → Buf (Elt Ideal) ℓ) : Prop :=
  True

def Pre_TopReferenceIdeal (m : (ℓ : Loc Cert.TopReferenceIdeal.nD Cert.TopReferenceIdeal.τ Cert.TopReferenceIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Top [hTop : Cert.Top.Facts] : Prop :=
  ∀ (m : (ℓ : Loc Cert.Top.nD Cert.Top.τ Cert.Top.sig) → Buf (Elt Bits) ℓ) (g : Dev Cert.Top.nD → PrngReg), Pre_Top m →
    θ_run (Cert.Top.defs (F := Bits)) (onTc (τ := Cert.Top.τ) (Cert.Top.main (F := Bits))) ⟨m, fun _ => 0, g⟩ (fun r => (∀ c : Dev Cert.Top.nD,
      r.2.mem ((c.tc : Thread Cert.Top.nD Cert.Top.τ).loc Cert.Top.main_arg0) = m ((c.tc : Thread Cert.Top.nD Cert.Top.τ).loc Cert.Top.main_arg0)
      ∧ r.2.mem ((c.tc : Thread Cert.Top.nD Cert.Top.τ).loc Cert.Top.main_arg1) = m ((c.tc : Thread Cert.Top.nD Cert.Top.τ).loc Cert.Top.main_arg1))
      ∧ r.2.sem = fun _ => 0)

def quiescent_TopIdeal [hTopIdeal : Cert.TopIdeal.Facts] : Prop :=
  ∀ (m : (ℓ : Loc Cert.TopIdeal.nD Cert.TopIdeal.τ Cert.TopIdeal.sig) → Buf (Elt Ideal) ℓ) (g : Dev Cert.TopIdeal.nD → PrngReg), Pre_TopIdeal m →
    θ_run (Cert.TopIdeal.defs (F := Ideal)) (onTc (τ := Cert.TopIdeal.τ) (Cert.TopIdeal.main (F := Ideal))) ⟨m, fun _ => 0, g⟩ (fun r => (∀ c : Dev Cert.TopIdeal.nD,
      r.2.mem ((c.tc : Thread Cert.TopIdeal.nD Cert.TopIdeal.τ).loc Cert.TopIdeal.main_arg0) = m ((c.tc : Thread Cert.TopIdeal.nD Cert.TopIdeal.τ).loc Cert.TopIdeal.main_arg0)
      ∧ r.2.mem ((c.tc : Thread Cert.TopIdeal.nD Cert.TopIdeal.τ).loc Cert.TopIdeal.main_arg1) = m ((c.tc : Thread Cert.TopIdeal.nD Cert.TopIdeal.τ).loc Cert.TopIdeal.main_arg1))
      ∧ r.2.sem = fun _ => 0)

def quiescent_TopReferenceIdeal [hTopReferenceIdeal : Cert.TopReferenceIdeal.Facts] : Prop :=
  ∀ (m : (ℓ : Loc Cert.TopReferenceIdeal.nD Cert.TopReferenceIdeal.τ Cert.TopReferenceIdeal.sig) → Buf (Elt Ideal) ℓ) (g : Dev Cert.TopReferenceIdeal.nD → PrngReg), Pre_TopReferenceIdeal m →
    θ_run (Cert.TopReferenceIdeal.defs (F := Ideal)) (onTc (τ := Cert.TopReferenceIdeal.τ) (Cert.TopReferenceIdeal.main (F := Ideal))) ⟨m, fun _ => 0, g⟩ (fun r => (∀ c : Dev Cert.TopReferenceIdeal.nD,
      r.2.mem ((c.tc : Thread Cert.TopReferenceIdeal.nD Cert.TopReferenceIdeal.τ).loc Cert.TopReferenceIdeal.main_arg0) = m ((c.tc : Thread Cert.TopReferenceIdeal.nD Cert.TopReferenceIdeal.τ).loc Cert.TopReferenceIdeal.main_arg0)
      ∧ r.2.mem ((c.tc : Thread Cert.TopReferenceIdeal.nD Cert.TopReferenceIdeal.τ).loc Cert.TopReferenceIdeal.main_arg1) = m ((c.tc : Thread Cert.TopReferenceIdeal.nD Cert.TopReferenceIdeal.τ).loc Cert.TopReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Top_TopIdeal : Prop :=
  True

def algebraic_TopIdeal_TopReferenceIdeal [hTopIdeal : Cert.TopIdeal.Facts] [hTopReferenceIdeal : Cert.TopReferenceIdeal.Facts] : Prop :=
  ∀ (m : (ℓ : Loc Cert.TopIdeal.nD Cert.TopIdeal.τ Cert.TopIdeal.sig) → Buf (Elt Ideal) ℓ) (g : Dev Cert.TopIdeal.nD → PrngReg)
    (m' : (ℓ : Loc Cert.TopReferenceIdeal.nD Cert.TopReferenceIdeal.τ Cert.TopReferenceIdeal.sig) → Buf (Elt Ideal) ℓ) (g' : Dev Cert.TopReferenceIdeal.nD → PrngReg), Pre_TopIdeal m →
    (∀ c : Dev Cert.TopIdeal.nD,
      m' ((c.tc : Thread Cert.TopReferenceIdeal.nD Cert.TopReferenceIdeal.τ).loc Cert.TopReferenceIdeal.main_arg0) = m ((c.tc : Thread Cert.TopIdeal.nD Cert.TopIdeal.τ).loc Cert.TopIdeal.main_arg0)
      ∧ m' ((c.tc : Thread Cert.TopReferenceIdeal.nD Cert.TopReferenceIdeal.τ).loc Cert.TopReferenceIdeal.main_arg1) = m ((c.tc : Thread Cert.TopIdeal.nD Cert.TopIdeal.τ).loc Cert.TopIdeal.main_arg1)) →
    ∃ (v0 : (c : Dev Cert.TopIdeal.nD) → Buf (Elt Ideal) ((c.tc : Thread Cert.TopIdeal.nD Cert.TopIdeal.τ).loc Cert.TopIdeal.main_v21)) (v1 : (c : Dev Cert.TopIdeal.nD) → Buf (Elt Ideal) ((c.tc : Thread Cert.TopIdeal.nD Cert.TopIdeal.τ).loc Cert.TopIdeal.main_v22)) (v2 : (c : Dev Cert.TopIdeal.nD) → Buf (Elt Ideal) ((c.tc : Thread Cert.TopIdeal.nD Cert.TopIdeal.τ).loc Cert.TopIdeal.main_v12)) (v3 : (c : Dev Cert.TopIdeal.nD) → Buf (Elt Ideal) ((c.tc : Thread Cert.TopIdeal.nD Cert.TopIdeal.τ).loc Cert.TopIdeal.main_arg1)),
      θ_run (Cert.TopIdeal.defs (F := Ideal)) (onTc (τ := Cert.TopIdeal.τ) (Cert.TopIdeal.main (F := Ideal))) ⟨m, fun _ => 0, g⟩ (fun r => ∀ c : Dev Cert.TopIdeal.nD,
          r.2.mem ((c.tc : Thread Cert.TopIdeal.nD Cert.TopIdeal.τ).loc Cert.TopIdeal.main_v21) = v0 c
          ∧ r.2.mem ((c.tc : Thread Cert.TopIdeal.nD Cert.TopIdeal.τ).loc Cert.TopIdeal.main_v22) = v1 c
          ∧ r.2.mem ((c.tc : Thread Cert.TopIdeal.nD Cert.TopIdeal.τ).loc Cert.TopIdeal.main_v12) = v2 c
          ∧ r.2.mem ((c.tc : Thread Cert.TopIdeal.nD Cert.TopIdeal.τ).loc Cert.TopIdeal.main_arg1) = v3 c
          ∧ r.2.mem ((c.tc : Thread Cert.TopIdeal.nD Cert.TopIdeal.τ).loc Cert.TopIdeal.main_arg0) = m ((c.tc : Thread Cert.TopIdeal.nD Cert.TopIdeal.τ).loc Cert.TopIdeal.main_arg0)
          ∧ r.2.mem ((c.tc : Thread Cert.TopIdeal.nD Cert.TopIdeal.τ).loc Cert.TopIdeal.main_arg1) = m ((c.tc : Thread Cert.TopIdeal.nD Cert.TopIdeal.τ).loc Cert.TopIdeal.main_arg1))
      ∧ θ_run (Cert.TopReferenceIdeal.defs (F := Ideal)) (onTc (τ := Cert.TopReferenceIdeal.τ) (Cert.TopReferenceIdeal.main (F := Ideal))) ⟨m', fun _ => 0, g'⟩ (fun r => ∀ c : Dev Cert.TopReferenceIdeal.nD,
          r.2.mem ((c.tc : Thread Cert.TopReferenceIdeal.nD Cert.TopReferenceIdeal.τ).loc Cert.TopReferenceIdeal.main_indices) = v0 c
          ∧ r.2.mem ((c.tc : Thread Cert.TopReferenceIdeal.nD Cert.TopReferenceIdeal.τ).loc Cert.TopReferenceIdeal.main_values) = v1 c
          ∧ r.2.mem ((c.tc : Thread Cert.TopReferenceIdeal.nD Cert.TopReferenceIdeal.τ).loc Cert.TopReferenceIdeal.main_v12) = v2 c
          ∧ r.2.mem ((c.tc : Thread Cert.TopReferenceIdeal.nD Cert.TopReferenceIdeal.τ).loc Cert.TopReferenceIdeal.main_arg1) = v3 c
          ∧ r.2.mem ((c.tc : Thread Cert.TopReferenceIdeal.nD Cert.TopReferenceIdeal.τ).loc Cert.TopReferenceIdeal.main_arg0) = m' ((c.tc : Thread Cert.TopReferenceIdeal.nD Cert.TopReferenceIdeal.τ).loc Cert.TopReferenceIdeal.main_arg0)
          ∧ r.2.mem ((c.tc : Thread Cert.TopReferenceIdeal.nD Cert.TopReferenceIdeal.τ).loc Cert.TopReferenceIdeal.main_arg1) = m' ((c.tc : Thread Cert.TopReferenceIdeal.nD Cert.TopReferenceIdeal.τ).loc Cert.TopReferenceIdeal.main_arg1))

def Claim : Prop :=
  ∃ (hKernel : Cert.Kernel.Facts) (hKernelIdeal : Cert.KernelIdeal.Facts) (hReferenceIdeal : Cert.ReferenceIdeal.Facts) (hTop : Cert.Top.Facts) (hTopIdeal : Cert.TopIdeal.Facts) (hTopReferenceIdeal : Cert.TopReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Top (hTop := hTop)
    ∧ quiescent_TopIdeal (hTopIdeal := hTopIdeal)
    ∧ quiescent_TopReferenceIdeal (hTopReferenceIdeal := hTopReferenceIdeal)
    ∧ preserves_Kernel_KernelIdeal
    ∧ algebraic_KernelIdeal_ReferenceIdeal (hKernelIdeal := hKernelIdeal) (hReferenceIdeal := hReferenceIdeal) (hPre_in_range := hPre_in_range)
    ∧ preserves_Top_TopIdeal
    ∧ algebraic_TopIdeal_TopReferenceIdeal (hTopIdeal := hTopIdeal) (hTopReferenceIdeal := hTopReferenceIdeal)
-- ==== Pre_in_range.lean ====
abbrev S10000x10000 : Shape := ⟨2, ![10000, 10000]⟩
abbrev S10000x128 : Shape := ⟨2, ![10000, 128]⟩
abbrev S5120 : Shape := ⟨1, ![5120]⟩
abbrev S_ : Shape := ⟨0, ![]⟩

class Facts : Prop where
  bcast_S_S5120 : S_.BroadcastsInDim S5120 (![] : Fin 0 → Fin S5120.rank)
  reducesTo_S5120_S_d0 : S5120.ReducesTo [0] S_
  h_S_ : 0 < S_.numel

variable [Facts]

def fn {F : FTy → Type} [FloatOps F] (main_arg0 : FVec F S10000x10000 .f32) (main_arg1 : FVec F S10000x128 .f32) (main_arg2 : IVec S5120 32) (main_arg3 : FVec F S5120 .f32) : IVec S_ 1 :=
  let main_c : IVec S_ 32 := constantI S_ 32 0#32
  let main_v0 : IVec S5120 32 := broadcastInDim S5120 ![] bcast_S_S5120 main_c
  let main_v1 : IVec S5120 1 := cmpi .sge main_arg2 main_v0
  let main_c_0 : IVec S_ 32 := constantI S_ 32 10000#32
  let main_v2 : IVec S5120 32 := broadcastInDim S5120 ![] bcast_S_S5120 main_c_0
  let main_v3 : IVec S5120 1 := cmpi .slt main_arg2 main_v2
  let main_v4 : IVec S5120 1 := andi main_v1 main_v3
  let main_c_1 : IVec S_ 1 := constantI S_ 1 1#1
  let main_v5 : IVec S_ 1 := (fun x v => Host.reduce IntOp.andi x v reducesTo_S5120_S_d0 h_S_) main_v4 main_c_1
  main_v5
-- ==== Kernel.lean ====
abbrev S10000x10000 : Shape := ⟨2, ![10000, 10000]⟩
abbrev S10000x128 : Shape := ⟨2, ![10000, 128]⟩
abbrev S5120 : Shape := ⟨1, ![5120]⟩
abbrev S5000 : Shape := ⟨1, ![5000]⟩
abbrev S5008 : Shape := ⟨1, ![5008]⟩
abbrev S1250x4 : Shape := ⟨2, ![1250, 4]⟩
abbrev S_ : Shape := ⟨0, ![]⟩
abbrev S1280x4 : Shape := ⟨2, ![1280, 4]⟩
abbrev S40x32x4 : Shape := ⟨3, ![40, 32, 4]⟩
abbrev S32x40x4 : Shape := ⟨3, ![32, 40, 4]⟩
abbrev S32x40x8 : Shape := ⟨3, ![32, 40, 8]⟩
abbrev S32x320 : Shape := ⟨2, ![32, 320]⟩
abbrev S32x40x4x1 : Shape := ⟨4, ![32, 40, 4, 1]⟩
abbrev S32x40x4x16 : Shape := ⟨4, ![32, 40, 4, 16]⟩
abbrev S32x2560 : Shape := ⟨2, ![32, 2560]⟩
abbrev S51200000 : Shape := ⟨1, ![51200000]⟩
abbrev S10240 : Shape := ⟨1, ![10240]⟩
abbrev S2x1x10000 : Shape := ⟨3, ![2, 1, 10000]⟩
abbrev S2 : Shape := ⟨1, ![2]⟩
abbrev S1 : Shape := ⟨1, ![1]⟩
abbrev S1x1x10000 : Shape := ⟨3, ![1, 1, 10000]⟩
abbrev S1x10000 : Shape := ⟨2, ![1, 10000]⟩
abbrev S10000 : Shape := ⟨1, ![10000]⟩
abbrev S5000x5000 : Shape := ⟨2, ![5000, 5000]⟩
abbrev S5000x128 : Shape := ⟨2, ![5000, 128]⟩
abbrev S40960 : Shape := ⟨1, ![40960]⟩
abbrev S4x128 : Shape := ⟨2, ![4, 128]⟩
abbrev S20032 : Shape := ⟨1, ![20032]⟩
abbrev S320 : Shape := ⟨1, ![320]⟩
abbrev S2560 : Shape := ⟨1, ![2560]⟩
abbrev S512 : Shape := ⟨1, ![512]⟩
abbrev S1x320 : Shape := ⟨2, ![1, 320]⟩
abbrev S1x2560 : Shape := ⟨2, ![1, 2560]⟩
abbrev S4 : Shape := ⟨1, ![4]⟩
abbrev S16 : Shape := ⟨1, ![16]⟩
abbrev S1x16 : Shape := ⟨2, ![1, 16]⟩
abbrev S1x5000 : Shape := ⟨2, ![1, 5000]⟩
abbrev S128 : Shape := ⟨1, ![128]⟩
abbrev S1x128 : Shape := ⟨2, ![1, 128]⟩

abbrev nBuf : Table → Nat
  | .hbm => 28
  | .local .tc .vmem => 3
  | .local .tc .smem => 1
  | .local .scVector .vmem => 9
  | _ => 0

abbrev bufTy : (tb : Table) → Fin (nBuf tb) → BufTy
  | .hbm, ⟨0, _⟩ => ⟨S10000x10000, .f32⟩
  | .hbm, ⟨1, _⟩ => ⟨S10000x128, .f32⟩
  | .hbm, ⟨2, _⟩ => ⟨S5120, .i32⟩
  | .hbm, ⟨3, _⟩ => ⟨S5120, .f32⟩
  | .hbm, ⟨4, _⟩ => ⟨S5000, .f32⟩
  | .hbm, ⟨5, _⟩ => ⟨S5008, .i32⟩
  | .hbm, ⟨6, _⟩ => ⟨S1250x4, .i32⟩
  | .hbm, ⟨7, _⟩ => ⟨S_, .i32⟩
  | .hbm, ⟨8, _⟩ => ⟨S_, .i32⟩
  | .hbm, ⟨9, _⟩ => ⟨S1280x4, .i32⟩
  | .hbm, ⟨10, _⟩ => ⟨S40x32x4, .i32⟩
  | .hbm, ⟨11, _⟩ => ⟨S32x40x4, .i32⟩
  | .hbm, ⟨12, _⟩ => ⟨S_, .i32⟩
  | .hbm, ⟨13, _⟩ => ⟨S_, .i32⟩
  | .hbm, ⟨14, _⟩ => ⟨S32x40x8, .i32⟩
  | .hbm, ⟨15, _⟩ => ⟨S32x320, .i32⟩
  | .hbm, ⟨16, _⟩ => ⟨S1250x4, .f32⟩
  | .hbm, ⟨17, _⟩ => ⟨S_, .i32⟩
  | .hbm, ⟨18, _⟩ => ⟨S_, .f32⟩
  | .hbm, ⟨19, _⟩ => ⟨S1280x4, .f32⟩
  | .hbm, ⟨20, _⟩ => ⟨S40x32x4, .f32⟩
  | .hbm, ⟨21, _⟩ => ⟨S32x40x4, .f32⟩
  | .hbm, ⟨22, _⟩ => ⟨S32x40x4x1, .f32⟩
  | .hbm, ⟨23, _⟩ => ⟨S32x40x4x16, .f32⟩
  | .hbm, ⟨24, _⟩ => ⟨S32x2560, .f32⟩
  | .hbm, ⟨25, _⟩ => ⟨S51200000, .f32⟩
  | .hbm, ⟨26, _⟩ => ⟨S5000x5000, .f32⟩
  | .hbm, ⟨27, _⟩ => ⟨S5000x128, .f32⟩
  | .local .tc .vmem, ⟨0, _⟩ => ⟨S10240, .f32⟩
  | .local .tc .vmem, ⟨1, _⟩ => ⟨S10240, .f32⟩
  | .local .tc .vmem, ⟨2, _⟩ => ⟨S2x1x10000, .f32⟩
  | .local .tc .smem, ⟨0, _⟩ => ⟨S5000, .i32⟩
  | .local .scVector .vmem, ⟨0, _⟩ => ⟨S40960, .f32⟩
  | .local .scVector .vmem, ⟨1, _⟩ => ⟨S40960, .f32⟩
  | .local .scVector .vmem, ⟨2, _⟩ => ⟨S4x128, .f32⟩
  | .local .scVector .vmem, ⟨3, _⟩ => ⟨S4x128, .f32⟩
  | .local .scVector .vmem, ⟨4, _⟩ => ⟨S20032, .f32⟩
  | .local .scVector .vmem, ⟨5, _⟩ => ⟨S5008, .i32⟩
  | .local .scVector .vmem, ⟨6, _⟩ => ⟨S320, .i32⟩
  | .local .scVector .vmem, ⟨7, _⟩ => ⟨S2560, .f32⟩
  | .local .scVector .vmem, ⟨8, _⟩ => ⟨S512, .f32⟩
  | _, _ => ⟨S10000x10000, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_call2_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v0 : Ref sig .tc := ⟨.smem, 0, rfl⟩
abbrev main_v16_scv : Ref sig .scVector := ⟨.hbm, 25, rfl⟩
abbrev main_arg1_scv : Ref sig .scVector := ⟨.hbm, 1, rfl⟩
abbrev main_v2_scv : Ref sig .scVector := ⟨.hbm, 5, rfl⟩
abbrev main_v8_scv : Ref sig .scVector := ⟨.hbm, 15, rfl⟩
abbrev main_v15_scv : Ref sig .scVector := ⟨.hbm, 24, rfl⟩
abbrev main_v17_0_scv : Ref sig .scVector := ⟨.hbm, 26, rfl⟩
abbrev main_v17_1_scv : Ref sig .scVector := ⟨.hbm, 27, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc0_sem0_0 : DmaSem sig := 0
abbrev cc0_sem0_1 : DmaSem sig := 1
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![5000], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (v17 : BitVec 32) : Fin 2 → Nat :=
  let c0_i32_13 : BitVec 32 := 0#32
  ![v17.toNat, 0]

def k0_chk1 (i : grid0.Coords) (v17 : BitVec 32) : Prop :=
  (∀ (k0_h1 : k0_cond1 i = 1#1), ∀ a, (k0_off1 v17) a + S1x10000.size a ≤ S10000x10000.size a)
theorem k0_off1_inb : ∀ (i : grid0.Coords) (v17 : BitVec 32) (k0_hw1 : k0_chk1 i v17), ∀ (k0_h1 : k0_cond1 i = 1#1), ∀ a, (k0_off1 v17) a + S1x10000.size a ≤ S10000x10000.size a := fun i v17 k0_hw1 k0_h1 => k0_hw1 k0_h1

def k0_cond2 (i : grid0.Coords) : BitVec 1 :=
  let arg0 : BitVec 32 := BitVec.ofNat 32 (i 0).val
  let c1_i32 : BitVec 32 := 1#32
  let v4 : BitVec 32 := Scalar.addi arg0 c1_i32
  let c5000_i32 : BitVec 32 := 5000#32
  let v5 : BitVec 1 := Scalar.cmpi .slt v4 c5000_i32
  let v6 : BitVec 32 := Scalar.extui v5
  let c0_i32_1 : BitVec 32 := 0#32
  let v7 : BitVec 1 := Scalar.cmpi .ne v6 c0_i32_1
  v7

def k0_off2 (i : grid0.Coords) : Fin 1 → Nat :=
  let arg0 : BitVec 32 := BitVec.ofNat 32 (i 0).val
  let c1_i32_8 : BitVec 32 := 1#32
  let v17 : BitVec 32 := Scalar.addi arg0 c1_i32_8
  let v18 : Index := Scalar.indexCast v17
  ![v18.toNat]
def k0_off3 (i : grid0.Coords) : Fin 1 → Nat :=
  let c1_i32_10 : BitVec 32 := 1#32
  let arg0 : BitVec 32 := BitVec.ofNat 32 (i 0).val
  let c2_i32 : BitVec 32 := 2#32
  let v0 : BitVec 32 := Scalar.remsi arg0 c2_i32
  let v21 : BitVec 32 := Scalar.subi c1_i32_10 v0
  ![v21.toNat]
def k0_off4 (i : grid0.Coords) : Fin 3 → Nat :=
  let c1_i32_9 : BitVec 32 := 1#32
  let arg0 : BitVec 32 := BitVec.ofNat 32 (i 0).val
  let c2_i32 : BitVec 32 := 2#32
  let v0 : BitVec 32 := Scalar.remsi arg0 c2_i32
  let v20 : BitVec 32 := Scalar.subi c1_i32_9 v0
  let c0_i32_11 : BitVec 32 := 0#32
  let c0_i32_12 : BitVec 32 := 0#32
  ![v20.toNat, 0, 0]
def k0_off5 (v19 : BitVec 32) : Fin 2 → Nat :=
  let c0_i32_13 : BitVec 32 := 0#32
  ![v19.toNat, 0]

def k0_chk2 (i : grid0.Coords) (v19 : BitVec 32) : Prop :=
  (∀ (k0_h2 : k0_cond2 i = 1#1), ∀ a, (k0_off5 v19) a + S1x10000.size a ≤ S10000x10000.size a)
theorem k0_off5_inb : ∀ (i : grid0.Coords) (v19 : BitVec 32) (k0_hw2 : k0_chk2 i v19), ∀ (k0_h2 : k0_cond2 i = 1#1), ∀ a, (k0_off5 v19) a + S1x10000.size a ≤ S10000x10000.size a := fun i v19 k0_hw2 k0_h2 => k0_hw2 k0_h2

def k0_off6 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off7 (i : grid0.Coords) : Fin 3 → Nat :=
  let arg0 : BitVec 32 := BitVec.ofNat 32 (i 0).val
  let c2_i32 : BitVec 32 := 2#32
  let v0 : BitVec 32 := Scalar.remsi arg0 c2_i32
  let c0_i32_2 : BitVec 32 := 0#32
  let c0_i32_3 : BitVec 32 := 0#32
  ![v0.toNat, 0, 0]
def k0_off8 (i : grid0.Coords) : Fin 3 → Nat :=
  let arg0 : BitVec 32 := BitVec.ofNat 32 (i 0).val
  let c2_i32 : BitVec 32 := 2#32
  let v0 : BitVec 32 := Scalar.remsi arg0 c2_i32
  let v13 : Index := Scalar.indexCast v0
  let c0 : Index := 0#32
  let c0_6 : Index := 0#32
  ![v13.toNat, 0, 0]
def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S10240 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r1 : BitVec 32 := 0#32
  ![v1.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r2 : BitVec 32 := 0#32
  ![v1.toNat, 0]
def k1_mult1 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 32 := Scalar.addi v1 c0_i32
  let c40960_i32 : BitVec 32 := 40960#32
  let v5 : BitVec 32 := Scalar.muli v4 c40960_i32
  v5
def k1_off3 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 32 := Scalar.addi v1 c0_i32
  let c40960_i32 : BitVec 32 := 40960#32
  let v5 : BitVec 32 := Scalar.muli v4 c40960_i32
  let v6 : BitVec 32 := v5
  ![v6.toNat]
def k1_mult2 : BitVec 32 :=
  let c0_i32_1 : BitVec 32 := 0#32
  c0_i32_1
@[reducible] def k1_t1_loop : Scf.Loop 32 :=
  let c0_i32_5 : BitVec 32 := 0#32
  let c20_i32 : BitVec 32 := 20#32
  let v12 : BitVec 32 := Scalar.addi c0_i32_5 c20_i32
  let c1_i32 : BitVec 32 := 1#32
  ⟨c0_i32_5, v12, c1_i32⟩
def k1_cond1 (i : grid1.Coords) (k1_t1 : Fin k1_t1_loop.trips) : BitVec 1 :=
  let c2_i32_7 : BitVec 32 := 2#32
  let c0_i32_5 : BitVec 32 := 0#32
  let c1_i32 : BitVec 32 := 1#32
  let arg20 : BitVec 32 := Scf.iv c0_i32_5 c1_i32 k1_t1
  let v13 : BitVec 32 := Scalar.muli c2_i32_7 arg20
  let c0_i32_8 : BitVec 32 := 0#32
  let v14 : BitVec 32 := Scalar.addi v13 c0_i32_8
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let c40_i32 : BitVec 32 := 40#32
  let c39_i32 : BitVec 32 := 39#32
  let v3 : BitVec 32 := Scalar.select v2 c40_i32 c39_i32
  let v15 : BitVec 1 := Scalar.cmpi .slt v14 v3
  let v16 : BitVec 32 := Scalar.extui v15
  let c0_i32_9 : BitVec 32 := 0#32
  let v17 : BitVec 1 := Scalar.cmpi .ne v16 c0_i32_9
  v17

def k1_mult3 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c2_i32_7 : BitVec 32 := 2#32
  let c0_i32_5 : BitVec 32 := 0#32
  let c1_i32 : BitVec 32 := 1#32
  let arg20 : BitVec 32 := Scf.iv c0_i32_5 c1_i32 k1_t1
  let v13 : BitVec 32 := Scalar.muli c2_i32_7 arg20
  let c0_i32_8 : BitVec 32 := 0#32
  let v14 : BitVec 32 := Scalar.addi v13 c0_i32_8
  let v23 : BitVec 32 := Scalar.muli c32_i32 v14
  let v24 : BitVec 32 := Scalar.addi v1 v23
  let c40960_i32_13 : BitVec 32 := 40960#32
  let v25 : BitVec 32 := Scalar.muli v24 c40960_i32_13
  v25
def k1_off4 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c2_i32_7 : BitVec 32 := 2#32
  let c0_i32_5 : BitVec 32 := 0#32
  let c1_i32 : BitVec 32 := 1#32
  let arg20 : BitVec 32 := Scf.iv c0_i32_5 c1_i32 k1_t1
  let v13 : BitVec 32 := Scalar.muli c2_i32_7 arg20
  let c0_i32_8 : BitVec 32 := 0#32
  let v14 : BitVec 32 := Scalar.addi v13 c0_i32_8
  let v23 : BitVec 32 := Scalar.muli c32_i32 v14
  let v24 : BitVec 32 := Scalar.addi v1 v23
  let c40960_i32_13 : BitVec 32 := 40960#32
  let v25 : BitVec 32 := Scalar.muli v24 c40960_i32_13
  let v26 : BitVec 32 := v25
  ![v26.toNat]
def k1_mult4 (k1_t1 : Fin k1_t1_loop.trips) : BitVec 32 :=
  let c2_i32_7 : BitVec 32 := 2#32
  let c0_i32_5 : BitVec 32 := 0#32
  let c1_i32 : BitVec 32 := 1#32
  let arg20 : BitVec 32 := Scf.iv c0_i32_5 c1_i32 k1_t1
  let v13 : BitVec 32 := Scalar.muli c2_i32_7 arg20
  let c0_i32_8 : BitVec 32 := 0#32
  let v14 : BitVec 32 := Scalar.addi v13 c0_i32_8
  let c8_i32 : BitVec 32 := 8#32
  let v29 : BitVec 32 := Scalar.muli v14 c8_i32
  v29
def k1_off5 (k1_t1 : Fin k1_t1_loop.trips) : Fin 1 → Nat :=
  let c2_i32_7 : BitVec 32 := 2#32
  let c0_i32_5 : BitVec 32 := 0#32
  let c1_i32 : BitVec 32 := 1#32
  let arg20 : BitVec 32 := Scf.iv c0_i32_5 c1_i32 k1_t1
  let v13 : BitVec 32 := Scalar.muli c2_i32_7 arg20
  let c0_i32_8 : BitVec 32 := 0#32
  let v14 : BitVec 32 := Scalar.addi v13 c0_i32_8
  let c8_i32 : BitVec 32 := 8#32
  let v29 : BitVec 32 := Scalar.muli v14 c8_i32
  let v30 : BitVec 32 := v29
  ![v30.toNat]
def k1_cond2 (i : grid1.Coords) (k1_t1 : Fin k1_t1_loop.trips) : BitVec 1 :=
  let c2_i32_7 : BitVec 32 := 2#32
  let c0_i32_5 : BitVec 32 := 0#32
  let c1_i32 : BitVec 32 := 1#32
  let arg20 : BitVec 32 := Scf.iv c0_i32_5 c1_i32 k1_t1
  let v13 : BitVec 32 := Scalar.muli c2_i32_7 arg20
  let c0_i32_8 : BitVec 32 := 0#32
  let v14 : BitVec 32 := Scalar.addi v13 c0_i32_8
  let c1_i32_16 : BitVec 32 := 1#32
  let v33 : BitVec 32 := Scalar.addi v14 c1_i32_16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let c40_i32 : BitVec 32 := 40#32
  let c39_i32 : BitVec 32 := 39#32
  let v3 : BitVec 32 := Scalar.select v2 c40_i32 c39_i32
  let v34 : BitVec 1 := Scalar.cmpi .slt v33 v3
  let v35 : BitVec 32 := Scalar.extui v34
  let c0_i32_17 : BitVec 32 := 0#32
  let v36 : BitVec 1 := Scalar.cmpi .ne v35 c0_i32_17
  v36

def k1_mult5 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_121 : BitVec 32 := 32#32
  let c2_i32_7 : BitVec 32 := 2#32
  let c0_i32_5 : BitVec 32 := 0#32
  let c1_i32 : BitVec 32 := 1#32
  let arg20 : BitVec 32 := Scf.iv c0_i32_5 c1_i32 k1_t1
  let v13 : BitVec 32 := Scalar.muli c2_i32_7 arg20
  let c0_i32_8 : BitVec 32 := 0#32
  let v14 : BitVec 32 := Scalar.addi v13 c0_i32_8
  let c1_i32_120 : BitVec 32 := 1#32
  let v204 : BitVec 32 := Scalar.addi v14 c1_i32_120
  let v205 : BitVec 32 := Scalar.muli c32_i32_121 v204
  let v206 : BitVec 32 := Scalar.addi v1 v205
  let c40960_i32_122 : BitVec 32 := 40960#32
  let v207 : BitVec 32 := Scalar.muli v206 c40960_i32_122
  v207
def k1_off6 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_121 : BitVec 32 := 32#32
  let c2_i32_7 : BitVec 32 := 2#32
  let c0_i32_5 : BitVec 32 := 0#32
  let c1_i32 : BitVec 32 := 1#32
  let arg20 : BitVec 32 := Scf.iv c0_i32_5 c1_i32 k1_t1
  let v13 : BitVec 32 := Scalar.muli c2_i32_7 arg20
  let c0_i32_8 : BitVec 32 := 0#32
  let v14 : BitVec 32 := Scalar.addi v13 c0_i32_8
  let c1_i32_120 : BitVec 32 := 1#32
  let v204 : BitVec 32 := Scalar.addi v14 c1_i32_120
  let v205 : BitVec 32 := Scalar.muli c32_i32_121 v204
  let v206 : BitVec 32 := Scalar.addi v1 v205
  let c40960_i32_122 : BitVec 32 := 40960#32
  let v207 : BitVec 32 := Scalar.muli v206 c40960_i32_122
  let v208 : BitVec 32 := v207
  ![v208.toNat]
def k1_mult6 (k1_t1 : Fin k1_t1_loop.trips) : BitVec 32 :=
  let c2_i32_7 : BitVec 32 := 2#32
  let c0_i32_5 : BitVec 32 := 0#32
  let c1_i32 : BitVec 32 := 1#32
  let arg20 : BitVec 32 := Scf.iv c0_i32_5 c1_i32 k1_t1
  let v13 : BitVec 32 := Scalar.muli c2_i32_7 arg20
  let c0_i32_8 : BitVec 32 := 0#32
  let v14 : BitVec 32 := Scalar.addi v13 c0_i32_8
  let c1_i32_120 : BitVec 32 := 1#32
  let v204 : BitVec 32 := Scalar.addi v14 c1_i32_120
  let c8_i32_123 : BitVec 32 := 8#32
  let v211 : BitVec 32 := Scalar.muli v204 c8_i32_123
  v211
def k1_off7 (k1_t1 : Fin k1_t1_loop.trips) : Fin 1 → Nat :=
  let c2_i32_7 : BitVec 32 := 2#32
  let c0_i32_5 : BitVec 32 := 0#32
  let c1_i32 : BitVec 32 := 1#32
  let arg20 : BitVec 32 := Scf.iv c0_i32_5 c1_i32 k1_t1
  let v13 : BitVec 32 := Scalar.muli c2_i32_7 arg20
  let c0_i32_8 : BitVec 32 := 0#32
  let v14 : BitVec 32 := Scalar.addi v13 c0_i32_8
  let c1_i32_120 : BitVec 32 := 1#32
  let v204 : BitVec 32 := Scalar.addi v14 c1_i32_120
  let c8_i32_123 : BitVec 32 := 8#32
  let v211 : BitVec 32 := Scalar.muli v204 c8_i32_123
  let v212 : BitVec 32 := v211
  ![v212.toNat]
@[reducible] def k1_t2_loop : Scf.Loop 32 :=
  let c0_i32_19 : BitVec 32 := 0#32
  let c313_i32 : BitVec 32 := 313#32
  let v37 : BitVec 32 := Scalar.addi c0_i32_19 c313_i32
  let c1_i32_20 : BitVec 32 := 1#32
  ⟨c0_i32_19, v37, c1_i32_20⟩
def k1_mult7 (k1_t2 : Fin k1_t2_loop.trips) : BitVec 32 :=
  let c0_i32_19 : BitVec 32 := 0#32
  let c1_i32_20 : BitVec 32 := 1#32
  let arg21 : BitVec 32 := Scf.iv c0_i32_19 c1_i32_20 k1_t2
  let c16_i32_120 : BitVec 32 := 16#32
  let v204 : BitVec 32 := Scalar.muli arg21 c16_i32_120
  v204
def k1_off8 (k1_t2 : Fin k1_t2_loop.trips) : Fin 1 → Nat :=
  let c0_i32_19 : BitVec 32 := 0#32
  let c1_i32_20 : BitVec 32 := 1#32
  let arg21 : BitVec 32 := Scf.iv c0_i32_19 c1_i32_20 k1_t2
  let c16_i32_120 : BitVec 32 := 16#32
  let v204 : BitVec 32 := Scalar.muli arg21 c16_i32_120
  let v205 : BitVec 32 := v204
  let v206 : Index := Scalar.indexCast v205
  ![v206.toNat]

def k1_chk1 (i : grid1.Coords) (k1_t1 : Fin k1_t1_loop.trips) (v209 : IVec S16 32) : Prop :=
  (∀ (k1_h1 : k1_cond1 i k1_t1 = 1#1), ∀ a x, ((![v209] : Fin 1 → IVec S16 32) a x).toNat < S40960.size a)
theorem k1_idx1_inb : ∀ (i : grid1.Coords) (k1_t1 : Fin k1_t1_loop.trips) (v209 : IVec S16 32) (k1_hw1 : k1_chk1 i k1_t1 v209), ∀ (k1_h1 : k1_cond1 i k1_t1 = 1#1), ∀ a x, ((![v209] : Fin 1 → IVec S16 32) a x).toNat < S40960.size a := fun i k1_t1 v209 k1_hw1 k1_h1 => k1_hw1 k1_h1
def k1_off9 (k1_t2 : Fin k1_t2_loop.trips) : Fin 1 → Nat :=
  let c0_i32_122 : BitVec 32 := 0#32
  let c0_i32_19 : BitVec 32 := 0#32
  let c1_i32_20 : BitVec 32 := 1#32
  let arg21 : BitVec 32 := Scf.iv c0_i32_19 c1_i32_20 k1_t2
  let c16_i32_120 : BitVec 32 := 16#32
  let v204 : BitVec 32 := Scalar.muli arg21 c16_i32_120
  let v205 : BitVec 32 := v204
  let v211 : BitVec 32 := Scalar.addi c0_i32_122 v205
  let v212 : Index := Scalar.indexCast v211
  ![v212.toNat]
def k1_mult8 (k1_t1 : Fin k1_t1_loop.trips) : BitVec 32 :=
  let c2_i32_7 : BitVec 32 := 2#32
  let c0_i32_5 : BitVec 32 := 0#32
  let c1_i32 : BitVec 32 := 1#32
  let arg20 : BitVec 32 := Scf.iv c0_i32_5 c1_i32 k1_t1
  let v13 : BitVec 32 := Scalar.muli c2_i32_7 arg20
  let c0_i32_8 : BitVec 32 := 0#32
  let v14 : BitVec 32 := Scalar.addi v13 c0_i32_8
  let c4_i32 : BitVec 32 := 4#32
  let v38 : BitVec 32 := Scalar.muli v14 c4_i32
  let c0_i32_22 : BitVec 32 := 0#32
  let v39 : BitVec 32 := Scalar.addi v38 c0_i32_22
  let c16_i32 : BitVec 32 := 16#32
  let v40 : BitVec 32 := Scalar.muli v39 c16_i32
  v40
def k1_off10 (k1_t1 : Fin k1_t1_loop.trips) (c0_i32_22 : BitVec 32) : Fin 1 → Nat :=
  let c2_i32_7 : BitVec 32 := 2#32
  let c0_i32_5 : BitVec 32 := 0#32
  let c1_i32 : BitVec 32 := 1#32
  let arg20 : BitVec 32 := Scf.iv c0_i32_5 c1_i32 k1_t1
  let v13 : BitVec 32 := Scalar.muli c2_i32_7 arg20
  let c0_i32_8 : BitVec 32 := 0#32
  let v14 : BitVec 32 := Scalar.addi v13 c0_i32_8
  let c4_i32 : BitVec 32 := 4#32
  let v38 : BitVec 32 := Scalar.muli v14 c4_i32
  let v39 : BitVec 32 := Scalar.addi v38 c0_i32_22
  let c16_i32 : BitVec 32 := 16#32
  let v40 : BitVec 32 := Scalar.muli v39 c16_i32
  let v41 : BitVec 32 := v40
  let v42 : Index := Scalar.indexCast v41
  ![v42.toNat]
@[reducible] def k1_t3_loop : Scf.Loop 32 :=
  let c0_i32_40 : BitVec 32 := 0#32
  let c313_i32_41 : BitVec 32 := 313#32
  let v76 : BitVec 32 := Scalar.addi c0_i32_40 c313_i32_41
  let c1_i32_42 : BitVec 32 := 1#32
  ⟨c0_i32_40, v76, c1_i32_42⟩
def k1_mult9 (k1_t3 : Fin k1_t3_loop.trips) : BitVec 32 :=
  let c0_i32_40 : BitVec 32 := 0#32
  let c1_i32_42 : BitVec 32 := 1#32
  let arg21 : BitVec 32 := Scf.iv c0_i32_40 c1_i32_42 k1_t3
  let c16_i32_120 : BitVec 32 := 16#32
  let v204 : BitVec 32 := Scalar.muli arg21 c16_i32_120
  v204
def k1_off11 (k1_t3 : Fin k1_t3_loop.trips) : Fin 1 → Nat :=
  let c0_i32_40 : BitVec 32 := 0#32
  let c1_i32_42 : BitVec 32 := 1#32
  let arg21 : BitVec 32 := Scf.iv c0_i32_40 c1_i32_42 k1_t3
  let c16_i32_120 : BitVec 32 := 16#32
  let v204 : BitVec 32 := Scalar.muli arg21 c16_i32_120
  let v205 : BitVec 32 := v204
  let v206 : Index := Scalar.indexCast v205
  ![v206.toNat]

def k1_chk2 (i : grid1.Coords) (k1_t1 : Fin k1_t1_loop.trips) (v209 : IVec S16 32) : Prop :=
  (∀ (k1_h1 : k1_cond1 i k1_t1 = 1#1), ∀ a x, ((![v209] : Fin 1 → IVec S16 32) a x).toNat < S40960.size a)
theorem k1_idx2_inb : ∀ (i : grid1.Coords) (k1_t1 : Fin k1_t1_loop.trips) (v209 : IVec S16 32) (k1_hw2 : k1_chk2 i k1_t1 v209), ∀ (k1_h1 : k1_cond1 i k1_t1 = 1#1), ∀ a x, ((![v209] : Fin 1 → IVec S16 32) a x).toNat < S40960.size a := fun i k1_t1 v209 k1_hw2 k1_h1 => k1_hw2 k1_h1
def k1_off12 (k1_t3 : Fin k1_t3_loop.trips) : Fin 1 → Nat :=
  let c5008_i32 : BitVec 32 := 5008#32
  let c0_i32_40 : BitVec 32 := 0#32
  let c1_i32_42 : BitVec 32 := 1#32
  let arg21 : BitVec 32 := Scf.iv c0_i32_40 c1_i32_42 k1_t3
  let c16_i32_120 : BitVec 32 := 16#32
  let v204 : BitVec 32 := Scalar.muli arg21 c16_i32_120
  let v205 : BitVec 32 := v204
  let v211 : BitVec 32 := Scalar.addi c5008_i32 v205
  let v212 : Index := Scalar.indexCast v211
  ![v212.toNat]
def k1_mult10 (k1_t1 : Fin k1_t1_loop.trips) : BitVec 32 :=
  let c2_i32_7 : BitVec 32 := 2#32
  let c0_i32_5 : BitVec 32 := 0#32
  let c1_i32 : BitVec 32 := 1#32
  let arg20 : BitVec 32 := Scf.iv c0_i32_5 c1_i32 k1_t1
  let v13 : BitVec 32 := Scalar.muli c2_i32_7 arg20
  let c0_i32_8 : BitVec 32 := 0#32
  let v14 : BitVec 32 := Scalar.addi v13 c0_i32_8
  let c4_i32_44 : BitVec 32 := 4#32
  let v77 : BitVec 32 := Scalar.muli v14 c4_i32_44
  let c1_i32_45 : BitVec 32 := 1#32
  let v78 : BitVec 32 := Scalar.addi v77 c1_i32_45
  let c16_i32_46 : BitVec 32 := 16#32
  let v79 : BitVec 32 := Scalar.muli v78 c16_i32_46
  v79
@[reducible] def k1_t4_loop : Scf.Loop 32 :=
  let c0_i32_64 : BitVec 32 := 0#32
  let c313_i32_65 : BitVec 32 := 313#32
  let v115 : BitVec 32 := Scalar.addi c0_i32_64 c313_i32_65
  let c1_i32_66 : BitVec 32 := 1#32
  ⟨c0_i32_64, v115, c1_i32_66⟩
def k1_mult11 (k1_t4 : Fin k1_t4_loop.trips) : BitVec 32 :=
  let c0_i32_64 : BitVec 32 := 0#32
  let c1_i32_66 : BitVec 32 := 1#32
  let arg21 : BitVec 32 := Scf.iv c0_i32_64 c1_i32_66 k1_t4
  let c16_i32_120 : BitVec 32 := 16#32
  let v204 : BitVec 32 := Scalar.muli arg21 c16_i32_120
  v204
def k1_off13 (k1_t4 : Fin k1_t4_loop.trips) : Fin 1 → Nat :=
  let c0_i32_64 : BitVec 32 := 0#32
  let c1_i32_66 : BitVec 32 := 1#32
  let arg21 : BitVec 32 := Scf.iv c0_i32_64 c1_i32_66 k1_t4
  let c16_i32_120 : BitVec 32 := 16#32
  let v204 : BitVec 32 := Scalar.muli arg21 c16_i32_120
  let v205 : BitVec 32 := v204
  let v206 : Index := Scalar.indexCast v205
  ![v206.toNat]

def k1_chk3 (i : grid1.Coords) (k1_t1 : Fin k1_t1_loop.trips) (v209 : IVec S16 32) : Prop :=
  (∀ (k1_h1 : k1_cond1 i k1_t1 = 1#1), ∀ a x, ((![v209] : Fin 1 → IVec S16 32) a x).toNat < S40960.size a)
theorem k1_idx3_inb : ∀ (i : grid1.Coords) (k1_t1 : Fin k1_t1_loop.trips) (v209 : IVec S16 32) (k1_hw3 : k1_chk3 i k1_t1 v209), ∀ (k1_h1 : k1_cond1 i k1_t1 = 1#1), ∀ a x, ((![v209] : Fin 1 → IVec S16 32) a x).toNat < S40960.size a := fun i k1_t1 v209 k1_hw3 k1_h1 => k1_hw3 k1_h1
def k1_off14 (k1_t4 : Fin k1_t4_loop.trips) : Fin 1 → Nat :=
  let c10016_i32 : BitVec 32 := 10016#32
  let c0_i32_64 : BitVec 32 := 0#32
  let c1_i32_66 : BitVec 32 := 1#32
  let arg21 : BitVec 32 := Scf.iv c0_i32_64 c1_i32_66 k1_t4
  let c16_i32_120 : BitVec 32 := 16#32
  let v204 : BitVec 32 := Scalar.muli arg21 c16_i32_120
  let v205 : BitVec 32 := v204
  let v211 : BitVec 32 := Scalar.addi c10016_i32 v205
  let v212 : Index := Scalar.indexCast v211
  ![v212.toNat]
def k1_mult12 (k1_t1 : Fin k1_t1_loop.trips) : BitVec 32 :=
  let c2_i32_7 : BitVec 32 := 2#32
  let c0_i32_5 : BitVec 32 := 0#32
  let c1_i32 : BitVec 32 := 1#32
  let arg20 : BitVec 32 := Scf.iv c0_i32_5 c1_i32 k1_t1
  let v13 : BitVec 32 := Scalar.muli c2_i32_7 arg20
  let c0_i32_8 : BitVec 32 := 0#32
  let v14 : BitVec 32 := Scalar.addi v13 c0_i32_8
  let c4_i32_68 : BitVec 32 := 4#32
  let v116 : BitVec 32 := Scalar.muli v14 c4_i32_68
  let c2_i32_69 : BitVec 32 := 2#32
  let v117 : BitVec 32 := Scalar.addi v116 c2_i32_69
  let c16_i32_70 : BitVec 32 := 16#32
  let v118 : BitVec 32 := Scalar.muli v117 c16_i32_70
  v118
@[reducible] def k1_t5_loop : Scf.Loop 32 :=
  let c0_i32_88 : BitVec 32 := 0#32
  let c313_i32_89 : BitVec 32 := 313#32
  let v154 : BitVec 32 := Scalar.addi c0_i32_88 c313_i32_89
  let c1_i32_90 : BitVec 32 := 1#32
  ⟨c0_i32_88, v154, c1_i32_90⟩
def k1_mult13 (k1_t5 : Fin k1_t5_loop.trips) : BitVec 32 :=
  let c0_i32_88 : BitVec 32 := 0#32
  let c1_i32_90 : BitVec 32 := 1#32
  let arg21 : BitVec 32 := Scf.iv c0_i32_88 c1_i32_90 k1_t5
  let c16_i32_120 : BitVec 32 := 16#32
  let v204 : BitVec 32 := Scalar.muli arg21 c16_i32_120
  v204
def k1_off15 (k1_t5 : Fin k1_t5_loop.trips) : Fin 1 → Nat :=
  let c0_i32_88 : BitVec 32 := 0#32
  let c1_i32_90 : BitVec 32 := 1#32
  let arg21 : BitVec 32 := Scf.iv c0_i32_88 c1_i32_90 k1_t5
  let c16_i32_120 : BitVec 32 := 16#32
  let v204 : BitVec 32 := Scalar.muli arg21 c16_i32_120
  let v205 : BitVec 32 := v204
  let v206 : Index := Scalar.indexCast v205
  ![v206.toNat]

def k1_chk4 (i : grid1.Coords) (k1_t1 : Fin k1_t1_loop.trips) (v209 : IVec S16 32) : Prop :=
  (∀ (k1_h1 : k1_cond1 i k1_t1 = 1#1), ∀ a x, ((![v209] : Fin 1 → IVec S16 32) a x).toNat < S40960.size a)
theorem k1_idx4_inb : ∀ (i : grid1.Coords) (k1_t1 : Fin k1_t1_loop.trips) (v209 : IVec S16 32) (k1_hw4 : k1_chk4 i k1_t1 v209), ∀ (k1_h1 : k1_cond1 i k1_t1 = 1#1), ∀ a x, ((![v209] : Fin 1 → IVec S16 32) a x).toNat < S40960.size a := fun i k1_t1 v209 k1_hw4 k1_h1 => k1_hw4 k1_h1
def k1_off16 (k1_t5 : Fin k1_t5_loop.trips) : Fin 1 → Nat :=
  let c15024_i32 : BitVec 32 := 15024#32
  let c0_i32_88 : BitVec 32 := 0#32
  let c1_i32_90 : BitVec 32 := 1#32
  let arg21 : BitVec 32 := Scf.iv c0_i32_88 c1_i32_90 k1_t5
  let c16_i32_120 : BitVec 32 := 16#32
  let v204 : BitVec 32 := Scalar.muli arg21 c16_i32_120
  let v205 : BitVec 32 := v204
  let v211 : BitVec 32 := Scalar.addi c15024_i32 v205
  let v212 : Index := Scalar.indexCast v211
  ![v212.toNat]
def k1_mult14 (k1_t1 : Fin k1_t1_loop.trips) : BitVec 32 :=
  let c2_i32_7 : BitVec 32 := 2#32
  let c0_i32_5 : BitVec 32 := 0#32
  let c1_i32 : BitVec 32 := 1#32
  let arg20 : BitVec 32 := Scf.iv c0_i32_5 c1_i32 k1_t1
  let v13 : BitVec 32 := Scalar.muli c2_i32_7 arg20
  let c0_i32_8 : BitVec 32 := 0#32
  let v14 : BitVec 32 := Scalar.addi v13 c0_i32_8
  let c4_i32_92 : BitVec 32 := 4#32
  let v155 : BitVec 32 := Scalar.muli v14 c4_i32_92
  let c3_i32 : BitVec 32 := 3#32
  let v156 : BitVec 32 := Scalar.addi v155 c3_i32
  let c16_i32_93 : BitVec 32 := 16#32
  let v157 : BitVec 32 := Scalar.muli v156 c16_i32_93
  v157
def k1_off17 (i : grid1.Coords) (k1_t1 : Fin k1_t1_loop.trips) (c0_i32_112 : BitVec 32) : Fin 2 → Nat :=
  let c4_i32_111 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_110 : BitVec 32 := 32#32
  let c2_i32_7 : BitVec 32 := 2#32
  let c0_i32_5 : BitVec 32 := 0#32
  let c1_i32 : BitVec 32 := 1#32
  let arg20 : BitVec 32 := Scf.iv c0_i32_5 c1_i32 k1_t1
  let v13 : BitVec 32 := Scalar.muli c2_i32_7 arg20
  let c0_i32_8 : BitVec 32 := 0#32
  let v14 : BitVec 32 := Scalar.addi v13 c0_i32_8
  let v193 : BitVec 32 := Scalar.muli c32_i32_110 v14
  let v194 : BitVec 32 := Scalar.addi v1 v193
  let v195 : BitVec 32 := Scalar.muli c4_i32_111 v194
  let v196 : BitVec 32 := Scalar.addi v195 c0_i32_112
  let c0_i32_121_r3 : BitVec 32 := 0#32
  ![v196.toNat, 0]
def k1_off18 (i : grid1.Coords) (k1_t1 : Fin k1_t1_loop.trips) (c0_i32_113 : BitVec 32) : Fin 2 → Nat :=
  let c4_i32_111 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_110 : BitVec 32 := 32#32
  let c2_i32_7 : BitVec 32 := 2#32
  let c0_i32_5 : BitVec 32 := 0#32
  let c1_i32 : BitVec 32 := 1#32
  let arg20 : BitVec 32 := Scf.iv c0_i32_5 c1_i32 k1_t1
  let v13 : BitVec 32 := Scalar.muli c2_i32_7 arg20
  let c0_i32_8 : BitVec 32 := 0#32
  let v14 : BitVec 32 := Scalar.addi v13 c0_i32_8
  let v193 : BitVec 32 := Scalar.muli c32_i32_110 v14
  let v194 : BitVec 32 := Scalar.addi v1 v193
  let v195 : BitVec 32 := Scalar.muli c4_i32_111 v194
  let v197 : BitVec 32 := Scalar.addi v195 c0_i32_113
  let c0_i32_121_r4 : BitVec 32 := 0#32
  ![v197.toNat, 0]
def k1_cond3 (i : grid1.Coords) (k1_t1 : Fin k1_t1_loop.trips) : BitVec 1 :=
  let c2_i32_10 : BitVec 32 := 2#32
  let c0_i32_5 : BitVec 32 := 0#32
  let c1_i32 : BitVec 32 := 1#32
  let arg20 : BitVec 32 := Scf.iv c0_i32_5 c1_i32 k1_t1
  let v18 : BitVec 32 := Scalar.muli c2_i32_10 arg20
  let c1_i32_11 : BitVec 32 := 1#32
  let v19 : BitVec 32 := Scalar.addi v18 c1_i32_11
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let c40_i32 : BitVec 32 := 40#32
  let c39_i32 : BitVec 32 := 39#32
  let v3 : BitVec 32 := Scalar.select v2 c40_i32 c39_i32
  let v20 : BitVec 1 := Scalar.cmpi .slt v19 v3
  let v21 : BitVec 32 := Scalar.extui v20
  let c0_i32_12 : BitVec 32 := 0#32
  let v22 : BitVec 1 := Scalar.cmpi .ne v21 c0_i32_12
  v22

def k1_mult15 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c2_i32_10 : BitVec 32 := 2#32
  let c0_i32_5 : BitVec 32 := 0#32
  let c1_i32 : BitVec 32 := 1#32
  let arg20 : BitVec 32 := Scf.iv c0_i32_5 c1_i32 k1_t1
  let v18 : BitVec 32 := Scalar.muli c2_i32_10 arg20
  let c1_i32_11 : BitVec 32 := 1#32
  let v19 : BitVec 32 := Scalar.addi v18 c1_i32_11
  let v23 : BitVec 32 := Scalar.muli c32_i32 v19
  let v24 : BitVec 32 := Scalar.addi v1 v23
  let c40960_i32_13 : BitVec 32 := 40960#32
  let v25 : BitVec 32 := Scalar.muli v24 c40960_i32_13
  v25
def k1_off19 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c2_i32_10 : BitVec 32 := 2#32
  let c0_i32_5 : BitVec 32 := 0#32
  let c1_i32 : BitVec 32 := 1#32
  let arg20 : BitVec 32 := Scf.iv c0_i32_5 c1_i32 k1_t1
  let v18 : BitVec 32 := Scalar.muli c2_i32_10 arg20
  let c1_i32_11 : BitVec 32 := 1#32
  let v19 : BitVec 32 := Scalar.addi v18 c1_i32_11
  let v23 : BitVec 32 := Scalar.muli c32_i32 v19
  let v24 : BitVec 32 := Scalar.addi v1 v23
  let c40960_i32_13 : BitVec 32 := 40960#32
  let v25 : BitVec 32 := Scalar.muli v24 c40960_i32_13
  let v26 : BitVec 32 := v25
  ![v26.toNat]
def k1_mult16 (k1_t1 : Fin k1_t1_loop.trips) : BitVec 32 :=
  let c2_i32_10 : BitVec 32 := 2#32
  let c0_i32_5 : BitVec 32 := 0#32
  let c1_i32 : BitVec 32 := 1#32
  let arg20 : BitVec 32 := Scf.iv c0_i32_5 c1_i32 k1_t1
  let v18 : BitVec 32 := Scalar.muli c2_i32_10 arg20
  let c1_i32_11 : BitVec 32 := 1#32
  let v19 : BitVec 32 := Scalar.addi v18 c1_i32_11
  let c8_i32 : BitVec 32 := 8#32
  let v29 : BitVec 32 := Scalar.muli v19 c8_i32
  v29
def k1_off20 (k1_t1 : Fin k1_t1_loop.trips) : Fin 1 → Nat :=
  let c2_i32_10 : BitVec 32 := 2#32
  let c0_i32_5 : BitVec 32 := 0#32
  let c1_i32 : BitVec 32 := 1#32
  let arg20 : BitVec 32 := Scf.iv c0_i32_5 c1_i32 k1_t1
  let v18 : BitVec 32 := Scalar.muli c2_i32_10 arg20
  let c1_i32_11 : BitVec 32 := 1#32
  let v19 : BitVec 32 := Scalar.addi v18 c1_i32_11
  let c8_i32 : BitVec 32 := 8#32
  let v29 : BitVec 32 := Scalar.muli v19 c8_i32
  let v30 : BitVec 32 := v29
  ![v30.toNat]
def k1_cond4 (i : grid1.Coords) (k1_t1 : Fin k1_t1_loop.trips) : BitVec 1 :=
  let c2_i32_10 : BitVec 32 := 2#32
  let c0_i32_5 : BitVec 32 := 0#32
  let c1_i32 : BitVec 32 := 1#32
  let arg20 : BitVec 32 := Scf.iv c0_i32_5 c1_i32 k1_t1
  let v18 : BitVec 32 := Scalar.muli c2_i32_10 arg20
  let c1_i32_11 : BitVec 32 := 1#32
  let v19 : BitVec 32 := Scalar.addi v18 c1_i32_11
  let c1_i32_16 : BitVec 32 := 1#32
  let v33 : BitVec 32 := Scalar.addi v19 c1_i32_16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let c40_i32 : BitVec 32 := 40#32
  let c39_i32 : BitVec 32 := 39#32
  let v3 : BitVec 32 := Scalar.select v2 c40_i32 c39_i32
  let v34 : BitVec 1 := Scalar.cmpi .slt v33 v3
  let v35 : BitVec 32 := Scalar.extui v34
  let c0_i32_17 : BitVec 32 := 0#32
  let v36 : BitVec 1 := Scalar.cmpi .ne v35 c0_i32_17
  v36

def k1_mult17 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_121 : BitVec 32 := 32#32
  let c2_i32_10 : BitVec 32 := 2#32
  let c0_i32_5 : BitVec 32 := 0#32
  let c1_i32 : BitVec 32 := 1#32
  let arg20 : BitVec 32 := Scf.iv c0_i32_5 c1_i32 k1_t1
  let v18 : BitVec 32 := Scalar.muli c2_i32_10 arg20
  let c1_i32_11 : BitVec 32 := 1#32
  let v19 : BitVec 32 := Scalar.addi v18 c1_i32_11
  let c1_i32_120 : BitVec 32 := 1#32
  let v204 : BitVec 32 := Scalar.addi v19 c1_i32_120
  let v205 : BitVec 32 := Scalar.muli c32_i32_121 v204
  let v206 : BitVec 32 := Scalar.addi v1 v205
  let c40960_i32_122 : BitVec 32 := 40960#32
  let v207 : BitVec 32 := Scalar.muli v206 c40960_i32_122
  v207
def k1_off21 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_121 : BitVec 32 := 32#32
  let c2_i32_10 : BitVec 32 := 2#32
  let c0_i32_5 : BitVec 32 := 0#32
  let c1_i32 : BitVec 32 := 1#32
  let arg20 : BitVec 32 := Scf.iv c0_i32_5 c1_i32 k1_t1
  let v18 : BitVec 32 := Scalar.muli c2_i32_10 arg20
  let c1_i32_11 : BitVec 32 := 1#32
  let v19 : BitVec 32 := Scalar.addi v18 c1_i32_11
  let c1_i32_120 : BitVec 32 := 1#32
  let v204 : BitVec 32 := Scalar.addi v19 c1_i32_120
  let v205 : BitVec 32 := Scalar.muli c32_i32_121 v204
  let v206 : BitVec 32 := Scalar.addi v1 v205
  let c40960_i32_122 : BitVec 32 := 40960#32
  let v207 : BitVec 32 := Scalar.muli v206 c40960_i32_122
  let v208 : BitVec 32 := v207
  ![v208.toNat]
def k1_mult18 (k1_t1 : Fin k1_t1_loop.trips) : BitVec 32 :=
  let c2_i32_10 : BitVec 32 := 2#32
  let c0_i32_5 : BitVec 32 := 0#32
  let c1_i32 : BitVec 32 := 1#32
  let arg20 : BitVec 32 := Scf.iv c0_i32_5 c1_i32 k1_t1
  let v18 : BitVec 32 := Scalar.muli c2_i32_10 arg20
  let c1_i32_11 : BitVec 32 := 1#32
  let v19 : BitVec 32 := Scalar.addi v18 c1_i32_11
  let c1_i32_120 : BitVec 32 := 1#32
  let v204 : BitVec 32 := Scalar.addi v19 c1_i32_120
  let c8_i32_123 : BitVec 32 := 8#32
  let v211 : BitVec 32 := Scalar.muli v204 c8_i32_123
  v211
def k1_off22 (k1_t1 : Fin k1_t1_loop.trips) : Fin 1 → Nat :=
  let c2_i32_10 : BitVec 32 := 2#32
  let c0_i32_5 : BitVec 32 := 0#32
  let c1_i32 : BitVec 32 := 1#32
  let arg20 : BitVec 32 := Scf.iv c0_i32_5 c1_i32 k1_t1
  let v18 : BitVec 32 := Scalar.muli c2_i32_10 arg20
  let c1_i32_11 : BitVec 32 := 1#32
  let v19 : BitVec 32 := Scalar.addi v18 c1_i32_11
  let c1_i32_120 : BitVec 32 := 1#32
  let v204 : BitVec 32 := Scalar.addi v19 c1_i32_120
  let c8_i32_123 : BitVec 32 := 8#32
  let v211 : BitVec 32 := Scalar.muli v204 c8_i32_123
  let v212 : BitVec 32 := v211
  ![v212.toNat]
@[reducible] def k1_t6_loop : Scf.Loop 32 :=
  let c0_i32_19 : BitVec 32 := 0#32
  let c313_i32 : BitVec 32 := 313#32
  let v37 : BitVec 32 := Scalar.addi c0_i32_19 c313_i32
  let c1_i32_20 : BitVec 32 := 1#32
  ⟨c0_i32_19, v37, c1_i32_20⟩
def k1_mult19 (k1_t6 : Fin k1_t6_loop.trips) : BitVec 32 :=
  let c0_i32_19 : BitVec 32 := 0#32
  let c1_i32_20 : BitVec 32 := 1#32
  let arg21 : BitVec 32 := Scf.iv c0_i32_19 c1_i32_20 k1_t6
  let c16_i32_120 : BitVec 32 := 16#32
  let v204 : BitVec 32 := Scalar.muli arg21 c16_i32_120
  v204
def k1_off23 (k1_t6 : Fin k1_t6_loop.trips) : Fin 1 → Nat :=
  let c0_i32_19 : BitVec 32 := 0#32
  let c1_i32_20 : BitVec 32 := 1#32
  let arg21 : BitVec 32 := Scf.iv c0_i32_19 c1_i32_20 k1_t6
  let c16_i32_120 : BitVec 32 := 16#32
  let v204 : BitVec 32 := Scalar.muli arg21 c16_i32_120
  let v205 : BitVec 32 := v204
  let v206 : Index := Scalar.indexCast v205
  ![v206.toNat]

def k1_chk5 (i : grid1.Coords) (k1_t1 : Fin k1_t1_loop.trips) (v209 : IVec S16 32) : Prop :=
  (∀ (k1_h3 : k1_cond3 i k1_t1 = 1#1), ∀ a x, ((![v209] : Fin 1 → IVec S16 32) a x).toNat < S40960.size a)
theorem k1_idx5_inb : ∀ (i : grid1.Coords) (k1_t1 : Fin k1_t1_loop.trips) (v209 : IVec S16 32) (k1_hw5 : k1_chk5 i k1_t1 v209), ∀ (k1_h3 : k1_cond3 i k1_t1 = 1#1), ∀ a x, ((![v209] : Fin 1 → IVec S16 32) a x).toNat < S40960.size a := fun i k1_t1 v209 k1_hw5 k1_h3 => k1_hw5 k1_h3
def k1_off24 (k1_t6 : Fin k1_t6_loop.trips) : Fin 1 → Nat :=
  let c0_i32_122 : BitVec 32 := 0#32
  let c0_i32_19 : BitVec 32 := 0#32
  let c1_i32_20 : BitVec 32 := 1#32
  let arg21 : BitVec 32 := Scf.iv c0_i32_19 c1_i32_20 k1_t6
  let c16_i32_120 : BitVec 32 := 16#32
  let v204 : BitVec 32 := Scalar.muli arg21 c16_i32_120
  let v205 : BitVec 32 := v204
  let v211 : BitVec 32 := Scalar.addi c0_i32_122 v205
  let v212 : Index := Scalar.indexCast v211
  ![v212.toNat]
def k1_mult20 (k1_t1 : Fin k1_t1_loop.trips) : BitVec 32 :=
  let c2_i32_10 : BitVec 32 := 2#32
  let c0_i32_5 : BitVec 32 := 0#32
  let c1_i32 : BitVec 32 := 1#32
  let arg20 : BitVec 32 := Scf.iv c0_i32_5 c1_i32 k1_t1
  let v18 : BitVec 32 := Scalar.muli c2_i32_10 arg20
  let c1_i32_11 : BitVec 32 := 1#32
  let v19 : BitVec 32 := Scalar.addi v18 c1_i32_11
  let c4_i32 : BitVec 32 := 4#32
  let v38 : BitVec 32 := Scalar.muli v19 c4_i32
  let c0_i32_22 : BitVec 32 := 0#32
  let v39 : BitVec 32 := Scalar.addi v38 c0_i32_22
  let c16_i32 : BitVec 32 := 16#32
  let v40 : BitVec 32 := Scalar.muli v39 c16_i32
  v40
def k1_off25 (k1_t1 : Fin k1_t1_loop.trips) (c0_i32_22 : BitVec 32) : Fin 1 → Nat :=
  let c2_i32_10 : BitVec 32 := 2#32
  let c0_i32_5 : BitVec 32 := 0#32
  let c1_i32 : BitVec 32 := 1#32
  let arg20 : BitVec 32 := Scf.iv c0_i32_5 c1_i32 k1_t1
  let v18 : BitVec 32 := Scalar.muli c2_i32_10 arg20
  let c1_i32_11 : BitVec 32 := 1#32
  let v19 : BitVec 32 := Scalar.addi v18 c1_i32_11
  let c4_i32 : BitVec 32 := 4#32
  let v38 : BitVec 32 := Scalar.muli v19 c4_i32
  let v39 : BitVec 32 := Scalar.addi v38 c0_i32_22
  let c16_i32 : BitVec 32 := 16#32
  let v40 : BitVec 32 := Scalar.muli v39 c16_i32
  let v41 : BitVec 32 := v40
  let v42 : Index := Scalar.indexCast v41
  ![v42.toNat]
@[reducible] def k1_t7_loop : Scf.Loop 32 :=
  let c0_i32_40 : BitVec 32 := 0#32
  let c313_i32_41 : BitVec 32 := 313#32
  let v76 : BitVec 32 := Scalar.addi c0_i32_40 c313_i32_41
  let c1_i32_42 : BitVec 32 := 1#32
  ⟨c0_i32_40, v76, c1_i32_42⟩
def k1_mult21 (k1_t7 : Fin k1_t7_loop.trips) : BitVec 32 :=
  let c0_i32_40 : BitVec 32 := 0#32
  let c1_i32_42 : BitVec 32 := 1#32
  let arg21 : BitVec 32 := Scf.iv c0_i32_40 c1_i32_42 k1_t7
  let c16_i32_120 : BitVec 32 := 16#32
  let v204 : BitVec 32 := Scalar.muli arg21 c16_i32_120
  v204
def k1_off26 (k1_t7 : Fin k1_t7_loop.trips) : Fin 1 → Nat :=
  let c0_i32_40 : BitVec 32 := 0#32
  let c1_i32_42 : BitVec 32 := 1#32
  let arg21 : BitVec 32 := Scf.iv c0_i32_40 c1_i32_42 k1_t7
  let c16_i32_120 : BitVec 32 := 16#32
  let v204 : BitVec 32 := Scalar.muli arg21 c16_i32_120
  let v205 : BitVec 32 := v204
  let v206 : Index := Scalar.indexCast v205
  ![v206.toNat]

def k1_chk6 (i : grid1.Coords) (k1_t1 : Fin k1_t1_loop.trips) (v209 : IVec S16 32) : Prop :=
  (∀ (k1_h3 : k1_cond3 i k1_t1 = 1#1), ∀ a x, ((![v209] : Fin 1 → IVec S16 32) a x).toNat < S40960.size a)
theorem k1_idx6_inb : ∀ (i : grid1.Coords) (k1_t1 : Fin k1_t1_loop.trips) (v209 : IVec S16 32) (k1_hw6 : k1_chk6 i k1_t1 v209), ∀ (k1_h3 : k1_cond3 i k1_t1 = 1#1), ∀ a x, ((![v209] : Fin 1 → IVec S16 32) a x).toNat < S40960.size a := fun i k1_t1 v209 k1_hw6 k1_h3 => k1_hw6 k1_h3
def k1_off27 (k1_t7 : Fin k1_t7_loop.trips) : Fin 1 → Nat :=
  let c5008_i32 : BitVec 32 := 5008#32
  let c0_i32_40 : BitVec 32 := 0#32
  let c1_i32_42 : BitVec 32 := 1#32
  let arg21 : BitVec 32 := Scf.iv c0_i32_40 c1_i32_42 k1_t7
  let c16_i32_120 : BitVec 32 := 16#32
  let v204 : BitVec 32 := Scalar.muli arg21 c16_i32_120
  let v205 : BitVec 32 := v204
  let v211 : BitVec 32 := Scalar.addi c5008_i32 v205
  let v212 : Index := Scalar.indexCast v211
  ![v212.toNat]
def k1_mult22 (k1_t1 : Fin k1_t1_loop.trips) : BitVec 32 :=
  let c2_i32_10 : BitVec 32 := 2#32
  let c0_i32_5 : BitVec 32 := 0#32
  let c1_i32 : BitVec 32 := 1#32
  let arg20 : BitVec 32 := Scf.iv c0_i32_5 c1_i32 k1_t1
  let v18 : BitVec 32 := Scalar.muli c2_i32_10 arg20
  let c1_i32_11 : BitVec 32 := 1#32
  let v19 : BitVec 32 := Scalar.addi v18 c1_i32_11
  let c4_i32_44 : BitVec 32 := 4#32
  let v77 : BitVec 32 := Scalar.muli v19 c4_i32_44
  let c1_i32_45 : BitVec 32 := 1#32
  let v78 : BitVec 32 := Scalar.addi v77 c1_i32_45
  let c16_i32_46 : BitVec 32 := 16#32
  let v79 : BitVec 32 := Scalar.muli v78 c16_i32_46
  v79
@[reducible] def k1_t8_loop : Scf.Loop 32 :=
  let c0_i32_64 : BitVec 32 := 0#32
  let c313_i32_65 : BitVec 32 := 313#32
  let v115 : BitVec 32 := Scalar.addi c0_i32_64 c313_i32_65
  let c1_i32_66 : BitVec 32 := 1#32
  ⟨c0_i32_64, v115, c1_i32_66⟩
def k1_mult23 (k1_t8 : Fin k1_t8_loop.trips) : BitVec 32 :=
  let c0_i32_64 : BitVec 32 := 0#32
  let c1_i32_66 : BitVec 32 := 1#32
  let arg21 : BitVec 32 := Scf.iv c0_i32_64 c1_i32_66 k1_t8
  let c16_i32_120 : BitVec 32 := 16#32
  let v204 : BitVec 32 := Scalar.muli arg21 c16_i32_120
  v204
def k1_off28 (k1_t8 : Fin k1_t8_loop.trips) : Fin 1 → Nat :=
  let c0_i32_64 : BitVec 32 := 0#32
  let c1_i32_66 : BitVec 32 := 1#32
  let arg21 : BitVec 32 := Scf.iv c0_i32_64 c1_i32_66 k1_t8
  let c16_i32_120 : BitVec 32 := 16#32
  let v204 : BitVec 32 := Scalar.muli arg21 c16_i32_120
  let v205 : BitVec 32 := v204
  let v206 : Index := Scalar.indexCast v205
  ![v206.toNat]

def k1_chk7 (i : grid1.Coords) (k1_t1 : Fin k1_t1_loop.trips) (v209 : IVec S16 32) : Prop :=
  (∀ (k1_h3 : k1_cond3 i k1_t1 = 1#1), ∀ a x, ((![v209] : Fin 1 → IVec S16 32) a x).toNat < S40960.size a)
theorem k1_idx7_inb : ∀ (i : grid1.Coords) (k1_t1 : Fin k1_t1_loop.trips) (v209 : IVec S16 32) (k1_hw7 : k1_chk7 i k1_t1 v209), ∀ (k1_h3 : k1_cond3 i k1_t1 = 1#1), ∀ a x, ((![v209] : Fin 1 → IVec S16 32) a x).toNat < S40960.size a := fun i k1_t1 v209 k1_hw7 k1_h3 => k1_hw7 k1_h3
def k1_off29 (k1_t8 : Fin k1_t8_loop.trips) : Fin 1 → Nat :=
  let c10016_i32 : BitVec 32 := 10016#32
  let c0_i32_64 : BitVec 32 := 0#32
  let c1_i32_66 : BitVec 32 := 1#32
  let arg21 : BitVec 32 := Scf.iv c0_i32_64 c1_i32_66 k1_t8
  let c16_i32_120 : BitVec 32 := 16#32
  let v204 : BitVec 32 := Scalar.muli arg21 c16_i32_120
  let v205 : BitVec 32 := v204
  let v211 : BitVec 32 := Scalar.addi c10016_i32 v205
  let v212 : Index := Scalar.indexCast v211
  ![v212.toNat]
def k1_mult24 (k1_t1 : Fin k1_t1_loop.trips) : BitVec 32 :=
  let c2_i32_10 : BitVec 32 := 2#32
  let c0_i32_5 : BitVec 32 := 0#32
  let c1_i32 : BitVec 32 := 1#32
  let arg20 : BitVec 32 := Scf.iv c0_i32_5 c1_i32 k1_t1
  let v18 : BitVec 32 := Scalar.muli c2_i32_10 arg20
  let c1_i32_11 : BitVec 32 := 1#32
  let v19 : BitVec 32 := Scalar.addi v18 c1_i32_11
  let c4_i32_68 : BitVec 32 := 4#32
  let v116 : BitVec 32 := Scalar.muli v19 c4_i32_68
  let c2_i32_69 : BitVec 32 := 2#32
  let v117 : BitVec 32 := Scalar.addi v116 c2_i32_69
  let c16_i32_70 : BitVec 32 := 16#32
  let v118 : BitVec 32 := Scalar.muli v117 c16_i32_70
  v118
@[reducible] def k1_t9_loop : Scf.Loop 32 :=
  let c0_i32_88 : BitVec 32 := 0#32
  let c313_i32_89 : BitVec 32 := 313#32
  let v154 : BitVec 32 := Scalar.addi c0_i32_88 c313_i32_89
  let c1_i32_90 : BitVec 32 := 1#32
  ⟨c0_i32_88, v154, c1_i32_90⟩
def k1_mult25 (k1_t9 : Fin k1_t9_loop.trips) : BitVec 32 :=
  let c0_i32_88 : BitVec 32 := 0#32
  let c1_i32_90 : BitVec 32 := 1#32
  let arg21 : BitVec 32 := Scf.iv c0_i32_88 c1_i32_90 k1_t9
  let c16_i32_120 : BitVec 32 := 16#32
  let v204 : BitVec 32 := Scalar.muli arg21 c16_i32_120
  v204
def k1_off30 (k1_t9 : Fin k1_t9_loop.trips) : Fin 1 → Nat :=
  let c0_i32_88 : BitVec 32 := 0#32
  let c1_i32_90 : BitVec 32 := 1#32
  let arg21 : BitVec 32 := Scf.iv c0_i32_88 c1_i32_90 k1_t9
  let c16_i32_120 : BitVec 32 := 16#32
  let v204 : BitVec 32 := Scalar.muli arg21 c16_i32_120
  let v205 : BitVec 32 := v204
  let v206 : Index := Scalar.indexCast v205
  ![v206.toNat]

def k1_chk8 (i : grid1.Coords) (k1_t1 : Fin k1_t1_loop.trips) (v209 : IVec S16 32) : Prop :=
  (∀ (k1_h3 : k1_cond3 i k1_t1 = 1#1), ∀ a x, ((![v209] : Fin 1 → IVec S16 32) a x).toNat < S40960.size a)
theorem k1_idx8_inb : ∀ (i : grid1.Coords) (k1_t1 : Fin k1_t1_loop.trips) (v209 : IVec S16 32) (k1_hw8 : k1_chk8 i k1_t1 v209), ∀ (k1_h3 : k1_cond3 i k1_t1 = 1#1), ∀ a x, ((![v209] : Fin 1 → IVec S16 32) a x).toNat < S40960.size a := fun i k1_t1 v209 k1_hw8 k1_h3 => k1_hw8 k1_h3
def k1_off31 (k1_t9 : Fin k1_t9_loop.trips) : Fin 1 → Nat :=
  let c15024_i32 : BitVec 32 := 15024#32
  let c0_i32_88 : BitVec 32 := 0#32
  let c1_i32_90 : BitVec 32 := 1#32
  let arg21 : BitVec 32 := Scf.iv c0_i32_88 c1_i32_90 k1_t9
  let c16_i32_120 : BitVec 32 := 16#32
  let v204 : BitVec 32 := Scalar.muli arg21 c16_i32_120
  let v205 : BitVec 32 := v204
  let v211 : BitVec 32 := Scalar.addi c15024_i32 v205
  let v212 : Index := Scalar.indexCast v211
  ![v212.toNat]
def k1_mult26 (k1_t1 : Fin k1_t1_loop.trips) : BitVec 32 :=
  let c2_i32_10 : BitVec 32 := 2#32
  let c0_i32_5 : BitVec 32 := 0#32
  let c1_i32 : BitVec 32 := 1#32
  let arg20 : BitVec 32 := Scf.iv c0_i32_5 c1_i32 k1_t1
  let v18 : BitVec 32 := Scalar.muli c2_i32_10 arg20
  let c1_i32_11 : BitVec 32 := 1#32
  let v19 : BitVec 32 := Scalar.addi v18 c1_i32_11
  let c4_i32_92 : BitVec 32 := 4#32
  let v155 : BitVec 32 := Scalar.muli v19 c4_i32_92
  let c3_i32 : BitVec 32 := 3#32
  let v156 : BitVec 32 := Scalar.addi v155 c3_i32
  let c16_i32_93 : BitVec 32 := 16#32
  let v157 : BitVec 32 := Scalar.muli v156 c16_i32_93
  v157
def k1_off32 (i : grid1.Coords) (k1_t1 : Fin k1_t1_loop.trips) (c0_i32_112 : BitVec 32) : Fin 2 → Nat :=
  let c4_i32_111 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_110 : BitVec 32 := 32#32
  let c2_i32_10 : BitVec 32 := 2#32
  let c0_i32_5 : BitVec 32 := 0#32
  let c1_i32 : BitVec 32 := 1#32
  let arg20 : BitVec 32 := Scf.iv c0_i32_5 c1_i32 k1_t1
  let v18 : BitVec 32 := Scalar.muli c2_i32_10 arg20
  let c1_i32_11 : BitVec 32 := 1#32
  let v19 : BitVec 32 := Scalar.addi v18 c1_i32_11
  let v193 : BitVec 32 := Scalar.muli c32_i32_110 v19
  let v194 : BitVec 32 := Scalar.addi v1 v193
  let v195 : BitVec 32 := Scalar.muli c4_i32_111 v194
  let v196 : BitVec 32 := Scalar.addi v195 c0_i32_112
  let c0_i32_121_r11 : BitVec 32 := 0#32
  ![v196.toNat, 0]
def k1_off33 (i : grid1.Coords) (k1_t1 : Fin k1_t1_loop.trips) (c0_i32_113 : BitVec 32) : Fin 2 → Nat :=
  let c4_i32_111 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_110 : BitVec 32 := 32#32
  let c2_i32_10 : BitVec 32 := 2#32
  let c0_i32_5 : BitVec 32 := 0#32
  let c1_i32 : BitVec 32 := 1#32
  let arg20 : BitVec 32 := Scf.iv c0_i32_5 c1_i32 k1_t1
  let v18 : BitVec 32 := Scalar.muli c2_i32_10 arg20
  let c1_i32_11 : BitVec 32 := 1#32
  let v19 : BitVec 32 := Scalar.addi v18 c1_i32_11
  let v193 : BitVec 32 := Scalar.muli c32_i32_110 v19
  let v194 : BitVec 32 := Scalar.addi v1 v193
  let v195 : BitVec 32 := Scalar.muli c4_i32_111 v194
  let v197 : BitVec 32 := Scalar.addi v195 c0_i32_113
  let c0_i32_121_r12 : BitVec 32 := 0#32
  ![v197.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x10000 : Shape := ⟨2, ![10000, 10000]⟩
abbrev S10000x128 : Shape := ⟨2, ![10000, 128]⟩
abbrev S5120 : Shape := ⟨1, ![5120]⟩
abbrev S5000 : Shape := ⟨1, ![5000]⟩
abbrev S_ : Shape := ⟨0, ![]⟩
abbrev S5000x1 : Shape := ⟨2, ![5000, 1]⟩
abbrev S5000x128 : Shape := ⟨2, ![5000, 128]⟩
abbrev S5000x10000 : Shape := ⟨2, ![5000, 10000]⟩
abbrev S5000x5000 : Shape := ⟨2, ![5000, 5000]⟩

abbrev nBuf : Space → Nat
  | .hbm => 36
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S5120, .i32⟩
  | .hbm, ⟨3, _⟩ => ⟨S5120, .f32⟩
  | .hbm, ⟨4, _⟩ => ⟨S5000, .i32⟩
  | .hbm, ⟨5, _⟩ => ⟨S5000, .f32⟩
  | .hbm, ⟨6, _⟩ => ⟨S_, .i32⟩
  | .hbm, ⟨7, _⟩ => ⟨S5000, .i32⟩
  | .hbm, ⟨8, _⟩ => ⟨S5000, .i1⟩
  | .hbm, ⟨9, _⟩ => ⟨S_, .i32⟩
  | .hbm, ⟨10, _⟩ => ⟨S5000, .i32⟩
  | .hbm, ⟨11, _⟩ => ⟨S5000, .i32⟩
  | .hbm, ⟨12, _⟩ => ⟨S5000, .i32⟩
  | .hbm, ⟨13, _⟩ => ⟨S5000x1, .i32⟩
  | .hbm, ⟨14, _⟩ => ⟨S5000x128, .f32⟩
  | .hbm, ⟨15, _⟩ => ⟨S5000x1, .f32⟩
  | .hbm, ⟨16, _⟩ => ⟨S5000x128, .f32⟩
  | .hbm, ⟨17, _⟩ => ⟨S5000x128, .f32⟩
  | .hbm, ⟨18, _⟩ => ⟨S_, .i32⟩
  | .hbm, ⟨19, _⟩ => ⟨S5000, .i32⟩
  | .hbm, ⟨20, _⟩ => ⟨S5000, .i1⟩
  | .hbm, ⟨21, _⟩ => ⟨S_, .i32⟩
  | .hbm, ⟨22, _⟩ => ⟨S5000, .i32⟩
  | .hbm, ⟨23, _⟩ => ⟨S5000, .i32⟩
  | .hbm, ⟨24, _⟩ => ⟨S5000, .i32⟩
  | .hbm, ⟨25, _⟩ => ⟨S5000x1, .i32⟩
  | .hbm, ⟨26, _⟩ => ⟨S5000x10000, .f32⟩
  | .hbm, ⟨27, _⟩ => ⟨S_, .i32⟩
  | .hbm, ⟨28, _⟩ => ⟨S5000, .i32⟩
  | .hbm, ⟨29, _⟩ => ⟨S5000, .i1⟩
  | .hbm, ⟨30, _⟩ => ⟨S_, .i32⟩
  | .hbm, ⟨31, _⟩ => ⟨S5000, .i32⟩
  | .hbm, ⟨32, _⟩ => ⟨S5000, .i32⟩
  | .hbm, ⟨33, _⟩ => ⟨S5000, .i32⟩
  | .hbm, ⟨34, _⟩ => ⟨S5000x1, .i32⟩
  | .hbm, ⟨35, _⟩ => ⟨S5000x5000, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Top.lean ====
abbrev S10000x128 : Shape := ⟨2, ![10000, 128]⟩
abbrev S1x128 : Shape := ⟨2, ![1, 128]⟩
abbrev S128x1 : Shape := ⟨2, ![128, 1]⟩
abbrev S10000x1 : Shape := ⟨2, ![10000, 1]⟩
abbrev S_ : Shape := ⟨0, ![]⟩
abbrev S1 : Shape := ⟨1, ![1]⟩
abbrev S1x1 : Shape := ⟨2, ![1, 1]⟩
abbrev S10000 : Shape := ⟨1, ![10000]⟩
abbrev S240 : Shape := ⟨1, ![240]⟩
abbrev S10240 : Shape := ⟨1, ![10240]⟩
abbrev S1x10240 : Shape := ⟨2, ![1, 10240]⟩
abbrev S10240x1 : Shape := ⟨2, ![10240, 1]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S1x5120 : Shape := ⟨2, ![1, 5120]⟩
abbrev S5120 : Shape := ⟨1, ![5120]⟩
abbrev S5000 : Shape := ⟨1, ![5000]⟩

abbrev nBuf : Space → Nat
  | .hbm => 32
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S1x128, .f32⟩
  | .hbm, ⟨2, _⟩ => ⟨S128x1, .f32⟩
  | .hbm, ⟨3, _⟩ => ⟨S10000x1, .f32⟩
  | .hbm, ⟨4, _⟩ => ⟨S1x128, .f32⟩
  | .hbm, ⟨5, _⟩ => ⟨S_, .f32⟩
  | .hbm, ⟨6, _⟩ => ⟨S1, .f32⟩
  | .hbm, ⟨7, _⟩ => ⟨S1, .f32⟩
  | .hbm, ⟨8, _⟩ => ⟨S1x1, .f32⟩
  | .hbm, ⟨9, _⟩ => ⟨S10000x1, .f32⟩
  | .hbm, ⟨10, _⟩ => ⟨S10000x1, .f32⟩
  | .hbm, ⟨11, _⟩ => ⟨S10000, .f32⟩
  | .hbm, ⟨12, _⟩ => ⟨S10000, .f32⟩
  | .hbm, ⟨13, _⟩ => ⟨S10000, .f32⟩
  | .hbm, ⟨14, _⟩ => ⟨S_, .f32⟩
  | .hbm, ⟨15, _⟩ => ⟨S10000, .f32⟩
  | .hbm, ⟨16, _⟩ => ⟨S10000, .f32⟩
  | .hbm, ⟨17, _⟩ => ⟨S_, .f32⟩
  | .hbm, ⟨18, _⟩ => ⟨S10000, .f32⟩
  | .hbm, ⟨19, _⟩ => ⟨S10000, .f32⟩
  | .hbm, ⟨20, _⟩ => ⟨S_, .f32⟩
  | .hbm, ⟨21, _⟩ => ⟨S240, .f32⟩
  | .hbm, ⟨22, _⟩ => ⟨S10240, .f32⟩
  | .hbm, ⟨23, _⟩ => ⟨S1x10240, .f32⟩
  | .hbm, ⟨24, _⟩ => ⟨S10240x1, .f32⟩
  | .hbm, ⟨25, _⟩ => ⟨S10240x1, .f32⟩
  | .hbm, ⟨26, _⟩ => ⟨S1x5120, .i32⟩
  | .hbm, ⟨27, _⟩ => ⟨S1x5120, .f32⟩
  | .hbm, ⟨28, _⟩ => ⟨S5120, .i32⟩
  | .hbm, ⟨29, _⟩ => ⟨S5120, .f32⟩
  | .hbm, ⟨30, _⟩ => ⟨S5000, .i32⟩
  | .hbm, ⟨31, _⟩ => ⟨S5000, .f32⟩
  | .local _ .vmem, ⟨0, _⟩ => ⟨S1x10240, .f32⟩
  | .local _ .vmem, ⟨1, _⟩ => ⟨S10240x1, .f32⟩
  | .local _ .vmem, ⟨2, _⟩ => ⟨S10240x1, .f32⟩
  | .local _ .vmem, ⟨3, _⟩ => ⟨S10240x1, .f32⟩
  | .local _ .vmem, ⟨4, _⟩ => ⟨S10240x1, .f32⟩
  | .local _ .vmem, ⟨5, _⟩ => ⟨S1x5120, .i32⟩
  | .local _ .vmem, ⟨6, _⟩ => ⟨S1x5120, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6

abbrev nD : Nat := 1
abbrev τ : Topo := Topo.v7x

variable {F : FTy → Type} [FloatOps F]

abbrev grid0 : Pipeline.Grid := ⟨1, ![10], ![false]⟩

def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : Index := Scalar.indexCast v0
  let c0 : Index := 0#32
  ![v1.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x10240 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10240x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10240x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![5], ![false]⟩

def k1_off1 (i : grid1.Coords) : Fin 2 → Nat :=
  let c0_73 : Index := 0#32
  let arg0 : BitVec 32 := BitVec.ofNat 32 (i 0).val
  let c1024_i32_72 : BitVec 32 := 1024#32
  let v258 : BitVec 32 := Scalar.muli arg0 c1024_i32_72
  let v259 : Index := Scalar.indexCast v258
  ![0, v259.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S10240x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S10240x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x5120 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x5120 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]
-- ==== TopReferenceIdeal.lean ====
abbrev S10000x128 : Shape := ⟨2, ![10000, 128]⟩
abbrev S1x128 : Shape := ⟨2, ![1, 128]⟩
abbrev S128x1 : Shape := ⟨2, ![128, 1]⟩
abbrev S10000x1 : Shape := ⟨2, ![10000, 1]⟩
abbrev S_ : Shape := ⟨0, ![]⟩
abbrev S1 : Shape := ⟨1, ![1]⟩
abbrev S1x1 : Shape := ⟨2, ![1, 1]⟩
abbrev S10000 : Shape := ⟨1, ![10000]⟩
abbrev S5000 : Shape := ⟨1, ![5000]⟩

abbrev nBuf : Space → Nat
  | .hbm => 22
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S1x128, .f32⟩
  | .hbm, ⟨2, _⟩ => ⟨S128x1, .f32⟩
  | .hbm, ⟨3, _⟩ => ⟨S10000x1, .f32⟩
  | .hbm, ⟨4, _⟩ => ⟨S1x128, .f32⟩
  | .hbm, ⟨5, _⟩ => ⟨S_, .f32⟩
  | .hbm, ⟨6, _⟩ => ⟨S1, .f32⟩
  | .hbm, ⟨7, _⟩ => ⟨S1, .f32⟩
  | .hbm, ⟨8, _⟩ => ⟨S1x1, .f32⟩
  | .hbm, ⟨9, _⟩ => ⟨S10000x1, .f32⟩
  | .hbm, ⟨10, _⟩ => ⟨S10000x1, .f32⟩
  | .hbm, ⟨11, _⟩ => ⟨S10000, .f32⟩
  | .hbm, ⟨12, _⟩ => ⟨S10000, .f32⟩
  | .hbm, ⟨13, _⟩ => ⟨S10000, .f32⟩
  | .hbm, ⟨14, _⟩ => ⟨S_, .f32⟩
  | .hbm, ⟨15, _⟩ => ⟨S10000, .f32⟩
  | .hbm, ⟨16, _⟩ => ⟨S10000, .f32⟩
  | .hbm, ⟨17, _⟩ => ⟨S_, .f32⟩
  | .hbm, ⟨18, _⟩ => ⟨S10000, .f32⟩
  | .hbm, ⟨19, _⟩ => ⟨S10000, .f32⟩
  | .hbm, ⟨20, _⟩ => ⟨S5000, .f32⟩
  | .hbm, ⟨21, _⟩ => ⟨S5000, .i32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_values : Ref sig .tc := ⟨.hbm, 20, rfl⟩
abbrev main_indices : Ref sig .tc := ⟨.hbm, 21, rfl⟩

abbrev nD : Nat := 1
abbrev τ : Topo := Topo.v7x

variable {F : FTy → Type} [FloatOps F]
-- ==== Proof.Setup.lean ====
/-
  The set-up the modules of this proof share: the program as the launch theorem reads it, the resource algebra,
  and where the parts of the ghost state lie in it.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Writes
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- Where the pipeline's rounds lie. -/
def EP : Emb UP (MT nD τ sig (HIx 1) (Elt F) ℕ UU ℕ) :=
  ((Emb.inl : Emb UP (UP × Counters)).trans (Emb.inr : Emb (UP × Counters) UU)).trans (uEmb : UEmb UU (MT nD τ sig (HIx 1) (Elt F) ℕ UU ℕ)).toEmb

instance EP_landsIn : (EP (F := F)).LandsIn (upEmb : UEmb _ (MT nD τ sig (HIx 1) (Elt F) ℕ UU ℕ)) := by
  unfold EP; infer_instance

end Cert.Proof.Run

end
-- ==== Proof.Column.lean ====
/-
  One trip of the column loops of the SparseCore task: sixteen column indices read, each moved to its row's segment of
  the fetched rows, the sixteen entries gathered out of them and stored in the output buffer. The eight loops of the task
  (four rows in each of two buffer slots) are this trip at different offsets.
-/
module

public import proofs.«01_k».proof.Proof.Setup

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev rows0 : Memref sig .scVector .vmem S40960 .f32 := Memref.whole cc1_scratch0
abbrev rows1 : Memref sig .scVector .vmem S40960 .f32 := Memref.whole cc1_scratch1
abbrev outB : Memref sig .scVector .vmem S20032 .f32 := Memref.whole cc1_scratch4
abbrev cidB : Memref sig .scVector .vmem S5008 .i32 := Memref.whole cc1_scratch5

section

variable (thr : Fin τ.nSC × Fin τ.nSub)

/-- The trip, at any offsets of the column indices read and of the entries stored. -/
def colTrip (rows : Memref sig .scVector .vmem S40960 .f32) (o₁ : Fin 1 → ℕ) (h₁ : ∀ a, o₁ a + S16.size a ≤ S5008.size a)
    (o₂ : Fin 1 → ℕ) (h₂ : ∀ a, o₂ a + S16.size a ≤ S20032.size a)
    (pay : Vec F S16 .i32 → IVec S16 32) (chk : IVec S16 32 → Prop) (dec : ∀ v, Decidable (chk v))
    (hc : ∀ v, chk v → ∀ a x, ((![v] : Fin 1 → IVec S16 32) a x).toNat < S40960.size a) :
    Prog (TpuEff nD τ sig (Elt F) Λ₀ (.scVector thr.1 thr.2)) Unit := do
  let v207 : Vec F S16 .i32 ← Prog.lift (.load cidB (Rect.unit (s := S5008) o₁ S16.size h₁).toLoadRect (View.loadsAt_vmem h_S16))
  have v209 : IVec S16 32 := pay v207
  have hw : chk v209 := (← Prog.lift (TpuEff.assume (chk v209) (dec v209))).down
  let v210 : Vec F S16 .f32 ← SparseCore.vectorLoadIdx rows ![v209] (hc v209 hw) (View.loads_vmem h_S40960)
  let _v213 : Vec F S16 .f32 ← Prog.lift (.load outB (Rect.unit (s := S20032) o₂ S16.size h₂).toLoadRect (View.loadsAt_vmem h_S16))
  Prog.lift (.store outB (Rect.unit (s := S20032) o₂ S16.size h₂) v210 Finset.univ (View.stores_vmem_bits_univ h_S16 rfl) (.inl rfl))
  pure ⟨⟩

end

/-- The first `n` entries of the output buffer are the gathered ones: entry `p` is the fetched rows' at segment
    `p / 5008`, column index number `p % 5008`. -/
def OutOK (fr : S40960.Idx → Elt F .f32) (fc : S5008.Idx → BitVec 32) (fo : S20032.Idx → Elt F .f32) (n : ℕ) : Prop :=
  ∀ (p : S20032.Idx) (c : S5008.Idx) (q : S40960.Idx), (p 0).val < n → (c 0).val = (p 0).val % 5008 →
    (q 0).val = (fc c).toNat + (p 0).val / 5008 * 10240 → fo p = fr q

/-- An indexed load at a lane, by the place its index word names. -/
theorem loadIdx_eq (fr : S40960.Idx → Elt F .f32) (v : IVec S16 32) (h) (x : S16.Idx) (q : S40960.Idx) (hq : (q 0).val = (v x).toNat) :
    loadIdx fr ![v] h x = fr q := by
  unfold loadIdx
  congr 1
  funext a
  match a with
  | 0 => exact Fin.ext hq.symm

/-- A whole memref read through the whole rectangle is the memref read. -/
theorem read_access_whole (m : Memref sig .scVector .vmem S40960 .f32) (f) :
    (m.access (Rect.whole S40960)).read (Elt F) f = m.view.read (Elt F) f := by
  funext i
  refine congrArg (m.view.read (Elt F) f) (funext fun a => Fin.ext ?_)
  show 0 + 1 * (i a).val = (i a).val
  omega

/-- One trip's store keeps the entries gathered so far and adds sixteen. -/
theorem OutOK.step {fr : S40960.Idx → Elt F .f32} {fc : S5008.Idx → BitVec 32} {fo : S20032.Idx → Elt F .f32} {r n : ℕ}
    (hn : n < 313) (hfo : OutOK fr fc fo (5008 * r + 16 * n)) (o₂ : Fin 1 → ℕ) (h₂ : ∀ a, o₂ a + S16.size a ≤ S20032.size a)
    (ho₂ : o₂ = ![5008 * r + 16 * n]) (w : S16.Idx → Elt F .f32)
    (hw : ∀ (x : S16.Idx) (c : S5008.Idx) (q : S40960.Idx), (c 0).val = 16 * n + (x 0).val → (q 0).val = (fc c).toNat + r * 10240 → w x = fr q) :
    OutOK fr fc (outB.view.writes (Elt F) fo [⟨Rect.unit (s := S20032) o₂ S16.size h₂, w⟩]) (5008 * r + 16 * (n + 1)) := by
  subst ho₂
  intro p c q hp hc hq
  have e : ∀ f : S20032.Idx → Elt F .f32, outB.view.read (Elt F) f p = f p := fun f => rfl
  refine (e _).symm.trans ?_
  by_cases hlt : (p 0).val < 5008 * r + 16 * n
  · rw [View.read_writes_cons_miss_of_axis _ _ _ _ _ (0 : Fin 1) (5008 * r + 16 * n) 16 rfl rfl rfl (.inl hlt)]
    exact (e _).trans (hfo p c q hlt hc hq)
  · have hx : (p 0).val - (5008 * r + 16 * n) < 16 := by omega
    rw [View.read_writes_cons_hit_of_coords outB.view fo (Rect.unit (s := S20032) ![5008 * r + 16 * n] S16.size h₂) w []
      (fun a => match a with | 0 => ⟨(p 0).val - (5008 * r + 16 * n), hx⟩) p
      (fun a => match a with | 0 => show (p 0).val = 5008 * r + 16 * n + 1 * ((p 0).val - (5008 * r + 16 * n)) by omega)]
    have hdiv : (p 0).val / 5008 = r := by omega
    refine hw _ c q ?_ (by rw [hdiv] at hq; exact hq)
    show (c 0).val = 16 * n + ((p 0).val - (5008 * r + 16 * n))
    omega

section

variable (d : Dev nD) (p : Fin τ.nSC × Fin τ.nSub)

/-- What a column loop holds at trip `n`: the column indices, the fetched rows, and the output buffer right so far. -/
abbrev colI (rows : Memref sig .scVector .vmem S40960 .f32) (fr : Buf (Elt F) (rows.view.loc (V d p.1 p.2)))
    (fc : S5008.Idx → BitVec 32) (r : ℕ) (n : ℕ) : sProp 𝕄 :=
  iprop((cidB.view.loc (V d p.1 p.2) ↦{fullShare} fc) ∗ (rows.view.loc (V d p.1 p.2) ↦{fullShare} fr)
    ∗ ∃ fo : Buf (Elt F) (outB.view.loc (V d p.1 p.2)), ⌜OutOK (rows.view.read (Elt F) fr) fc fo (5008 * r + 16 * n)⌝ ∗ outB.view.loc (V d p.1 p.2) ↦{fullShare} fo)

set_option maxRecDepth 8192 in
/-- One trip, from trip `n` of row `r` to trip `n + 1`. -/
theorem colTrip_spec (rows : Memref sig .scVector .vmem S40960 .f32) (fr : Buf (Elt F) (rows.view.loc (V d p.1 p.2)))
    (fc : S5008.Idx → BitVec 32) (hfc : ∀ c : S5008.Idx, (fc c).toNat < 10000) (r n : ℕ) (hr : r < 4) (hn : n < 313)
    (o₁ : Fin 1 → ℕ) (h₁ : ∀ a, o₁ a + S16.size a ≤ S5008.size a) (ho₁ : o₁ = ![16 * n])
    (o₂ : Fin 1 → ℕ) (h₂ : ∀ a, o₂ a + S16.size a ≤ S20032.size a) (ho₂ : o₂ = ![5008 * r + 16 * n])
    (pay : Vec F S16 .i32 → IVec S16 32) (hpay : ∀ v x, pay v x = v x + BitVec.ofNat 32 (r * 10240))
    (chk : IVec S16 32 → Prop) (dec : ∀ v, Decidable (chk v))
    (hchk : ∀ v, (∀ a x, ((![v] : Fin 1 → IVec S16 32) a x).toNat < S40960.size a) → chk v)
    (hc : ∀ v, chk v → ∀ a x, ((![v] : Fin 1 → IVec S16 32) a x).toNat < S40960.size a) :
    colI d p rows fr fc r n
      ⊢ wp frame (wpE (defs₀ (F := F)) 𝒱₀ (V d p.1 p.2) none) Set.univ (colTrip p rows o₁ h₁ o₂ h₂ pay chk dec hc)
          fun _ => colI d p rows fr fc r (n + 1) := by
  unfold colTrip colI
  simp only [Prog.lift, Prog.bind_op, Prog.bind_ret, Prog.pure_eq_ret, Prog.bind_assoc]
  iintro ⟨Hc, Hr, %fo, %hfo, Ho⟩
  iapply (wp_load 𝒱₀ (V d p.1 p.2) none Set.univ (m := cidB) (S := Finset.univ) (Finset.subset_univ _)) $$ Hc; iintro Hc
  have hv : ∀ x : S16.Idx, ∀ c : S5008.Idx, (c 0).val = 16 * n + (x 0).val →
      pay (cidB.view.readAt (Elt F) (Rect.unit (s := S5008) o₁ S16.size h₁).toLoadRect fc) x = fc c + BitVec.ofNat 32 (r * 10240) := by
    intro x c hx
    rw [hpay]
    subst ho₁
    refine congrArg (· + BitVec.ofNat 32 (r * 10240)) (congrArg fc ?_)
    funext a
    match a with
    | 0 => exact Fin.ext (show 16 * n + 1 * (x 0).val = (c 0).val by omega)
  have hb : ∀ x : S16.Idx, ∀ c : S5008.Idx, (c 0).val = 16 * n + (x 0).val →
      (pay (cidB.view.readAt (Elt F) (Rect.unit (s := S5008) o₁ S16.size h₁).toLoadRect fc) x).toNat = (fc c).toNat + r * 10240 := by
    intro x c hx
    rw [hv x c hx, BitVec.toNat_add, BitVec.toNat_ofNat]
    have := hfc c
    omega
  have hk : chk (pay (cidB.view.readAt (Elt F) (Rect.unit (s := S5008) o₁ S16.size h₁).toLoadRect fc)) := by
    refine hchk _ fun a x => ?_
    match a with
    | 0 =>
      have hx : 16 * n + (x 0).val < 5008 := by have := (x 0).isLt; change (x 0).val < 16 at this; omega
      have h := hb x (fun a => match a with | 0 => ⟨16 * n + (x 0).val, hx⟩) rfl
      have := hfc (fun a => match a with | 0 => ⟨16 * n + (x 0).val, hx⟩)
      show (pay _ x).toNat < 40960
      rw [h]; omega
  rw [wp_assume_of _ _ _ _ hk]
  iapply (SparseCore.wp_vectorLoadIdx 𝒱₀ (V d p.1 p.2) none Set.univ (base := rows) (S := Finset.univ) (q := fullShare) (Finset.subset_univ _)) $$ Hr; iintro Hr
  iapply (wp_load 𝒱₀ (V d p.1 p.2) none Set.univ (m := outB) (S := Finset.univ) (Finset.subset_univ _)) $$ Ho; iintro Ho
  ihave Ho := (Entails.of_eq (show (outB.view.loc (V d p.1 p.2) ↦{fullShare} fo : sProp 𝕄) = ((outB.access (Rect.unit (s := S20032) o₂ S16.size h₂)).loc (V d p.1 p.2)) ↦{fullShare} fo from rfl)) $$ Ho
  iapply (wp_store 𝒱₀ (V d p.1 p.2) none Set.univ (m := outB) (r := Rect.unit (s := S20032) o₂ S16.size h₂) (Mk := Finset.univ) (S := Finset.univ) (Finset.subset_univ _)) $$ Ho; iintro Ho
  rw [wp_ret]; imodintro
  isplitl [Hc]; · iexact Hc
  isplitl [Hr]; · iexact Hr
  iexists _
  isplitr [Ho]
  swap; · iexact Ho
  ipureintro
  refine OutOK.step hn hfo o₂ h₂ ho₂ _ fun x c q hx hq => ?_
  have hl := loadIdx_eq (F := F) (rows.view.read (Elt F) fr) (pay (cidB.view.readAt (Elt F) (Rect.unit (s := S5008) o₁ S16.size h₁).toLoadRect fc))
    (hc _ hk) x q (by rw [hq]; exact (hb x c hx).symm)
  rw [← read_access_whole] at hl
  rw [← read_access_whole]
  exact hl

end

end Cert.Proof.Run

end
-- ==== Proof.Values.lean ====
/-
  What the SparseCore call leaves, and what a task's buffers hold on the way, as facts about contents.
-/
module

public import proofs.«01_k».proof.Proof.Column
public import Idealize.ShloMosaic.Lib.ValueIdxCore

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx (ix1 ix2)

/-! ## The arrays and buffers of the SparseCore call, as a task names them -/

abbrev rlV : Memref sig .scVector .hbm S51200000 .f32 := Memref.whole main_v16_scv
abbrev xV : Memref sig .scVector .hbm S10000x128 .f32 := Memref.whole main_arg1_scv
abbrev ciV : Memref sig .scVector .hbm S5008 .i32 := Memref.whole main_v2_scv
abbrev i8V : Memref sig .scVector .hbm S32x320 .i32 := Memref.whole main_v8_scv
abbrev v16V : Memref sig .scVector .hbm S32x2560 .f32 := Memref.whole main_v15_scv
abbrev a2V : Memref sig .scVector .hbm S5000x5000 .f32 := Memref.whole main_v17_0_scv
abbrev nxV : Memref sig .scVector .hbm S5000x128 .f32 := Memref.whole main_v17_1_scv
abbrev xb0 : Memref sig .scVector .vmem S4x128 .f32 := Memref.whole cc1_scratch2
abbrev xb1 : Memref sig .scVector .vmem S4x128 .f32 := Memref.whole cc1_scratch3
abbrev midB : Memref sig .scVector .vmem S320 .i32 := Memref.whole cc1_scratch6
abbrev vvB : Memref sig .scVector .vmem S2560 .f32 := Memref.whole cc1_scratch7
abbrev nxB : Memref sig .scVector .vmem S512 .f32 := Memref.whole cc1_scratch8

/-! ## The task's place -/

/-- The task's number, counted subcore by subcore. -/
def wn (L : grid1.Coords) : ℕ := 2 * (L 1).val + (L 0).val

theorem wn_lt (L : grid1.Coords) : wn L < 32 := by
  have h0 : (L 0).val < 2 := (L 0).isLt
  have h1 : (L 1).val < 16 := (L 1).isLt
  unfold wn; omega

/-- Two tasks of one number are one task. -/
theorem wn_inj {L L' : grid1.Coords} (h : wn L = wn L') : L 0 = L' 0 ∧ L 1 = L' 1 := by
  have h0 : (L 0).val < 2 := (L 0).isLt
  have h0' : (L' 0).val < 2 := (L' 0).isLt
  unfold wn at h
  exact ⟨Fin.ext (by omega), Fin.ext (by omega)⟩

/-! ## What the call leaves -/

/-- The pooled matrix: row `i` of the fetched rows, at the column the index list names. -/
def A2f (RL : S51200000.Idx → Elt F .f32) (CI : S5008.Idx → BitVec 32) : S5000x5000.Idx → Elt F .f32 := fun i =>
  RL (ix1 ⟨((i 0).val * 10240 + (CI (ix1 ⟨(i 1).val, by have : (i 1).val < 5000 := (i 1).isLt; omega⟩)).toNat) % 51200000,
    Nat.mod_lt _ (by decide)⟩)

/-- The place in the task-by-task index list of row `ρ`'s index. -/
def i8At (ρ : ℕ) (h : ρ < 5000) : S32x320.Idx := ix2 ⟨ρ / 4 % 32, by omega⟩ ⟨8 * (ρ / 128) + ρ % 4, by omega⟩
/-- The place in the task-by-task list of values of row `ρ`'s value, lane `k`. -/
def v16At (ρ k : ℕ) (h : ρ < 5000) : S32x2560.Idx := ix2 ⟨ρ / 4 % 32, by omega⟩ ⟨64 * (ρ / 128) + 16 * (ρ % 4) + k % 16, by omega⟩

/-- The scaled rows: row `i` is the row of `X` its index names times its value. -/
def NXf (X : S10000x128.Idx → Elt F .f32) (I8 : S32x320.Idx → BitVec 32) (V16 : S32x2560.Idx → Elt F .f32) : S5000x128.Idx → Elt F .f32 := fun i =>
  FloatOps.mulf (X (ix2 ⟨(I8 (i8At (i 0).val (i 0).isLt)).toNat % 10000, Nat.mod_lt _ (by decide)⟩ (i 1)))
    (V16 (v16At (i 0).val (i 1).val (i 0).isLt))

/-! ## What a task's buffers hold on the way -/

/-- Four fetched rows: those of the task's block number `t`. -/
def RowsOK (L : grid1.Coords) (RL : S51200000.Idx → Elt F .f32) (t : ℕ) (g : S40960.Idx → Elt F .f32) : Prop :=
  ∀ (q : S40960.Idx) (p : S51200000.Idx), (p 0).val = (q 0).val + 40960 * (wn L + 32 * t) → g q = RL p

/-- The task's row of the index list. -/
def MidOK (L : grid1.Coords) (I8 : S32x320.Idx → BitVec 32) (g : S320.Idx → BitVec 32) : Prop :=
  ∀ (y : S320.Idx) (z : S32x320.Idx), (z 0).val = wn L → (z 1).val = (y 0).val → g y = I8 z

/-- The task's row of the list of values. -/
def VvOK (L : grid1.Coords) (V16 : S32x2560.Idx → Elt F .f32) (g : S2560.Idx → Elt F .f32) : Prop :=
  ∀ (y : S2560.Idx) (z : S32x2560.Idx), (z 0).val = wn L → (z 1).val = (y 0).val → g y = V16 z

/-- Four fetched rows of `X`: those of the task's block number `t`. -/
def XbOK (L : grid1.Coords) (X : S10000x128.Idx → Elt F .f32) (I8 : S32x320.Idx → BitVec 32) (t : ℕ) (g : S4x128.Idx → Elt F .f32) : Prop :=
  ∀ (y : S4x128.Idx) (z : S32x320.Idx) (u : S10000x128.Idx), (z 0).val = wn L → (z 1).val = 8 * t + (y 0).val →
    (u 0).val = (I8 z).toNat → (u 1).val = (y 1).val → g y = X u

/-- The first `n` entries of the scaled-row buffer. -/
def NxOK (t : ℕ) (gx : S4x128.Idx → Elt F .f32) (gv : S2560.Idx → Elt F .f32) (fn : S512.Idx → Elt F .f32) (n : ℕ) : Prop :=
  ∀ (p : S512.Idx) (y : S4x128.Idx) (z : S2560.Idx), (p 0).val < n → (y 0).val = (p 0).val / 128 → (y 1).val = (p 0).val % 128 →
    (z 0).val = 64 * t + 16 * ((p 0).val / 128) + (p 0).val % 16 → fn p = FloatOps.mulf (gx y) (gv z)

/-- The task's rows of an array of 5000 rows. -/
def mine (L : grid1.Coords) (s : ℕ) : Finset (⟨2, ![5000, s]⟩ : Shape).Idx := Finset.univ.filter fun i => (i 0).val / 4 % 32 = wn L

theorem mem_mine {L : grid1.Coords} {s : ℕ} {i : (⟨2, ![5000, s]⟩ : Shape).Idx} : i ∈ mine L s ↔ (i 0).val / 4 % 32 = wn L := by
  simp [mine]

/-- The task's first `n` rows of an array of 5000 rows are those of `G`. -/
def DoneOK (L : grid1.Coords) (s : ℕ) (G g : (⟨2, ![5000, s]⟩ : Shape).Idx → Elt F .f32) (n : ℕ) : Prop :=
  ∀ i : (⟨2, ![5000, s]⟩ : Shape).Idx, (i 0).val / 4 % 32 = wn L → (i 0).val / 128 * 4 + (i 0).val % 4 < n → g i = G i

/-! ## One step of each -/

/-- The slice of the fetched rows a task's transfer reads. -/
theorem RowsOK.of_slice (L : grid1.Coords) (RL : S51200000.Idx → Elt F .f32) (t : ℕ) (off : Fin 1 → ℕ)
    (h : ∀ a, off a + S40960.size a ≤ S51200000.size a) (hoff : off = ![40960 * (wn L + 32 * t)]) :
    RowsOK L RL t ((rlV.slice (Rect.unit (s := S51200000) off S40960.size h) (fun _ => rfl)).view.read (Elt F) RL) := by
  subst hoff
  intro q p hp
  refine congrArg RL (funext fun a => ?_)
  match a with
  | 0 => exact Fin.ext (show 40960 * (wn L + 32 * t) + 1 * (q 0).val = (p 0).val by omega)

/-- The gathered rows of `X` are the block's. -/
theorem XbOK.of_gather (L : grid1.Coords) (X : S10000x128.Idx → Elt F .f32) (I8 : S32x320.Idx → BitVec 32) (t : ℕ)
    (mid : S320.Idx → BitVec 32) (hmid : MidOK L I8 mid) (o : Fin 1 → ℕ) (h : ∀ a, o a + S4.size a ≤ S320.size a) (ho : o = ![8 * t]) (h0)
    (hn : S4.numel = S4x128.size gathers_S10000x128_S4x128.axis')
    (hin : ∀ x, ((midB.slice (Rect.unit (s := S320) o S4.size h) (fun _ => rfl)).view.read (Elt F) mid x).toNat < S10000x128.size gathers_S10000x128_S4x128.axis) :
    XbOK L X I8 t (SparseCore.gatherPayload (F := F) gathers_S10000x128_S4x128
      ((xV.slice (Rect.unit (s := S10000x128) ![0, 0] S10000x128.size h0) (fun _ => rfl)).view.read (Elt F) X)
      (SparseCore.rows (F := F) ((midB.slice (Rect.unit (s := S320) o S4.size h) (fun _ => rfl)).view.read (Elt F) mid) hn hin)) := by
  subst ho
  intro y z u hz0 hz1 hu0 hu1
  unfold SparseCore.gatherPayload
  refine congrArg X (funext fun a => Fin.ext ?_)
  match a with
  | 0 =>
    show 0 + 1 * (gathers_S10000x128_S4x128.idx _ y gathers_S10000x128_S4x128.axis).val = (u 0).val
    rw [Shape.Gathers.idx_axis, hu0]
    have e := hmid (fun a => match a with | 0 => ⟨8 * t + (y 0).val, by have := (z 1).isLt; change (z 1).val < 320 at this; show _ < 320; omega⟩) z hz0 hz1
    rw [← e]
    unfold SparseCore.rows
    show 0 + 1 * (mid _).toNat = _
    rw [Nat.zero_add, Nat.one_mul]
    refine congrArg (fun j => (mid j).toNat) (funext fun a => Fin.ext ?_)
    match a with
    | 0 =>
      show 8 * t + 1 * (S4.rowMajor.symm (Fin.cast hn.symm (y 0)) 0).val = 8 * t + (y 0).val
      have e1 := Shape.rowMajor_val_one (d := ![4]) (S4.rowMajor.symm (Fin.cast hn.symm (y 0)))
      have e2 := congrArg Fin.val (Equiv.apply_symm_apply S4.rowMajor (Fin.cast hn.symm (y 0)))
      have e3 : (S4.rowMajor.symm (Fin.cast hn.symm (y 0)) 0).val = (y 0).val := e1.symm.trans e2
      rw [e3, Nat.one_mul]
  | 1 =>
    show 0 + 1 * (gathers_S10000x128_S4x128.idx _ y 1).val = (u 1).val
    rw [Shape.Gathers.idx_of_ne _ _ _ _ (by decide), hu1, Nat.zero_add, Nat.one_mul]
    rfl

/-- One store of the scaled-row buffer adds sixteen entries. -/
theorem NxOK.step {t : ℕ} {gx : S4x128.Idx → Elt F .f32} {gv : S2560.Idx → Elt F .f32} {fn : S512.Idx → Elt F .f32} {n : ℕ}
    (h : NxOK t gx gv fn (16 * n)) (hn : n < 32) (o : Fin 1 → ℕ) (hi : ∀ a, o a + S16.size a ≤ S512.size a) (ho : o = ![16 * n])
    (w : S16.Idx → Elt F .f32)
    (hw : ∀ (x : S16.Idx) (y : S4x128.Idx) (z : S2560.Idx), (y 0).val = n / 8 → (y 1).val = 16 * (n % 8) + (x 0).val →
      (z 0).val = 64 * t + 16 * (n / 8) + (x 0).val → w x = FloatOps.mulf (gx y) (gv z)) :
    NxOK t gx gv (nxB.view.writes (Elt F) fn [⟨Rect.unit (s := S512) o S16.size hi, w⟩]) (16 * (n + 1)) := by
  subst ho
  intro p y z hp hy0 hy1 hz
  have e : ∀ f : S512.Idx → Elt F .f32, nxB.view.read (Elt F) f p = f p := fun f => rfl
  refine (e _).symm.trans ?_
  by_cases hlt : (p 0).val < 16 * n
  · rw [View.read_writes_cons_miss_of_axis _ _ _ _ _ (0 : Fin 1) (16 * n) 16 rfl rfl rfl (.inl hlt)]
    exact (e _).trans (h p y z hlt hy0 hy1 hz)
  · have hx : (p 0).val - 16 * n < 16 := by omega
    rw [View.read_writes_cons_hit_of_coords nxB.view fn (Rect.unit (s := S512) ![16 * n] S16.size hi) w []
      (fun a => match a with | 0 => ⟨(p 0).val - 16 * n, hx⟩) p
      (fun a => match a with | 0 => show (p 0).val = 16 * n + 1 * ((p 0).val - 16 * n) by omega)]
    refine hw _ y z (by omega) ?_ ?_
    · show (y 1).val = 16 * (n % 8) + ((p 0).val - 16 * n)
      omega
    · show (z 0).val = 64 * t + 16 * (n / 8) + ((p 0).val - 16 * n)
      omega

end Cert.Proof.Run

end
-- ==== Proof.Rows.lean ====
/-
  A row written to one of the call's two results: which elements it is, and what it leaves there.
-/
module

public import proofs.«01_k».proof.Proof.Values

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx (ix1 ix2)

abbrev a2Row (off : Fin 2 → ℕ) (h : ∀ a, off a + S1x5000.size a ≤ S5000x5000.size a) : Memref sig .scVector .hbm S5000 .f32 :=
  (a2V.slice (Rect.unit (s := S5000x5000) off S1x5000.size h) (fun _ => rfl)).squeeze S5000 squeezes_S1x5000_S5000

theorem a2Row_emb (off : Fin 2 → ℕ) (h : ∀ a, off a + S1x5000.size a ≤ S5000x5000.size a) (ρ : ℕ) (ho : off = ![ρ, 0]) (i : S5000x5000.Idx) (hi : (i 0).val = ρ) :
    (a2Row off h).view.emb (fun a => match a with | 0 => ⟨(i 1).val, (i 1).isLt⟩) = i := by
  subst ho
  have e : Shape.reshapeEquiv (s := S1x5000) (s' := S5000) (squeezes_S1x5000_S5000).numel_eq (fun a => match a with | 0 => ⟨(i 1).val, (i 1).isLt⟩)
      = ix2 (n0 := 1) (n1 := 5000) 0 ⟨(i 1).val, (i 1).isLt⟩ :=
    Shape.reshapeEquiv_eq_of_rowMajor _ (by
      refine (Shape.rowMajor_val_two (d := ![1, 5000]) _).trans (Eq.trans ?_ (Shape.rowMajor_val_one (d := ![5000]) _).symm)
      show 0 * 5000 + (i 1).val = (i 1).val
      omega)
  show (a2V.slice (Rect.unit (s := S5000x5000) ![ρ, 0] S1x5000.size h) (fun _ => rfl)).view.emb (Shape.reshapeEquiv (s := S1x5000) (s' := S5000) (squeezes_S1x5000_S5000).numel_eq _) = i
  rw [e]
  funext a
  match a with
  | 0 => exact Fin.ext (show ρ + 1 * 0 = (i 0).val by omega)
  | 1 => exact Fin.ext (show 0 + 1 * (i 1).val = (i 1).val by omega)

theorem a2Row_mem (off : Fin 2 → ℕ) (h : ∀ a, off a + S1x5000.size a ≤ S5000x5000.size a) (ρ : ℕ) (ho : off = ![ρ, 0]) (i : S5000x5000.Idx)
    (hi : i ∈ (a2Row off h).view.set) : (i 0).val = ρ := by
  subst ho
  rw [show (a2Row ![ρ, 0] h).view.set = ((a2V.view.slice (Rect.unit (s := S5000x5000) ![ρ, 0] S1x5000.size h)).set) from View.set_reshape _ _] at hi
  rw [View.set_slice_whole] at hi
  have := (Rect.mem_set_unit.mp hi) 0
  change ρ ≤ (i 0).val ∧ (i 0).val < ρ + 1 at this
  omega

theorem a2Row_mine (L : grid1.Coords) (off : Fin 2 → ℕ) (h : ∀ a, off a + S1x5000.size a ≤ S5000x5000.size a) (t r : ℕ) (hr : r < 4)
    (ho : off = ![4 * (wn L + 32 * t) + r, 0]) : (a2Row off h).view.set ⊆ mine L 5000 := by
  intro i hi
  have := a2Row_mem off h _ ho i hi
  have hw := wn_lt L
  exact mem_mine.mpr (by omega)

/-- A row written: the rows done so far, and one more. -/
theorem a2Row_step (L : grid1.Coords) (G g : S5000x5000.Idx → Elt F .f32) (off : Fin 2 → ℕ) (h : ∀ a, off a + S1x5000.size a ≤ S5000x5000.size a) (t r : ℕ) (hr : r < 4)
    (ho : off = ![4 * (wn L + 32 * t) + r, 0]) (hg : DoneOK L 5000 G g (4 * t + r)) (w : S5000.Idx → Elt F .f32)
    (hw : ∀ (i : S5000x5000.Idx) (x : S5000.Idx), (i 0).val = 4 * (wn L + 32 * t) + r → (x 0).val = (i 1).val → w x = G i) :
    DoneOK L 5000 G ((a2Row off h).view.write (Elt F) g w Finset.univ) (4 * t + r + 1) := by
  intro i hi hlt
  have hwn := wn_lt L
  by_cases hρ : (i 0).val = 4 * (wn L + 32 * t) + r
  · have he := a2Row_emb off h _ ho i hρ
    rw [← he, View.write_emb_of_mem _ _ (Finset.mem_univ _), he]
    exact hw i _ hρ rfl
  · rw [View.write_of_not_mem _ _ _ (fun hm => hρ (a2Row_mem off h _ ho i hm))]
    exact hg i hi (by omega)

abbrev nxRow (off : Fin 2 → ℕ) (h : ∀ a, off a + S1x128.size a ≤ S5000x128.size a) : Memref sig .scVector .hbm S128 .f32 :=
  (nxV.slice (Rect.unit (s := S5000x128) off S1x128.size h) (fun _ => rfl)).squeeze S128 squeezes_S1x128_S128

theorem nxRow_emb (off : Fin 2 → ℕ) (h : ∀ a, off a + S1x128.size a ≤ S5000x128.size a) (ρ : ℕ) (ho : off = ![ρ, 0]) (i : S5000x128.Idx) (hi : (i 0).val = ρ) :
    (nxRow off h).view.emb (fun a => match a with | 0 => ⟨(i 1).val, (i 1).isLt⟩) = i := by
  subst ho
  have e : Shape.reshapeEquiv (s := S1x128) (s' := S128) (squeezes_S1x128_S128).numel_eq (fun a => match a with | 0 => ⟨(i 1).val, (i 1).isLt⟩)
      = ix2 (n0 := 1) (n1 := 128) 0 ⟨(i 1).val, (i 1).isLt⟩ :=
    Shape.reshapeEquiv_eq_of_rowMajor _ (by
      refine (Shape.rowMajor_val_two (d := ![1, 128]) _).trans (Eq.trans ?_ (Shape.rowMajor_val_one (d := ![128]) _).symm)
      show 0 * 128 + (i 1).val = (i 1).val
      omega)
  show (nxV.slice (Rect.unit (s := S5000x128) ![ρ, 0] S1x128.size h) (fun _ => rfl)).view.emb (Shape.reshapeEquiv (s := S1x128) (s' := S128) (squeezes_S1x128_S128).numel_eq _) = i
  rw [e]
  funext a
  match a with
  | 0 => exact Fin.ext (show ρ + 1 * 0 = (i 0).val by omega)
  | 1 => exact Fin.ext (show 0 + 1 * (i 1).val = (i 1).val by omega)

theorem nxRow_mem (off : Fin 2 → ℕ) (h : ∀ a, off a + S1x128.size a ≤ S5000x128.size a) (ρ : ℕ) (ho : off = ![ρ, 0]) (i : S5000x128.Idx)
    (hi : i ∈ (nxRow off h).view.set) : (i 0).val = ρ := by
  subst ho
  rw [show (nxRow ![ρ, 0] h).view.set = ((nxV.view.slice (Rect.unit (s := S5000x128) ![ρ, 0] S1x128.size h)).set) from View.set_reshape _ _] at hi
  rw [View.set_slice_whole] at hi
  have := (Rect.mem_set_unit.mp hi) 0
  change ρ ≤ (i 0).val ∧ (i 0).val < ρ + 1 at this
  omega

theorem nxRow_mine (L : grid1.Coords) (off : Fin 2 → ℕ) (h : ∀ a, off a + S1x128.size a ≤ S5000x128.size a) (t r : ℕ) (hr : r < 4)
    (ho : off = ![4 * (wn L + 32 * t) + r, 0]) : (nxRow off h).view.set ⊆ mine L 128 := by
  intro i hi
  have := nxRow_mem off h _ ho i hi
  have hw := wn_lt L
  exact mem_mine.mpr (by omega)

/-- A row written: the rows done so far, and one more. -/
theorem nxRow_step (L : grid1.Coords) (G g : S5000x128.Idx → Elt F .f32) (off : Fin 2 → ℕ) (h : ∀ a, off a + S1x128.size a ≤ S5000x128.size a) (t r : ℕ) (hr : r < 4)
    (ho : off = ![4 * (wn L + 32 * t) + r, 0]) (hg : DoneOK L 128 G g (4 * t + r)) (w : S128.Idx → Elt F .f32)
    (hw : ∀ (i : S5000x128.Idx) (x : S128.Idx), (i 0).val = 4 * (wn L + 32 * t) + r → (x 0).val = (i 1).val → w x = G i) :
    DoneOK L 128 G ((nxRow off h).view.write (Elt F) g w Finset.univ) (4 * t + r + 1) := by
  intro i hi hlt
  have hwn := wn_lt L
  by_cases hρ : (i 0).val = 4 * (wn L + 32 * t) + r
  · have he := nxRow_emb off h _ ho i hρ
    rw [← he, View.write_emb_of_mem _ _ (Finset.mem_univ _), he]
    exact hw i _ hρ rfl
  · rw [View.write_of_not_mem _ _ _ (fun hm => hρ (nxRow_mem off h _ ho i hm))]
    exact hg i hi (by omega)

/-- A row of the output buffer is a row of the pooled matrix. -/
theorem a2_row (L : grid1.Coords) (RL : S51200000.Idx → Elt F .f32) (CI : S5008.Idx → BitVec 32) (hCI : ∀ c, (CI c).toNat < 10000) (t r : ℕ) (hr : r < 4)
    (fr : S40960.Idx → Elt F .f32) (hfr : RowsOK L RL t fr) (fo : S20032.Idx → Elt F .f32) (hfo : OutOK fr CI fo 20032)
    (o : Fin 1 → ℕ) (h : ∀ a, o a + S5000.size a ≤ S20032.size a) (ho : o = ![5008 * r])
    (i : S5000x5000.Idx) (x : S5000.Idx) (hi : (i 0).val = 4 * (wn L + 32 * t) + r) (hx : (x 0).val = (i 1).val) :
    (outB.slice (Rect.unit (s := S20032) o S5000.size h) (fun _ => rfl)).view.read (Elt F) fo x = A2f RL CI i := by
  subst ho
  have hi1 : (i 1).val < 5000 := (i 1).isLt
  have hi0 : (i 0).val < 5000 := (i 0).isLt
  have hc := hCI (ix1 ⟨(i 1).val, by omega⟩)
  have e1 := hfo (fun a => match a with | 0 => ⟨5008 * r + (i 1).val, by show _ < 20032; omega⟩) (ix1 ⟨(i 1).val, by omega⟩)
    (fun a => match a with | 0 => ⟨(CI (ix1 ⟨(i 1).val, by omega⟩)).toNat + r * 10240, by show _ < 40960; omega⟩)
    (by show 5008 * r + (i 1).val < 20032; omega)
    (by show (i 1).val = (5008 * r + (i 1).val) % 5008; omega)
    (by show (CI (ix1 ⟨(i 1).val, by omega⟩)).toNat + r * 10240 = (CI (ix1 ⟨(i 1).val, by omega⟩)).toNat + (5008 * r + (i 1).val) / 5008 * 10240
        have : (5008 * r + (i 1).val) / 5008 = r := by omega
        rw [this])
  have e2 := hfr (fun a => match a with | 0 => ⟨(CI (ix1 ⟨(i 1).val, by omega⟩)).toNat + r * 10240, by show _ < 40960; omega⟩)
    (ix1 ⟨((i 0).val * 10240 + (CI (ix1 ⟨(i 1).val, by omega⟩)).toNat) % 51200000, Nat.mod_lt _ (by decide)⟩)
    (by show ((i 0).val * 10240 + (CI (ix1 ⟨(i 1).val, by omega⟩)).toNat) % 51200000 = ((CI (ix1 ⟨(i 1).val, by omega⟩)).toNat + r * 10240) + 40960 * (wn L + 32 * t)
        omega)
  refine Eq.trans (congrArg fo (funext fun a => ?_)) (e1.trans e2)
  match a with
  | 0 => exact Fin.ext (show 5008 * r + 1 * (x 0).val = 5008 * r + (i 1).val by omega)

/-- A row of the scaled-row buffer is a row of the scaled rows. -/
theorem nx_row (L : grid1.Coords) (X : S10000x128.Idx → Elt F .f32) (I8 : S32x320.Idx → BitVec 32) (V16 : S32x2560.Idx → Elt F .f32)
    (hI8 : ∀ z, (I8 z).toNat < 10000) (t r : ℕ) (hr : r < 4) (gx : S4x128.Idx → Elt F .f32) (hgx : XbOK L X I8 t gx)
    (gv : S2560.Idx → Elt F .f32) (hgv : VvOK L V16 gv) (fn : S512.Idx → Elt F .f32) (hfn : NxOK t gx gv fn 512)
    (o : Fin 1 → ℕ) (h : ∀ a, o a + S128.size a ≤ S512.size a) (ho : o = ![128 * r])
    (i : S5000x128.Idx) (x : S128.Idx) (hi : (i 0).val = 4 * (wn L + 32 * t) + r) (hx : (x 0).val = (i 1).val) :
    (nxB.slice (Rect.unit (s := S512) o S128.size h) (fun _ => rfl)).view.read (Elt F) fn x = NXf X I8 V16 i := by
  subst ho
  have hw := wn_lt L
  have hi1 : (i 1).val < 128 := (i 1).isLt
  have hi0 : (i 0).val < 5000 := (i 0).isLt
  have e1 := hfn (fun a => match a with | 0 => ⟨128 * r + (i 1).val, by show _ < 512; omega⟩) (ix2 (n0 := 4) (n1 := 128) ⟨r, hr⟩ ⟨(i 1).val, by omega⟩)
    (ix1 (n := 2560) ⟨64 * t + 16 * r + (i 1).val % 16, by omega⟩) (by show 128 * r + (i 1).val < 512; omega)
    (by show r = (128 * r + (i 1).val) / 128; omega) (by show (i 1).val = (128 * r + (i 1).val) % 128; omega)
    (by show 64 * t + 16 * r + (i 1).val % 16 = 64 * t + 16 * ((128 * r + (i 1).val) / 128) + (128 * r + (i 1).val) % 16; omega)
  have e2 := hgx (ix2 (n0 := 4) (n1 := 128) ⟨r, hr⟩ ⟨(i 1).val, by omega⟩) (i8At (i 0).val (i 0).isLt)
    (ix2 ⟨(I8 (i8At (i 0).val (i 0).isLt)).toNat % 10000, Nat.mod_lt _ (by decide)⟩ (i 1))
    (by show (i 0).val / 4 % 32 = wn L; omega) (by show 8 * ((i 0).val / 128) + (i 0).val % 4 = 8 * t + r; omega)
    (by show (I8 _).toNat % 10000 = (I8 _).toNat; exact Nat.mod_eq_of_lt (hI8 _)) rfl
  have e3 := hgv (ix1 (n := 2560) ⟨64 * t + 16 * r + (i 1).val % 16, by omega⟩) (v16At (i 0).val (i 1).val (i 0).isLt)
    (by show (i 0).val / 4 % 32 = wn L; omega)
    (by show 64 * ((i 0).val / 128) + 16 * ((i 0).val % 4) + (i 1).val % 16 = 64 * t + 16 * r + (i 1).val % 16; omega)
  rw [e2, e3] at e1
  refine Eq.trans (congrArg fn (funext fun a => ?_)) e1
  match a with
  | 0 => exact Fin.ext (show 128 * r + 1 * (x 0).val = 128 * r + (i 1).val by omega)

end Cert.Proof.Run

end
-- ==== Proof.Fetch.lean ====
/-
  The two transfers that bring a block in (its four fetched rows, and the indirect gather of its four rows of
  `X`): issued, in flight, and waited for.
-/
module

public import proofs.«01_k».proof.Proof.Rows

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx (ix1 ix2)

section

variable (d : Dev nD) (L : grid1.Coords) (O : CellTallies nD τ sig (HIx 1)) (W : Waits sig (HIx 1))

/-- The thread of the task at `L`. -/
abbrev th : Thread nD τ := V d ((L 0).castLE hcore1) ((L 1).castLE hsub1)

/-- The task's program run to `Q`. -/
abbrev wpT {α : Type} (p : Prog (TpuEff nD τ sig (Elt F) Λ₀ (th d L).2) α) (Q : α → sProp 𝕄) : sProp 𝕄 :=
  wp frame (wpE (defs₀ (F := F)) 𝒱₀ (th d L) none) Set.univ p Q

/-- What the task owes, its own waits recorded. -/
abbrev OW : sProp 𝕄 := iprop(∃ W', ⌜∀ p ∈ W', p ∈ W ∨ p.2 = none⌝ ∗ owes (th d L) O W')

theorem mem_W {W W' : Waits sig (HIx 1)} {sm : SemLoc sig} (h : ∀ p ∈ W', p ∈ W ∨ p.2 = none) :
    ∀ p ∈ insert (sm, (none : HIx 1)) W', p ∈ W ∨ p.2 = none := by
  intro p hp
  rcases Finset.mem_insert.mp hp with hp | hp
  · exact .inr (hp ▸ rfl)
  · exact h p hp

/-- The rows of the task's block `t` on their way into `rows`. -/
def FlA (RL : S51200000.Idx → Elt F .f32) (q : PosShare TreeShare) (rows : Memref sig .scVector .vmem S40960 .f32) (sem : DmaSem sig) (t : ℕ) : sProp 𝕄 :=
  iprop(∃ S : Finset S51200000.Idx, Transfers.Flight countersEmb (th d L) (.dma sem) (none : HIx 1) rows.view.dmaCredit
      iprop((∃ f, ⌜RowsOK L RL t (rows.view.read (Elt F) f)⌝ ∗ rows.view.loc (th d L) ↦{fullShare} f) ∗ rlV.view.loc (th d L) ↦[S]{q} RL)
    ∗ rlV.view.loc (th d L) ↦[Finset.univ \ S]{q} RL)

theorem issueA {α : Type} {Q : α → sProp 𝕄} {k : PUnit → Prog (TpuEff nD τ sig (Elt F) Λ₀ (th d L).2) α}
    (RL : S51200000.Idx → Elt F .f32) (q : PosShare TreeShare) (rows : Memref sig .scVector .vmem S40960 .f32) (hrows : rows.view.set = Finset.univ)
    (sem : DmaSem sig) (off : Fin 1 → ℕ) (h : ∀ a, off a + S40960.size a ≤ S51200000.size a) (t : ℕ) (hoff : off = ![40960 * (wn L + 32 * t)]) {h1 h2 h3} :
    iprop((rlV.view.loc (th d L) ↦{q} RL) ∗ (∃ f, rows.view.loc (th d L) ↦{fullShare} f) ∗ semVal (th d L, SemLoc.dma sem) 0)
      ⊢ iprop((FlA d L RL q rows sem t -∗ wpT d L (k ⟨⟩) Q)
          -∗ wpT d L (.op (.enqueueDma (rlV.slice (Rect.unit (s := S51200000) off S40960.size h) (fun _ => rfl)) (.here rows) (.dma sem) h1 h2 h3) k) Q) := by
  iintro ⟨Hs, ⟨%f, Hd⟩, Hv⟩ Hk
  ihave Hs := (pointsTo_split_subset (S := Finset.univ) (Finset.subset_univ (rlV.slice (Rect.unit (s := S51200000) off S40960.size h) (fun _ => rfl)).view.set)).1 $$ Hs
  icases Hs with ⟨Hs, Hr⟩
  iapply (Transfers.wp_dmaLocal countersEmb 𝒱₀ (th d L) none (src := rlV.slice (Rect.unit (s := S51200000) off S40960.size h) (fun _ => rfl)) (dst := rows) (Sd := Finset.univ) (none : HIx 1) rows.view.dmaCredit rfl
    (View.dmaCredit_pos _ (by decide)) (Finset.subset_univ _)) $$ [Hs Hd Hv]
  · isplitl [Hs]; · iexact Hs
    isplitl [Hd] <;> iassumption
  iintro Hf
  iapply Hk
  unfold FlA
  iexists (rlV.slice (Rect.unit (s := S51200000) off S40960.size h) (fun _ => rfl)).view.set
  isplitl [Hf]
  · iapply (Transfers.Flight_mono countersEmb (th d L) _) $$ Hf
    iintro ⟨Hd, Hs⟩
    isplitl [Hd]
    · iexists _; isplitr [Hd]
      swap; · iexact Hd
      ipureintro
      rw [View.read_write_univ]
      exact RowsOK.of_slice L RL t off h hoff
    · iexact Hs
  · iexact Hr

theorem waitA {α : Type} {Q : α → sProp 𝕄} {k : PUnit → Prog (TpuEff nD τ sig (Elt F) Λ₀ (th d L).2) α} (hO : ∀ g, O g none = 0)
    (RL : S51200000.Idx → Elt F .f32) (q : PosShare TreeShare) (rows : Memref sig .scVector .vmem S40960 .f32)
    (sem : DmaSem sig) (t : ℕ) {src : Memref sig .scVector .hbm S40960 .f32} {h1 h2} :
    iprop(levAts (K (F := F)).L (K (F := F)).lev ∗ FlA d L RL q rows sem t ∗ OW d L O W)
      ⊢ iprop((iprop((rlV.view.loc (th d L) ↦{q} RL) ∗ (∃ f, ⌜RowsOK L RL t (rows.view.read (Elt F) f)⌝ ∗ rows.view.loc (th d L) ↦{fullShare} f)
            ∗ semVal (th d L, SemLoc.dma sem) 0 ∗ OW d L O W) -∗ wpT d L (k ⟨⟩) Q)
          -∗ wpT d L (.op (.waitDma2 sem src rows h1 h2) k) Q) := by
  iintro ⟨#Hlv, Hf, ⟨%W', %hW', HO⟩⟩ Hk
  unfold FlA
  icases Hf with ⟨%S, Hf, Hr⟩
  iapply (Transfers.wp_waitLocalO countersEmb 𝒱₀ (th d L) none (none : HIx 1) (rfl : rows.view.dmaCredit = _)) $$ [Hf HO]
  · isplitl [Hf]; · iexact Hf
    isplitl [HO]; · iexact HO
    iapply ((K (F := F)).mayWait_none (thr := th d L) (SemLoc.dma sem) hO) $$ Hlv
  iintro ⟨⟨Hd, Hs⟩, Hv, HO⟩
  iapply Hk
  isplitl [Hs Hr]
  · iapply (pointsTo_split_subset (S := Finset.univ) (Finset.subset_univ S)).2
    isplitl [Hs] <;> iassumption
  isplitl [Hd]; · iexact Hd
  isplitl [Hv]; · iexact Hv
  iexists _; isplitr
  swap; · iexact HO
  ipureintro; exact mem_W hW'

/-- The rows of `X` of the task's block `t` on their way into `xb`. -/
def FlX (X : S10000x128.Idx → Elt F .f32) (I8 : S32x320.Idx → BitVec 32) (mid : S320.Idx → BitVec 32) (q : PosShare TreeShare)
    (xb : Memref sig .scVector .vmem S4x128 .f32) (sem : DmaSem sig) (t : ℕ) : sProp 𝕄 :=
  iprop(∃ (S : Finset S10000x128.Idx) (S' : Finset S320.Idx), Transfers.Flight countersEmb (th d L) (.dma sem) (none : HIx 1) xb.view.dmaCredit
      iprop((∃ f, ⌜XbOK L X I8 t (xb.view.read (Elt F) f)⌝ ∗ xb.view.loc (th d L) ↦{fullShare} f) ∗ (xV.view.loc (th d L) ↦[S]{q} X)
        ∗ (midB.view.loc (th d L) ↦[S']{fullShare} mid))
    ∗ (xV.view.loc (th d L) ↦[Finset.univ \ S]{q} X) ∗ (midB.view.loc (th d L) ↦[Finset.univ \ S']{fullShare} mid))

theorem issueX {α : Type} {Q : α → sProp 𝕄} {k : PUnit → Prog (TpuEff nD τ sig (Elt F) Λ₀ (th d L).2) α}
    (X : S10000x128.Idx → Elt F .f32) (I8 : S32x320.Idx → BitVec 32) (mid : S320.Idx → BitVec 32) (hI8 : ∀ z, (I8 z).toNat < 10000) (hmid : MidOK L I8 mid)
    (q : PosShare TreeShare) (xb : Memref sig .scVector .vmem S4x128 .f32) (hxb : xb.view.set = Finset.univ)
    (hN : ∑ j, (xb.slice (S4x128.rowRect gathers_S10000x128_S4x128.axis' j) (S4x128.stride_rowRect gathers_S10000x128_S4x128.axis' j)).view.dmaCredit = xb.view.dmaCredit)
    (sem : DmaSem sig) (o : Fin 1 → ℕ) (h : ∀ a, o a + S4.size a ≤ S320.size a) (t : ℕ) (ho : o = ![8 * t]) {hp h0 hn h1 h2 h3 hsr} :
    iprop((xV.view.loc (th d L) ↦{q} X) ∗ (midB.view.loc (th d L) ↦{fullShare} mid) ∗ (∃ f, xb.view.loc (th d L) ↦{fullShare} f) ∗ semVal (th d L, SemLoc.dma sem) 0)
      ⊢ iprop((FlX d L X I8 mid q xb sem t -∗ wpT d L (k ⟨⟩) Q)
          -∗ wpT d L (SparseCore.enqueueIndirectGather (p := (th d L).2) hp (xV.slice (Rect.unit (s := S10000x128) ![0, 0] S10000x128.size h0) (fun _ => rfl)) xb gathers_S10000x128_S4x128
            (midB.slice (Rect.unit (s := S320) o S4.size h) (fun _ => rfl)) hn sem h1 h2 h3 hsr >>= k) Q) := by
  have hin : ∀ x, ((midB.slice (Rect.unit (s := S320) o S4.size h) (fun _ => rfl)).view.read (Elt F) mid x).toNat
      < S10000x128.size gathers_S10000x128_S4x128.axis := by
    intro x
    have hw := wn_lt L
    show (mid _).toNat < 10000
    rw [hmid _ (ix2 ⟨wn L, hw⟩ ((midB.slice (Rect.unit (s := S320) o S4.size h) (fun _ => rfl)).view.emb x 0)) rfl rfl]
    exact hI8 _
  iintro ⟨Hs, Ho, ⟨%f, Hd⟩, Hv⟩ Hk
  ihave Hs := (pointsTo_split_subset (S := Finset.univ) (Finset.subset_univ (xV.slice (Rect.unit (s := S10000x128) ![0, 0] S10000x128.size h0) (fun _ => rfl)).view.set)).1 $$ Hs
  icases Hs with ⟨Hs, Hr⟩
  ihave Ho := (pointsTo_split_subset (S := Finset.univ) (Finset.subset_univ (midB.slice (Rect.unit (s := S320) o S4.size h) (fun _ => rfl)).view.set)).1 $$ Ho
  icases Ho with ⟨Ho, Hr'⟩
  ihave Hd := (Entails.of_eq (show ((xb.view.loc (th d L) ↦{fullShare} f : sProp 𝕄)) = xb.view.loc (th d L) ↦[xb.view.set]{fullShare} f by rw [hxb])) $$ Hd
  iapply (SparseCore.wp_indirectGatherLocal countersEmb 𝒱₀ (th d L) none (hg := gathers_S10000x128_S4x128) (none : HIx 1)
      xb.view.dmaCredit hN (by decide) hin) $$ [Hs Hd Ho Hv]
  · isplitl [Hs]; · iexact Hs
    isplitl [Hd]; · iexact Hd
    isplitl [Ho]; · iexact Ho
    iexact Hv
  iintro Hf
  iapply Hk
  unfold FlX
  iexists (xV.slice (Rect.unit (s := S10000x128) ![0, 0] S10000x128.size h0) (fun _ => rfl)).view.set, (midB.slice (Rect.unit (s := S320) o S4.size h) (fun _ => rfl)).view.set
  isplitl [Hf]
  · iapply (Transfers.Flight_mono countersEmb (th d L) _) $$ Hf
    iintro ⟨Hd, Hs, Ho⟩
    isplitl [Hd]
    · rw [hxb]
      iexists _; isplitr [Hd]
      swap; · iexact Hd
      ipureintro
      rw [View.read_write_univ]
      exact XbOK.of_gather L X I8 t mid hmid o h ho h0 hn hin
    · isplitl [Hs] <;> iassumption
  · isplitl [Hr] <;> iassumption

theorem waitX {α : Type} {Q : α → sProp 𝕄} {k : PUnit → Prog (TpuEff nD τ sig (Elt F) Λ₀ (th d L).2) α} (hO : ∀ g, O g none = 0)
    (X : S10000x128.Idx → Elt F .f32) (I8 : S32x320.Idx → BitVec 32) (mid : S320.Idx → BitVec 32) (q : PosShare TreeShare)
    (xb : Memref sig .scVector .vmem S4x128 .f32) (sem : DmaSem sig) (t : ℕ) {src : Memref sig .scVector .hbm S10000x128 .f32} {h1 h2} :
    iprop(levAts (K (F := F)).L (K (F := F)).lev ∗ FlX d L X I8 mid q xb sem t ∗ OW d L O W)
      ⊢ iprop((iprop((xV.view.loc (th d L) ↦{q} X) ∗ (midB.view.loc (th d L) ↦{fullShare} mid)
            ∗ (∃ f, ⌜XbOK L X I8 t (xb.view.read (Elt F) f)⌝ ∗ xb.view.loc (th d L) ↦{fullShare} f)
            ∗ semVal (th d L, SemLoc.dma sem) 0 ∗ OW d L O W) -∗ wpT d L (k ⟨⟩) Q)
          -∗ wpT d L (.op (.waitDma2 sem src xb h1 h2) k) Q) := by
  iintro ⟨#Hlv, Hf, ⟨%W', %hW', HO⟩⟩ Hk
  unfold FlX
  icases Hf with ⟨%S, %S', Hf, Hr, Hr'⟩
  iapply (Transfers.wp_waitLocalO countersEmb 𝒱₀ (th d L) none (none : HIx 1) (rfl : xb.view.dmaCredit = _)) $$ [Hf HO]
  · isplitl [Hf]; · iexact Hf
    isplitl [HO]; · iexact HO
    iapply ((K (F := F)).mayWait_none (thr := th d L) (SemLoc.dma sem) hO) $$ Hlv
  iintro ⟨⟨Hd, Hs, Ho⟩, Hv, HO⟩
  iapply Hk
  isplitl [Hs Hr]
  · iapply (pointsTo_split_subset (S := Finset.univ) (Finset.subset_univ S)).2
    isplitl [Hs] <;> iassumption
  isplitl [Ho Hr']
  · iapply (pointsTo_split_subset (S := Finset.univ) (Finset.subset_univ S')).2
    isplitl [Ho] <;> iassumption
  isplitl [Hd]; · iexact Hd
  isplitl [Hv]; · iexact Hv
  iexists _; isplitr
  swap; · iexact HO
  ipureintro; exact mem_W hW'

end

end Cert.Proof.Run

end
-- ==== Proof.Steps.lean ====
/-
  The steps of one block: a column loop, the scaled rows sixteen entries at a time, and a row copied out.
-/
module

public import proofs.«01_k».proof.Proof.Fetch

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx (ix1 ix2)

section

variable (d : Dev nD) (L : grid1.Coords) (O : CellTallies nD τ sig (HIx 1)) (W : Waits sig (HIx 1))

set_option maxRecDepth 8192 in
/-- A row copied out to the result, and the copy waited for. -/
theorem a2_copy {α : Type} {Q : α → sProp 𝕄} {k : PUnit → Prog (TpuEff nD τ sig (Elt F) Λ₀ (th d L).2) α} (hO : ∀ g, O g none = 0)
    (RL : S51200000.Idx → Elt F .f32) (CI : S5008.Idx → BitVec 32) (hCI : ∀ c, (CI c).toNat < 10000) (t : ℕ)
    (fr : S40960.Idx → Elt F .f32) (hfr : RowsOK L RL t fr) (fo : S20032.Idx → Elt F .f32) (hfo : OutOK fr CI fo 20032)
    (sem : DmaSem sig) (o : Fin 1 → ℕ) (h : ∀ a, o a + S5000.size a ≤ S20032.size a) (off : Fin 2 → ℕ) (h' : ∀ a, off a + S1x5000.size a ≤ S5000x5000.size a)
    {hs₁ hd₁ ht hs₂ hd₂}
    (r : ℕ) (hr : r < 4) (ho : o = ![5008 * r]) (hoff : off = ![4 * (wn L + 32 * t) + r, 0]) :
    iprop(levAts (K (F := F)).L (K (F := F)).lev ∗ (outB.view.loc (th d L) ↦{fullShare} fo)
        ∗ (∃ g : S5000x5000.Idx → Elt F .f32, ⌜DoneOK L 5000 (A2f RL CI) g (4 * t + r)⌝ ∗ a2V.view.loc (th d L) ↦[mine L 5000]{fullShare} g)
        ∗ semVal (th d L, SemLoc.dma sem) 0 ∗ OW d L O W)
      ⊢ iprop((iprop((outB.view.loc (th d L) ↦{fullShare} fo)
            ∗ (∃ g : S5000x5000.Idx → Elt F .f32, ⌜DoneOK L 5000 (A2f RL CI) g (4 * t + (r + 1))⌝ ∗ a2V.view.loc (th d L) ↦[mine L 5000]{fullShare} g)
            ∗ semVal (th d L, SemLoc.dma sem) 0 ∗ OW d L O W) -∗ wpT d L (k ⟨⟩) Q)
          -∗ wpT d L (.op (.enqueueDma (outB.slice (Rect.unit (s := S20032) o S5000.size h) (fun _ => rfl)) (.here (a2Row off h')) (.dma sem) hs₁ hd₁ ht)
            fun _ => .op (.waitDma2 sem (outB.slice (Rect.unit (s := S20032) o S5000.size h) (fun _ => rfl)) (a2Row off h') hs₂ hd₂) k) Q) := by
  iintro ⟨#Hlv, Hs, ⟨%g, %hg, Hd⟩, Hv, ⟨%W', %hW', HO⟩⟩ Hk
  ihave Hs := (pointsTo_split_subset (S := Finset.univ) (Finset.subset_univ (outB.slice (Rect.unit (s := S20032) o S5000.size h) (fun _ => rfl)).view.set)).1 $$ Hs
  icases Hs with ⟨Hs, Hr⟩
  iapply (Transfers.wp_dmaLocal countersEmb 𝒱₀ (th d L) none (src := outB.slice (Rect.unit (s := S20032) o S5000.size h) (fun _ => rfl)) (dst := a2Row off h')
    (Sd := mine L 5000) (none : HIx 1) (a2Row off h').view.dmaCredit rfl
    (View.dmaCredit_pos _ (by decide)) (a2Row_mine L off h' t r hr hoff)) $$ [Hs Hd Hv]
  · isplitl [Hs]; · iexact Hs
    isplitl [Hd] <;> iassumption
  iintro Hf
  iapply (Transfers.wp_waitLocalO countersEmb 𝒱₀ (th d L) none (none : HIx 1) (rfl : (a2Row off h').view.dmaCredit = _)) $$ [Hf HO]
  · isplitl [Hf]; · iexact Hf
    isplitl [HO]; · iexact HO
    iapply ((K (F := F)).mayWait_none (thr := th d L) (SemLoc.dma sem) hO) $$ Hlv
  iintro ⟨⟨Hd, Hs⟩, Hv, HO⟩
  iapply Hk
  isplitl [Hs Hr]
  · iapply (pointsTo_split_subset (S := Finset.univ) (Finset.subset_univ (outB.slice (Rect.unit (s := S20032) o S5000.size h) (fun _ => rfl)).view.set)).2
    isplitl [Hs] <;> iassumption
  isplitl [Hd]
  · iexists _; isplitr [Hd]
    swap; · iexact Hd
    ipureintro
    exact a2Row_step L (A2f RL CI) g off h' t r hr hoff hg _ fun i x hi hx => a2_row L RL CI hCI t r hr fr hfr fo hfo o h ho i x hi hx
  isplitl [Hv]; · iexact Hv
  iexists _; isplitr
  swap; · iexact HO
  ipureintro; exact mem_W hW'

set_option maxRecDepth 8192 in
/-- A row copied out to the result, and the copy waited for. -/
theorem nx_copy {α : Type} {Q : α → sProp 𝕄} {k : PUnit → Prog (TpuEff nD τ sig (Elt F) Λ₀ (th d L).2) α} (hO : ∀ g, O g none = 0)
    (X : S10000x128.Idx → Elt F .f32) (I8 : S32x320.Idx → BitVec 32) (V16 : S32x2560.Idx → Elt F .f32)
    (hI8 : ∀ z, (I8 z).toNat < 10000) (t : ℕ) (gx : S4x128.Idx → Elt F .f32) (hgx : XbOK L X I8 t gx)
    (gv : S2560.Idx → Elt F .f32) (hgv : VvOK L V16 gv) (fn : S512.Idx → Elt F .f32) (hfn : NxOK t gx gv fn 512)
    (sem : DmaSem sig) (o : Fin 1 → ℕ) (h : ∀ a, o a + S128.size a ≤ S512.size a) (off : Fin 2 → ℕ) (h' : ∀ a, off a + S1x128.size a ≤ S5000x128.size a)
    {hs₁ hd₁ ht hs₂ hd₂}
    (r : ℕ) (hr : r < 4) (ho : o = ![128 * r]) (hoff : off = ![4 * (wn L + 32 * t) + r, 0]) :
    iprop(levAts (K (F := F)).L (K (F := F)).lev ∗ (nxB.view.loc (th d L) ↦{fullShare} fn)
        ∗ (∃ g : S5000x128.Idx → Elt F .f32, ⌜DoneOK L 128 (NXf X I8 V16) g (4 * t + r)⌝ ∗ nxV.view.loc (th d L) ↦[mine L 128]{fullShare} g)
        ∗ semVal (th d L, SemLoc.dma sem) 0 ∗ OW d L O W)
      ⊢ iprop((iprop((nxB.view.loc (th d L) ↦{fullShare} fn)
            ∗ (∃ g : S5000x128.Idx → Elt F .f32, ⌜DoneOK L 128 (NXf X I8 V16) g (4 * t + (r + 1))⌝ ∗ nxV.view.loc (th d L) ↦[mine L 128]{fullShare} g)
            ∗ semVal (th d L, SemLoc.dma sem) 0 ∗ OW d L O W) -∗ wpT d L (k ⟨⟩) Q)
          -∗ wpT d L (.op (.enqueueDma (nxB.slice (Rect.unit (s := S512) o S128.size h) (fun _ => rfl)) (.here (nxRow off h')) (.dma sem) hs₁ hd₁ ht)
            fun _ => .op (.waitDma2 sem (nxB.slice (Rect.unit (s := S512) o S128.size h) (fun _ => rfl)) (nxRow off h') hs₂ hd₂) k) Q) := by
  iintro ⟨#Hlv, Hs, ⟨%g, %hg, Hd⟩, Hv, ⟨%W', %hW', HO⟩⟩ Hk
  ihave Hs := (pointsTo_split_subset (S := Finset.univ) (Finset.subset_univ (nxB.slice (Rect.unit (s := S512) o S128.size h) (fun _ => rfl)).view.set)).1 $$ Hs
  icases Hs with ⟨Hs, Hr⟩
  iapply (Transfers.wp_dmaLocal countersEmb 𝒱₀ (th d L) none (src := nxB.slice (Rect.unit (s := S512) o S128.size h) (fun _ => rfl)) (dst := nxRow off h')
    (Sd := mine L 128) (none : HIx 1) (nxRow off h').view.dmaCredit rfl
    (View.dmaCredit_pos _ (by decide)) (nxRow_mine L off h' t r hr hoff)) $$ [Hs Hd Hv]
  · isplitl [Hs]; · iexact Hs
    isplitl [Hd] <;> iassumption
  iintro Hf
  iapply (Transfers.wp_waitLocalO countersEmb 𝒱₀ (th d L) none (none : HIx 1) (rfl : (nxRow off h').view.dmaCredit = _)) $$ [Hf HO]
  · isplitl [Hf]; · iexact Hf
    isplitl [HO]; · iexact HO
    iapply ((K (F := F)).mayWait_none (thr := th d L) (SemLoc.dma sem) hO) $$ Hlv
  iintro ⟨⟨Hd, Hs⟩, Hv, HO⟩
  iapply Hk
  isplitl [Hs Hr]
  · iapply (pointsTo_split_subset (S := Finset.univ) (Finset.subset_univ (nxB.slice (Rect.unit (s := S512) o S128.size h) (fun _ => rfl)).view.set)).2
    isplitl [Hs] <;> iassumption
  isplitl [Hd]
  · iexists _; isplitr [Hd]
    swap; · iexact Hd
    ipureintro
    exact nxRow_step L (NXf X I8 V16) g off h' t r hr hoff hg _ fun i x hi hx => nx_row L X I8 V16 hI8 t r hr gx hgx gv hgv fn hfn o h ho i x hi hx
  isplitl [Hv]; · iexact Hv
  iexists _; isplitr
  swap; · iexact HO
  ipureintro; exact mem_W hW'

set_option maxRecDepth 8192 in
/-- Sixteen entries of the scaled-row buffer: the load of the row's entries, the load whose value is not used, the store. -/
theorem nx_step {α : Type} {Q : α → sProp 𝕄} {k : PUnit → Prog (TpuEff nD τ sig (Elt F) Λ₀ (th d L).2) α}
    (t : ℕ) (xb : Memref sig .scVector .vmem S4x128 .f32) (fx : Buf (Elt F) (xb.view.loc (th d L))) (fv : S2560.Idx → Elt F .f32) (n : ℕ) (hn : n < 32)
    (o : Fin 1 → ℕ) (h : ∀ a, o a + S16.size a ≤ S512.size a) (ho : o = ![16 * n])
    (o' : Fin 2 → ℕ) (h' : ∀ a, o' a + S1x16.size a ≤ S4x128.size a) (ho' : o' = ![n / 8, 16 * (n % 8)])
    (ov : Fin 1 → ℕ) (hv : ∀ a, ov a + S16.size a ≤ S2560.size a) (hov : ov = ![64 * t + 16 * (n / 8)])
    (pay : Vec F S1x16 .f32 → FVec F S16 .f32)
    (hpay : ∀ v, pay v = mulf (shapeCast S16 v shapeCasts_S1x16_S16) (vvB.view.readAt (Elt F) (Rect.unit (s := S2560) ov S16.size hv).toLoadRect fv))
    {hl₁ hl₂ hs₁ hs₂} :
    iprop((xb.view.loc (th d L) ↦{fullShare} fx) ∗ (∃ fn, ⌜NxOK t (xb.view.read (Elt F) fx) fv fn (16 * n)⌝ ∗ nxB.view.loc (th d L) ↦{fullShare} fn))
      ⊢ iprop((iprop((xb.view.loc (th d L) ↦{fullShare} fx)
            ∗ (∃ fn, ⌜NxOK t (xb.view.read (Elt F) fx) fv fn (16 * (n + 1))⌝ ∗ nxB.view.loc (th d L) ↦{fullShare} fn)) -∗ wpT d L (k ⟨⟩) Q)
          -∗ wpT d L (.op (.load xb (Rect.unit (s := S4x128) o' S1x16.size h').toLoadRect hl₁) fun v =>
            .op (.load nxB (Rect.unit (s := S512) o S16.size h).toLoadRect hl₂) fun _ =>
            .op (.store nxB (Rect.unit (s := S512) o S16.size h) (pay v) Finset.univ hs₁ hs₂) k) Q) := by
  iintro ⟨Hx, ⟨%fn, %hfn, Hn⟩⟩ Hk
  iapply (wp_load 𝒱₀ (th d L) none Set.univ (m := xb) (S := Finset.univ) (Finset.subset_univ _)) $$ Hx; iintro Hx
  iapply (wp_load 𝒱₀ (th d L) none Set.univ (m := nxB) (S := Finset.univ) (Finset.subset_univ _)) $$ Hn; iintro Hn
  ihave Hn := (Entails.of_eq (show (nxB.view.loc (th d L) ↦{fullShare} fn : sProp 𝕄) = ((nxB.access (Rect.unit (s := S512) o S16.size h)).loc (th d L)) ↦{fullShare} fn from rfl)) $$ Hn
  iapply (wp_store 𝒱₀ (th d L) none Set.univ (m := nxB) (r := Rect.unit (s := S512) o S16.size h) (Mk := Finset.univ) (S := Finset.univ) (Finset.subset_univ _)) $$ Hn; iintro Hn
  iapply Hk
  isplitl [Hx]; · iexact Hx
  iexists _
  isplitr [Hn]
  swap; · iexact Hn
  ipureintro
  refine NxOK.step hfn hn o h ho _ fun x y z hy0 hy1 hz => ?_
  rw [hpay]
  subst ho' hov
  show FloatOps.mulf (shapeCast S16 _ shapeCasts_S1x16_S16 x) _ = _
  refine congrArg₂ FloatOps.mulf ?_ ?_
  · unfold shapeCast
    have e : Shape.reshapeEquiv (s := S1x16) (s' := S16) shapeCasts_S1x16_S16 x = ix2 (n0 := 1) (n1 := 16) 0 (x 0) :=
      Shape.reshapeEquiv_eq_of_rowMajor _ (by
        refine (Shape.rowMajor_val_two (d := ![1, 16]) _).trans (Eq.trans ?_ (Shape.rowMajor_val_one (d := ![16]) _).symm)
        show 0 * 16 + (x 0).val = (x 0).val
        omega)
    refine (congrArg (xb.view.readAt (Elt F) (Rect.unit (s := S4x128) ![n / 8, 16 * (n % 8)] S1x16.size h').toLoadRect fx) e).trans ?_
    refine congrArg (xb.view.read (Elt F) fx) (funext fun a => Fin.ext ?_)
    match a with
    | 0 => show n / 8 + 1 * 0 = (y 0).val; omega
    | 1 => show 16 * (n % 8) + 1 * (x 0).val = (y 1).val; omega
  · refine congrArg fv (funext fun a => Fin.ext ?_)
    match a with
    | 0 => show 64 * t + 16 * (n / 8) + 1 * (x 0).val = (z 0).val; omega

/-- The load of a row's value. -/
theorem vv_load {α : Type} {Q : α → sProp 𝕄} {ov : Fin 1 → ℕ} {hv : ∀ a, ov a + S16.size a ≤ S2560.size a}
    {k : Vec F S16 .f32 → Prog (TpuEff nD τ sig (Elt F) Λ₀ (th d L).2) α}
    (fv : S2560.Idx → Elt F .f32) {hl} :
    (vvB.view.loc (th d L) ↦{fullShare} fv : sProp 𝕄)
      ⊢ iprop(((vvB.view.loc (th d L) ↦{fullShare} fv)
            -∗ wpT d L (k (vvB.view.readAt (Elt F) (Rect.unit (s := S2560) ov S16.size hv).toLoadRect fv)) Q)
          -∗ wpT d L (.op (.load vvB (Rect.unit (s := S2560) ov S16.size hv).toLoadRect hl) k) Q) :=
  wp_load 𝒱₀ (th d L) none Set.univ (m := vvB) (S := Finset.univ) (Finset.subset_univ _)

/-- A column loop: row `r`'s segment of the output buffer. -/
theorem col_loop {α : Type} {Q : α → sProp 𝕄} {k : Unit → Prog (TpuEff nD τ sig (Elt F) Λ₀ (th d L).2) α}
    (rows : Memref sig .scVector .vmem S40960 .f32) (fr : Buf (Elt F) (rows.view.loc (th d L)))
    (fc : S5008.Idx → BitVec 32) (hfc : ∀ c : S5008.Idx, (fc c).toNat < 10000) (r : ℕ) (hr : r < 4)
    {lb ub st : BitVec 32} (hok : Scf.OK lb ub st) (htr : Scf.trips lb ub st = 313)
    (body : Fin (Scf.trips lb ub st) → Unit → Prog (TpuEff nD τ sig (Elt F) Λ₀ (th d L).2) Unit)
    (o₁ : Fin (Scf.trips lb ub st) → Fin 1 → ℕ) (h₁ : ∀ n a, o₁ n a + S16.size a ≤ S5008.size a) (ho₁ : ∀ n, o₁ n = ![16 * n.val])
    (o₂ : Fin (Scf.trips lb ub st) → Fin 1 → ℕ) (h₂ : ∀ n a, o₂ n a + S16.size a ≤ S20032.size a) (ho₂ : ∀ n, o₂ n = ![5008 * r + 16 * n.val])
    (pay : Vec F S16 .i32 → IVec S16 32) (hpay : ∀ v x, pay v x = v x + BitVec.ofNat 32 (r * 10240))
    (chk : IVec S16 32 → Prop) (dec : ∀ v, Decidable (chk v))
    (hchk : ∀ v, (∀ a x, ((![v] : Fin 1 → IVec S16 32) a x).toNat < S40960.size a) → chk v)
    (hc : ∀ v, chk v → ∀ a x, ((![v] : Fin 1 → IVec S16 32) a x).toNat < S40960.size a)
    (hbody : ∀ n, body n () = colTrip ((L 0).castLE hcore1, (L 1).castLE hsub1) rows (o₁ n) (h₁ n) (o₂ n) (h₂ n) pay chk dec hc) :
    iprop((cidB.view.loc (th d L) ↦{fullShare} fc) ∗ (rows.view.loc (th d L) ↦{fullShare} fr)
        ∗ ∃ fo : S20032.Idx → Elt F .f32, ⌜OutOK (rows.view.read (Elt F) fr) fc fo (5008 * r)⌝ ∗ outB.view.loc (th d L) ↦{fullShare} fo)
      ⊢ iprop((iprop((cidB.view.loc (th d L) ↦{fullShare} fc) ∗ (rows.view.loc (th d L) ↦{fullShare} fr)
            ∗ ∃ fo : S20032.Idx → Elt F .f32, ⌜OutOK (rows.view.read (Elt F) fr) fc fo (5008 * (r + 1))⌝ ∗ outB.view.loc (th d L) ↦{fullShare} fo)
              -∗ wpT d L (k ()) Q)
          -∗ wpT d L (Scf.for lb ub st hok () body >>= k) Q) := by
  iintro H Hk
  iapply (Scf.wp_for_bind frame (wpE (defs₀ (F := F)) 𝒱₀ (th d L) none) Set.univ lb ub st hok () body
    (fun n _ => colI d ((L 0).castLE hcore1, (L 1).castLE hsub1) rows fr fc r n) (fun n _ => by
      rw [hbody n]
      exact colTrip_spec d ((L 0).castLE hcore1, (L 1).castLE hsub1) rows fr fc hfc r n.val hr (htr ▸ n.isLt) (o₁ n) (h₁ n) (ho₁ n) (o₂ n) (h₂ n) (ho₂ n)
        pay hpay chk dec hchk hc)) $$ [H]
  · iexact H
  iintro %acc H
  iapply Hk
  rw [htr]
  iexact H

end

end Cert.Proof.Run

end
-- ==== Proof.Conds.lean ====
/-
  The body's conditions at a symbolic task and trip: how many blocks are left.
-/
module

public import proofs.«01_k».proof.Proof.Steps

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- How many blocks of four rows the task has. -/
def nt (L : grid1.Coords) : ℕ := if wn L < 2 then 40 else 39

theorem nt_eq (L : grid1.Coords) : nt L = if 2 * (L 1).val + (L 0).val < 2 then 40 else 39 := rfl
theorem nt_le (L : grid1.Coords) : nt L ≤ 40 := by unfold nt; split <;> omega
theorem le_nt (L : grid1.Coords) : 39 ≤ nt L := by unfold nt; split <;> omega

theorem trips_t1 : k1_t1_loop.trips = 20 := by decide +kernel

theorem cond1_true : ∀ (L : grid1.Coords) (t : Fin k1_t1_loop.trips), k1_cond1 L t = 1#1 := by decide +kernel
theorem cond2_iff' : ∀ (L : grid1.Coords) (t : Fin k1_t1_loop.trips),
    k1_cond2 L t = 1#1 ↔ 2 * t.val + 1 < (if 2 * (L 1).val + (L 0).val < 2 then 40 else 39) := by decide +kernel
theorem cond3_iff' : ∀ (L : grid1.Coords) (t : Fin k1_t1_loop.trips),
    k1_cond3 L t = 1#1 ↔ 2 * t.val + 1 < (if 2 * (L 1).val + (L 0).val < 2 then 40 else 39) := by decide +kernel
theorem cond4_iff' : ∀ (L : grid1.Coords) (t : Fin k1_t1_loop.trips), k1_cond3 L t = 1#1 →
    (k1_cond4 L t = 1#1 ↔ 2 * t.val + 2 < (if 2 * (L 1).val + (L 0).val < 2 then 40 else 39)) := by decide +kernel

theorem cond2_iff (L : grid1.Coords) (t : Fin k1_t1_loop.trips) : k1_cond2 L t = 1#1 ↔ 2 * t.val + 1 < nt L := cond2_iff' L t
theorem cond3_iff (L : grid1.Coords) (t : Fin k1_t1_loop.trips) : k1_cond3 L t = 1#1 ↔ 2 * t.val + 1 < nt L := cond3_iff' L t
theorem cond4_iff (L : grid1.Coords) (t : Fin k1_t1_loop.trips) (h : k1_cond3 L t = 1#1) : k1_cond4 L t = 1#1 ↔ 2 * t.val + 2 < nt L := cond4_iff' L t h

theorem vec1 {a b : ℕ} (h : a = b) : (![a] : Fin 1 → ℕ) = ![b] := by rw [h]
theorem vec2 {a b c : ℕ} (h : a = b) : (![a, c] : Fin 2 → ℕ) = ![b, c] := by rw [h]

end Cert.Proof.Run

end
-- ==== Proof.Blocks.lean ====
/-
  The two blocks of a trip of the body, as programs of their own.
-/
module

public import proofs.«01_k».proof.Proof.Conds
public import proofs.«01_k».proof.Proof.Gen.KernelIdeal.Skeleton

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- One block of the body (buffers 0). -/
def slot0 (L : grid1.Coords) (t1 : Fin k1_t1_loop.trips) (k1_h1 : k1_cond1 L t1 = 1#1) (v1 v3 : BitVec 32) (v14 : BitVec 32) :
    Prog (TpuEff nD τ sig (Elt F) Λ₀ (Proc.scVector ((L 0).castLE hcore1) ((L 1).castLE hsub1))) PUnit := do
  let v43 : Vec F S16 .f32 ← k1_part1 L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 v1 v3 t1 v14 k1_h1
  let c4_i32_44 : BitVec 32 ← k1_part2 L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 t1 k1_h1 v43
  let ⟨v82, v105⟩ : Σ' (v82 : Vec F S16 .f32), FVec F S16 .f32 ← k1_part3 L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 t1 v14 k1_h1 c4_i32_44
  let ⟨v121, v132⟩ : Σ' (v121 : Vec F S16 .f32), FVec F S16 .f32 ← k1_part4 L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 t1 v14 k1_h1 v82 v105
  let ⟨v156, c16_i32_93⟩ : Σ' (v156 : BitVec 32), BitVec 32 ← k1_part5 L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 t1 v14 k1_h1 v121 v132
  let v160 : Vec F S16 .f32 ← k1_part6 L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 t1 k1_h1 v156 c16_i32_93
  let v195 : BitVec 32 ← k1_part7 L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 v1 t1 v14 k1_h1 v160
  k1_part8 L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 t1 k1_h1 v195
  k1_part9 L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 t1 k1_h1 v195
  let v214_r9 : Memref sig .scVector .hbm S1x5000 .f32 := a2V.slice (Rect.unit (s := S5000x5000) (k1_off17 L t1 3#32) S1x5000.size (k1_off17_inb L t1 k1_h1 3)) (fun _ => rfl)
  let v215_r9 : Memref sig .scVector .hbm S5000 .f32 := v214_r9.squeeze S5000 squeezes_S1x5000_S5000
  let v216_r9 : Memref sig .scVector .vmem S5000 .f32 := outB.slice (Rect.unit (s := S20032) ![15024] S5000.size inb_S20032_S5000_15024) (fun _ => rfl)
  Prog.lift (.waitDma2 cc1_scoped9.sem v216_r9 v215_r9 (View.wordExact_bits rfl) ((View.wordExact_bits rfl).reshape _ _))
  let v208_r10 : Memref sig .scVector .hbm S1x128 .f32 := nxV.slice (Rect.unit (s := S5000x128) (k1_off18 L t1 3#32) S1x128.size (k1_off18_inb L t1 k1_h1 3)) (fun _ => rfl)
  let v209_r10 : Memref sig .scVector .hbm S128 .f32 := v208_r10.squeeze S128 squeezes_S1x128_S128
  let v210_r10 : Memref sig .scVector .vmem S128 .f32 := nxB.slice (Rect.unit (s := S512) ![384] S128.size inb_S512_S128_384) (fun _ => rfl)
  Prog.lift (.enqueueDma v210_r10 (.here v209_r10) (.dma cc1_scoped10.sem) (View.wordExact_bits rfl) ((View.wordExact_bits rfl).reshape _ _) ⟨Or.inl rfl, trivial⟩)
  let v214_r10 : Memref sig .scVector .hbm S1x128 .f32 := nxV.slice (Rect.unit (s := S5000x128) (k1_off18 L t1 3#32) S1x128.size (k1_off18_inb L t1 k1_h1 3)) (fun _ => rfl)
  let v215_r10 : Memref sig .scVector .hbm S128 .f32 := v214_r10.squeeze S128 squeezes_S1x128_S128
  let v216_r10 : Memref sig .scVector .vmem S128 .f32 := nxB.slice (Rect.unit (s := S512) ![384] S128.size inb_S512_S128_384) (fun _ => rfl)
  Prog.lift (.waitDma2 cc1_scoped10.sem v216_r10 v215_r10 (View.wordExact_bits rfl) ((View.wordExact_bits rfl).reshape _ _))
  pure ⟨⟩

/-- One block of the body (buffers 1). -/
def slot1 (L : grid1.Coords) (t1 : Fin k1_t1_loop.trips) (k1_h3 : k1_cond3 L t1 = 1#1) (v1 v3 : BitVec 32) (v19 : BitVec 32) :
    Prog (TpuEff nD τ sig (Elt F) Λ₀ (Proc.scVector ((L 0).castLE hcore1) ((L 1).castLE hsub1))) PUnit := do
  let v43 : Vec F S16 .f32 ← k1_part10 L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 v1 v3 t1 v19 k1_h3
  let c4_i32_44 : BitVec 32 ← k1_part11 L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 t1 k1_h3 v43
  let ⟨v82, v105⟩ : Σ' (v82 : Vec F S16 .f32), FVec F S16 .f32 ← k1_part12 L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 t1 v19 k1_h3 c4_i32_44
  let ⟨v121, v132⟩ : Σ' (v121 : Vec F S16 .f32), FVec F S16 .f32 ← k1_part13 L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 t1 v19 k1_h3 v82 v105
  let ⟨v156, c16_i32_93⟩ : Σ' (v156 : BitVec 32), BitVec 32 ← k1_part14 L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 t1 v19 k1_h3 v121 v132
  let v160 : Vec F S16 .f32 ← k1_part15 L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 t1 k1_h3 v156 c16_i32_93
  let v195 : BitVec 32 ← k1_part16 L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 v1 t1 v19 k1_h3 v160
  k1_part17 L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 t1 k1_h3 v195
  k1_part18 L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 t1 k1_h3 v195
  let v214_r17 : Memref sig .scVector .hbm S1x5000 .f32 := a2V.slice (Rect.unit (s := S5000x5000) (k1_off32 L t1 3#32) S1x5000.size (k1_off32_inb L t1 k1_h3 3)) (fun _ => rfl)
  let v215_r17 : Memref sig .scVector .hbm S5000 .f32 := v214_r17.squeeze S5000 squeezes_S1x5000_S5000
  let v216_r17 : Memref sig .scVector .vmem S5000 .f32 := outB.slice (Rect.unit (s := S20032) ![15024] S5000.size inb_S20032_S5000_15024) (fun _ => rfl)
  Prog.lift (.waitDma2 cc1_scoped17.sem v216_r17 v215_r17 (View.wordExact_bits rfl) ((View.wordExact_bits rfl).reshape _ _))
  let v208_r18 : Memref sig .scVector .hbm S1x128 .f32 := nxV.slice (Rect.unit (s := S5000x128) (k1_off33 L t1 3#32) S1x128.size (k1_off33_inb L t1 k1_h3 3)) (fun _ => rfl)
  let v209_r18 : Memref sig .scVector .hbm S128 .f32 := v208_r18.squeeze S128 squeezes_S1x128_S128
  let v210_r18 : Memref sig .scVector .vmem S128 .f32 := nxB.slice (Rect.unit (s := S512) ![384] S128.size inb_S512_S128_384) (fun _ => rfl)
  Prog.lift (.enqueueDma v210_r18 (.here v209_r18) (.dma cc1_scoped18.sem) (View.wordExact_bits rfl) ((View.wordExact_bits rfl).reshape _ _) ⟨Or.inl rfl, trivial⟩)
  let v214_r18 : Memref sig .scVector .hbm S1x128 .f32 := nxV.slice (Rect.unit (s := S5000x128) (k1_off33 L t1 3#32) S1x128.size (k1_off33_inb L t1 k1_h3 3)) (fun _ => rfl)
  let v215_r18 : Memref sig .scVector .hbm S128 .f32 := v214_r18.squeeze S128 squeezes_S1x128_S128
  let v216_r18 : Memref sig .scVector .vmem S128 .f32 := nxB.slice (Rect.unit (s := S512) ![384] S128.size inb_S512_S128_384) (fun _ => rfl)
  Prog.lift (.waitDma2 cc1_scoped18.sem v216_r18 v215_r18 (View.wordExact_bits rfl) ((View.wordExact_bits rfl).reshape _ _))
  pure ⟨⟩

/-- A trip of the body, its two blocks under their conditions. -/
theorem t1_body_eq (L : grid1.Coords) (v1 v3 : BitVec 32) (t1 : Fin k1_t1_loop.trips) :
    Gen.k1_t1_body (F := F) L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 v1 v3 0#32 1#32 t1 ()
      = (do
          if h : k1_cond1 L t1 = 1#1 then do
            slot0 L t1 h v1 v3 (Scalar.addi (Scalar.muli 2#32 (Scf.iv 0#32 1#32 t1)) 0#32)
          else do
            pure ⟨⟩
          if h : k1_cond3 L t1 = 1#1 then do
            slot1 L t1 h v1 v3 (Scalar.addi (Scalar.muli 2#32 (Scf.iv 0#32 1#32 t1)) 1#32)
          else do
            pure ⟨⟩
          pure ⟨⟩) := by
  have h1 := cond1_true L t1
  by_cases h3 : k1_cond3 L t1 = 1#1
  · simp only [Gen.k1_t1_body, slot0, slot1, dif_pos h1, dif_pos h3, bind_assoc, pure_bind]
  · simp only [Gen.k1_t1_body, slot0, slot1, dif_pos h1, dif_neg h3, bind_assoc, pure_bind]

end Cert.Proof.Run

end
-- ==== Proof.Next.lean ====
/-
  The next block's two transfers, started when there is a next block.
-/
module

public import proofs.«01_k».proof.Proof.Blocks

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx (ix1 ix2)

section

variable (d : Dev nD) (L : grid1.Coords) (O : CellTallies nD τ sig (HIx 1)) (W : Waits sig (HIx 1))
variable (RL : S51200000.Idx → Elt F .f32) (X : S10000x128.Idx → Elt F .f32) (I8 : S32x320.Idx → BitVec 32) (mid : S320.Idx → BitVec 32)
variable (q : PosShare TreeShare)

/-- Block `t` on its way in, if there is such a block; otherwise what the two transfers would use. -/
def Nx (rows : Memref sig .scVector .vmem S40960 .f32) (xb : Memref sig .scVector .vmem S4x128 .f32) (t : ℕ) : sProp 𝕄 :=
  if t < nt L then iprop(FlA d L RL q rows cc1_scratch9.sem t ∗ FlX d L X I8 mid q xb cc1_scratch10.sem t)
  else iprop((rlV.view.loc (th d L) ↦{q} RL) ∗ (xV.view.loc (th d L) ↦{q} X) ∗ (midB.view.loc (th d L) ↦{fullShare} mid)
    ∗ (∃ f, rows.view.loc (th d L) ↦{fullShare} f) ∗ (∃ f, xb.view.loc (th d L) ↦{fullShare} f)
    ∗ semVal (th d L, SemLoc.dma cc1_scratch9.sem) 0 ∗ semVal (th d L, SemLoc.dma cc1_scratch10.sem) 0)

theorem Nx_pos {rows xb t} (h : t < nt L) : Nx d L RL X I8 mid q rows xb t
    = iprop(FlA d L RL q rows cc1_scratch9.sem t ∗ FlX d L X I8 mid q xb cc1_scratch10.sem t) := if_pos h
theorem Nx_neg {rows xb t} (h : ¬ t < nt L) : Nx d L RL X I8 mid q rows xb t
    = iprop((rlV.view.loc (th d L) ↦{q} RL) ∗ (xV.view.loc (th d L) ↦{q} X) ∗ (midB.view.loc (th d L) ↦{fullShare} mid)
    ∗ (∃ f, rows.view.loc (th d L) ↦{fullShare} f) ∗ (∃ f, xb.view.loc (th d L) ↦{fullShare} f)
    ∗ semVal (th d L, SemLoc.dma cc1_scratch9.sem) 0 ∗ semVal (th d L, SemLoc.dma cc1_scratch10.sem) 0) := if_neg h

theorem OutOK.zero (fr : S40960.Idx → Elt F .f32) (fc : S5008.Idx → BitVec 32) (fo : S20032.Idx → Elt F .f32) : OutOK fr fc fo (5008 * 0) :=
  fun _ _ _ h => absurd h (Nat.not_lt_zero _)
theorem NxOK.zero (t : ℕ) (gx : S4x128.Idx → Elt F .f32) (gv : S2560.Idx → Elt F .f32) (fn : S512.Idx → Elt F .f32) : NxOK t gx gv fn (16 * 0) :=
  fun _ _ _ h => absurd h (Nat.not_lt_zero _)

theorem credit_xb0 : ∑ j, (xb0.slice (S4x128.rowRect gathers_S10000x128_S4x128.axis' j) (S4x128.stride_rowRect gathers_S10000x128_S4x128.axis' j)).view.dmaCredit = xb0.view.dmaCredit := by decide +kernel

theorem credit_xb1 : ∑ j, (xb1.slice (S4x128.rowRect gathers_S10000x128_S4x128.axis' j) (S4x128.stride_rowRect gathers_S10000x128_S4x128.axis' j)).view.dmaCredit = xb1.view.dmaCredit := by decide +kernel

/-- The next block's transfers started under the condition that there is a next block. -/
theorem cond_issue {α β : Type} {Q : α → sProp 𝕄} {k : Prog (TpuEff nD τ sig (Elt F) Λ₀ (th d L).2) β} {kk : β → Prog (TpuEff nD τ sig (Elt F) Λ₀ (th d L).2) α}
    (hI8 : ∀ z, (I8 z).toNat < 10000) (hmid : MidOK L I8 mid)
    (rows : Memref sig .scVector .vmem S40960 .f32) (hrows : rows.view.set = Finset.univ)
    (xb : Memref sig .scVector .vmem S4x128 .f32) (hxb : xb.view.set = Finset.univ)
    (hN : ∑ j, (xb.slice (S4x128.rowRect gathers_S10000x128_S4x128.axis' j) (S4x128.stride_rowRect gathers_S10000x128_S4x128.axis' j)).view.dmaCredit = xb.view.dmaCredit)
    (t : ℕ) {c : Prop} {dc : Decidable c} (hc : c ↔ t < nt L)
    (off : Fin 1 → ℕ) {h : c → ∀ a, off a + S40960.size a ≤ S51200000.size a} (hoff : off = ![40960 * (wn L + 32 * t)])
    (o : Fin 1 → ℕ) {h' : c → ∀ a, o a + S4.size a ≤ S320.size a} (ho : o = ![8 * t])
    {e1 : ∀ hh : c, _} {e2 : ∀ hh : c, _} {e3 : ∀ hh : c, _} {g1 : ∀ hh : c, _} {g2} {g3 : c → S4.numel = S4x128.size gathers_S10000x128_S4x128.axis'} {g4 : ∀ hh : c, _} {g5 : ∀ hh : c, _} {g6 : ∀ hh : c, _} {g7 : ∀ hh : c, _} :
    iprop((rlV.view.loc (th d L) ↦{q} RL) ∗ (xV.view.loc (th d L) ↦{q} X) ∗ (midB.view.loc (th d L) ↦{fullShare} mid)
        ∗ (∃ f, rows.view.loc (th d L) ↦{fullShare} f) ∗ (∃ f, xb.view.loc (th d L) ↦{fullShare} f)
        ∗ semVal (th d L, SemLoc.dma cc1_scratch9.sem) 0 ∗ semVal (th d L, SemLoc.dma cc1_scratch10.sem) 0)
      ⊢ iprop((Nx d L RL X I8 mid q rows xb t -∗ wpT d L (k >>= kk) Q)
          -∗ wpT d L ((if hh : c then
              (.op (.enqueueDma (rlV.slice (Rect.unit (s := S51200000) off S40960.size (h hh)) (fun _ => rfl)) (.here rows) (.dma cc1_scratch9.sem) (e1 hh) (e2 hh) (e3 hh))
                fun _ => (SparseCore.enqueueIndirectGather (p := (th d L).2) (g1 hh) (xV.slice (Rect.unit (s := S10000x128) ![0, 0] S10000x128.size g2) (fun _ => rfl)) xb gathers_S10000x128_S4x128
            (midB.slice (Rect.unit (s := S320) o S4.size (h' hh)) (fun _ => rfl)) (g3 hh) cc1_scratch10.sem (g4 hh) (g5 hh) (g6 hh) (g7 hh)) >>= fun _ => k)
            else k) >>= kk) Q) := by
  iintro ⟨Hr, Hx, Hm, Hrows, Hxb, Ha, Hb⟩ Hk
  by_cases hh : c
  · rw [dif_pos hh]
    simp only [Prog.bind_op, Prog.bind_assoc]
    iapply (issueA d L RL q rows hrows cc1_scratch9.sem off (h hh) t hoff) $$ [Hr Hrows Ha]
    · isplitl [Hr]; · iexact Hr
      isplitl [Hrows] <;> iassumption
    iintro Hfa
    iapply (issueX d L X I8 mid hI8 hmid q xb hxb hN cc1_scratch10.sem o (h' hh) t ho) $$ [Hx Hm Hxb Hb]
    · isplitl [Hx]; · iexact Hx
      isplitl [Hm]; · iexact Hm
      isplitl [Hxb] <;> iassumption
    iintro Hfx
    iapply Hk
    rw [Nx_pos d L RL X I8 mid q (hc.1 hh)]
    isplitl [Hfa] <;> iassumption
  · rw [dif_neg hh]
    iapply Hk
    rw [Nx_neg d L RL X I8 mid q (fun h => hh (hc.2 h))]
    isplitl [Hr]; · iexact Hr
    isplitl [Hx]; · iexact Hx
    isplitl [Hm]; · iexact Hm
    isplitl [Hrows]; · iexact Hrows
    isplitl [Hxb]; · iexact Hxb
    isplitl [Ha] <;> iassumption

end

theorem t4_eq (L : grid1.Coords) (t1 : Fin k1_t1_loop.trips) (v : BitVec 32) (k1_h1 : k1_cond1 L t1 = 1#1) (w : Vec F S16 .f32) (w' : FVec F S16 .f32) :
    Gen.k1_t4_body (F := F) L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 t1 v k1_h1 w w'
      = fun n _ => colTrip ((L 0).castLE hcore1, (L 1).castLE hsub1) rows0 (k1_off13 n) (k1_off13_inb L t1 n k1_h1) (k1_off14 n) (k1_off14_inb L t1 n k1_h1)
        k1_pay19 (k1_chk3 L t1) (k1_chk3.dec L t1) (fun v hw => k1_idx3_inb L t1 v hw k1_h1) := rfl

theorem t5_eq (L : grid1.Coords) (t1 : Fin k1_t1_loop.trips) (v : BitVec 32) (k1_h1 : k1_cond1 L t1 = 1#1) (w : Vec F S16 .f32) (w' : FVec F S16 .f32) :
    Gen.k1_t5_body (F := F) L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 t1 v k1_h1 w w'
      = fun n _ => colTrip ((L 0).castLE hcore1, (L 1).castLE hsub1) rows0 (k1_off15 n) (k1_off15_inb L t1 n k1_h1) (k1_off16 n) (k1_off16_inb L t1 n k1_h1)
        k1_pay28 (k1_chk4 L t1) (k1_chk4.dec L t1) (fun v hw => k1_idx4_inb L t1 v hw k1_h1) := rfl

theorem t8_eq (L : grid1.Coords) (t1 : Fin k1_t1_loop.trips) (v : BitVec 32) (k1_h3 : k1_cond3 L t1 = 1#1) (w : Vec F S16 .f32) (w' : FVec F S16 .f32) :
    Gen.k1_t8_body (F := F) L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 t1 v k1_h3 w w'
      = fun n _ => colTrip ((L 0).castLE hcore1, (L 1).castLE hsub1) rows1 (k1_off28 n) (k1_off28_inb L t1 n k1_h3) (k1_off29 n) (k1_off29_inb L t1 n k1_h3)
        k1_pay55 (k1_chk7 L t1) (k1_chk7.dec L t1) (fun v hw => k1_idx7_inb L t1 v hw k1_h3) := rfl

theorem t9_eq (L : grid1.Coords) (t1 : Fin k1_t1_loop.trips) (v : BitVec 32) (k1_h3 : k1_cond3 L t1 = 1#1) (w : Vec F S16 .f32) (w' : FVec F S16 .f32) :
    Gen.k1_t9_body (F := F) L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 t1 v k1_h3 w w'
      = fun n _ => colTrip ((L 0).castLE hcore1, (L 1).castLE hsub1) rows1 (k1_off30 n) (k1_off30_inb L t1 n k1_h3) (k1_off31 n) (k1_off31_inb L t1 n k1_h3)
        k1_pay64 (k1_chk8 L t1) (k1_chk8.dec L t1) (fun v hw => k1_idx8_inb L t1 v hw k1_h3) := rfl

end Cert.Proof.Run

end
-- ==== Proof.Slot0.lean ====
/-
  A block that uses the first pair of buffers, from its transfers in flight to its rows written out.
-/
module

public import proofs.«01_k».proof.Proof.Next

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx (ix1 ix2)

section

variable (d : Dev nD) (L : grid1.Coords) (O : CellTallies nD τ sig (HIx 1)) (W : Waits sig (HIx 1))
variable (RL : S51200000.Idx → Elt F .f32) (X : S10000x128.Idx → Elt F .f32) (I8 : S32x320.Idx → BitVec 32) (mid : S320.Idx → BitVec 32)
variable (q : PosShare TreeShare)

/-- What a block leaves alone or restores: the column numbers, the task's values, the two staging buffers, the copies' semaphores. -/
def Rest0 (CI : S5008.Idx → BitVec 32) (VV : S2560.Idx → Elt F .f32) : sProp 𝕄 :=
  iprop((cidB.view.loc (th d L) ↦{fullShare} CI) ∗ (vvB.view.loc (th d L) ↦{fullShare} VV)
    ∗ (∃ f : S20032.Idx → Elt F .f32, outB.view.loc (th d L) ↦{fullShare} f) ∗ (∃ f : S512.Idx → Elt F .f32, nxB.view.loc (th d L) ↦{fullShare} f)
    ∗ semVal (th d L, SemLoc.dma cc1_scoped3.sem) 0 ∗ semVal (th d L, SemLoc.dma cc1_scoped4.sem) 0 ∗ semVal (th d L, SemLoc.dma cc1_scoped5.sem) 0 ∗ semVal (th d L, SemLoc.dma cc1_scoped6.sem) 0 ∗ semVal (th d L, SemLoc.dma cc1_scoped7.sem) 0 ∗ semVal (th d L, SemLoc.dma cc1_scoped8.sem) 0 ∗ semVal (th d L, SemLoc.dma cc1_scoped9.sem) 0 ∗ semVal (th d L, SemLoc.dma cc1_scoped10.sem) 0 ∗ OW d L O W)

set_option maxHeartbeats 4000000 in
set_option maxRecDepth 8192 in
/-- Block `(2 * t1.val + 0)` from its two transfers in flight to its eight rows written out, the next block's transfers started. -/
theorem slot0_spec (hO : ∀ g, O g none = 0) (hI8 : ∀ z, (I8 z).toNat < 10000) (hmid : MidOK L I8 mid)
    (CI : S5008.Idx → BitVec 32) (hCI : ∀ c, (CI c).toNat < 10000) (VV : S2560.Idx → Elt F .f32) (V16 : S32x2560.Idx → Elt F .f32) (hVV : VvOK L V16 VV)
    (t1 : Fin k1_t1_loop.trips) (k1_h1 : k1_cond1 L t1 = 1#1) (v1 v3 v : BitVec 32) :
    iprop(levAts (K (F := F)).L (K (F := F)).lev
        ∗ FlA d L RL q rows0 cc1_scratch9.sem (2 * t1.val + 0) ∗ FlX d L X I8 mid q xb0 cc1_scratch10.sem (2 * t1.val + 0)
        ∗ (∃ f, rows1.view.loc (th d L) ↦{fullShare} f) ∗ (∃ f, xb1.view.loc (th d L) ↦{fullShare} f)
        ∗ (∃ g : S5000x5000.Idx → Elt F .f32, ⌜DoneOK L 5000 (A2f RL CI) g (4 * (2 * t1.val + 0))⌝ ∗ a2V.view.loc (th d L) ↦[mine L 5000]{fullShare} g)
        ∗ (∃ g : S5000x128.Idx → Elt F .f32, ⌜DoneOK L 128 (NXf X I8 V16) g (4 * (2 * t1.val + 0))⌝ ∗ nxV.view.loc (th d L) ↦[mine L 128]{fullShare} g)
        ∗ Rest0 d L O W CI VV)
      ⊢ wpT d L (slot0 L t1 k1_h1 v1 v3 v) fun _ =>
        iprop(Nx d L RL X I8 mid q rows1 xb1 ((2 * t1.val + 0) + 1)
        ∗ (∃ f, rows0.view.loc (th d L) ↦{fullShare} f) ∗ (∃ f, xb0.view.loc (th d L) ↦{fullShare} f)
        ∗ (∃ g : S5000x5000.Idx → Elt F .f32, ⌜DoneOK L 5000 (A2f RL CI) g (4 * (2 * t1.val + 0) + 4)⌝ ∗ a2V.view.loc (th d L) ↦[mine L 5000]{fullShare} g)
        ∗ (∃ g : S5000x128.Idx → Elt F .f32, ⌜DoneOK L 128 (NXf X I8 V16) g (4 * (2 * t1.val + 0) + 4)⌝ ∗ nxV.view.loc (th d L) ↦[mine L 128]{fullShare} g)
        ∗ Rest0 d L O W CI VV) := by
  unfold Rest0
  iintro ⟨#Hlv, HA, HX, Hrn, Hxn, Ha2, Hnx, Hci, Hvv, ⟨%fo0, Hout⟩, ⟨%fn0, Hnb⟩, Hs3, Hs4, Hs5, Hs6, Hs7, Hs8, Hs9, Hs10, HO⟩
  simp only [slot0, k1_part1_eq_skeleton, k1_part1_skel, Prog.lift, Prog.bind_op, Prog.bind_ret, Prog.pure_eq_ret, Prog.bind_assoc, SparseCore.waitIndirectGather]
  iapply (waitA d L O W hO RL q rows0 cc1_scratch9.sem (2 * t1.val + 0)) $$ [HA HO]
  · isplitl []; · iexact Hlv
    isplitl [HA] <;> iassumption
  iintro ⟨Hrl, ⟨%fr, %hfr, Hr⟩, Hsa, HO⟩
  iapply (waitX d L O W hO X I8 mid q xb0 cc1_scratch10.sem (2 * t1.val + 0)) $$ [HX HO]
  · isplitl []; · iexact Hlv
    isplitl [HX] <;> iassumption
  iintro ⟨Hx, Hm, ⟨%fx, %hfx, Hxb⟩, Hsx, HO⟩
  iapply (cond_issue d L RL X I8 mid q hI8 hmid rows1 (View.set_whole _) xb1 (View.set_whole _) credit_xb1 ((2 * t1.val + 0) + 1) (cond2_iff L t1)
    (k1_off6 L t1) (by rw [k1_off6_eq]; refine vec1 ?_; simp only [wn]; omega) (k1_off7 t1) (by rw [k1_off7_eq]; exact vec1 (by omega))) $$ [Hrl Hx Hm Hrn Hxn Hsa Hsx]
  · isplitl [Hrl]; · iexact Hrl
    isplitl [Hx]; · iexact Hx
    isplitl [Hm]; · iexact Hm
    isplitl [Hrn]; · iexact Hrn
    isplitl [Hxn]; · iexact Hxn
    isplitl [Hsa] <;> iassumption
  iintro Hnext
  simp only [t4_eq, t5_eq, k1_part2_eq_skeleton, k1_part3_eq_skeleton, k1_part4_eq_skeleton, k1_part5_eq_skeleton, k1_part6_eq_skeleton, k1_part7_eq_skeleton, k1_part8_eq_skeleton, k1_part9_eq_skeleton, k1_part2_skel, k1_part3_skel, k1_part4_skel, k1_part5_skel, k1_part6_skel, k1_part7_skel, k1_part8_skel, k1_part9_skel, Prog.lift, Prog.bind_op, Prog.bind_ret, Prog.pure_eq_ret, Prog.bind_assoc]
  ihave Hout := (show (outB.view.loc (th d L) ↦{fullShare} fo0 : sProp 𝕄) ⊢ iprop(∃ fo : S20032.Idx → Elt F .f32, ⌜OutOK (rows0.view.read (Elt F) fr) CI fo (5008 * 0)⌝ ∗ outB.view.loc (th d L) ↦{fullShare} fo) by
    iintro H
    iexists fo0
    isplitr [H]
    · ipureintro; exact OutOK.zero _ _ _
    · iexact H) $$ Hout
  ihave Hnb := (show (nxB.view.loc (th d L) ↦{fullShare} fn0 : sProp 𝕄) ⊢ iprop(∃ fn : S512.Idx → Elt F .f32, ⌜NxOK (2 * t1.val + 0) (xb0.view.read (Elt F) fx) VV fn (16 * 0)⌝ ∗ nxB.view.loc (th d L) ↦{fullShare} fn) by
    iintro H
    iexists fn0
    isplitr [H]
    · ipureintro; exact NxOK.zero _ _ _ _
    · iexact H) $$ Hnb
  iapply (col_loop d L rows0 fr CI hCI 0 (by decide) _ (by decide +kernel) _
    (fun n => k1_off8 n) (fun n => k1_off8_inb L t1 n k1_h1) (fun n => k1_off8_eq n) (fun n => k1_off9 n) (fun n => k1_off9_inb L t1 n k1_h1)
    (fun n => (k1_off9_eq n).trans (vec1 (by omega))) k1_pay1 (fun v x => rfl) (k1_chk1 L t1) (k1_chk1.dec L t1) (fun v hv _ => hv) (fun v hw => k1_idx1_inb L t1 v hw k1_h1) (fun n => rfl)) $$ [Hci Hr Hout]
  · isplitl [Hci]; · iexact Hci
    isplitl [Hr] <;> iassumption
  iintro ⟨Hci, Hr, Hout⟩
  iapply (vv_load d L VV) $$ Hvv; iintro Hvv
  iapply (nx_step d L (2 * t1.val + 0) xb0 fx VV 0 (by decide) ![0] _ (vec1 (by decide)) ![0, 0] _ (by decide)
    (k1_off10 t1 (BitVec.ofNat 32 0)) _ ((k1_off10_eq t1 ⟨0, by decide⟩).trans (vec1 (by show _ + 16 * 0 = _; omega))) (fun v => k1_pay2 _ v) (fun v => rfl)) $$ [Hxb Hnb]
  · isplitl [Hxb] <;> iassumption
  iintro ⟨Hxb, Hnb⟩
  iapply (nx_step d L (2 * t1.val + 0) xb0 fx VV 1 (by decide) ![16] _ (vec1 (by decide)) ![0, 16] _ (by decide)
    (k1_off10 t1 (BitVec.ofNat 32 0)) _ ((k1_off10_eq t1 ⟨0, by decide⟩).trans (vec1 (by show _ + 16 * 0 = _; omega))) (fun v => k1_pay3 _ v) (fun v => rfl)) $$ [Hxb Hnb]
  · isplitl [Hxb] <;> iassumption
  iintro ⟨Hxb, Hnb⟩
  iapply (nx_step d L (2 * t1.val + 0) xb0 fx VV 2 (by decide) ![32] _ (vec1 (by decide)) ![0, 32] _ (by decide)
    (k1_off10 t1 (BitVec.ofNat 32 0)) _ ((k1_off10_eq t1 ⟨0, by decide⟩).trans (vec1 (by show _ + 16 * 0 = _; omega))) (fun v => k1_pay4 _ v) (fun v => rfl)) $$ [Hxb Hnb]
  · isplitl [Hxb] <;> iassumption
  iintro ⟨Hxb, Hnb⟩
  iapply (nx_step d L (2 * t1.val + 0) xb0 fx VV 3 (by decide) ![48] _ (vec1 (by decide)) ![0, 48] _ (by decide)
    (k1_off10 t1 (BitVec.ofNat 32 0)) _ ((k1_off10_eq t1 ⟨0, by decide⟩).trans (vec1 (by show _ + 16 * 0 = _; omega))) (fun v => k1_pay5 _ v) (fun v => rfl)) $$ [Hxb Hnb]
  · isplitl [Hxb] <;> iassumption
  iintro ⟨Hxb, Hnb⟩
  iapply (nx_step d L (2 * t1.val + 0) xb0 fx VV 4 (by decide) ![64] _ (vec1 (by decide)) ![0, 64] _ (by decide)
    (k1_off10 t1 (BitVec.ofNat 32 0)) _ ((k1_off10_eq t1 ⟨0, by decide⟩).trans (vec1 (by show _ + 16 * 0 = _; omega))) (fun v => k1_pay6 _ v) (fun v => rfl)) $$ [Hxb Hnb]
  · isplitl [Hxb] <;> iassumption
  iintro ⟨Hxb, Hnb⟩
  iapply (nx_step d L (2 * t1.val + 0) xb0 fx VV 5 (by decide) ![80] _ (vec1 (by decide)) ![0, 80] _ (by decide)
    (k1_off10 t1 (BitVec.ofNat 32 0)) _ ((k1_off10_eq t1 ⟨0, by decide⟩).trans (vec1 (by show _ + 16 * 0 = _; omega))) (fun v => k1_pay7 _ v) (fun v => rfl)) $$ [Hxb Hnb]
  · isplitl [Hxb] <;> iassumption
  iintro ⟨Hxb, Hnb⟩
  iapply (nx_step d L (2 * t1.val + 0) xb0 fx VV 6 (by decide) ![96] _ (vec1 (by decide)) ![0, 96] _ (by decide)
    (k1_off10 t1 (BitVec.ofNat 32 0)) _ ((k1_off10_eq t1 ⟨0, by decide⟩).trans (vec1 (by show _ + 16 * 0 = _; omega))) (fun v => k1_pay8 _ v) (fun v => rfl)) $$ [Hxb Hnb]
  · isplitl [Hxb] <;> iassumption
  iintro ⟨Hxb, Hnb⟩
  iapply (nx_step d L (2 * t1.val + 0) xb0 fx VV 7 (by decide) ![112] _ (vec1 (by decide)) ![0, 112] _ (by decide)
    (k1_off10 t1 (BitVec.ofNat 32 0)) _ ((k1_off10_eq t1 ⟨0, by decide⟩).trans (vec1 (by show _ + 16 * 0 = _; omega))) (fun v => k1_pay9 _ v) (fun v => rfl)) $$ [Hxb Hnb]
  · isplitl [Hxb] <;> iassumption
  iintro ⟨Hxb, Hnb⟩
  iapply (col_loop d L rows0 fr CI hCI 1 (by decide) _ (by decide +kernel) _
    (fun n => k1_off11 n) (fun n => k1_off11_inb L t1 n k1_h1) (fun n => k1_off11_eq n) (fun n => k1_off12 n) (fun n => k1_off12_inb L t1 n k1_h1)
    (fun n => (k1_off12_eq n).trans (vec1 (by omega))) k1_pay10 (fun v x => rfl) (k1_chk2 L t1) (k1_chk2.dec L t1) (fun v hv _ => hv) (fun v hw => k1_idx2_inb L t1 v hw k1_h1) (fun n => rfl)) $$ [Hci Hr Hout]
  · isplitl [Hci]; · iexact Hci
    isplitl [Hr] <;> iassumption
  iintro ⟨Hci, Hr, Hout⟩
  iapply (vv_load d L VV) $$ Hvv; iintro Hvv
  iapply (nx_step d L (2 * t1.val + 0) xb0 fx VV 8 (by decide) ![128] _ (vec1 (by decide)) ![1, 0] _ (by decide)
    (k1_off10 t1 (BitVec.ofNat 32 1)) _ ((k1_off10_eq t1 ⟨1, by decide⟩).trans (vec1 (by show _ + 16 * 1 = _; omega))) (fun v => k1_pay11 _ v) (fun v => rfl)) $$ [Hxb Hnb]
  · isplitl [Hxb] <;> iassumption
  iintro ⟨Hxb, Hnb⟩
  iapply (nx_step d L (2 * t1.val + 0) xb0 fx VV 9 (by decide) ![144] _ (vec1 (by decide)) ![1, 16] _ (by decide)
    (k1_off10 t1 (BitVec.ofNat 32 1)) _ ((k1_off10_eq t1 ⟨1, by decide⟩).trans (vec1 (by show _ + 16 * 1 = _; omega))) (fun v => k1_pay12 _ v) (fun v => rfl)) $$ [Hxb Hnb]
  · isplitl [Hxb] <;> iassumption
  iintro ⟨Hxb, Hnb⟩
  iapply (nx_step d L (2 * t1.val + 0) xb0 fx VV 10 (by decide) ![160] _ (vec1 (by decide)) ![1, 32] _ (by decide)
    (k1_off10 t1 (BitVec.ofNat 32 1)) _ ((k1_off10_eq t1 ⟨1, by decide⟩).trans (vec1 (by show _ + 16 * 1 = _; omega))) (fun v => k1_pay13 _ v) (fun v => rfl)) $$ [Hxb Hnb]
  · isplitl [Hxb] <;> iassumption
  iintro ⟨Hxb, Hnb⟩
  iapply (nx_step d L (2 * t1.val + 0) xb0 fx VV 11 (by decide) ![176] _ (vec1 (by decide)) ![1, 48] _ (by decide)
    (k1_off10 t1 (BitVec.ofNat 32 1)) _ ((k1_off10_eq t1 ⟨1, by decide⟩).trans (vec1 (by show _ + 16 * 1 = _; omega))) (fun v => k1_pay14 _ v) (fun v => rfl)) $$ [Hxb Hnb]
  · isplitl [Hxb] <;> iassumption
  iintro ⟨Hxb, Hnb⟩
  iapply (nx_step d L (2 * t1.val + 0) xb0 fx VV 12 (by decide) ![192] _ (vec1 (by decide)) ![1, 64] _ (by decide)
    (k1_off10 t1 (BitVec.ofNat 32 1)) _ ((k1_off10_eq t1 ⟨1, by decide⟩).trans (vec1 (by show _ + 16 * 1 = _; omega))) (fun v => k1_pay15 _ v) (fun v => rfl)) $$ [Hxb Hnb]
  · isplitl [Hxb] <;> iassumption
  iintro ⟨Hxb, Hnb⟩
  iapply (nx_step d L (2 * t1.val + 0) xb0 fx VV 13 (by decide) ![208] _ (vec1 (by decide)) ![1, 80] _ (by decide)
    (k1_off10 t1 (BitVec.ofNat 32 1)) _ ((k1_off10_eq t1 ⟨1, by decide⟩).trans (vec1 (by show _ + 16 * 1 = _; omega))) (fun v => k1_pay16 _ v) (fun v => rfl)) $$ [Hxb Hnb]
  · isplitl [Hxb] <;> iassumption
  iintro ⟨Hxb, Hnb⟩
  iapply (nx_step d L (2 * t1.val + 0) xb0 fx VV 14 (by decide) ![224] _ (vec1 (by decide)) ![1, 96] _ (by decide)
    (k1_off10 t1 (BitVec.ofNat 32 1)) _ ((k1_off10_eq t1 ⟨1, by decide⟩).trans (vec1 (by show _ + 16 * 1 = _; omega))) (fun v => k1_pay17 _ v) (fun v => rfl)) $$ [Hxb Hnb]
  · isplitl [Hxb] <;> iassumption
  iintro ⟨Hxb, Hnb⟩
  iapply (nx_step d L (2 * t1.val + 0) xb0 fx VV 15 (by decide) ![240] _ (vec1 (by decide)) ![1, 112] _ (by decide)
    (k1_off10 t1 (BitVec.ofNat 32 1)) _ ((k1_off10_eq t1 ⟨1, by decide⟩).trans (vec1 (by show _ + 16 * 1 = _; omega))) (fun v => k1_pay18 _ v) (fun v => rfl)) $$ [Hxb Hnb]
  · isplitl [Hxb] <;> iassumption
  iintro ⟨Hxb, Hnb⟩
  iapply (col_loop d L rows0 fr CI hCI 2 (by decide) _ (by decide +kernel) _
    (fun n => k1_off13 n) (fun n => k1_off13_inb L t1 n k1_h1) (fun n => k1_off13_eq n) (fun n => k1_off14 n) (fun n => k1_off14_inb L t1 n k1_h1)
    (fun n => (k1_off14_eq n).trans (vec1 (by omega))) k1_pay19 (fun v x => rfl) (k1_chk3 L t1) (k1_chk3.dec L t1) (fun v hv _ => hv) (fun v hw => k1_idx3_inb L t1 v hw k1_h1) (fun n => rfl)) $$ [Hci Hr Hout]
  · isplitl [Hci]; · iexact Hci
    isplitl [Hr] <;> iassumption
  iintro ⟨Hci, Hr, Hout⟩
  iapply (vv_load d L VV) $$ Hvv; iintro Hvv
  iapply (nx_step d L (2 * t1.val + 0) xb0 fx VV 16 (by decide) ![256] _ (vec1 (by decide)) ![2, 0] _ (by decide)
    (k1_off10 t1 (BitVec.ofNat 32 2)) _ ((k1_off10_eq t1 ⟨2, by decide⟩).trans (vec1 (by show _ + 16 * 2 = _; omega))) (fun v => k1_pay20 _ v) (fun v => rfl)) $$ [Hxb Hnb]
  · isplitl [Hxb] <;> iassumption
  iintro ⟨Hxb, Hnb⟩
  iapply (nx_step d L (2 * t1.val + 0) xb0 fx VV 17 (by decide) ![272] _ (vec1 (by decide)) ![2, 16] _ (by decide)
    (k1_off10 t1 (BitVec.ofNat 32 2)) _ ((k1_off10_eq t1 ⟨2, by decide⟩).trans (vec1 (by show _ + 16 * 2 = _; omega))) (fun v => k1_pay21 _ v) (fun v => rfl)) $$ [Hxb Hnb]
  · isplitl [Hxb] <;> iassumption
  iintro ⟨Hxb, Hnb⟩
  iapply (nx_step d L (2 * t1.val + 0) xb0 fx VV 18 (by decide) ![288] _ (vec1 (by decide)) ![2, 32] _ (by decide)
    (k1_off10 t1 (BitVec.ofNat 32 2)) _ ((k1_off10_eq t1 ⟨2, by decide⟩).trans (vec1 (by show _ + 16 * 2 = _; omega))) (fun v => k1_pay22 _ v) (fun v => rfl)) $$ [Hxb Hnb]
  · isplitl [Hxb] <;> iassumption
  iintro ⟨Hxb, Hnb⟩
  iapply (nx_step d L (2 * t1.val + 0) xb0 fx VV 19 (by decide) ![304] _ (vec1 (by decide)) ![2, 48] _ (by decide)
    (k1_off10 t1 (BitVec.ofNat 32 2)) _ ((k1_off10_eq t1 ⟨2, by decide⟩).trans (vec1 (by show _ + 16 * 2 = _; omega))) (fun v => k1_pay23 _ v) (fun v => rfl)) $$ [Hxb Hnb]
  · isplitl [Hxb] <;> iassumption
  iintro ⟨Hxb, Hnb⟩
  iapply (nx_step d L (2 * t1.val + 0) xb0 fx VV 20 (by decide) ![320] _ (vec1 (by decide)) ![2, 64] _ (by decide)
    (k1_off10 t1 (BitVec.ofNat 32 2)) _ ((k1_off10_eq t1 ⟨2, by decide⟩).trans (vec1 (by show _ + 16 * 2 = _; omega))) (fun v => k1_pay24 _ v) (fun v => rfl)) $$ [Hxb Hnb]
  · isplitl [Hxb] <;> iassumption
  iintro ⟨Hxb, Hnb⟩
  iapply (nx_step d L (2 * t1.val + 0) xb0 fx VV 21 (by decide) ![336] _ (vec1 (by decide)) ![2, 80] _ (by decide)
    (k1_off10 t1 (BitVec.ofNat 32 2)) _ ((k1_off10_eq t1 ⟨2, by decide⟩).trans (vec1 (by show _ + 16 * 2 = _; omega))) (fun v => k1_pay25 _ v) (fun v => rfl)) $$ [Hxb Hnb]
  · isplitl [Hxb] <;> iassumption
  iintro ⟨Hxb, Hnb⟩
  iapply (nx_step d L (2 * t1.val + 0) xb0 fx VV 22 (by decide) ![352] _ (vec1 (by decide)) ![2, 96] _ (by decide)
    (k1_off10 t1 (BitVec.ofNat 32 2)) _ ((k1_off10_eq t1 ⟨2, by decide⟩).trans (vec1 (by show _ + 16 * 2 = _; omega))) (fun v => k1_pay26 _ v) (fun v => rfl)) $$ [Hxb Hnb]
  · isplitl [Hxb] <;> iassumption
  iintro ⟨Hxb, Hnb⟩
  iapply (nx_step d L (2 * t1.val + 0) xb0 fx VV 23 (by decide) ![368] _ (vec1 (by decide)) ![2, 112] _ (by decide)
    (k1_off10 t1 (BitVec.ofNat 32 2)) _ ((k1_off10_eq t1 ⟨2, by decide⟩).trans (vec1 (by show _ + 16 * 2 = _; omega))) (fun v => k1_pay27 _ v) (fun v => rfl)) $$ [Hxb Hnb]
  · isplitl [Hxb] <;> iassumption
  iintro ⟨Hxb, Hnb⟩
  iapply (col_loop d L rows0 fr CI hCI 3 (by decide) _ (by decide +kernel) _
    (fun n => k1_off15 n) (fun n => k1_off15_inb L t1 n k1_h1) (fun n => k1_off15_eq n) (fun n => k1_off16 n) (fun n => k1_off16_inb L t1 n k1_h1)
    (fun n => (k1_off16_eq n).trans (vec1 (by omega))) k1_pay28 (fun v x => rfl) (k1_chk4 L t1) (k1_chk4.dec L t1) (fun v hv _ => hv) (fun v hw => k1_idx4_inb L t1 v hw k1_h1) (fun n => rfl)) $$ [Hci Hr Hout]
  · isplitl [Hci]; · iexact Hci
    isplitl [Hr] <;> iassumption
  iintro ⟨Hci, Hr, Hout⟩
  iapply (vv_load d L VV) $$ Hvv; iintro Hvv
  iapply (nx_step d L (2 * t1.val + 0) xb0 fx VV 24 (by decide) ![384] _ (vec1 (by decide)) ![3, 0] _ (by decide)
    (k1_off10 t1 (BitVec.ofNat 32 3)) _ ((k1_off10_eq t1 ⟨3, by decide⟩).trans (vec1 (by show _ + 16 * 3 = _; omega))) (fun v => k1_pay29 _ v) (fun v => rfl)) $$ [Hxb Hnb]
  · isplitl [Hxb] <;> iassumption
  iintro ⟨Hxb, Hnb⟩
  iapply (nx_step d L (2 * t1.val + 0) xb0 fx VV 25 (by decide) ![400] _ (vec1 (by decide)) ![3, 16] _ (by decide)
    (k1_off10 t1 (BitVec.ofNat 32 3)) _ ((k1_off10_eq t1 ⟨3, by decide⟩).trans (vec1 (by show _ + 16 * 3 = _; omega))) (fun v => k1_pay30 _ v) (fun v => rfl)) $$ [Hxb Hnb]
  · isplitl [Hxb] <;> iassumption
  iintro ⟨Hxb, Hnb⟩
  iapply (nx_step d L (2 * t1.val + 0) xb0 fx VV 26 (by decide) ![416] _ (vec1 (by decide)) ![3, 32] _ (by decide)
    (k1_off10 t1 (BitVec.ofNat 32 3)) _ ((k1_off10_eq t1 ⟨3, by decide⟩).trans (vec1 (by show _ + 16 * 3 = _; omega))) (fun v => k1_pay31 _ v) (fun v => rfl)) $$ [Hxb Hnb]
  · isplitl [Hxb] <;> iassumption
  iintro ⟨Hxb, Hnb⟩
  iapply (nx_step d L (2 * t1.val + 0) xb0 fx VV 27 (by decide) ![432] _ (vec1 (by decide)) ![3, 48] _ (by decide)
    (k1_off10 t1 (BitVec.ofNat 32 3)) _ ((k1_off10_eq t1 ⟨3, by decide⟩).trans (vec1 (by show _ + 16 * 3 = _; omega))) (fun v => k1_pay32 _ v) (fun v => rfl)) $$ [Hxb Hnb]
  · isplitl [Hxb] <;> iassumption
  iintro ⟨Hxb, Hnb⟩
  iapply (nx_step d L (2 * t1.val + 0) xb0 fx VV 28 (by decide) ![448] _ (vec1 (by decide)) ![3, 64] _ (by decide)
    (k1_off10 t1 (BitVec.ofNat 32 3)) _ ((k1_off10_eq t1 ⟨3, by decide⟩).trans (vec1 (by show _ + 16 * 3 = _; omega))) (fun v => k1_pay33 _ v) (fun v => rfl)) $$ [Hxb Hnb]
  · isplitl [Hxb] <;> iassumption
  iintro ⟨Hxb, Hnb⟩
  iapply (nx_step d L (2 * t1.val + 0) xb0 fx VV 29 (by decide) ![464] _ (vec1 (by decide)) ![3, 80] _ (by decide)
    (k1_off10 t1 (BitVec.ofNat 32 3)) _ ((k1_off10_eq t1 ⟨3, by decide⟩).trans (vec1 (by show _ + 16 * 3 = _; omega))) (fun v => k1_pay34 _ v) (fun v => rfl)) $$ [Hxb Hnb]
  · isplitl [Hxb] <;> iassumption
  iintro ⟨Hxb, Hnb⟩
  iapply (nx_step d L (2 * t1.val + 0) xb0 fx VV 30 (by decide) ![480] _ (vec1 (by decide)) ![3, 96] _ (by decide)
    (k1_off10 t1 (BitVec.ofNat 32 3)) _ ((k1_off10_eq t1 ⟨3, by decide⟩).trans (vec1 (by show _ + 16 * 3 = _; omega))) (fun v => k1_pay35 _ v) (fun v => rfl)) $$ [Hxb Hnb]
  · isplitl [Hxb] <;> iassumption
  iintro ⟨Hxb, Hnb⟩
  iapply (nx_step d L (2 * t1.val + 0) xb0 fx VV 31 (by decide) ![496] _ (vec1 (by decide)) ![3, 112] _ (by decide)
    (k1_off10 t1 (BitVec.ofNat 32 3)) _ ((k1_off10_eq t1 ⟨3, by decide⟩).trans (vec1 (by show _ + 16 * 3 = _; omega))) (fun v => k1_pay36 _ v) (fun v => rfl)) $$ [Hxb Hnb]
  · isplitl [Hxb] <;> iassumption
  iintro ⟨Hxb, Hnb⟩
  icases Hout with ⟨%fo, %hfo, Hout⟩
  icases Hnb with ⟨%fn, %hfn, Hnb⟩
  iapply (a2_copy d L O W hO RL CI hCI (2 * t1.val + 0) _ hfr fo hfo cc1_scoped3.sem ![0] _ (k1_off17 L t1 (BitVec.ofNat 32 0)) _ 0 (by decide) (vec1 (by decide))
    ((k1_off17_eq L t1 ⟨0, by decide⟩).trans (vec2 (by show _ + 0 = _; simp only [wn]; omega)))) $$ [Hout Ha2 Hs3 HO]
  · isplitl []; · iexact Hlv
    isplitl [Hout]; · iexact Hout
    isplitl [Ha2]; · iexact Ha2
    isplitl [Hs3] <;> iassumption
  iintro ⟨Hout, Ha2, Hs3, HO⟩
  iapply (nx_copy d L O W hO X I8 V16 hI8 (2 * t1.val + 0) _ hfx VV hVV fn hfn cc1_scoped4.sem ![0] _ (k1_off18 L t1 (BitVec.ofNat 32 0)) _ 0 (by decide) (vec1 (by decide))
    ((k1_off18_eq L t1 ⟨0, by decide⟩).trans (vec2 (by show _ + 0 = _; simp only [wn]; omega)))) $$ [Hnb Hnx Hs4 HO]
  · isplitl []; · iexact Hlv
    isplitl [Hnb]; · iexact Hnb
    isplitl [Hnx]; · iexact Hnx
    isplitl [Hs4] <;> iassumption
  iintro ⟨Hnb, Hnx, Hs4, HO⟩
  iapply (a2_copy d L O W hO RL CI hCI (2 * t1.val + 0) _ hfr fo hfo cc1_scoped5.sem ![5008] _ (k1_off17 L t1 (BitVec.ofNat 32 1)) _ 1 (by decide) (vec1 (by decide))
    ((k1_off17_eq L t1 ⟨1, by decide⟩).trans (vec2 (by show _ + 1 = _; simp only [wn]; omega)))) $$ [Hout Ha2 Hs5 HO]
  · isplitl []; · iexact Hlv
    isplitl [Hout]; · iexact Hout
    isplitl [Ha2]; · iexact Ha2
    isplitl [Hs5] <;> iassumption
  iintro ⟨Hout, Ha2, Hs5, HO⟩
  iapply (nx_copy d L O W hO X I8 V16 hI8 (2 * t1.val + 0) _ hfx VV hVV fn hfn cc1_scoped6.sem ![128] _ (k1_off18 L t1 (BitVec.ofNat 32 1)) _ 1 (by decide) (vec1 (by decide))
    ((k1_off18_eq L t1 ⟨1, by decide⟩).trans (vec2 (by show _ + 1 = _; simp only [wn]; omega)))) $$ [Hnb Hnx Hs6 HO]
  · isplitl []; · iexact Hlv
    isplitl [Hnb]; · iexact Hnb
    isplitl [Hnx]; · iexact Hnx
    isplitl [Hs6] <;> iassumption
  iintro ⟨Hnb, Hnx, Hs6, HO⟩
  iapply (a2_copy d L O W hO RL CI hCI (2 * t1.val + 0) _ hfr fo hfo cc1_scoped7.sem ![10016] _ (k1_off17 L t1 (BitVec.ofNat 32 2)) _ 2 (by decide) (vec1 (by decide))
    ((k1_off17_eq L t1 ⟨2, by decide⟩).trans (vec2 (by show _ + 2 = _; simp only [wn]; omega)))) $$ [Hout Ha2 Hs7 HO]
  · isplitl []; · iexact Hlv
    isplitl [Hout]; · iexact Hout
    isplitl [Ha2]; · iexact Ha2
    isplitl [Hs7] <;> iassumption
  iintro ⟨Hout, Ha2, Hs7, HO⟩
  iapply (nx_copy d L O W hO X I8 V16 hI8 (2 * t1.val + 0) _ hfx VV hVV fn hfn cc1_scoped8.sem ![256] _ (k1_off18 L t1 (BitVec.ofNat 32 2)) _ 2 (by decide) (vec1 (by decide))
    ((k1_off18_eq L t1 ⟨2, by decide⟩).trans (vec2 (by show _ + 2 = _; simp only [wn]; omega)))) $$ [Hnb Hnx Hs8 HO]
  · isplitl []; · iexact Hlv
    isplitl [Hnb]; · iexact Hnb
    isplitl [Hnx]; · iexact Hnx
    isplitl [Hs8] <;> iassumption
  iintro ⟨Hnb, Hnx, Hs8, HO⟩
  iapply (a2_copy d L O W hO RL CI hCI (2 * t1.val + 0) _ hfr fo hfo cc1_scoped9.sem ![15024] _ (k1_off17 L t1 (BitVec.ofNat 32 3)) _ 3 (by decide) (vec1 (by decide))
    ((k1_off17_eq L t1 ⟨3, by decide⟩).trans (vec2 (by show _ + 3 = _; simp only [wn]; omega)))) $$ [Hout Ha2 Hs9 HO]
  · isplitl []; · iexact Hlv
    isplitl [Hout]; · iexact Hout
    isplitl [Ha2]; · iexact Ha2
    isplitl [Hs9] <;> iassumption
  iintro ⟨Hout, Ha2, Hs9, HO⟩
  iapply (nx_copy d L O W hO X I8 V16 hI8 (2 * t1.val + 0) _ hfx VV hVV fn hfn cc1_scoped10.sem ![384] _ (k1_off18 L t1 (BitVec.ofNat 32 3)) _ 3 (by decide) (vec1 (by decide))
    ((k1_off18_eq L t1 ⟨3, by decide⟩).trans (vec2 (by show _ + 3 = _; simp only [wn]; omega)))) $$ [Hnb Hnx Hs10 HO]
  · isplitl []; · iexact Hlv
    isplitl [Hnb]; · iexact Hnb
    isplitl [Hnx]; · iexact Hnx
    isplitl [Hs10] <;> iassumption
  iintro ⟨Hnb, Hnx, Hs10, HO⟩
  unfold wpT; rw [wp_ret]; imodintro
  isplitl [Hnext]; · iexact Hnext
  isplitl [Hr]; · iexists _; iexact Hr
  isplitl [Hxb]; · iexists _; iexact Hxb
  isplitl [Ha2]; · iexact Ha2
  isplitl [Hnx]; · iexact Hnx
  isplitl [Hci]; · iexact Hci
  isplitl [Hvv]; · iexact Hvv
  isplitl [Hout]; · iexists _; iexact Hout
  isplitl [Hnb]; · iexists _; iexact Hnb
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  iexact HO

end

end Cert.Proof.Run

end
-- ==== Proof.Slot1.lean ====
/-
  A block that uses the second pair of buffers, from its transfers in flight to its rows written out.
-/
module

public import proofs.«01_k».proof.Proof.Next

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx (ix1 ix2)

section

variable (d : Dev nD) (L : grid1.Coords) (O : CellTallies nD τ sig (HIx 1)) (W : Waits sig (HIx 1))
variable (RL : S51200000.Idx → Elt F .f32) (X : S10000x128.Idx → Elt F .f32) (I8 : S32x320.Idx → BitVec 32) (mid : S320.Idx → BitVec 32)
variable (q : PosShare TreeShare)

/-- What a block leaves alone or restores: the column numbers, the task's values, the two staging buffers, the copies' semaphores. -/
def Rest1 (CI : S5008.Idx → BitVec 32) (VV : S2560.Idx → Elt F .f32) : sProp 𝕄 :=
  iprop((cidB.view.loc (th d L) ↦{fullShare} CI) ∗ (vvB.view.loc (th d L) ↦{fullShare} VV)
    ∗ (∃ f : S20032.Idx → Elt F .f32, outB.view.loc (th d L) ↦{fullShare} f) ∗ (∃ f : S512.Idx → Elt F .f32, nxB.view.loc (th d L) ↦{fullShare} f)
    ∗ semVal (th d L, SemLoc.dma cc1_scoped11.sem) 0 ∗ semVal (th d L, SemLoc.dma cc1_scoped12.sem) 0 ∗ semVal (th d L, SemLoc.dma cc1_scoped13.sem) 0 ∗ semVal (th d L, SemLoc.dma cc1_scoped14.sem) 0 ∗ semVal (th d L, SemLoc.dma cc1_scoped15.sem) 0 ∗ semVal (th d L, SemLoc.dma cc1_scoped16.sem) 0 ∗ semVal (th d L, SemLoc.dma cc1_scoped17.sem) 0 ∗ semVal (th d L, SemLoc.dma cc1_scoped18.sem) 0 ∗ OW d L O W)

set_option maxHeartbeats 4000000 in
set_option maxRecDepth 8192 in
/-- Block `(2 * t1.val + 1)` from its two transfers in flight to its eight rows written out, the next block's transfers started. -/
theorem slot1_spec (hO : ∀ g, O g none = 0) (hI8 : ∀ z, (I8 z).toNat < 10000) (hmid : MidOK L I8 mid)
    (CI : S5008.Idx → BitVec 32) (hCI : ∀ c, (CI c).toNat < 10000) (VV : S2560.Idx → Elt F .f32) (V16 : S32x2560.Idx → Elt F .f32) (hVV : VvOK L V16 VV)
    (t1 : Fin k1_t1_loop.trips) (k1_h3 : k1_cond3 L t1 = 1#1) (v1 v3 v : BitVec 32) :
    iprop(levAts (K (F := F)).L (K (F := F)).lev
        ∗ FlA d L RL q rows1 cc1_scratch9.sem (2 * t1.val + 1) ∗ FlX d L X I8 mid q xb1 cc1_scratch10.sem (2 * t1.val + 1)
        ∗ (∃ f, rows0.view.loc (th d L) ↦{fullShare} f) ∗ (∃ f, xb0.view.loc (th d L) ↦{fullShare} f)
        ∗ (∃ g : S5000x5000.Idx → Elt F .f32, ⌜DoneOK L 5000 (A2f RL CI) g (4 * (2 * t1.val + 1))⌝ ∗ a2V.view.loc (th d L) ↦[mine L 5000]{fullShare} g)
        ∗ (∃ g : S5000x128.Idx → Elt F .f32, ⌜DoneOK L 128 (NXf X I8 V16) g (4 * (2 * t1.val + 1))⌝ ∗ nxV.view.loc (th d L) ↦[mine L 128]{fullShare} g)
        ∗ Rest1 d L O W CI VV)
      ⊢ wpT d L (slot1 L t1 k1_h3 v1 v3 v) fun _ =>
        iprop(Nx d L RL X I8 mid q rows0 xb0 ((2 * t1.val + 1) + 1)
        ∗ (∃ f, rows1.view.loc (th d L) ↦{fullShare} f) ∗ (∃ f, xb1.view.loc (th d L) ↦{fullShare} f)
        ∗ (∃ g : S5000x5000.Idx → Elt F .f32, ⌜DoneOK L 5000 (A2f RL CI) g (4 * (2 * t1.val + 1) + 4)⌝ ∗ a2V.view.loc (th d L) ↦[mine L 5000]{fullShare} g)
        ∗ (∃ g : S5000x128.Idx → Elt F .f32, ⌜DoneOK L 128 (NXf X I8 V16) g (4 * (2 * t1.val + 1) + 4)⌝ ∗ nxV.view.loc (th d L) ↦[mine L 128]{fullShare} g)
        ∗ Rest1 d L O W CI VV) := by
  unfold Rest1
  iintro ⟨#Hlv, HA, HX, Hrn, Hxn, Ha2, Hnx, Hci, Hvv, ⟨%fo0, Hout⟩, ⟨%fn0, Hnb⟩, Hs11, Hs12, Hs13, Hs14, Hs15, Hs16, Hs17, Hs18, HO⟩
  simp only [slot1, k1_part10_eq_skeleton, k1_part10_skel, Prog.lift, Prog.bind_op, Prog.bind_ret, Prog.pure_eq_ret, Prog.bind_assoc, SparseCore.waitIndirectGather]
  iapply (waitA d L O W hO RL q rows1 cc1_scratch9.sem (2 * t1.val + 1)) $$ [HA HO]
  · isplitl []; · iexact Hlv
    isplitl [HA] <;> iassumption
  iintro ⟨Hrl, ⟨%fr, %hfr, Hr⟩, Hsa, HO⟩
  iapply (waitX d L O W hO X I8 mid q xb1 cc1_scratch10.sem (2 * t1.val + 1)) $$ [HX HO]
  · isplitl []; · iexact Hlv
    isplitl [HX] <;> iassumption
  iintro ⟨Hx, Hm, ⟨%fx, %hfx, Hxb⟩, Hsx, HO⟩
  iapply (cond_issue d L RL X I8 mid q hI8 hmid rows0 (View.set_whole _) xb0 (View.set_whole _) credit_xb0 ((2 * t1.val + 1) + 1) (cond4_iff L t1 k1_h3)
    (k1_off21 L t1) (by rw [k1_off21_eq]; refine vec1 ?_; simp only [wn]; omega) (k1_off22 t1) (by rw [k1_off22_eq]; exact vec1 (by omega))) $$ [Hrl Hx Hm Hrn Hxn Hsa Hsx]
  · isplitl [Hrl]; · iexact Hrl
    isplitl [Hx]; · iexact Hx
    isplitl [Hm]; · iexact Hm
    isplitl [Hrn]; · iexact Hrn
    isplitl [Hxn]; · iexact Hxn
    isplitl [Hsa] <;> iassumption
  iintro Hnext
  simp only [t8_eq, t9_eq, k1_part11_eq_skeleton, k1_part12_eq_skeleton, k1_part13_eq_skeleton, k1_part14_eq_skeleton, k1_part15_eq_skeleton, k1_part16_eq_skeleton, k1_part17_eq_skeleton, k1_part18_eq_skeleton, k1_part11_skel, k1_part12_skel, k1_part13_skel, k1_part14_skel, k1_part15_skel, k1_part16_skel, k1_part17_skel, k1_part18_skel, Prog.lift, Prog.bind_op, Prog.bind_ret, Prog.pure_eq_ret, Prog.bind_assoc]
  ihave Hout := (show (outB.view.loc (th d L) ↦{fullShare} fo0 : sProp 𝕄) ⊢ iprop(∃ fo : S20032.Idx → Elt F .f32, ⌜OutOK (rows1.view.read (Elt F) fr) CI fo (5008 * 0)⌝ ∗ outB.view.loc (th d L) ↦{fullShare} fo) by
    iintro H
    iexists fo0
    isplitr [H]
    · ipureintro; exact OutOK.zero _ _ _
    · iexact H) $$ Hout
  ihave Hnb := (show (nxB.view.loc (th d L) ↦{fullShare} fn0 : sProp 𝕄) ⊢ iprop(∃ fn : S512.Idx → Elt F .f32, ⌜NxOK (2 * t1.val + 1) (xb1.view.read (Elt F) fx) VV fn (16 * 0)⌝ ∗ nxB.view.loc (th d L) ↦{fullShare} fn) by
    iintro H
    iexists fn0
    isplitr [H]
    · ipureintro; exact NxOK.zero _ _ _ _
    · iexact H) $$ Hnb
  iapply (col_loop d L rows1 fr CI hCI 0 (by decide) _ (by decide +kernel) _
    (fun n => k1_off23 n) (fun n => k1_off23_inb L t1 n k1_h3) (fun n => k1_off23_eq n) (fun n => k1_off24 n) (fun n => k1_off24_inb L t1 n k1_h3)
    (fun n => (k1_off24_eq n).trans (vec1 (by omega))) k1_pay37 (fun v x => rfl) (k1_chk5 L t1) (k1_chk5.dec L t1) (fun v hv _ => hv) (fun v hw => k1_idx5_inb L t1 v hw k1_h3) (fun n => rfl)) $$ [Hci Hr Hout]
  · isplitl [Hci]; · iexact Hci
    isplitl [Hr] <;> iassumption
  iintro ⟨Hci, Hr, Hout⟩
  iapply (vv_load d L VV) $$ Hvv; iintro Hvv
  iapply (nx_step d L (2 * t1.val + 1) xb1 fx VV 0 (by decide) ![0] _ (vec1 (by decide)) ![0, 0] _ (by decide)
    (k1_off25 t1 (BitVec.ofNat 32 0)) _ ((k1_off25_eq t1 ⟨0, by decide⟩).trans (vec1 (by show _ + 16 * 0 + 64 = _; omega))) (fun v => k1_pay38 _ v) (fun v => rfl)) $$ [Hxb Hnb]
  · isplitl [Hxb] <;> iassumption
  iintro ⟨Hxb, Hnb⟩
  iapply (nx_step d L (2 * t1.val + 1) xb1 fx VV 1 (by decide) ![16] _ (vec1 (by decide)) ![0, 16] _ (by decide)
    (k1_off25 t1 (BitVec.ofNat 32 0)) _ ((k1_off25_eq t1 ⟨0, by decide⟩).trans (vec1 (by show _ + 16 * 0 + 64 = _; omega))) (fun v => k1_pay39 _ v) (fun v => rfl)) $$ [Hxb Hnb]
  · isplitl [Hxb] <;> iassumption
  iintro ⟨Hxb, Hnb⟩
  iapply (nx_step d L (2 * t1.val + 1) xb1 fx VV 2 (by decide) ![32] _ (vec1 (by decide)) ![0, 32] _ (by decide)
    (k1_off25 t1 (BitVec.ofNat 32 0)) _ ((k1_off25_eq t1 ⟨0, by decide⟩).trans (vec1 (by show _ + 16 * 0 + 64 = _; omega))) (fun v => k1_pay40 _ v) (fun v => rfl)) $$ [Hxb Hnb]
  · isplitl [Hxb] <;> iassumption
  iintro ⟨Hxb, Hnb⟩
  iapply (nx_step d L (2 * t1.val + 1) xb1 fx VV 3 (by decide) ![48] _ (vec1 (by decide)) ![0, 48] _ (by decide)
    (k1_off25 t1 (BitVec.ofNat 32 0)) _ ((k1_off25_eq t1 ⟨0, by decide⟩).trans (vec1 (by show _ + 16 * 0 + 64 = _; omega))) (fun v => k1_pay41 _ v) (fun v => rfl)) $$ [Hxb Hnb]
  · isplitl [Hxb] <;> iassumption
  iintro ⟨Hxb, Hnb⟩
  iapply (nx_step d L (2 * t1.val + 1) xb1 fx VV 4 (by decide) ![64] _ (vec1 (by decide)) ![0, 64] _ (by decide)
    (k1_off25 t1 (BitVec.ofNat 32 0)) _ ((k1_off25_eq t1 ⟨0, by decide⟩).trans (vec1 (by show _ + 16 * 0 + 64 = _; omega))) (fun v => k1_pay42 _ v) (fun v => rfl)) $$ [Hxb Hnb]
  · isplitl [Hxb] <;> iassumption
  iintro ⟨Hxb, Hnb⟩
  iapply (nx_step d L (2 * t1.val + 1) xb1 fx VV 5 (by decide) ![80] _ (vec1 (by decide)) ![0, 80] _ (by decide)
    (k1_off25 t1 (BitVec.ofNat 32 0)) _ ((k1_off25_eq t1 ⟨0, by decide⟩).trans (vec1 (by show _ + 16 * 0 + 64 = _; omega))) (fun v => k1_pay43 _ v) (fun v => rfl)) $$ [Hxb Hnb]
  · isplitl [Hxb] <;> iassumption
  iintro ⟨Hxb, Hnb⟩
  iapply (nx_step d L (2 * t1.val + 1) xb1 fx VV 6 (by decide) ![96] _ (vec1 (by decide)) ![0, 96] _ (by decide)
    (k1_off25 t1 (BitVec.ofNat 32 0)) _ ((k1_off25_eq t1 ⟨0, by decide⟩).trans (vec1 (by show _ + 16 * 0 + 64 = _; omega))) (fun v => k1_pay44 _ v) (fun v => rfl)) $$ [Hxb Hnb]
  · isplitl [Hxb] <;> iassumption
  iintro ⟨Hxb, Hnb⟩
  iapply (nx_step d L (2 * t1.val + 1) xb1 fx VV 7 (by decide) ![112] _ (vec1 (by decide)) ![0, 112] _ (by decide)
    (k1_off25 t1 (BitVec.ofNat 32 0)) _ ((k1_off25_eq t1 ⟨0, by decide⟩).trans (vec1 (by show _ + 16 * 0 + 64 = _; omega))) (fun v => k1_pay45 _ v) (fun v => rfl)) $$ [Hxb Hnb]
  · isplitl [Hxb] <;> iassumption
  iintro ⟨Hxb, Hnb⟩
  iapply (col_loop d L rows1 fr CI hCI 1 (by decide) _ (by decide +kernel) _
    (fun n => k1_off26 n) (fun n => k1_off26_inb L t1 n k1_h3) (fun n => k1_off26_eq n) (fun n => k1_off27 n) (fun n => k1_off27_inb L t1 n k1_h3)
    (fun n => (k1_off27_eq n).trans (vec1 (by omega))) k1_pay46 (fun v x => rfl) (k1_chk6 L t1) (k1_chk6.dec L t1) (fun v hv _ => hv) (fun v hw => k1_idx6_inb L t1 v hw k1_h3) (fun n => rfl)) $$ [Hci Hr Hout]
  · isplitl [Hci]; · iexact Hci
    isplitl [Hr] <;> iassumption
  iintro ⟨Hci, Hr, Hout⟩
  iapply (vv_load d L VV) $$ Hvv; iintro Hvv
  iapply (nx_step d L (2 * t1.val + 1) xb1 fx VV 8 (by decide) ![128] _ (vec1 (by decide)) ![1, 0] _ (by decide)
    (k1_off25 t1 (BitVec.ofNat 32 1)) _ ((k1_off25_eq t1 ⟨1, by decide⟩).trans (vec1 (by show _ + 16 * 1 + 64 = _; omega))) (fun v => k1_pay47 _ v) (fun v => rfl)) $$ [Hxb Hnb]
  · isplitl [Hxb] <;> iassumption
  iintro ⟨Hxb, Hnb⟩
  iapply (nx_step d L (2 * t1.val + 1) xb1 fx VV 9 (by decide) ![144] _ (vec1 (by decide)) ![1, 16] _ (by decide)
    (k1_off25 t1 (BitVec.ofNat 32 1)) _ ((k1_off25_eq t1 ⟨1, by decide⟩).trans (vec1 (by show _ + 16 * 1 + 64 = _; omega))) (fun v => k1_pay48 _ v) (fun v => rfl)) $$ [Hxb Hnb]
  · isplitl [Hxb] <;> iassumption
  iintro ⟨Hxb, Hnb⟩
  iapply (nx_step d L (2 * t1.val + 1) xb1 fx VV 10 (by decide) ![160] _ (vec1 (by decide)) ![1, 32] _ (by decide)
    (k1_off25 t1 (BitVec.ofNat 32 1)) _ ((k1_off25_eq t1 ⟨1, by decide⟩).trans (vec1 (by show _ + 16 * 1 + 64 = _; omega))) (fun v => k1_pay49 _ v) (fun v => rfl)) $$ [Hxb Hnb]
  · isplitl [Hxb] <;> iassumption
  iintro ⟨Hxb, Hnb⟩
  iapply (nx_step d L (2 * t1.val + 1) xb1 fx VV 11 (by decide) ![176] _ (vec1 (by decide)) ![1, 48] _ (by decide)
    (k1_off25 t1 (BitVec.ofNat 32 1)) _ ((k1_off25_eq t1 ⟨1, by decide⟩).trans (vec1 (by show _ + 16 * 1 + 64 = _; omega))) (fun v => k1_pay50 _ v) (fun v => rfl)) $$ [Hxb Hnb]
  · isplitl [Hxb] <;> iassumption
  iintro ⟨Hxb, Hnb⟩
  iapply (nx_step d L (2 * t1.val + 1) xb1 fx VV 12 (by decide) ![192] _ (vec1 (by decide)) ![1, 64] _ (by decide)
    (k1_off25 t1 (BitVec.ofNat 32 1)) _ ((k1_off25_eq t1 ⟨1, by decide⟩).trans (vec1 (by show _ + 16 * 1 + 64 = _; omega))) (fun v => k1_pay51 _ v) (fun v => rfl)) $$ [Hxb Hnb]
  · isplitl [Hxb] <;> iassumption
  iintro ⟨Hxb, Hnb⟩
  iapply (nx_step d L (2 * t1.val + 1) xb1 fx VV 13 (by decide) ![208] _ (vec1 (by decide)) ![1, 80] _ (by decide)
    (k1_off25 t1 (BitVec.ofNat 32 1)) _ ((k1_off25_eq t1 ⟨1, by decide⟩).trans (vec1 (by show _ + 16 * 1 + 64 = _; omega))) (fun v => k1_pay52 _ v) (fun v => rfl)) $$ [Hxb Hnb]
  · isplitl [Hxb] <;> iassumption
  iintro ⟨Hxb, Hnb⟩
  iapply (nx_step d L (2 * t1.val + 1) xb1 fx VV 14 (by decide) ![224] _ (vec1 (by decide)) ![1, 96] _ (by decide)
    (k1_off25 t1 (BitVec.ofNat 32 1)) _ ((k1_off25_eq t1 ⟨1, by decide⟩).trans (vec1 (by show _ + 16 * 1 + 64 = _; omega))) (fun v => k1_pay53 _ v) (fun v => rfl)) $$ [Hxb Hnb]
  · isplitl [Hxb] <;> iassumption
  iintro ⟨Hxb, Hnb⟩
  iapply (nx_step d L (2 * t1.val + 1) xb1 fx VV 15 (by decide) ![240] _ (vec1 (by decide)) ![1, 112] _ (by decide)
    (k1_off25 t1 (BitVec.ofNat 32 1)) _ ((k1_off25_eq t1 ⟨1, by decide⟩).trans (vec1 (by show _ + 16 * 1 + 64 = _; omega))) (fun v => k1_pay54 _ v) (fun v => rfl)) $$ [Hxb Hnb]
  · isplitl [Hxb] <;> iassumption
  iintro ⟨Hxb, Hnb⟩
  iapply (col_loop d L rows1 fr CI hCI 2 (by decide) _ (by decide +kernel) _
    (fun n => k1_off28 n) (fun n => k1_off28_inb L t1 n k1_h3) (fun n => k1_off28_eq n) (fun n => k1_off29 n) (fun n => k1_off29_inb L t1 n k1_h3)
    (fun n => (k1_off29_eq n).trans (vec1 (by omega))) k1_pay55 (fun v x => rfl) (k1_chk7 L t1) (k1_chk7.dec L t1) (fun v hv _ => hv) (fun v hw => k1_idx7_inb L t1 v hw k1_h3) (fun n => rfl)) $$ [Hci Hr Hout]
  · isplitl [Hci]; · iexact Hci
    isplitl [Hr] <;> iassumption
  iintro ⟨Hci, Hr, Hout⟩
  iapply (vv_load d L VV) $$ Hvv; iintro Hvv
  iapply (nx_step d L (2 * t1.val + 1) xb1 fx VV 16 (by decide) ![256] _ (vec1 (by decide)) ![2, 0] _ (by decide)
    (k1_off25 t1 (BitVec.ofNat 32 2)) _ ((k1_off25_eq t1 ⟨2, by decide⟩).trans (vec1 (by show _ + 16 * 2 + 64 = _; omega))) (fun v => k1_pay56 _ v) (fun v => rfl)) $$ [Hxb Hnb]
  · isplitl [Hxb] <;> iassumption
  iintro ⟨Hxb, Hnb⟩
  iapply (nx_step d L (2 * t1.val + 1) xb1 fx VV 17 (by decide) ![272] _ (vec1 (by decide)) ![2, 16] _ (by decide)
    (k1_off25 t1 (BitVec.ofNat 32 2)) _ ((k1_off25_eq t1 ⟨2, by decide⟩).trans (vec1 (by show _ + 16 * 2 + 64 = _; omega))) (fun v => k1_pay57 _ v) (fun v => rfl)) $$ [Hxb Hnb]
  · isplitl [Hxb] <;> iassumption
  iintro ⟨Hxb, Hnb⟩
  iapply (nx_step d L (2 * t1.val + 1) xb1 fx VV 18 (by decide) ![288] _ (vec1 (by decide)) ![2, 32] _ (by decide)
    (k1_off25 t1 (BitVec.ofNat 32 2)) _ ((k1_off25_eq t1 ⟨2, by decide⟩).trans (vec1 (by show _ + 16 * 2 + 64 = _; omega))) (fun v => k1_pay58 _ v) (fun v => rfl)) $$ [Hxb Hnb]
  · isplitl [Hxb] <;> iassumption
  iintro ⟨Hxb, Hnb⟩
  iapply (nx_step d L (2 * t1.val + 1) xb1 fx VV 19 (by decide) ![304] _ (vec1 (by decide)) ![2, 48] _ (by decide)
    (k1_off25 t1 (BitVec.ofNat 32 2)) _ ((k1_off25_eq t1 ⟨2, by decide⟩).trans (vec1 (by show _ + 16 * 2 + 64 = _; omega))) (fun v => k1_pay59 _ v) (fun v => rfl)) $$ [Hxb Hnb]
  · isplitl [Hxb] <;> iassumption
  iintro ⟨Hxb, Hnb⟩
  iapply (nx_step d L (2 * t1.val + 1) xb1 fx VV 20 (by decide) ![320] _ (vec1 (by decide)) ![2, 64] _ (by decide)
    (k1_off25 t1 (BitVec.ofNat 32 2)) _ ((k1_off25_eq t1 ⟨2, by decide⟩).trans (vec1 (by show _ + 16 * 2 + 64 = _; omega))) (fun v => k1_pay60 _ v) (fun v => rfl)) $$ [Hxb Hnb]
  · isplitl [Hxb] <;> iassumption
  iintro ⟨Hxb, Hnb⟩
  iapply (nx_step d L (2 * t1.val + 1) xb1 fx VV 21 (by decide) ![336] _ (vec1 (by decide)) ![2, 80] _ (by decide)
    (k1_off25 t1 (BitVec.ofNat 32 2)) _ ((k1_off25_eq t1 ⟨2, by decide⟩).trans (vec1 (by show _ + 16 * 2 + 64 = _; omega))) (fun v => k1_pay61 _ v) (fun v => rfl)) $$ [Hxb Hnb]
  · isplitl [Hxb] <;> iassumption
  iintro ⟨Hxb, Hnb⟩
  iapply (nx_step d L (2 * t1.val + 1) xb1 fx VV 22 (by decide) ![352] _ (vec1 (by decide)) ![2, 96] _ (by decide)
    (k1_off25 t1 (BitVec.ofNat 32 2)) _ ((k1_off25_eq t1 ⟨2, by decide⟩).trans (vec1 (by show _ + 16 * 2 + 64 = _; omega))) (fun v => k1_pay62 _ v) (fun v => rfl)) $$ [Hxb Hnb]
  · isplitl [Hxb] <;> iassumption
  iintro ⟨Hxb, Hnb⟩
  iapply (nx_step d L (2 * t1.val + 1) xb1 fx VV 23 (by decide) ![368] _ (vec1 (by decide)) ![2, 112] _ (by decide)
    (k1_off25 t1 (BitVec.ofNat 32 2)) _ ((k1_off25_eq t1 ⟨2, by decide⟩).trans (vec1 (by show _ + 16 * 2 + 64 = _; omega))) (fun v => k1_pay63 _ v) (fun v => rfl)) $$ [Hxb Hnb]
  · isplitl [Hxb] <;> iassumption
  iintro ⟨Hxb, Hnb⟩
  iapply (col_loop d L rows1 fr CI hCI 3 (by decide) _ (by decide +kernel) _
    (fun n => k1_off30 n) (fun n => k1_off30_inb L t1 n k1_h3) (fun n => k1_off30_eq n) (fun n => k1_off31 n) (fun n => k1_off31_inb L t1 n k1_h3)
    (fun n => (k1_off31_eq n).trans (vec1 (by omega))) k1_pay64 (fun v x => rfl) (k1_chk8 L t1) (k1_chk8.dec L t1) (fun v hv _ => hv) (fun v hw => k1_idx8_inb L t1 v hw k1_h3) (fun n => rfl)) $$ [Hci Hr Hout]
  · isplitl [Hci]; · iexact Hci
    isplitl [Hr] <;> iassumption
  iintro ⟨Hci, Hr, Hout⟩
  iapply (vv_load d L VV) $$ Hvv; iintro Hvv
  iapply (nx_step d L (2 * t1.val + 1) xb1 fx VV 24 (by decide) ![384] _ (vec1 (by decide)) ![3, 0] _ (by decide)
    (k1_off25 t1 (BitVec.ofNat 32 3)) _ ((k1_off25_eq t1 ⟨3, by decide⟩).trans (vec1 (by show _ + 16 * 3 + 64 = _; omega))) (fun v => k1_pay65 _ v) (fun v => rfl)) $$ [Hxb Hnb]
  · isplitl [Hxb] <;> iassumption
  iintro ⟨Hxb, Hnb⟩
  iapply (nx_step d L (2 * t1.val + 1) xb1 fx VV 25 (by decide) ![400] _ (vec1 (by decide)) ![3, 16] _ (by decide)
    (k1_off25 t1 (BitVec.ofNat 32 3)) _ ((k1_off25_eq t1 ⟨3, by decide⟩).trans (vec1 (by show _ + 16 * 3 + 64 = _; omega))) (fun v => k1_pay66 _ v) (fun v => rfl)) $$ [Hxb Hnb]
  · isplitl [Hxb] <;> iassumption
  iintro ⟨Hxb, Hnb⟩
  iapply (nx_step d L (2 * t1.val + 1) xb1 fx VV 26 (by decide) ![416] _ (vec1 (by decide)) ![3, 32] _ (by decide)
    (k1_off25 t1 (BitVec.ofNat 32 3)) _ ((k1_off25_eq t1 ⟨3, by decide⟩).trans (vec1 (by show _ + 16 * 3 + 64 = _; omega))) (fun v => k1_pay67 _ v) (fun v => rfl)) $$ [Hxb Hnb]
  · isplitl [Hxb] <;> iassumption
  iintro ⟨Hxb, Hnb⟩
  iapply (nx_step d L (2 * t1.val + 1) xb1 fx VV 27 (by decide) ![432] _ (vec1 (by decide)) ![3, 48] _ (by decide)
    (k1_off25 t1 (BitVec.ofNat 32 3)) _ ((k1_off25_eq t1 ⟨3, by decide⟩).trans (vec1 (by show _ + 16 * 3 + 64 = _; omega))) (fun v => k1_pay68 _ v) (fun v => rfl)) $$ [Hxb Hnb]
  · isplitl [Hxb] <;> iassumption
  iintro ⟨Hxb, Hnb⟩
  iapply (nx_step d L (2 * t1.val + 1) xb1 fx VV 28 (by decide) ![448] _ (vec1 (by decide)) ![3, 64] _ (by decide)
    (k1_off25 t1 (BitVec.ofNat 32 3)) _ ((k1_off25_eq t1 ⟨3, by decide⟩).trans (vec1 (by show _ + 16 * 3 + 64 = _; omega))) (fun v => k1_pay69 _ v) (fun v => rfl)) $$ [Hxb Hnb]
  · isplitl [Hxb] <;> iassumption
  iintro ⟨Hxb, Hnb⟩
  iapply (nx_step d L (2 * t1.val + 1) xb1 fx VV 29 (by decide) ![464] _ (vec1 (by decide)) ![3, 80] _ (by decide)
    (k1_off25 t1 (BitVec.ofNat 32 3)) _ ((k1_off25_eq t1 ⟨3, by decide⟩).trans (vec1 (by show _ + 16 * 3 + 64 = _; omega))) (fun v => k1_pay70 _ v) (fun v => rfl)) $$ [Hxb Hnb]
  · isplitl [Hxb] <;> iassumption
  iintro ⟨Hxb, Hnb⟩
  iapply (nx_step d L (2 * t1.val + 1) xb1 fx VV 30 (by decide) ![480] _ (vec1 (by decide)) ![3, 96] _ (by decide)
    (k1_off25 t1 (BitVec.ofNat 32 3)) _ ((k1_off25_eq t1 ⟨3, by decide⟩).trans (vec1 (by show _ + 16 * 3 + 64 = _; omega))) (fun v => k1_pay71 _ v) (fun v => rfl)) $$ [Hxb Hnb]
  · isplitl [Hxb] <;> iassumption
  iintro ⟨Hxb, Hnb⟩
  iapply (nx_step d L (2 * t1.val + 1) xb1 fx VV 31 (by decide) ![496] _ (vec1 (by decide)) ![3, 112] _ (by decide)
    (k1_off25 t1 (BitVec.ofNat 32 3)) _ ((k1_off25_eq t1 ⟨3, by decide⟩).trans (vec1 (by show _ + 16 * 3 + 64 = _; omega))) (fun v => k1_pay72 _ v) (fun v => rfl)) $$ [Hxb Hnb]
  · isplitl [Hxb] <;> iassumption
  iintro ⟨Hxb, Hnb⟩
  icases Hout with ⟨%fo, %hfo, Hout⟩
  icases Hnb with ⟨%fn, %hfn, Hnb⟩
  iapply (a2_copy d L O W hO RL CI hCI (2 * t1.val + 1) _ hfr fo hfo cc1_scoped11.sem ![0] _ (k1_off32 L t1 (BitVec.ofNat 32 0)) _ 0 (by decide) (vec1 (by decide))
    ((k1_off32_eq L t1 ⟨0, by decide⟩).trans (vec2 (by show _ + 0 + 128 = _; simp only [wn]; omega)))) $$ [Hout Ha2 Hs11 HO]
  · isplitl []; · iexact Hlv
    isplitl [Hout]; · iexact Hout
    isplitl [Ha2]; · iexact Ha2
    isplitl [Hs11] <;> iassumption
  iintro ⟨Hout, Ha2, Hs11, HO⟩
  iapply (nx_copy d L O W hO X I8 V16 hI8 (2 * t1.val + 1) _ hfx VV hVV fn hfn cc1_scoped12.sem ![0] _ (k1_off33 L t1 (BitVec.ofNat 32 0)) _ 0 (by decide) (vec1 (by decide))
    ((k1_off33_eq L t1 ⟨0, by decide⟩).trans (vec2 (by show _ + 0 + 128 = _; simp only [wn]; omega)))) $$ [Hnb Hnx Hs12 HO]
  · isplitl []; · iexact Hlv
    isplitl [Hnb]; · iexact Hnb
    isplitl [Hnx]; · iexact Hnx
    isplitl [Hs12] <;> iassumption
  iintro ⟨Hnb, Hnx, Hs12, HO⟩
  iapply (a2_copy d L O W hO RL CI hCI (2 * t1.val + 1) _ hfr fo hfo cc1_scoped13.sem ![5008] _ (k1_off32 L t1 (BitVec.ofNat 32 1)) _ 1 (by decide) (vec1 (by decide))
    ((k1_off32_eq L t1 ⟨1, by decide⟩).trans (vec2 (by show _ + 1 + 128 = _; simp only [wn]; omega)))) $$ [Hout Ha2 Hs13 HO]
  · isplitl []; · iexact Hlv
    isplitl [Hout]; · iexact Hout
    isplitl [Ha2]; · iexact Ha2
    isplitl [Hs13] <;> iassumption
  iintro ⟨Hout, Ha2, Hs13, HO⟩
  iapply (nx_copy d L O W hO X I8 V16 hI8 (2 * t1.val + 1) _ hfx VV hVV fn hfn cc1_scoped14.sem ![128] _ (k1_off33 L t1 (BitVec.ofNat 32 1)) _ 1 (by decide) (vec1 (by decide))
    ((k1_off33_eq L t1 ⟨1, by decide⟩).trans (vec2 (by show _ + 1 + 128 = _; simp only [wn]; omega)))) $$ [Hnb Hnx Hs14 HO]
  · isplitl []; · iexact Hlv
    isplitl [Hnb]; · iexact Hnb
    isplitl [Hnx]; · iexact Hnx
    isplitl [Hs14] <;> iassumption
  iintro ⟨Hnb, Hnx, Hs14, HO⟩
  iapply (a2_copy d L O W hO RL CI hCI (2 * t1.val + 1) _ hfr fo hfo cc1_scoped15.sem ![10016] _ (k1_off32 L t1 (BitVec.ofNat 32 2)) _ 2 (by decide) (vec1 (by decide))
    ((k1_off32_eq L t1 ⟨2, by decide⟩).trans (vec2 (by show _ + 2 + 128 = _; simp only [wn]; omega)))) $$ [Hout Ha2 Hs15 HO]
  · isplitl []; · iexact Hlv
    isplitl [Hout]; · iexact Hout
    isplitl [Ha2]; · iexact Ha2
    isplitl [Hs15] <;> iassumption
  iintro ⟨Hout, Ha2, Hs15, HO⟩
  iapply (nx_copy d L O W hO X I8 V16 hI8 (2 * t1.val + 1) _ hfx VV hVV fn hfn cc1_scoped16.sem ![256] _ (k1_off33 L t1 (BitVec.ofNat 32 2)) _ 2 (by decide) (vec1 (by decide))
    ((k1_off33_eq L t1 ⟨2, by decide⟩).trans (vec2 (by show _ + 2 + 128 = _; simp only [wn]; omega)))) $$ [Hnb Hnx Hs16 HO]
  · isplitl []; · iexact Hlv
    isplitl [Hnb]; · iexact Hnb
    isplitl [Hnx]; · iexact Hnx
    isplitl [Hs16] <;> iassumption
  iintro ⟨Hnb, Hnx, Hs16, HO⟩
  iapply (a2_copy d L O W hO RL CI hCI (2 * t1.val + 1) _ hfr fo hfo cc1_scoped17.sem ![15024] _ (k1_off32 L t1 (BitVec.ofNat 32 3)) _ 3 (by decide) (vec1 (by decide))
    ((k1_off32_eq L t1 ⟨3, by decide⟩).trans (vec2 (by show _ + 3 + 128 = _; simp only [wn]; omega)))) $$ [Hout Ha2 Hs17 HO]
  · isplitl []; · iexact Hlv
    isplitl [Hout]; · iexact Hout
    isplitl [Ha2]; · iexact Ha2
    isplitl [Hs17] <;> iassumption
  iintro ⟨Hout, Ha2, Hs17, HO⟩
  iapply (nx_copy d L O W hO X I8 V16 hI8 (2 * t1.val + 1) _ hfx VV hVV fn hfn cc1_scoped18.sem ![384] _ (k1_off33 L t1 (BitVec.ofNat 32 3)) _ 3 (by decide) (vec1 (by decide))
    ((k1_off33_eq L t1 ⟨3, by decide⟩).trans (vec2 (by show _ + 3 + 128 = _; simp only [wn]; omega)))) $$ [Hnb Hnx Hs18 HO]
  · isplitl []; · iexact Hlv
    isplitl [Hnb]; · iexact Hnb
    isplitl [Hnx]; · iexact Hnx
    isplitl [Hs18] <;> iassumption
  iintro ⟨Hnb, Hnx, Hs18, HO⟩
  unfold wpT; rw [wp_ret]; imodintro
  isplitl [Hnext]; · iexact Hnext
  isplitl [Hr]; · iexists _; iexact Hr
  isplitl [Hxb]; · iexists _; iexact Hxb
  isplitl [Ha2]; · iexact Ha2
  isplitl [Hnx]; · iexact Hnx
  isplitl [Hci]; · iexact Hci
  isplitl [Hvv]; · iexact Hvv
  isplitl [Hout]; · iexists _; iexact Hout
  isplitl [Hnb]; · iexists _; iexact Hnb
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  iexact HO

end

end Cert.Proof.Run

end
-- ==== Proof.Trip.lean ====
/-
  One trip of a task: its blocks one after the other.
-/
module

public import proofs.«01_k».proof.Proof.Slot0
public import proofs.«01_k».proof.Proof.Slot1
public import proofs.«01_k».proof.Proof.Blocks

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx (ix1 ix2)

/-- With no more blocks every row of the task is done. -/
theorem DoneOK.past {L : grid1.Coords} {s : ℕ} {G g : (⟨2, ![5000, s]⟩ : Shape).Idx → Elt F .f32} {t : ℕ} (ht : ¬ t < nt L) (h : DoneOK L s G g (4 * t)) (n : ℕ) :
    DoneOK L s G g n := by
  intro i hi _
  have hi0 : (i 0).val < 5000 := (i 0).isLt
  refine h i hi ?_
  have hw := wn_lt L
  unfold nt at ht
  split at ht <;> omega

section

variable (d : Dev nD) (L : grid1.Coords) (O : CellTallies nD τ sig (HIx 1)) (W : Waits sig (HIx 1))
variable (RL : S51200000.Idx → Elt F .f32) (X : S10000x128.Idx → Elt F .f32) (I8 : S32x320.Idx → BitVec 32) (mid : S320.Idx → BitVec 32)
variable (q : PosShare TreeShare)

/-- The semaphores of the first pair's copies. -/
def Sems0 : sProp 𝕄 := iprop(semVal (th d L, SemLoc.dma cc1_scoped3.sem) 0 ∗ semVal (th d L, SemLoc.dma cc1_scoped4.sem) 0 ∗ semVal (th d L, SemLoc.dma cc1_scoped5.sem) 0 ∗ semVal (th d L, SemLoc.dma cc1_scoped6.sem) 0 ∗ semVal (th d L, SemLoc.dma cc1_scoped7.sem) 0 ∗ semVal (th d L, SemLoc.dma cc1_scoped8.sem) 0 ∗ semVal (th d L, SemLoc.dma cc1_scoped9.sem) 0 ∗ semVal (th d L, SemLoc.dma cc1_scoped10.sem) 0)
/-- The semaphores of the second pair's copies. -/
def Sems1 : sProp 𝕄 := iprop(semVal (th d L, SemLoc.dma cc1_scoped11.sem) 0 ∗ semVal (th d L, SemLoc.dma cc1_scoped12.sem) 0 ∗ semVal (th d L, SemLoc.dma cc1_scoped13.sem) 0 ∗ semVal (th d L, SemLoc.dma cc1_scoped14.sem) 0 ∗ semVal (th d L, SemLoc.dma cc1_scoped15.sem) 0 ∗ semVal (th d L, SemLoc.dma cc1_scoped16.sem) 0 ∗ semVal (th d L, SemLoc.dma cc1_scoped17.sem) 0 ∗ semVal (th d L, SemLoc.dma cc1_scoped18.sem) 0)

variable (CI : S5008.Idx → BitVec 32) (VV : S2560.Idx → Elt F .f32) (V16 : S32x2560.Idx → Elt F .f32)

theorem rest_01 : iprop(Rest0 d L O W CI VV ∗ Sems1 d L) ⊢ (iprop(Rest1 d L O W CI VV ∗ Sems0 d L) : sProp 𝕄) := by
  unfold Rest0 Rest1 Sems0 Sems1
  iintro ⟨⟨Ha, Hb, Hc, He, H3, H4, H5, H6, H7, H8, H9, H10, HO⟩, Hs⟩
  icases Hs with ⟨H11, H12, H13, H14, H15, H16, H17, H18⟩
  isplitr [H3 H4 H5 H6 H7 H8 H9 H10]
  · isplitl [Ha]; · iexact Ha
    isplitl [Hb]; · iexact Hb
    isplitl [Hc]; · iexact Hc
    isplitl [He]; · iexact He
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact HO
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem rest_10 : iprop(Rest1 d L O W CI VV ∗ Sems0 d L) ⊢ (iprop(Rest0 d L O W CI VV ∗ Sems1 d L) : sProp 𝕄) := by
  unfold Rest0 Rest1 Sems0 Sems1
  iintro ⟨⟨Ha, Hb, Hc, He, H11, H12, H13, H14, H15, H16, H17, H18, HO⟩, Hs⟩
  icases Hs with ⟨H3, H4, H5, H6, H7, H8, H9, H10⟩
  isplitr [H11 H12 H13 H14 H15 H16 H17 H18]
  · isplitl [Ha]; · iexact Ha
    isplitl [Hb]; · iexact Hb
    isplitl [Hc]; · iexact Hc
    isplitl [He]; · iexact He
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HO
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- What is owned before trip `n`: block `2 * n` on its way into the first pair of buffers, the rows of all blocks before it done. -/
def TI (n : ℕ) : sProp 𝕄 :=
  iprop(levAts (K (F := F)).L (K (F := F)).lev
    ∗ Nx d L RL X I8 mid q rows0 xb0 (2 * n)
    ∗ (∃ f, rows1.view.loc (th d L) ↦{fullShare} f) ∗ (∃ f, xb1.view.loc (th d L) ↦{fullShare} f)
    ∗ (∃ g : S5000x5000.Idx → Elt F .f32, ⌜DoneOK L 5000 (A2f RL CI) g (4 * (2 * n))⌝ ∗ a2V.view.loc (th d L) ↦[mine L 5000]{fullShare} g)
    ∗ (∃ g : S5000x128.Idx → Elt F .f32, ⌜DoneOK L 128 (NXf X I8 V16) g (4 * (2 * n))⌝ ∗ nxV.view.loc (th d L) ↦[mine L 128]{fullShare} g)
    ∗ (Rest0 d L O W CI VV ∗ Sems1 d L))

set_option maxHeartbeats 1000000 in
set_option maxRecDepth 8192 in
/-- One trip: its two blocks, or its one. -/
theorem trip_spec (hO : ∀ g, O g none = 0) (hI8 : ∀ z, (I8 z).toNat < 10000) (hmid : MidOK L I8 mid)
    (hCI : ∀ c, (CI c).toNat < 10000) (hVV : VvOK L V16 VV) (v1 v3 : BitVec 32) (t1 : Fin k1_t1_loop.trips) :
    TI d L O W RL X I8 mid q CI VV V16 t1.val
      ⊢ wpT d L (Gen.k1_t1_body (F := F) L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 v1 v3 0#32 1#32 t1 ()) fun _ => TI d L O W RL X I8 mid q CI VV V16 (t1.val + 1) := by
  have ht1 : t1.val < 20 := trips_t1 ▸ t1.isLt
  have h39 := le_nt L
  have h40 := nt_le L
  rw [t1_body_eq]
  unfold TI
  rw [Nx_pos d L RL X I8 mid q (show 2 * t1.val < nt L by omega)]
  iintro ⟨#Hlv, ⟨HA, HX⟩, Hr1, Hx1, Ha2, Hnx, Hrest, Hs1⟩
  simp only [dif_pos (cond1_true L t1)]
  unfold wpT
  rw [wp_bind]
  iapply (wp_wand_r Idealize.ShloMosaic.frame (wpE (defs₀ (F := F)) 𝒱₀ (th d L) none) Set.univ)
  isplitl [HA HX Hr1 Hx1 Ha2 Hnx Hrest]
  · iapply (slot0_spec d L O W RL X I8 mid q hO hI8 hmid CI hCI VV V16 hVV t1 (cond1_true L t1) v1 v3 _)
    isplitl []; · iexact Hlv
    isplitl [HA]; · iexact HA
    isplitl [HX]; · iexact HX
    isplitl [Hr1]; · iexact Hr1
    isplitl [Hx1]; · iexact Hx1
    isplitl [Ha2]; · iexact Ha2
    isplitl [Hnx]; · iexact Hnx
    iexact Hrest
  iintro %u ⟨Hnext, Hr0, Hx0, Ha2, Hnx, Hrest⟩
  by_cases h3 : k1_cond3 L t1 = 1#1
  · have h3' := (cond3_iff L t1).1 h3
    simp only [dif_pos h3]
    rw [wp_bind]
    iapply (wp_wand_r Idealize.ShloMosaic.frame (wpE (defs₀ (F := F)) 𝒱₀ (th d L) none) Set.univ)
    ihave Hn := (Entails.of_eq (Nx_pos d L RL X I8 mid q (rows := rows1) (xb := xb1) h3')) $$ Hnext
    icases Hn with ⟨HA, HX⟩
    ihave Hr := (rest_01 d L O W CI VV) $$ [Hrest Hs1]
    · isplitl [Hrest] <;> iassumption
    icases Hr with ⟨Hrest, Hs0⟩
    isplitl [HA HX Hr0 Hx0 Ha2 Hnx Hrest]
    · iapply (slot1_spec d L O W RL X I8 mid q hO hI8 hmid CI hCI VV V16 hVV t1 h3 v1 v3 _)
      isplitl []; · iexact Hlv
      isplitl [HA]; · iexact HA
      isplitl [HX]; · iexact HX
      isplitl [Hr0]; · iexact Hr0
      isplitl [Hx0]; · iexact Hx0
      isplitl [Ha2]; · iexact Ha2
      isplitl [Hnx]; · iexact Hnx
      iexact Hrest
    iintro %u' ⟨Hnext, Hr1, Hx1, Ha2, Hnx, Hrest⟩
    ihave Hr := (rest_10 d L O W CI VV) $$ [Hrest Hs0]
    · isplitl [Hrest] <;> iassumption
    icases Hr with ⟨Hrest, Hs1⟩
    rw [wp_pure]; imodintro
    isplitl []; · iexact Hlv
    isplitl [Hnext]; · iexact Hnext
    isplitl [Hr1]; · iexact Hr1
    isplitl [Hx1]; · iexact Hx1
    isplitl [Ha2]; · iexact Ha2
    isplitl [Hnx]; · iexact Hnx
    isplitl [Hrest] <;> iassumption
  · have h3' : ¬ 2 * t1.val + 1 < nt L := fun h => h3 ((cond3_iff L t1).2 h)
    simp only [dif_neg h3]
    try simp only [pure_bind]
    rw [wp_pure]; imodintro
    ihave Hn := (Entails.of_eq (Nx_neg d L RL X I8 mid q (rows := rows1) (xb := xb1) h3')) $$ Hnext
    icases Hn with ⟨Hrl, Hx, Hm, Hr1, Hx1, Hsa, Hsb⟩
    isplitl []; · iexact Hlv
    isplitl [Hrl Hx Hm Hr0 Hx0 Hsa Hsb]
    · rw [Nx_neg d L RL X I8 mid q (show ¬ 2 * (t1.val + 1) < nt L by omega)]
      isplitl [Hrl]; · iexact Hrl
      isplitl [Hx]; · iexact Hx
      isplitl [Hm]; · iexact Hm
      isplitl [Hr0]; · iexact Hr0
      isplitl [Hx0]; · iexact Hx0
      isplitl [Hsa] <;> iassumption
    isplitl [Hr1]; · iexact Hr1
    isplitl [Hx1]; · iexact Hx1
    isplitl [Ha2]
    · icases Ha2 with ⟨%g, %hg, Hg⟩
      iexists g; isplitr [Hg]
      · ipureintro; exact DoneOK.past h3' hg _
      · iexact Hg
    isplitl [Hnx]
    · icases Hnx with ⟨%g, %hg, Hg⟩
      iexists g; isplitr [Hg]
      · ipureintro; exact DoneOK.past h3' hg _
      · iexact Hg
    isplitl [Hrest] <;> iassumption

end

end Cert.Proof.Run

end
-- ==== Proof.Own.lean ====
/-
  The buffers and semaphores a task owns, each by its name.
-/
module

public import proofs.«01_k».proof.Proof.Setup

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A big separating conjunction, some of its members named -/

/-- The members of `l` one after the other, then the rest of `s`. -/
def listSep {I : Type} [DecidableEq I] (Φ : I → sProp 𝕄) : List I → Finset I → sProp 𝕄
  | [], s => bigSep s Φ
  | x :: l, s => iprop(Φ x ∗ listSep Φ l (s.erase x))

theorem bigSep_listSep {I : Type} [DecidableEq I] (Φ : I → sProp 𝕄) :
    ∀ (l : List I) (s : Finset I), l.Nodup → (∀ x ∈ l, x ∈ s) → bigSep s Φ = listSep Φ l s
  | [], _, _, _ => rfl
  | x :: l, s, hn, hm => by
    rw [SparseCore.bigSep_erase' (hm x (List.mem_cons_self ..)),
      bigSep_listSep Φ l (s.erase x) (List.nodup_cons.1 hn).2 fun y hy =>
        Finset.mem_erase.2 ⟨fun e => (List.nodup_cons.1 hn).1 (e ▸ hy), hm y (List.mem_cons_of_mem _ hy)⟩]
    rfl

/-! ## The task's own semaphores and buffers -/

def semL : List (SemLoc sig) := [SemLoc.dma cc1_scratch9.sem, SemLoc.dma cc1_scratch10.sem, SemLoc.dma cc1_scoped0.sem, SemLoc.dma cc1_scoped1.sem, SemLoc.dma cc1_scoped2.sem, SemLoc.dma cc1_scoped3.sem, SemLoc.dma cc1_scoped4.sem, SemLoc.dma cc1_scoped5.sem, SemLoc.dma cc1_scoped6.sem, SemLoc.dma cc1_scoped7.sem, SemLoc.dma cc1_scoped8.sem, SemLoc.dma cc1_scoped9.sem, SemLoc.dma cc1_scoped10.sem, SemLoc.dma cc1_scoped11.sem, SemLoc.dma cc1_scoped12.sem, SemLoc.dma cc1_scoped13.sem, SemLoc.dma cc1_scoped14.sem, SemLoc.dma cc1_scoped15.sem, SemLoc.dma cc1_scoped16.sem, SemLoc.dma cc1_scoped17.sem, SemLoc.dma cc1_scoped18.sem]
theorem semL_nodup : semL.Nodup := by decide +kernel
theorem semL_scoped : ∀ s ∈ semL, s.isScoped .scVector = true := by decide +kernel

def bufL : List (Ref sig .scVector) := [cc1_scratch0, cc1_scratch1, cc1_scratch2, cc1_scratch3, cc1_scratch4, cc1_scratch5, cc1_scratch6, cc1_scratch7, cc1_scratch8]
theorem bufL_nodup : bufL.Nodup := by decide +kernel

section

variable (d : Dev nD) (c : Fin τ.nSC) (j : Fin τ.nSub)

theorem ownSems_V :
    (ownSems0 (V d c j) : sProp 𝕄)
      = iprop(semVal (V d c j, SemLoc.dma cc1_scratch9.sem) 0 ∗ semVal (V d c j, SemLoc.dma cc1_scratch10.sem) 0 ∗ semVal (V d c j, SemLoc.dma cc1_scoped0.sem) 0 ∗ semVal (V d c j, SemLoc.dma cc1_scoped1.sem) 0 ∗ semVal (V d c j, SemLoc.dma cc1_scoped2.sem) 0 ∗ semVal (V d c j, SemLoc.dma cc1_scoped3.sem) 0 ∗ semVal (V d c j, SemLoc.dma cc1_scoped4.sem) 0 ∗ semVal (V d c j, SemLoc.dma cc1_scoped5.sem) 0 ∗ semVal (V d c j, SemLoc.dma cc1_scoped6.sem) 0 ∗ semVal (V d c j, SemLoc.dma cc1_scoped7.sem) 0 ∗ semVal (V d c j, SemLoc.dma cc1_scoped8.sem) 0 ∗ semVal (V d c j, SemLoc.dma cc1_scoped9.sem) 0 ∗ semVal (V d c j, SemLoc.dma cc1_scoped10.sem) 0 ∗ semVal (V d c j, SemLoc.dma cc1_scoped11.sem) 0 ∗ semVal (V d c j, SemLoc.dma cc1_scoped12.sem) 0 ∗ semVal (V d c j, SemLoc.dma cc1_scoped13.sem) 0 ∗ semVal (V d c j, SemLoc.dma cc1_scoped14.sem) 0 ∗ semVal (V d c j, SemLoc.dma cc1_scoped15.sem) 0 ∗ semVal (V d c j, SemLoc.dma cc1_scoped16.sem) 0 ∗ semVal (V d c j, SemLoc.dma cc1_scoped17.sem) 0 ∗ semVal (V d c j, SemLoc.dma cc1_scoped18.sem) 0
        ∗ bigSep ((semL.map fun s => (V d c j, s)).foldl Finset.erase (ownCells (V d c j))) fun g => semVal g 0) := by
  unfold SparseCore.Cfg.ownSems0
  exact bigSep_listSep (fun g => semVal g 0) (semL.map fun s => ((V d c j, s) : GSem nD τ sig)) (ownCells (V d c j))
    (semL_nodup.map fun a b h => (Prod.mk.inj h).2) fun x hx => by
      obtain ⟨s, hs, rfl⟩ := List.mem_map.1 hx
      exact mem_ownCells.mpr ⟨rfl, semL_scoped s hs⟩

theorem ownBufs_V :
    (ownBufs (V d c j) : sProp 𝕄)
      = iprop((∃ f, (V d c j).loc cc1_scratch0 ↦{fullShare} f) ∗ (∃ f, (V d c j).loc cc1_scratch1 ↦{fullShare} f) ∗ (∃ f, (V d c j).loc cc1_scratch2 ↦{fullShare} f) ∗ (∃ f, (V d c j).loc cc1_scratch3 ↦{fullShare} f) ∗ (∃ f, (V d c j).loc cc1_scratch4 ↦{fullShare} f) ∗ (∃ f, (V d c j).loc cc1_scratch5 ↦{fullShare} f) ∗ (∃ f, (V d c j).loc cc1_scratch6 ↦{fullShare} f) ∗ (∃ f, (V d c j).loc cc1_scratch7 ↦{fullShare} f) ∗ (∃ f, (V d c j).loc cc1_scratch8 ↦{fullShare} f)
        ∗ bigSep ((bufL.map fun r => (Proc.scVector c j).devRef r).foldl Finset.erase (ownRefs (τ := τ) (.scVector c j)))
            fun b => iprop(∃ f, ((d, b) : Loc nD τ sig) ↦{fullShare} f)) := by
  unfold SparseCore.Cfg.ownBufs
  exact bigSep_listSep (fun b => iprop(∃ f, ((d, b) : Loc nD τ sig) ↦{fullShare} f)) (bufL.map fun r => (Proc.scVector c j).devRef r) (ownRefs (τ := τ) (.scVector c j))
    (bufL_nodup.map fun a b h => Proc.devRef_injective _ h) fun x hx => by
      obtain ⟨r, hr, rfl⟩ := List.mem_map.1 hx
      refine SparseCore.Cfg.mem_ownRefs_of_owner ?_
      simp only [bufL, List.mem_cons, List.mem_nil_iff, or_false] at hr
      rcases hr with rfl | rfl | rfl | rfl | rfl | rfl | rfl | rfl | rfl <;> rfl

end

end Cert.Proof.Run

end
-- ==== Proof.Task.lean ====
/-
  A task from its fetches to its rows of the two results.
-/
module

public import proofs.«01_k».proof.Proof.Trip
public import proofs.«01_k».proof.Proof.Own

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx (ix1 ix2)

section

variable (d : Dev nD) (L : grid1.Coords) (O : CellTallies nD τ sig (HIx 1)) (W : Waits sig (HIx 1))

set_option maxRecDepth 8192 in
/-- A whole buffer fetched, and the fetch waited for. -/
theorem fetch {s : Shape} {e : EltTy} {α : Type} {Q : α → sProp 𝕄} {k : PUnit → Prog (TpuEff nD τ sig (Elt F) Λ₀ (th d L).2) α} (hO : ∀ g, O g none = 0)
    (src : Memref sig .scVector .hbm s e) (dst : Memref sig .scVector .vmem s e) (hd : dst.view.set = Finset.univ) (hpos : 0 < dst.view.dmaCredit)
    (q : PosShare TreeShare) (f : Buf (Elt F) (src.view.loc (th d L))) (sem : DmaSem sig) {h1 h2 h3 h4 h5} :
    iprop(levAts (K (F := F)).L (K (F := F)).lev ∗ (src.view.loc (th d L) ↦{q} f) ∗ (∃ g, dst.view.loc (th d L) ↦{fullShare} g)
        ∗ semVal (th d L, SemLoc.dma sem) 0 ∗ OW d L O W)
      ⊢ iprop((iprop((src.view.loc (th d L) ↦{q} f)
            ∗ (∃ g, ⌜dst.view.read (Elt F) g = src.view.read (Elt F) f⌝ ∗ dst.view.loc (th d L) ↦{fullShare} g)
            ∗ semVal (th d L, SemLoc.dma sem) 0 ∗ OW d L O W) -∗ wpT d L (k ⟨⟩) Q)
          -∗ wpT d L (.op (.enqueueDma src (.here dst) (.dma sem) h1 h2 h3) fun _ => .op (.waitDma2 sem src dst h4 h5) k) Q) := by
  iintro ⟨#Hlv, Hs, ⟨%g, Hd⟩, Hv, ⟨%W', %hW', HO⟩⟩ Hk
  ihave Hs := (pointsTo_split_subset (S := Finset.univ) (Finset.subset_univ src.view.set)).1 $$ Hs
  icases Hs with ⟨Hs, Hr⟩
  iapply (Transfers.wp_dmaLocal countersEmb 𝒱₀ (th d L) none (src := src) (dst := dst) (Sd := Finset.univ) (none : HIx 1) dst.view.dmaCredit rfl
    hpos (Finset.subset_univ _)) $$ [Hs Hd Hv]
  · isplitl [Hs]; · iexact Hs
    isplitl [Hd] <;> iassumption
  iintro Hf
  iapply (Transfers.wp_waitLocalO countersEmb 𝒱₀ (th d L) none (none : HIx 1) (rfl : dst.view.dmaCredit = _)) $$ [Hf HO]
  · isplitl [Hf]; · iexact Hf
    isplitl [HO]; · iexact HO
    iapply ((K (F := F)).mayWait_none (thr := th d L) (SemLoc.dma sem) hO) $$ Hlv
  iintro ⟨⟨Hd, Hs⟩, Hv, HO⟩
  iapply Hk
  isplitl [Hs Hr]
  · iapply (pointsTo_split_subset (S := Finset.univ) (Finset.subset_univ src.view.set)).2
    isplitl [Hs] <;> iassumption
  isplitl [Hd]
  · iexists _; isplitr [Hd]
    swap; · iexact Hd
    ipureintro
    exact View.read_write_univ _ _
  isplitl [Hv]; · iexact Hv
  iexists _; isplitr
  swap; · iexact HO
  ipureintro; exact mem_W hW'

variable (RL : S51200000.Idx → Elt F .f32) (X : S10000x128.Idx → Elt F .f32) (CI : S5008.Idx → BitVec 32)
variable (I8 : S32x320.Idx → BitVec 32) (V16 : S32x2560.Idx → Elt F .f32) (q : PosShare TreeShare)

/-- A task's read shares of the five arrays it reads. -/
def Reads : sProp 𝕄 :=
  iprop((rlV.view.loc (th d L) ↦{q} RL) ∗ (xV.view.loc (th d L) ↦{q} X) ∗ (ciV.view.loc (th d L) ↦{q} CI)
    ∗ (i8V.view.loc (th d L) ↦{q} I8) ∗ (v16V.view.loc (th d L) ↦{q} V16))

theorem MidOK.of_fetch (g : S320.Idx → BitVec 32)
    (hg : midB.view.read (Elt F) g = ((i8V.slice (Rect.unit (s := S32x320) (k1_off1 L) S1x320.size (k1_off1_inb L)) (fun _ => rfl)).squeeze S320 squeezes_S1x320_S320).view.read (Elt F) I8) :
    MidOK L I8 g := by
  intro y z hz0 hz1
  refine (congrFun hg y).trans ?_
  refine congrArg I8 (funext fun a => Fin.ext ?_)
  have e : Shape.reshapeEquiv (s := S1x320) (s' := S320) squeezes_S1x320_S320.numel_eq y = ix2 (n0 := 1) (n1 := 320) 0 (y 0) :=
    Shape.reshapeEquiv_eq_of_rowMajor _ (by
      refine (Shape.rowMajor_val_two (d := ![1, 320]) _).trans (Eq.trans ?_ (Shape.rowMajor_val_one (d := ![320]) _).symm)
      show 0 * 320 + (y 0).val = (y 0).val
      omega)
  show k1_off1 L a + 1 * (Shape.reshapeEquiv (s := S1x320) (s' := S320) squeezes_S1x320_S320.numel_eq y a).val = (z a).val
  rw [e, k1_off1_eq]
  match a with
  | 0 => show 2 * (L 1).val + (L 0).val + 1 * 0 = (z 0).val; unfold wn at hz0; omega
  | 1 => show 0 + 1 * (y 0).val = (z 1).val; omega

theorem VvOK.of_fetch (g : S2560.Idx → Elt F .f32)
    (hg : vvB.view.read (Elt F) g = ((v16V.slice (Rect.unit (s := S32x2560) (k1_off2 L) S1x2560.size (k1_off2_inb L)) (fun _ => rfl)).squeeze S2560 squeezes_S1x2560_S2560).view.read (Elt F) V16) :
    VvOK L V16 g := by
  intro y z hz0 hz1
  refine (congrFun hg y).trans ?_
  refine congrArg V16 (funext fun a => Fin.ext ?_)
  have e : Shape.reshapeEquiv (s := S1x2560) (s' := S2560) squeezes_S1x2560_S2560.numel_eq y = ix2 (n0 := 1) (n1 := 2560) 0 (y 0) :=
    Shape.reshapeEquiv_eq_of_rowMajor _ (by
      refine (Shape.rowMajor_val_two (d := ![1, 2560]) _).trans (Eq.trans ?_ (Shape.rowMajor_val_one (d := ![2560]) _).symm)
      show 0 * 2560 + (y 0).val = (y 0).val
      omega)
  show k1_off2 L a + 1 * (Shape.reshapeEquiv (s := S1x2560) (s' := S2560) squeezes_S1x2560_S2560.numel_eq y a).val = (z a).val
  rw [e, k1_off2_eq]
  match a with
  | 0 => show 2 * (L 1).val + (L 0).val + 1 * 0 = (z 0).val; unfold wn at hz0; omega
  | 1 => show 0 + 1 * (y 0).val = (z 1).val; omega

/-- All of the task's rows done: the task's part of the array is the value's. -/
theorem DoneOK.all {s : ℕ} {G g : (⟨2, ![5000, s]⟩ : Shape).Idx → Elt F .f32} (h : DoneOK L s G g (4 * (2 * 20))) : ∀ i ∈ mine L s, g i = G i := by
  intro i hi
  have hi0 : (i 0).val < 5000 := (i 0).isLt
  exact h i (mem_mine.1 hi) (by omega)

/-- The task's nine buffers, each at some contents. -/
def Bufs : sProp 𝕄 :=
  iprop((∃ f, (th d L).loc cc1_scratch0 ↦{fullShare} f) ∗ (∃ f, (th d L).loc cc1_scratch1 ↦{fullShare} f) ∗ (∃ f, (th d L).loc cc1_scratch2 ↦{fullShare} f) ∗ (∃ f, (th d L).loc cc1_scratch3 ↦{fullShare} f) ∗ (∃ f, (th d L).loc cc1_scratch4 ↦{fullShare} f) ∗ (∃ f, (th d L).loc cc1_scratch5 ↦{fullShare} f) ∗ (∃ f, (th d L).loc cc1_scratch6 ↦{fullShare} f) ∗ (∃ f, (th d L).loc cc1_scratch7 ↦{fullShare} f) ∗ (∃ f, (th d L).loc cc1_scratch8 ↦{fullShare} f))
/-- The task's semaphores, each at zero. -/
def Sems : sProp 𝕄 :=
  iprop(semVal (th d L, SemLoc.dma cc1_scratch9.sem) 0 ∗ semVal (th d L, SemLoc.dma cc1_scratch10.sem) 0 ∗ semVal (th d L, SemLoc.dma cc1_scoped0.sem) 0 ∗ semVal (th d L, SemLoc.dma cc1_scoped1.sem) 0 ∗ semVal (th d L, SemLoc.dma cc1_scoped2.sem) 0 ∗ semVal (th d L, SemLoc.dma cc1_scoped3.sem) 0 ∗ semVal (th d L, SemLoc.dma cc1_scoped4.sem) 0 ∗ semVal (th d L, SemLoc.dma cc1_scoped5.sem) 0 ∗ semVal (th d L, SemLoc.dma cc1_scoped6.sem) 0 ∗ semVal (th d L, SemLoc.dma cc1_scoped7.sem) 0 ∗ semVal (th d L, SemLoc.dma cc1_scoped8.sem) 0 ∗ semVal (th d L, SemLoc.dma cc1_scoped9.sem) 0 ∗ semVal (th d L, SemLoc.dma cc1_scoped10.sem) 0 ∗ semVal (th d L, SemLoc.dma cc1_scoped11.sem) 0 ∗ semVal (th d L, SemLoc.dma cc1_scoped12.sem) 0 ∗ semVal (th d L, SemLoc.dma cc1_scoped13.sem) 0 ∗ semVal (th d L, SemLoc.dma cc1_scoped14.sem) 0 ∗ semVal (th d L, SemLoc.dma cc1_scoped15.sem) 0 ∗ semVal (th d L, SemLoc.dma cc1_scoped16.sem) 0 ∗ semVal (th d L, SemLoc.dma cc1_scoped17.sem) 0 ∗ semVal (th d L, SemLoc.dma cc1_scoped18.sem) 0)
/-- What the task has when it is done. -/
def End (a2 : S5000x5000.Idx → Elt F .f32) (nx : S5000x128.Idx → Elt F .f32) : sProp 𝕄 :=
  iprop((Reads d L RL X CI I8 V16 q ∗ (a2V.view.loc (th d L) ↦[mine L 5000]{fullShare} a2) ∗ (nxV.view.loc (th d L) ↦[mine L 128]{fullShare} nx))
    ∗ Bufs d L ∗ Sems d L ∗ OW d L O W)

set_option maxHeartbeats 1000000 in
set_option maxRecDepth 16384 in
/-- The task: its three fetches, its blocks, its rows of the two results. -/
theorem tile_core (hO : ∀ g, O g none = 0) (hI8 : ∀ z, (I8 z).toNat < 10000) (hCI : ∀ c, (CI c).toNat < 10000)
    (a2 : S5000x5000.Idx → Elt F .f32) (nx : S5000x128.Idx → Elt F .f32) :
    iprop(levAts (K (F := F)).L (K (F := F)).lev ∗ End d L O W RL X CI I8 V16 q a2 nx)
      ⊢ wpT d L (cc1__sc_gather_body L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18)
          fun _ => End d L O W RL X CI I8 V16 q (A2f RL CI) (NXf X I8 V16) := by
  simp only [cc1__sc_gather_body_eq_skeleton, cc1__sc_gather_body_skel, k1_part19_eq_skeleton, k1_part19_skel, Prog.lift, Prog.bind_op, Prog.bind_ret, Prog.pure_eq_ret, Prog.bind_assoc]
  iintro ⟨#Hlv, H⟩
  ihave H := (show End d L O W RL X CI I8 V16 q a2 nx ⊢ iprop((Reads d L RL X CI I8 V16 q ∗ (a2V.view.loc (th d L) ↦[mine L 5000]{fullShare} a2) ∗ (nxV.view.loc (th d L) ↦[mine L 128]{fullShare} nx))
    ∗ Bufs d L ∗ Sems d L ∗ OW d L O W) by unfold End; iintro H; iexact H) $$ H
  icases H with ⟨⟨HR, Ha2, Hnx⟩, HB, HS, HO⟩
  unfold Reads Bufs Sems
  icases HR with ⟨Hrl, Hx, Hci, Hi8, Hv16⟩
  icases HB with ⟨B0, B1, B2, B3, B4, B5, B6, B7, B8⟩
  icases HS with ⟨Hsa, Hsb, H0, H1, H2, H3, H4, H5, H6, H7, H8, H9, H10, H11, H12, H13, H14, H15, H16, H17, H18⟩
  iapply (fetch d L O W hO ciV cidB (View.set_whole _) (View.dmaCredit_pos _ (by decide)) q CI cc1_scoped0.sem) $$ [Hci B5 H0 HO]
  · isplitl []; · iexact Hlv
    isplitl [Hci]; · iexact Hci
    isplitl [B5]; · iexact B5
    isplitl [H0] <;> iassumption
  iintro ⟨Hci, ⟨%gc, %hgc, Hcid⟩, H0, HO⟩
  have egc : gc = CI := hgc
  subst egc
  iapply (fetch d L O W hO ((i8V.slice (Rect.unit (s := S32x320) (k1_off1 L) S1x320.size (k1_off1_inb L)) (fun _ => rfl)).squeeze S320 squeezes_S1x320_S320) midB
    (View.set_whole _) (View.dmaCredit_pos _ (by decide)) q I8 cc1_scoped1.sem) $$ [Hi8 B6 H1 HO]
  · isplitl []; · iexact Hlv
    isplitl [Hi8]; · iexact Hi8
    isplitl [B6]; · iexact B6
    isplitl [H1] <;> iassumption
  iintro ⟨Hi8, ⟨%mid, %hgm, Hmid⟩, H1, HO⟩
  have hmid := MidOK.of_fetch (F := F) L I8 mid hgm
  iapply (fetch d L O W hO ((v16V.slice (Rect.unit (s := S32x2560) (k1_off2 L) S1x2560.size (k1_off2_inb L)) (fun _ => rfl)).squeeze S2560 squeezes_S1x2560_S2560) vvB
    (View.set_whole _) (View.dmaCredit_pos _ (by decide)) q V16 cc1_scoped2.sem) $$ [Hv16 B7 H2 HO]
  · isplitl []; · iexact Hlv
    isplitl [Hv16]; · iexact Hv16
    isplitl [B7]; · iexact B7
    isplitl [H2] <;> iassumption
  iintro ⟨Hv16, ⟨%VV, %hgv, Hvv⟩, H2, HO⟩
  have hVV := VvOK.of_fetch (F := F) L V16 VV hgv
  iapply (issueA d L RL q rows0 (View.set_whole _) cc1_scratch9.sem (k1_off3 L) _ 0
    (by rw [k1_off3_eq]; refine vec1 ?_; unfold wn; omega)) $$ [Hrl B0 Hsa]
  · isplitl [Hrl]; · iexact Hrl
    isplitl [B0] <;> iassumption
  iintro HA
  iapply (issueX d L X I8 mid hI8 hmid q xb0 (View.set_whole _) credit_xb0 cc1_scratch10.sem ![0] _ 0 rfl) $$ [Hx Hmid B2 Hsb]
  · isplitl [Hx]; · iexact Hx
    isplitl [Hmid]; · iexact Hmid
    isplitl [B2] <;> iassumption
  iintro HX
  iapply (Scf.wp_for_bind Idealize.ShloMosaic.frame (wpE (defs₀ (F := F)) 𝒱₀ (th d L) none) Set.univ _ _ _ _ () _
    (fun n _ => TI d L O W RL X I8 mid q gc VV V16 n) (fun n _ => trip_spec d L O W RL X I8 mid q gc VV V16 hO hI8 hmid hCI hVV _ _ n)) $$ [HA HX B1 B3 Ha2 Hnx Hcid Hvv B4 B8 H3 H4 H5 H6 H7 H8 H9 H10 H11 H12 H13 H14 H15 H16 H17 H18 HO]
  · unfold TI
    isplitl []; · iexact Hlv
    isplitl [HA HX]
    · rw [Nx_pos d L RL X I8 mid q (show 2 * 0 < nt L by have := le_nt L; omega)]
      isplitl [HA] <;> iassumption
    isplitl [B1]; · iexact B1
    isplitl [B3]; · iexact B3
    isplitl [Ha2]
    · iexists a2; isplitr [Ha2]
      · ipureintro; exact fun _ _ h => absurd h (Nat.not_lt_zero _)
      · iexact Ha2
    isplitl [Hnx]
    · iexists nx; isplitr [Hnx]
      · ipureintro; exact fun _ _ h => absurd h (Nat.not_lt_zero _)
      · iexact Hnx
    isplitr [H11 H12 H13 H14 H15 H16 H17 H18]
    · unfold Rest0
      isplitl [Hcid]; · iexact Hcid
      isplitl [Hvv]; · iexact Hvv
      isplitl [B4]; · iexact B4
      isplitl [B8]; · iexact B8
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact HO
    · unfold Sems1
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
  iintro %acc HT
  rw [show Scf.trips k1_t1_loop.lb k1_t1_loop.ub k1_t1_loop.st = 20 from trips_t1]
  unfold TI Rest0 Sems1
  rw [Nx_neg d L RL X I8 mid q (show ¬ 2 * 20 < nt L by have := nt_le L; omega)]
  icases HT with ⟨-, ⟨Hrl, Hx, Hmid, B0, B2, Hsa, Hsb⟩, B1, B3, ⟨%ga, %hga, Ha2⟩, ⟨%gn, %hgn, Hnx⟩, ⟨Hcid, Hvv, B4, B8, H3, H4, H5, H6, H7, H8, H9, H10, HO⟩, H11, H12, H13, H14, H15, H16, H17, H18⟩
  rw [wp_ret]; imodintro
  unfold End Reads Bufs Sems
  isplitl [Hrl Hx Hci Hi8 Hv16 Ha2 Hnx]
  · isplitl [Hrl Hx Hci Hi8 Hv16]
    · isplitl [Hrl]; · iexact Hrl
      isplitl [Hx]; · iexact Hx
      isplitl [Hci]; · iexact Hci
      isplitl [Hi8]; · iexact Hi8
      iexact Hv16
    isplitl [Ha2]
    · iapply (Entails.of_eq (pointsTo_congr (DoneOK.all L hga))) $$ Ha2
    · iapply (Entails.of_eq (pointsTo_congr (DoneOK.all L hgn))) $$ Hnx
  isplitl [B0 B1 B2 B3 B4 Hcid Hmid Hvv B8]
  · isplitl [B0]; · iexact B0
    isplitl [B1]; · iexact B1
    isplitl [B2]; · iexact B2
    isplitl [B3]; · iexact B3
    isplitl [B4]; · iexact B4
    isplitl [Hcid]; · iexists _; iexact Hcid
    isplitl [Hmid]; · iexists _; iexact Hmid
    isplitl [Hvv]; · iexists _; iexact Hvv
    iexact B8
  isplitr [HO]
  · isplitl [Hsa]; · iexact Hsa
    isplitl [Hsb]; · iexact Hsb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iexact HO

/-- The task, as the launch asks for it. -/
theorem tile_body (hF : (K (F := F)).Facts) (hO : ∀ g, O g none = 0) (hI8 : ∀ z, (I8 z).toNat < 10000) (hCI : ∀ c, (CI c).toNat < 10000)
    (a2 : S5000x5000.Idx → Elt F .f32) (nx : S5000x128.Idx → Elt F .f32) :
    iprop(levAts (K (F := F)).L (K (F := F)).lev ∗ emp
        ∗ (Reads d L RL X CI I8 V16 q ∗ (a2V.view.loc (th d L) ↦[mine L 5000]{fullShare} a2) ∗ (nxV.view.loc (th d L) ↦[mine L 128]{fullShare} nx))
        ∗ scopedBufs (th d L) ∗ scopedSems0 (th d L) ∗ owes (th d L) O W)
      ⊢ wpT d L (cc1__sc_gather_body L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18)
          fun _ => iprop((Reads d L RL X CI I8 V16 q ∗ (a2V.view.loc (th d L) ↦[mine L 5000]{fullShare} A2f RL CI) ∗ (nxV.view.loc (th d L) ↦[mine L 128]{fullShare} NXf X I8 V16))
            ∗ scopedBufs (th d L) ∗ scopedSems0 (th d L)
            ∗ ∃ W', ⌜∀ p ∈ W', p ∈ W ∨ p.2 = none⌝ ∗ owes (th d L) O W') := by
  rw [(K (F := F)).scopedBufs_V hF d ((L 0).castLE hcore1) ((L 1).castLE hsub1), SparseCore.Cfg.scopedSems0_V (Val := Elt F) d ((L 0).castLE hcore1) ((L 1).castLE hsub1), ownSems_V, ownBufs_V]
  iintro ⟨#Hlv, -, HR, ⟨B0, B1, B2, B3, B4, B5, B6, B7, B8, Hbufs⟩, ⟨Hsa, Hsb, H0, H1, H2, H3, H4, H5, H6, H7, H8, H9, H10, H11, H12, H13, H14, H15, H16, H17, H18, Hsems⟩, HO⟩
  unfold wpT
  iapply (wp_wand_r Idealize.ShloMosaic.frame (wpE (defs₀ (F := F)) 𝒱₀ (th d L) none) Set.univ)
  isplitl [HR B0 B1 B2 B3 B4 B5 B6 B7 B8 Hsa Hsb H0 H1 H2 H3 H4 H5 H6 H7 H8 H9 H10 H11 H12 H13 H14 H15 H16 H17 H18 HO]
  · iapply (tile_core d L O W RL X CI I8 V16 q hO hI8 hCI a2 nx)
    isplitl []; · iexact Hlv
    unfold End Bufs Sems
    isplitl [HR]; · iexact HR
    isplitl [B0 B1 B2 B3 B4 B5 B6 B7 B8]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      iexact B8
    isplitr [HO]
    · isplitl [Hsa]; · iexact Hsa
      isplitl [Hsb]; · iexact Hsb
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    iexists W
    isplitr [HO]
    · ipureintro; exact fun p hp => .inl hp
    · iexact HO
  iintro %u HE
  unfold End Bufs Sems
  icases HE with ⟨HR, ⟨B0, B1, B2, B3, B4, B5, B6, B7, B8⟩, ⟨Hsa, Hsb, H0, H1, H2, H3, H4, H5, H6, H7, H8, H9, H10, H11, H12, H13, H14, H15, H16, H17, H18⟩, HO⟩
  isplitl [HR]; · iexact HR
  isplitl [B0 B1 B2 B3 B4 B5 B6 B7 B8 Hbufs]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact Hbufs
  isplitr [HO]
  · isplitl [Hsa]; · iexact Hsa
    isplitl [Hsb]; · iexact Hsb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact Hsems
  iexact HO

end

end Cert.Proof.Run

end
-- ==== Proof.Gather.lean ====
/-
  The kernel that lays out the fetched rows: its two slots, a row issued into one, and waited for.
-/
module

public import proofs.«01_k».proof.Proof.Setup
public import Idealize.ShloMosaic.Lib.ValueIdxCore

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx (ix1 ix2)

/-! ## The TensorCore kernel that lays the fetched rows out one after another -/

section

variable (d : Dev nD) (O : CellTallies nD τ sig (HIx 1)) (W : Waits sig (HIx 1))

/-- The device's TensorCore. -/
abbrev tG : Thread nD τ := T d

/-- The kernel's program run to `Q` on the device's TensorCore. -/
abbrev wpG {α : Type} (p : Prog (TpuEff nD τ sig (Elt F) Λ₀ .tc) α) (Q : α → sProp 𝕄) : sProp 𝕄 :=
  wp frame (wpE (defs₀ (F := F)) 𝒱₀ (tG d) none) Set.univ p Q

abbrev idT : Memref sig .tc .smem S5000 .i32 := Memref.whole main_v0
abbrev aT : Memref sig .tc .hbm S10000x10000 .f32 := Memref.whole main_arg0
abbrev vbT : Memref sig .tc .vmem S2x1x10000 .f32 := Memref.whole cc0_scratch0

/-- The part of the two-row buffer that slot `s` is. -/
def plane (s : ℕ) : Finset S2x1x10000.Idx := Finset.univ.filter fun x => (x 0).val = s

theorem mem_plane {s : ℕ} {x : S2x1x10000.Idx} : x ∈ plane s ↔ (x 0).val = s := by unfold plane; simp

/-- The half of the adjacency's share that slot `s` reads with. -/
def half (s : ℕ) : PosShare TreeShare := if s = 0 then (fullShare : PosShare TreeShare).left else (fullShare : PosShare TreeShare).right

/-- The semaphore slot `s` completes on. -/
def gsem (s : ℕ) : DmaSem sig := if s = 0 then (2 : Fin 25) else (3 : Fin 25)

theorem gsem_eq (s : ℕ) (hs : s < 2) (off : Fin 1 → ℕ) (h : ∀ a, off a + S1.size a ≤ S2.size a) (ho : off = ![s]) :
    ((cc0_scratch1.slice (Rect.unit (s := S2) off S1.size h)).squeeze S_ squeezes_S1_S_).sem = gsem s := by
  subst ho
  interval_cases s
  · exact (by decide +kernel : ((cc0_scratch1.slice (Rect.unit (s := S2) ![0] S1.size inb_S2_S1_0)).squeeze S_ squeezes_S1_S_).sem = gsem 0)
  · exact (by decide +kernel : ((cc0_scratch1.slice (Rect.unit (s := S2) ![1] S1.size (by decide))).squeeze S_ squeezes_S1_S_).sem = gsem 1)

/-- The row of the two-row buffer at an offset. -/
abbrev vbRow (off : Fin 3 → ℕ) (h : ∀ a, off a + S1x1x10000.size a ≤ S2x1x10000.size a) : Memref sig .tc .vmem S1x10000 .f32 :=
  (vbT.slice (Rect.unit (s := S2x1x10000) off S1x1x10000.size h) (fun _ => rfl)).squeeze S1x10000 squeezes_S1x1x10000_S1x10000

abbrev aRow (off : Fin 2 → ℕ) (h : ∀ a, off a + S1x10000.size a ≤ S10000x10000.size a) : Memref sig .tc .hbm S1x10000 .f32 :=
  aT.slice (Rect.unit (s := S10000x10000) off S1x10000.size h) (fun _ => rfl)

/-- A row's credit. -/
def gcred : ℕ := (vbRow ![0, 0, 0] inb_S2x1x10000_S1x1x10000_0_0_0).view.dmaCredit

theorem gcred_eq (s : ℕ) (hs : s < 2) (off : Fin 3 → ℕ) (h : ∀ a, off a + S1x1x10000.size a ≤ S2x1x10000.size a) (ho : off = ![s, 0, 0]) :
    (vbRow off h).view.dmaCredit = gcred := by
  subst ho
  interval_cases s <;> rfl

set_option maxRecDepth 16384 in
theorem vbRow_emb (s : ℕ) (off : Fin 3 → ℕ) (h : ∀ a, off a + S1x1x10000.size a ≤ S2x1x10000.size a) (ho : off = ![s, 0, 0])
    (x : S2x1x10000.Idx) (hx : (x 0).val = s) :
    (vbRow off h).view.emb (ix2 (n0 := 1) (n1 := 10000) 0 ⟨(x 2).val, (x 2).isLt⟩) = x := by
  subst ho
  have e : Shape.reshapeEquiv (s := S1x1x10000) (s' := S1x10000) (squeezes_S1x1x10000_S1x10000).numel_eq (ix2 (n0 := 1) (n1 := 10000) 0 ⟨(x 2).val, (x 2).isLt⟩)
      = (fun a => match a with | 0 => ⟨0, by decide⟩ | 1 => ⟨0, by decide⟩ | 2 => ⟨(x 2).val, (x 2).isLt⟩) :=
    Shape.reshapeEquiv_eq_of_rowMajor _ (by
      refine (Shape.rowMajor_val_three (d := ![1, 1, 10000]) _).trans (Eq.trans ?_ (Shape.rowMajor_val_two (d := ![1, 10000]) _).symm)
      show (0 * 1 + 0) * 10000 + (x 2).val = 0 * 10000 + (x 2).val
      omega)
  show (vbT.slice (Rect.unit (s := S2x1x10000) ![s, 0, 0] S1x1x10000.size h) (fun _ => rfl)).view.emb (Shape.reshapeEquiv (s := S1x1x10000) (s' := S1x10000) (squeezes_S1x1x10000_S1x10000).numel_eq _) = x
  rw [e]
  funext a
  match a with
  | 0 => exact Fin.ext (show s + 1 * 0 = (x 0).val by omega)
  | 1 => exact Fin.ext (show 0 + 1 * 0 = (x 1).val by have := (x 1).isLt; change (x 1).val < 1 at this; omega)
  | 2 => exact Fin.ext (show 0 + 1 * (x 2).val = (x 2).val by omega)

theorem vbRow_plane (s : ℕ) (off : Fin 3 → ℕ) (h : ∀ a, off a + S1x1x10000.size a ≤ S2x1x10000.size a) (ho : off = ![s, 0, 0]) :
    (vbRow off h).view.set ⊆ plane s := by
  intro i hi
  subst ho
  rw [show (vbRow ![s, 0, 0] h).view.set = ((vbT.view.slice (Rect.unit (s := S2x1x10000) ![s, 0, 0] S1x1x10000.size h)).set) from View.set_reshape _ _] at hi
  rw [View.set_slice_whole] at hi
  have := (Rect.mem_set_unit.mp hi) 0
  change s ≤ (i 0).val ∧ (i 0).val < s + 1 at this
  exact mem_plane.mpr (by omega)

variable (A : S10000x10000.Idx → Elt F .f32)

/-- Slot `s` holds row `row` of the adjacency. -/
def RowOK (row s : ℕ) (f : S2x1x10000.Idx → Elt F .f32) : Prop :=
  ∀ x : S2x1x10000.Idx, (x 0).val = s → ∀ z : S10000x10000.Idx, (z 0).val = row → (z 1).val = (x 2).val → f x = A z

set_option maxRecDepth 16384 in
theorem RowOK.of_write (s row : ℕ) (off : Fin 3 → ℕ) (h : ∀ a, off a + S1x1x10000.size a ≤ S2x1x10000.size a) (ho : off = ![s, 0, 0])
    (off' : Fin 2 → ℕ) (h' : ∀ a, off' a + S1x10000.size a ≤ S10000x10000.size a) (ho' : off' = ![row, 0]) (f : S2x1x10000.Idx → Elt F .f32) :
    RowOK A row s ((vbRow off h).view.write (Elt F) f ((aRow off' h').view.read (Elt F) A) Finset.univ) := by
  intro x hx z hz0 hz1
  have he := vbRow_emb s off h ho x hx
  rw [← he, View.write_emb_of_mem _ _ (Finset.mem_univ _)]
  subst ho'
  refine congrArg A (funext fun a => Fin.ext ?_)
  match a with
  | 0 => show row + 1 * 0 = (z 0).val; omega
  | 1 => show 0 + 1 * (x 2).val = (z 1).val; omega

/-- Slot `s` idle. -/
def Free (s : ℕ) : sProp 𝕄 :=
  iprop((aT.view.loc (tG d) ↦{half s} A) ∗ (∃ f : S2x1x10000.Idx → Elt F .f32, vbT.view.loc (tG d) ↦[plane s]{fullShare} f) ∗ semVal (tG d, SemLoc.dma (gsem s)) 0)

/-- Slot `s` idle, holding row `row`. -/
def Full (row s : ℕ) : sProp 𝕄 :=
  iprop((aT.view.loc (tG d) ↦{half s} A) ∗ (∃ f : S2x1x10000.Idx → Elt F .f32, ⌜RowOK A row s f⌝ ∗ vbT.view.loc (tG d) ↦[plane s]{fullShare} f) ∗ semVal (tG d, SemLoc.dma (gsem s)) 0)

/-- Row `row` on its way into slot `s`. -/
def InFl (row s : ℕ) : sProp 𝕄 :=
  iprop(∃ S : Finset S10000x10000.Idx, Transfers.Flight countersEmb (tG d) (.dma (gsem s)) (none : HIx 1) gcred
      iprop((∃ f : S2x1x10000.Idx → Elt F .f32, ⌜RowOK A row s f⌝ ∗ vbT.view.loc (tG d) ↦[plane s]{fullShare} f) ∗ aT.view.loc (tG d) ↦[S]{half s} A)
    ∗ aT.view.loc (tG d) ↦[Finset.univ \ S]{half s} A)

theorem Full.free (row s : ℕ) : Full d A row s ⊢ Free d A s := by
  unfold Full Free
  iintro ⟨Ha, ⟨%f, %hf, Hv⟩, Hs⟩
  isplitl [Ha]; · iexact Ha
  isplitl [Hv]; · iexists f; iexact Hv
  iexact Hs

set_option maxRecDepth 16384 in
theorem issueG {α : Type} {Q : α → sProp 𝕄} {k : PUnit → Prog (TpuEff nD τ sig (Elt F) Λ₀ .tc) α} (s row : ℕ) (hs : s < 2)
    (os : Fin 1 → ℕ) (hos : ∀ a, os a + S1.size a ≤ S2.size a) (eos : os = ![s])
    (ov : Fin 3 → ℕ) (hov : ∀ a, ov a + S1x1x10000.size a ≤ S2x1x10000.size a) (eov : ov = ![s, 0, 0])
    (oa : Fin 2 → ℕ) (hoa : ∀ a, oa a + S1x10000.size a ≤ S10000x10000.size a) (eoa : oa = ![row, 0]) {h1 h2 h3} :
    Free d A s
      ⊢ iprop((InFl d A row s -∗ wpG d (k ⟨⟩) Q)
          -∗ wpG d (.op (.enqueueDma (aRow oa hoa) (.here (vbRow ov hov))
              (.dma ((cc0_scratch1.slice (Rect.unit (s := S2) os S1.size hos)).squeeze S_ squeezes_S1_S_).sem) h1 h2 h3) k) Q) := by
  have hsem := gsem_eq s hs os hos eos
  generalize hg : ((cc0_scratch1.slice (Rect.unit (s := S2) os S1.size hos)).squeeze S_ squeezes_S1_S_).sem = gs at *
  subst hsem
  unfold Free
  iintro ⟨Ha, ⟨%f, Hd⟩, Hv⟩ Hk
  ihave Ha := (pointsTo_split_subset (S := Finset.univ) (Finset.subset_univ (aRow oa hoa).view.set)).1 $$ Ha
  icases Ha with ⟨Ha, Hr⟩
  iapply (Transfers.wp_dmaLocal countersEmb 𝒱₀ (tG d) none (src := aRow oa hoa) (dst := vbRow ov hov) (Sd := plane s) (none : HIx 1) gcred ((show (vbRow ov hov).view.amount (.dma (gsem s)) = gcred from gcred_eq s hs ov hov eov))
    (show 0 < gcred from View.dmaCredit_pos _ (by decide)) (vbRow_plane s ov hov eov)) $$ [Ha Hd Hv]
  · isplitl [Ha]; · iexact Ha
    isplitl [Hd] <;> iassumption
  iintro Hf
  iapply Hk
  unfold InFl
  iexists (aRow oa hoa).view.set
  isplitl [Hf]
  · iapply (Transfers.Flight_mono countersEmb (tG d) _) $$ Hf
    iintro ⟨Hd, Hs⟩
    isplitl [Hd]
    · iexists _; isplitr [Hd]
      swap; · iexact Hd
      ipureintro
      exact RowOK.of_write A s row ov hov eov oa hoa eoa f
    · iexact Hs
  · iexact Hr

/-- What the TensorCore owes, its own waits recorded. -/
abbrev OWG : sProp 𝕄 := iprop(∃ W', ⌜∀ p ∈ W', p ∈ W ∨ p.2 = none⌝ ∗ owes (tG d) O W')

set_option maxRecDepth 16384 in
theorem waitG {α : Type} {Q : α → sProp 𝕄} {k : PUnit → Prog (TpuEff nD τ sig (Elt F) Λ₀ .tc) α} (hO : ∀ g, O g none = 0) (s row : ℕ) (hs : s < 2)
    (os : Fin 1 → ℕ) (hos : ∀ a, os a + S1.size a ≤ S2.size a) (eos : os = ![s])
    (ov : Fin 3 → ℕ) (hov : ∀ a, ov a + S1x1x10000.size a ≤ S2x1x10000.size a) (eov : ov = ![s, 0, 0])
    {src : Memref sig .tc .hbm S1x10000 .f32} {h1 h2} :
    iprop(levAts (K (F := F)).L (K (F := F)).lev ∗ InFl d A row s ∗ OWG d O W)
      ⊢ iprop((iprop(Full d A row s ∗ OWG d O W) -∗ wpG d (k ⟨⟩) Q)
          -∗ wpG d (.op (.waitDma2 ((cc0_scratch1.slice (Rect.unit (s := S2) os S1.size hos)).squeeze S_ squeezes_S1_S_).sem src (vbRow ov hov) h1 h2) k) Q) := by
  have hsem := gsem_eq s hs os hos eos
  generalize hg : ((cc0_scratch1.slice (Rect.unit (s := S2) os S1.size hos)).squeeze S_ squeezes_S1_S_).sem = gs at *
  subst hsem
  iintro ⟨#Hlv, Hf, ⟨%W', %hW', HO⟩⟩ Hk
  unfold InFl
  icases Hf with ⟨%S, Hf, Hr⟩
  iapply (Transfers.wp_waitLocalO countersEmb 𝒱₀ (tG d) none (none : HIx 1) (gcred_eq s hs ov hov eov)) $$ [Hf HO]
  · isplitl [Hf]; · iexact Hf
    isplitl [HO]; · iexact HO
    iapply ((K (F := F)).mayWait_none (thr := tG d) (SemLoc.dma (gsem s)) hO) $$ Hlv
  iintro ⟨⟨Hd, Hs⟩, Hv, HO⟩
  iapply Hk
  unfold Full
  isplitr [HO]
  · isplitl [Hs Hr]
    · iapply (pointsTo_split_subset (S := Finset.univ) (Finset.subset_univ S)).2
      isplitl [Hs] <;> iassumption
    isplitl [Hd]; · iexact Hd
    iexact Hv
  iexists _; isplitr
  swap; · iexact HO
  ipureintro
  intro p hp
  rcases Finset.mem_insert.mp hp with hp | hp
  · exact .inr (hp ▸ rfl)
  · exact hW' p hp

end

end Cert.Proof.Run

end
-- ==== Proof.GatherTail.lean ====
/-
  The kernel that lays out the fetched rows: a row issued at its index, and a waited-for row laid into the block.
-/
module

public import proofs.«01_k».proof.Proof.Gather

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx (ix1 ix2)

section

variable (d : Dev nD) (O : CellTallies nD τ sig (HIx 1)) (W : Waits sig (HIx 1)) (A : S10000x10000.Idx → Elt F .f32) (P : S5000.Idx → BitVec 32)

theorem gcond1 : ∀ i : grid0.Coords, k0_cond1 i = 1#1 ↔ (i 0).val = 0 := by decide +kernel
theorem gcond2 : ∀ i : grid0.Coords, k0_cond2 i = 1#1 ↔ (i 0).val + 1 < 5000 := by decide +kernel

/-- The row of the adjacency that point `t` lays out. -/
def rowOf (t : ℕ) : ℕ := (P (ix1 (n := 5000) ⟨t % 5000, by omega⟩)).toNat

/-- Before point `t`: its own row on its way into its slot, the other slot idle; at the first point and after the last, both idle. -/
def GS (t : ℕ) : sProp 𝕄 :=
  if t = 0 ∨ 5000 ≤ t then iprop(Free d A 0 ∗ Free d A 1) else iprop(InFl d A (rowOf P t) (t % 2) ∗ Free d A (1 - t % 2))

/-- A block holds row `row` of the adjacency in its first 10000 elements. -/
def Lays (row : ℕ) (X : S10240.Idx → Elt F .f32) : Prop :=
  ∀ j : S10240.Idx, (j 0).val < 10000 → ∀ z : S10000x10000.Idx, (z 0).val = row → (z 1).val = (j 0).val → X j = A z

set_option maxRecDepth 16384 in
theorem fetchG {α : Type} {Q : α → sProp 𝕄} {k : PUnit → Prog (TpuEff nD τ sig (Elt F) Λ₀ .tc) α} (hP : ∀ z, (P z).toNat < 10000) (s n : ℕ) (hn : n < 5000) (hs : s < 2)
    (C : BitVec 32 → Prop) (dec : ∀ v, Decidable (C v)) (hC : ∀ v : BitVec 32, v.toNat < 10000 → C v)
    (o : Fin 1 → ℕ) (ho : ∀ a, o a + S1.size a ≤ S5000.size a) (eo : o = ![n]) {hl}
    (x0 : S1.Idx)
    (os : Fin 1 → ℕ) (hos : ∀ a, os a + S1.size a ≤ S2.size a) (eos : os = ![s])
    (ov : Fin 3 → ℕ) (hov : ∀ a, ov a + S1x1x10000.size a ≤ S2x1x10000.size a) (eov : ov = ![s, 0, 0])
    (oa : BitVec 32 → Fin 2 → ℕ) (hoa : ∀ v, C v → ∀ a, oa v a + S1x10000.size a ≤ S10000x10000.size a) (eoa : ∀ v, oa v = ![v.toNat, 0]) :
    iprop((idT.view.loc (tG d) ↦{fullShare} P) ∗ Free d A s)
      ⊢ iprop((iprop((idT.view.loc (tG d) ↦{fullShare} P) ∗ InFl d A (rowOf P n) s) -∗ wpG d (k ⟨⟩) Q)
          -∗ wpG d (.op (.load idT (Rect.unit (s := S5000) o S1.size ho).toLoadRect hl) fun f =>
              .op (.assume (C (f x0)) (dec (f x0))) fun hw =>
              .op (.enqueueDma (aRow (oa (f x0)) (hoa (f x0) hw.down)) (.here (vbRow ov hov))
                (.dma ((cc0_scratch1.slice (Rect.unit (s := S2) os S1.size hos)).squeeze S_ squeezes_S1_S_).sem) (View.wordExact_bits rfl) ((View.wordExact_bits rfl).reshape _ _) ⟨Or.inl rfl, trivial⟩) k) Q) := by
  subst eo
  iintro ⟨Hid, Hf⟩ Hk
  iapply (wp_load 𝒱₀ (tG d) none Set.univ (m := idT) (S := Finset.univ) (Finset.subset_univ _)) $$ Hid
  iintro Hid
  have hv : idT.view.readAt (Elt F) (Rect.unit (s := S5000) ![n] S1.size ho).toLoadRect P x0 = P (ix1 (n := 5000) ⟨n % 5000, by omega⟩) := by
    refine congrArg P (funext fun a => Fin.ext ?_)
    match a with
    | 0 =>
      have := (x0 0).isLt
      change (x0 0).val < 1 at this
      show n + 1 * (x0 0).val = n % 5000
      omega
  have hrow : oa (idT.view.readAt (Elt F) (Rect.unit (s := S5000) ![n] S1.size ho).toLoadRect P x0) = ![rowOf P n, 0] := by
    rw [eoa, hv]; rfl
  rw [wp_assume_of _ _ _ _ (hC _ (by rw [hv]; exact hP _))]
  iapply (issueG d A s (rowOf P n) hs os hos eos ov hov eov _ _ hrow) $$ Hf
  iintro Hi
  iapply Hk
  isplitl [Hid] <;> iassumption

set_option maxHeartbeats 1000000 in
set_option maxRecDepth 16384 in
theorem tailG (hO : ∀ g, O g none = 0) (s row : ℕ) (hs : s < 2)
    (os : Fin 1 → ℕ) (hos : ∀ a, os a + S1.size a ≤ S2.size a) (eos : os = ![s])
    (ov : Fin 3 → ℕ) (hov : ∀ a, ov a + S1x1x10000.size a ≤ S2x1x10000.size a) (eov : ov = ![s, 0, 0])
    (ow : Fin 3 → ℕ) (how : ∀ a, ow a + S1x1x10000.size a ≤ S2x1x10000.size a) (eow : ow = ![s, 0, 0])
    (arg3 : Memref sig .tc .vmem S10240 .f32) (Y : S10240.Idx → Elt F .f32)
    {src : Memref sig .tc .hbm S1x10000 .f32} {h1 h2 hl hl' hx hm} :
    iprop(levAts (K (F := F)).L (K (F := F)).lev ∗ InFl d A row s ∗ OWG d O W ∗ owns (tG d) arg3 fullShare Y)
      ⊢ wpG d (.op (.waitDma2 ((cc0_scratch1.slice (Rect.unit (s := S2) os S1.size hos)).squeeze S_ squeezes_S1_S_).sem src (vbRow ov hov) h1 h2) fun _ =>
          .op (.load vbT (Rect.unit (s := S2x1x10000) ow S1x1x10000.size how).toLoadRect hl) fun v14 =>
          .op (.load arg3 (Rect.unit (s := S10240) ![0] S10000.size inb_S10240_S10000_0).toLoadRect hl') fun _ =>
          .op (.store arg3 (Rect.unit (s := S10240) ![0] S10000.size inb_S10240_S10000_0) (k0_pay1 v14) Finset.univ hx hm) fun _ => .ret PUnit.unit)
        fun _ => iprop(Free d A s ∗ OWG d O W ∗ ∃ X, ⌜Lays A row X⌝ ∗ owns (tG d) arg3 fullShare X) := by
  iintro ⟨#Hlv, Hf, HO, Hst⟩
  iapply (waitG d O W A hO s row hs os hos eos ov hov eov) $$ [Hf HO]
  · isplitr; · iexact Hlv
    isplitl [Hf] <;> iassumption
  iintro ⟨Hfull, HO⟩
  unfold Full
  icases Hfull with ⟨Ha, ⟨%f, %hf, Hv⟩, Hs⟩
  iapply (wp_load 𝒱₀ (tG d) none Set.univ (m := vbT) (S := plane s) (by
    subst eow
    intro i hi
    obtain ⟨x, hx', rfl⟩ := Finset.mem_map.mp hi
    have := (Rect.mem_set_unit.mp hx') 0
    change s ≤ (x 0).val ∧ (x 0).val < s + 1 at this
    exact mem_plane.mpr (show (x 0).val = s by omega))) $$ Hv
  iintro Hv
  unfold owns
  icases Hst with ⟨%g, %hg, Hst⟩
  iapply (wp_load 𝒱₀ (tG d) none Set.univ (m := arg3) (S := arg3.view.set) (arg3.view.setOn_subset_set _)) $$ Hst
  iintro Hst
  iapply (wp_store 𝒱₀ (tG d) none Set.univ (m := arg3) (r := Rect.unit (s := S10240) ![0] S10000.size inb_S10240_S10000_0) (Mk := Finset.univ) (S := arg3.view.set) (f := g) (arg3.setOn_access_subset _ _)) $$ Hst
  iintro Hst
  rw [wp_ret]
  imodintro
  isplitl [Ha Hv Hs]
  · unfold Free
    isplitl [Ha]; · iexact Ha
    isplitl [Hv]; · iexists f; iexact Hv
    iexact Hs
  isplitl [HO]; · iexact HO
  iexists _
  isplitr
  swap
  · iexists _
    isplitr
    swap
    · iexact Hst
    · ipureintro; rfl
  ipureintro
  intro j hj z hz0 hz1
  have hj' : (Rect.unit (s := S10240) ![0] S10000.size inb_S10240_S10000_0).emb (ix1 (n := 10000) ⟨(j 0).val, hj⟩) = j := by
    funext a
    match a with
    | 0 => exact Fin.ext (show 0 + 1 * (j 0).val = (j 0).val by omega)
  rw [← hj']
  refine (View.read_slice_write_emb (v := arg3.view) _ _ _ (Finset.mem_univ _)).trans ?_
  subst eow
  have e : (Shape.reshapeEquiv (s := S1x1x10000) (s' := S10000) shapeCasts_S1x1x10000_S10000) (ix1 (n := 10000) ⟨(j 0).val, hj⟩)
      = (fun a => match a with | 0 => ⟨0, by decide⟩ | 1 => ⟨0, by decide⟩ | 2 => ⟨(j 0).val, hj⟩) :=
    Shape.reshapeEquiv_eq_of_rowMajor _ (by
      refine (Shape.rowMajor_val_three (d := ![1, 1, 10000]) _).trans (Eq.trans ?_ (Shape.rowMajor_val_one (d := ![10000]) _).symm)
      show (0 * 1 + 0) * 10000 + (j 0).val = (j 0).val
      omega)
  unfold k0_pay1
  show f ((Rect.unit (s := S2x1x10000) ![s, 0, 0] S1x1x10000.size how).emb ((Shape.reshapeEquiv (s := S1x1x10000) (s' := S10000) shapeCasts_S1x1x10000_S10000) (ix1 (n := 10000) ⟨(j 0).val, hj⟩))) = A z
  rw [e]
  refine hf _ ?_ z hz0 ?_
  · show s + 1 * 0 = s; omega
  · show (z 1).val = 0 + 1 * (j 0).val; omega

end

end Cert.Proof.Run

end
-- ==== Proof.GatherBody.lean ====
/-
  The kernel that lays out the fetched rows: its body at a point.
-/
module

public import proofs.«01_k».proof.Proof.GatherTail

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx (ix1 ix2)

section

variable (d : Dev nD) (O : CellTallies nD τ sig (HIx 1)) (W : Waits sig (HIx 1)) (A : S10000x10000.Idx → Elt F .f32) (P : S5000.Idx → BitVec 32)

theorem chk1_ok (i : grid0.Coords) : ∀ v : BitVec 32, v.toNat < 10000 → k0_chk1 i v := by
  intro v hv h a
  match a with
  | 0 => show v.toNat + 1 ≤ 10000; omega
  | 1 => show 0 + 10000 ≤ 10000; omega

theorem chk2_ok (i : grid0.Coords) : ∀ v : BitVec 32, v.toNat < 10000 → k0_chk2 i v := by
  intro v hv h a
  match a with
  | 0 => show v.toNat + 1 ≤ 10000; omega
  | 1 => show 0 + 10000 ≤ 10000; omega

/-- What the body keeps from point to point besides its block: the indices' table and the two slots. -/
abbrev KeepG (t : ℕ) : sProp 𝕄 := iprop(levAts (K (F := F)).L (K (F := F)).lev ∗ (idT.view.loc (tG d) ↦{fullShare} P) ∗ GS d A P t)

theorem GS_mid {t : ℕ} (h0 : t ≠ 0) (h1 : t < 5000) : GS d A P t = iprop(InFl d A (rowOf P t) (t % 2) ∗ Free d A (1 - t % 2)) := by
  unfold GS; rw [if_neg (by omega)]

theorem GS_next {t : ℕ} (h1 : t + 1 < 5000) : GS d A P (t + 1) = iprop(InFl d A (rowOf P (t + 1)) (1 - t % 2) ∗ Free d A (t % 2)) := by
  unfold GS; rw [if_neg (by omega), show (t + 1) % 2 = 1 - t % 2 by omega, show 1 - (1 - t % 2) = t % 2 by omega]

theorem GS_zero : GS d A P 0 = iprop(Free d A 0 ∗ Free d A 1) := by
  unfold GS; rw [if_pos (Or.inl rfl)]

theorem GS_last : GS d A P 5000 = iprop(Free d A 0 ∗ Free d A 1) := by
  unfold GS; rw [if_pos (Or.inr (le_refl _))]

set_option maxRecDepth 16384 in
theorem gather_body (hO : ∀ g, O g none = 0) (hP : ∀ z, (P z).toNat < 10000) (i : grid0.Coords) (arg3 : Memref sig .tc .vmem S10240 .f32) (harg3 : arg3.IsWhole) (Y : S10240.Idx → Elt F .f32) :
    iprop(KeepG d A P (i 0).val ∗ OWG d O W ∗ owns (tG d) arg3 fullShare Y)
      ⊢ wpG d (cc0__rowgather_body i idT (Memref.isWhole_whole _) aT (Memref.isWhole_whole _) arg3 harg3 vbT (Memref.isWhole_whole _) cc0_scratch1) fun _ =>
        iprop(KeepG d A P ((i 0).val + 1) ∗ OWG d O W ∗ ∃ X, ⌜Lays A (rowOf P (i 0).val) X⌝ ∗ owns (tG d) arg3 fullShare X) := by
  have hi : (i 0).val < 5000 := (i 0).isLt
  rw [cc0__rowgather_body_eq_skeleton]
  unfold cc0__rowgather_body_skel
  dsimp only
  generalize ht : (i 0).val = t at *
  by_cases h0 : t = 0
  · have c1 : k0_cond1 i = 1#1 := (gcond1 i).mpr (by omega)
    have c2 : k0_cond2 i = 1#1 := (gcond2 i).mpr (by omega)
    simp only [dif_pos c1, dif_pos c2]
    simp only [Prog.lift, Prog.bind_op, Prog.bind_ret, Prog.pure_eq_ret, Prog.bind_assoc, smemLoad, smemLoadElt]
    subst h0
    iintro ⟨⟨#Hlv, Hid, HG⟩, HO, Hst⟩
    ihave HG := (Entails.of_eq (GS_zero d A P)) $$ HG
    icases HG with ⟨H0, H1⟩
    iapply (fetchG d A P hP 0 0 (by omega) (by omega) (k0_chk1 i) (k0_chk1.dec i) (chk1_ok i) ![0] inb_S5000_S1_0 rfl _
      ![0] inb_S2_S1_0 rfl ![0, 0, 0] inb_S2x1x10000_S1x1x10000_0_0_0 rfl k0_off1 (fun v hw => k0_off1_inb i v hw c1) (fun _ => rfl)) $$ [Hid H0]
    · isplitl [Hid] <;> iassumption
    iintro ⟨Hid, H0⟩
    iapply (fetchG d A P hP 1 1 (by omega) (by omega) (k0_chk2 i) (k0_chk2.dec i) (chk2_ok i) (k0_off2 i) (k0_off2_inb i c2) (by rw [k0_off2_eq, ht]) _
      (k0_off3 i) (k0_off3_inb i c2) (by rw [k0_off3_eq, ht]) (k0_off4 i) (k0_off4_inb i c2) (by rw [k0_off4_eq, ht]) k0_off5 (fun v hw => k0_off5_inb i v hw c2) (fun _ => rfl)) $$ [Hid H1]
    · isplitl [Hid] <;> iassumption
    iintro ⟨Hid, H1⟩
    iapply (wp_wand_r Idealize.ShloMosaic.frame (wpE (defs₀ (F := F)) 𝒱₀ (tG d) none) Set.univ)
    isplitl [H0 HO Hst]
    · iapply (tailG d O W A hO 0 (rowOf P 0) (by omega) (k0_off6 i) (k0_off6_inb i) (by rw [k0_off6_eq, ht]) (k0_off7 i) (k0_off7_inb i) (by rw [k0_off7_eq, ht])
        (k0_off8 i) (k0_off8_inb i) (by rw [k0_off8_eq, ht]) arg3 Y)
      isplitr; · iexact Hlv
      isplitl [H0]; · iexact H0
      isplitl [HO] <;> iassumption
    iintro %_ ⟨Hf, HO, Hst⟩
    isplitl [Hid H1 Hf]
    · isplitr; · iexact Hlv
      isplitl [Hid]; · iexact Hid
      iapply (Entails.of_eq (GS_next d A P (t := 0) (by omega)).symm)
      isplitl [H1] <;> iassumption
    isplitl [HO] <;> iassumption
  have c1 : ¬ k0_cond1 i = 1#1 := fun h => h0 (by have := (gcond1 i).mp h; omega)
  by_cases h1 : t + 1 < 5000
  · have c2 : k0_cond2 i = 1#1 := (gcond2 i).mpr (by omega)
    simp only [dif_neg c1, dif_pos c2]
    simp only [Prog.lift, Prog.bind_op, Prog.bind_ret, Prog.pure_eq_ret, Prog.bind_assoc, smemLoad, smemLoadElt]
    iintro ⟨⟨#Hlv, Hid, HG⟩, HO, Hst⟩
    ihave HG := (Entails.of_eq (GS_mid d A P h0 hi)) $$ HG
    icases HG with ⟨H0, H1⟩
    iapply (fetchG d A P hP (1 - t % 2) (t + 1) (by omega) (by omega) (k0_chk2 i) (k0_chk2.dec i) (chk2_ok i) (k0_off2 i) (k0_off2_inb i c2) (by rw [k0_off2_eq, ht]) _
      (k0_off3 i) (k0_off3_inb i c2) (by rw [k0_off3_eq, ht]) (k0_off4 i) (k0_off4_inb i c2) (by rw [k0_off4_eq, ht]) k0_off5 (fun v hw => k0_off5_inb i v hw c2) (fun _ => rfl)) $$ [Hid H1]
    · isplitl [Hid] <;> iassumption
    iintro ⟨Hid, H1⟩
    iapply (wp_wand_r Idealize.ShloMosaic.frame (wpE (defs₀ (F := F)) 𝒱₀ (tG d) none) Set.univ)
    isplitl [H0 HO Hst]
    · iapply (tailG d O W A hO (t % 2) (rowOf P t) (by omega) (k0_off6 i) (k0_off6_inb i) (by rw [k0_off6_eq, ht]) (k0_off7 i) (k0_off7_inb i) (by rw [k0_off7_eq, ht])
        (k0_off8 i) (k0_off8_inb i) (by rw [k0_off8_eq, ht]) arg3 Y)
      isplitr; · iexact Hlv
      isplitl [H0]; · iexact H0
      isplitl [HO] <;> iassumption
    iintro %_ ⟨Hf, HO, Hst⟩
    isplitl [Hid H1 Hf]
    · isplitr; · iexact Hlv
      isplitl [Hid]; · iexact Hid
      iapply (Entails.of_eq (GS_next d A P h1).symm)
      isplitl [H1] <;> iassumption
    isplitl [HO] <;> iassumption
  · have c2 : ¬ k0_cond2 i = 1#1 := fun h => h1 (by have := (gcond2 i).mp h; omega)
    obtain rfl : t = 4999 := by omega
    simp only [dif_neg c1, dif_neg c2]
    simp only [Prog.lift, Prog.bind_op, Prog.bind_ret, Prog.pure_eq_ret, Prog.bind_assoc]
    iintro ⟨⟨#Hlv, Hid, HG⟩, HO, Hst⟩
    ihave HG := (Entails.of_eq (GS_mid d A P (t := 4999) (by omega) (by omega))) $$ HG
    icases HG with ⟨H0, H1⟩
    iapply (wp_wand_r Idealize.ShloMosaic.frame (wpE (defs₀ (F := F)) 𝒱₀ (tG d) none) Set.univ)
    isplitl [H0 HO Hst]
    · iapply (tailG d O W A hO 1 (rowOf P 4999) (by omega) (k0_off6 i) (k0_off6_inb i) (by rw [k0_off6_eq, ht]) (k0_off7 i) (k0_off7_inb i) (by rw [k0_off7_eq, ht])
        (k0_off8 i) (k0_off8_inb i) (by rw [k0_off8_eq, ht]) arg3 Y)
      isplitr; · iexact Hlv
      isplitl [H0]; · iexact H0
      isplitl [HO] <;> iassumption
    iintro %_ ⟨Hf, HO, Hst⟩
    isplitl [Hid H1 Hf]
    · isplitr; · iexact Hlv
      isplitl [Hid]; · iexact Hid
      iapply (Entails.of_eq (GS_last d A P).symm)
      isplitl [H1] <;> iassumption
    isplitl [HO] <;> iassumption

end

end Cert.Proof.Run

end
-- ==== Proof.Host.lean ====
/-
  The host operations before the two calls and what they leave in the arrays the calls read.
-/
module

public import proofs.«01_k».proof.Proof.GatherBody

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section

variable (m : (ℓ : Loc nD τ sig) → Buf (Elt F) ℓ)

/-! ## The host's operations before the two calls -/

/-- The operations, in order. -/
def hops : List (HloOp τ sig (Elt F)) :=
  [ StableHlo.unary main_arg2 main_v0 ((extractStridedSlice S5000 ![0] · slices_S5120_S5000_0) : (⟨S5120, .i32⟩ : BufTy).Contents (Elt F) → (⟨S5000, .i32⟩ : BufTy).Contents (Elt F))
  , StableHlo.unary main_arg3 main_v1 ((extractStridedSlice S5000 ![0] · slices_S5120_S5000_0) : (⟨S5120, .f32⟩ : BufTy).Contents (Elt F) → (⟨S5000, .f32⟩ : BufTy).Contents (Elt F))
  , StableHlo.unary main_arg2 main_v2 ((extractStridedSlice S5008 ![0] · slices_S5120_S5008_0) : (⟨S5120, .i32⟩ : BufTy).Contents (Elt F) → (⟨S5008, .i32⟩ : BufTy).Contents (Elt F))
  , StableHlo.reshape main_v0 main_v3 (rfl : (.i32 : EltTy) = .i32) shapeCasts_S5000_S1250x4
  , StableHlo.nullary main_c (constantI S_ 32 0#32)
  , StableHlo.TRef.unary (.of main_c : StableHlo.TRef sig ⟨S_, .i32⟩) main_call0.v0 id
  , StableHlo.TRef.binary (.of main_v3 : StableHlo.TRef sig ⟨S1250x4, .i32⟩) main_call0.v0 main_call0.v1 (fun x v => pad S1280x4 ![0, 0] ![30, 0] ![0, 0] x v pads_S1250x4_S1280x4_0300_000 h_S_)
  , StableHlo.reshape main_v4 main_v5 (rfl : (.i32 : EltTy) = .i32) shapeCasts_S1280x4_S40x32x4
  , StableHlo.unary main_v5 main_v6 ((transpose S32x40x4 [1, 0, 2] · transposes_S40x32x4_S32x40x4_1_0_2) : (⟨S40x32x4, .i32⟩ : BufTy).Contents (Elt F) → (⟨S32x40x4, .i32⟩ : BufTy).Contents (Elt F))
  , StableHlo.nullary main_c_0 (constantI S_ 32 0#32)
  , StableHlo.TRef.unary (.of main_c_0 : StableHlo.TRef sig ⟨S_, .i32⟩) main_call1.v0 id
  , StableHlo.TRef.binary (.of main_v6 : StableHlo.TRef sig ⟨S32x40x4, .i32⟩) main_call1.v0 main_call1.v1 (fun x v => pad S32x40x8 ![0, 0, 0] ![0, 0, 4] ![0, 0, 0] x v pads_S32x40x4_S32x40x8_000_000_040 h_S_)
  , StableHlo.reshape main_v7 main_v8 (rfl : (.i32 : EltTy) = .i32) shapeCasts_S32x40x8_S32x320
  , StableHlo.reshape main_v1 main_v9 (rfl : (.f32 : EltTy) = .f32) shapeCasts_S5000_S1250x4
  , StableHlo.nullary main_c_1 (constantI S_ 32 0#32)
  , StableHlo.TRef.unary (.of main_c_1 : StableHlo.TRef sig ⟨S_, .i32⟩) main_call2.v0 (sitofp .f32)
  , StableHlo.TRef.binary (.of main_v9 : StableHlo.TRef sig ⟨S1250x4, .f32⟩) main_call2.v0 main_call2.v1 (fun x v => pad S1280x4 ![0, 0] ![30, 0] ![0, 0] x v pads_S1250x4_S1280x4_0300_000 h_S_)
  , StableHlo.reshape main_v10 main_v11 (rfl : (.f32 : EltTy) = .f32) shapeCasts_S1280x4_S40x32x4
  , StableHlo.unary main_v11 main_v12 ((transpose S32x40x4 [1, 0, 2] · transposes_S40x32x4_S32x40x4_1_0_2) : (⟨S40x32x4, .f32⟩ : BufTy).Contents (Elt F) → (⟨S32x40x4, .f32⟩ : BufTy).Contents (Elt F))
  , StableHlo.unary main_v12 main_v13 (broadcastInDim S32x40x4x1 ![0, 1, 2] bcast_S32x40x4_S32x40x4x1_0_1_2 : (⟨S32x40x4, .f32⟩ : BufTy).Contents (Elt F) → (⟨S32x40x4x1, .f32⟩ : BufTy).Contents (Elt F))
  , StableHlo.unary main_v13 main_v14 (broadcastInDim S32x40x4x16 ![0, 1, 2, 3] bcast_S32x40x4x1_S32x40x4x16_0_1_2_3 : (⟨S32x40x4x1, .f32⟩ : BufTy).Contents (Elt F) → (⟨S32x40x4x16, .f32⟩ : BufTy).Contents (Elt F))
  , StableHlo.reshape main_v14 main_v15 (rfl : (.f32 : EltTy) = .f32) shapeCasts_S32x40x4x16_S32x2560 ]

/-- The rest of the program: the layout of the rows, then the gather. -/
def rest (d : Dev nD) : Prog (TpuEff nD τ sig (Elt F) (SparseCore.Sig (Pipeline.Sig Λ₀ (Fin 1) fun p => (pcfgs (F := F) p).Adm) 1) .tc) PUnit :=
  Prog.lift (.customCall (SparseCore.inner (Pipeline.entry 0)) ()) >>= fun _ => (K (F := F)).run d 0 >>= fun _ => pure ⟨⟩

set_option maxRecDepth 16384 in
theorem main_eq (d : Dev nD) : main (F := F) d = (StableHlo.seq hops >>= fun _ => rest d) := rfl

theorem hops_fresh : ∀ op ∈ (hops (F := F)), op.fresh = ∅ :=
  List.forall_iff_forall_mem.mp (StableHlo.forall_fresh_of_map rfl)

theorem hops_sub : ∀ op ∈ (hops (F := F)), op.bufs ⊆ StableHlo.tcRefs τ sig := by
  refine List.forall_iff_forall_mem.mp ?_
  exact ⟨StableHlo.unary_bufs_sub .., StableHlo.unary_bufs_sub .., StableHlo.unary_bufs_sub .., StableHlo.reshape_bufs_sub .., StableHlo.nullary_bufs_sub .., StableHlo.unary_bufs_sub .., StableHlo.binary_bufs_sub .., StableHlo.reshape_bufs_sub .., StableHlo.unary_bufs_sub .., StableHlo.nullary_bufs_sub .., StableHlo.unary_bufs_sub .., StableHlo.binary_bufs_sub .., StableHlo.reshape_bufs_sub .., StableHlo.reshape_bufs_sub .., StableHlo.nullary_bufs_sub .., StableHlo.unary_bufs_sub .., StableHlo.binary_bufs_sub .., StableHlo.reshape_bufs_sub .., StableHlo.unary_bufs_sub .., StableHlo.unary_bufs_sub .., StableHlo.unary_bufs_sub .., StableHlo.reshape_bufs_sub ..⟩

/-- The core's arrays after them. -/
abbrev V1 (d : Dev nD) : Valuation τ sig (Elt F) := StableHlo.after hops (StableHlo.launchContents m d)

/-! ## What they leave -/

variable (idx : S5120.Idx → BitVec 32) (val : S5120.Idx → Elt F .f32)

/-- The indices. -/
def idxS : S5000.Idx → BitVec 32 := extractStridedSlice S5000 ![0] idx slices_S5120_S5000_0
/-- The scores. -/
def valS : S5000.Idx → Elt F .f32 := extractStridedSlice S5000 ![0] val slices_S5120_S5000_0
/-- The column indices, with some more to fill the last group. -/
def colS : S5008.Idx → BitVec 32 := extractStridedSlice S5008 ![0] idx slices_S5120_S5008_0
/-- The indices by task, batch and place in the batch, each batch filled to eight. -/
def idx8S : S32x320.Idx → BitVec 32 :=
  shapeCast S32x320
    (pad S32x40x8 ![0, 0, 0] ![0, 0, 4] ![0, 0, 0]
      (transpose S32x40x4 [1, 0, 2]
        (shapeCast S40x32x4
          (pad S1280x4 ![0, 0] ![30, 0] ![0, 0] (shapeCast S1250x4 (idxS idx) shapeCasts_S5000_S1250x4) (constantI S_ 32 0#32) pads_S1250x4_S1280x4_0300_000 h_S_)
          shapeCasts_S1280x4_S40x32x4)
        transposes_S40x32x4_S32x40x4_1_0_2)
      (constantI S_ 32 0#32) pads_S32x40x4_S32x40x8_000_000_040 h_S_)
    shapeCasts_S32x40x8_S32x320
/-- The scores by task and batch, each sixteen times over. -/
def val16S : S32x2560.Idx → Elt F .f32 :=
  shapeCast S32x2560
    (broadcastInDim S32x40x4x16 ![0, 1, 2, 3] bcast_S32x40x4x1_S32x40x4x16_0_1_2_3
      (broadcastInDim S32x40x4x1 ![0, 1, 2] bcast_S32x40x4_S32x40x4x1_0_1_2
        (transpose S32x40x4 [1, 0, 2]
          (shapeCast S40x32x4
            (pad S1280x4 ![0, 0] ![30, 0] ![0, 0] (shapeCast S1250x4 (valS val) shapeCasts_S5000_S1250x4) (sitofp .f32 (constantI S_ 32 0#32)) pads_S1250x4_S1280x4_0300_000 h_S_)
            shapeCasts_S1280x4_S40x32x4)
          transposes_S40x32x4_S32x40x4_1_0_2)))
    shapeCasts_S32x40x4x16_S32x2560

variable (d : Dev nD)

theorem V1_arg0 : V1 m d (Proc.devRef .tc main_arg0) = m ((tG d).loc main_arg0) := by delta V1 hops; after_results_simp; try rfl
theorem V1_arg1 : V1 m d (Proc.devRef .tc main_arg1) = m ((tG d).loc main_arg1) := by delta V1 hops; after_results_simp; try rfl
theorem V1_arg2 : V1 m d (Proc.devRef .tc main_arg2) = m ((tG d).loc main_arg2) := by delta V1 hops; after_results_simp; try rfl
theorem V1_arg3 : V1 m d (Proc.devRef .tc main_arg3) = m ((tG d).loc main_arg3) := by delta V1 hops; after_results_simp; try rfl
theorem V1_v0 : V1 m d (Proc.devRef .tc main_v0) = idxS (m ((tG d).loc main_arg2)) := by delta V1 hops; after_results_simp; try rfl
theorem V1_v2 : V1 m d (Proc.devRef .tc main_v2) = colS (m ((tG d).loc main_arg2)) := by delta V1 hops; after_results_simp; try rfl
theorem V1_v8 : V1 m d (Proc.devRef .tc main_v8) = idx8S (m ((tG d).loc main_arg2)) := by delta V1 hops; after_results_simp; try rfl
theorem V1_v15 : V1 m d (Proc.devRef .tc main_v15) = val16S (m ((tG d).loc main_arg3)) := by delta V1 hops; after_results_simp; try rfl
theorem V1_v16 : V1 m d (Proc.devRef .tc main_v16) = m ((tG d).loc main_v16) := by delta V1 hops; after_results_simp; try rfl
theorem V1_v17_0 : V1 m d (Proc.devRef .tc main_v17_0) = m ((tG d).loc main_v17_0) := by delta V1 hops; after_results_simp; try rfl
theorem V1_v17_1 : V1 m d (Proc.devRef .tc main_v17_1) = m ((tG d).loc main_v17_1) := by delta V1 hops; after_results_simp; try rfl

end

end Cert.Proof.Run

end
-- ==== Proof.Region.lean ====
/-
  The kernel that lays out the fetched rows, as a region of the program: its proof data and what its array holds at the end.
-/
module

public import proofs.«01_k».proof.Proof.GatherBody

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx (ix1 ix2)
open Idealize.ShloMosaic.Pipeline (RDat)

section

/-- The grid's one coordinate at a point is the point's number, -/
theorem coords0 : ∀ t : Fin grid0.N, (grid0.coords t 0).val = t.val := by decide +kernel
/-- and the block it writes is that one. -/
theorem transform1 : ∀ i : grid0.Coords, cc0_transform_1 i 0 = (i 0).val := by decide +kernel

variable (A : Dev nD → S10000x10000.Idx → Elt F .f32) (P : Dev nD → S5000.Idx → BitVec 32) (B0 : Dev nD → S51200000.Idx → Elt F .f32)
variable (O : Dev nD → CellTallies nD τ sig (HIx 1)) (R : Dev nD → Set (SemLoc sig × HIx 1))

/-- The indices the region reads at its entry. -/
def admG : Dev nD → (p : Fin 1) → (pcfgs (F := F) p).Adm :=
  fun c _ => ⟨fun | 0 => P c | ⟨_ + 1, h⟩ => absurd h (Nat.not_lt.2 (Nat.le_add_left _ _)), trivial⟩

/-- The region's proof data: after point `t` its block holds the row of the adjacency that `t` lays out. -/
def rdatG (p : Fin 1) (c : Dev nD) : RDat τ (Elt F) (HIx 1) ℕ UU ℕ (Pipeline.pinD (pcfgs (F := F)) (admG (F := F) P) c p) c where
  A := fun | 0 => B0 c | ⟨_ + 1, h⟩ => absurd h (Nat.not_lt.2 (Nat.le_add_left _ _))
  after := fun | 0 => fun t _ X => Lays (A c) (rowOf (P c) t.val) X | ⟨_ + 1, h⟩ => absurd h (Nat.not_lt.2 (Nat.le_add_left _ _))
  Φ t := KeepG c (A c) (P c) t.val
  q _ := fullShare
  owed _ := O c
  recorded _ := R c

/-- The rows below `n` are laid out. -/
def RowsTo (n : ℕ) (A : S10000x10000.Idx → Elt F .f32) (P : S5000.Idx → BitVec 32) (G : S51200000.Idx → Elt F .f32) : Prop :=
  ∀ z : S51200000.Idx, (z 0).val / 10240 < n → (z 0).val % 10240 < 10000 → ∀ y : S10000x10000.Idx, (y 0).val = rowOf P ((z 0).val / 10240) →
    (y 1).val = (z 0).val % 10240 → G z = A y

theorem flushG (c : Dev nD) (t : Fin grid0.N) : ((Pipeline.pinD (pcfgs (F := F)) (admG (F := F) P) c 0).win 0).flush t = true := by
  show (true && (t.val + 1 = grid0.N || decide (∃ h : t.val + 1 < grid0.N, cc0_transform_1 (grid0.coords ⟨t.val + 1, h⟩) ≠ cc0_transform_1 (grid0.coords t)))) = true
  have ht := t.isLt
  by_cases h : t.val + 1 = grid0.N
  · simp [h]
  · have h' : t.val + 1 < grid0.N := by omega
    have : ∃ h : t.val + 1 < grid0.N, cc0_transform_1 (grid0.coords ⟨t.val + 1, h⟩) ≠ cc0_transform_1 (grid0.coords t) :=
      ⟨h', fun e => by
        have := congrFun e 0
        rw [transform1, transform1, coords0, coords0] at this
        simp at this⟩
    rw [decide_eq_true this]; simp

theorem arr_rows (c : Dev nD) : ∀ (n : ℕ) (hn : n ≤ 5000) (G : S51200000.Idx → Elt F .f32), (rdatG A P B0 O R 0 c).ArrAt 0 n G → RowsTo n (A c) (P c) G
  | 0, _, _, _ => fun z h => absurd h (Nat.not_lt_zero _)
  | n + 1, hn, G, h => by
    have hN : n < grid0.N := by rw [N_0]; omega
    have h' : (rdatG A P B0 O R 0 c).ArrStep 0 ⟨n, hN⟩ ((rdatG A P B0 O R 0 c).ArrAt 0 n) G := by
      have e : (rdatG A P B0 O R 0 c).ArrAt 0 (n + 1) = _ := rfl
      unfold RDat.ArrAt at h
      dsimp only at h
      rw [dif_pos hN, if_pos (flushG P c ⟨n, hN⟩)] at h
      exact h
    obtain ⟨G₀, X, hG, ⟨Y, -, hX⟩, rfl⟩ := h'
    have ih := arr_rows c n (by omega) G₀ hG
    intro z hz hz' y hy0 hy1
    by_cases hb : (z 0).val / 10240 = n
    · have hzlt := (z 0).isLt
      change (z 0).val < 51200000 at hzlt
      have e : (((Pipeline.pinD (pcfgs (F := F)) (admG (F := F) P) c 0).win 0).blk ⟨n, hN⟩).view.emb (ix1 (n := 10240) ⟨(z 0).val % 10240, by omega⟩) = z := by
        refine funext fun (a : Fin 1) => ?_
        match a with
        | 0 =>
          refine Fin.ext ?_
          show cc0_transform_1 (grid0.coords ⟨n, hN⟩) 0 * 10240 + 1 * ((z 0).val % 10240) = (z 0).val
          rw [transform1, coords0]
          show n * 10240 + 1 * ((z 0).val % 10240) = (z 0).val
          omega
      rw [← e]
      refine (View.write_emb_of_mem _ _ (Finset.mem_univ _)).trans ?_
      refine hX _ ?_ y ?_ ?_
      · show (z 0).val % 10240 < 10000; exact hz'
      · show (y 0).val = rowOf (P c) n; rw [hy0, hb]
      · show (y 1).val = (z 0).val % 10240; exact hy1
    · have hne : z ∉ (((Pipeline.pinD (pcfgs (F := F)) (admG (F := F) P) c 0).win 0).blk ⟨n, hN⟩).view.setOn Finset.univ := by
        intro hm
        obtain ⟨(x : S10240.Idx), -, hx⟩ := Finset.mem_map.mp hm
        have hx0 := congrArg (fun i : S51200000.Idx => (i 0).val) hx
        change cc0_transform_1 (grid0.coords ⟨n, hN⟩) 0 * 10240 + 1 * (x 0).val = (z 0).val at hx0
        rw [transform1, coords0] at hx0
        have hxl := (x 0).isLt
        change (x 0).val < 10240 at hxl
        change n * 10240 + 1 * (x 0).val = (z 0).val at hx0
        omega
      rw [View.write_of_not_mem _ _ _ hne]
      exact ih z (by omega) hz' y hy0 hy1

variable (hO : ∀ c g, O c g none = 0) (hR : ∀ c (p : SemLoc sig × HIx 1), p.2 = none → p ∈ R c) (hP : ∀ c z, (P c z).toNat < 10000)

include hO hR hP in
theorem bodyG (c : Dev nD) : (rdatG A P B0 O R 0 c).BodyObligation (defs₀ (F := F)) 𝒱₀ none Set.univ := by
  intro t Y _
  have key := gather_body c (O c) (A := A c) (P := P c)
  rw [bigSep_W0, bigSep_W0]
  show iprop(KeepG c (A c) (P c) t.val ∗ Pipeline.owesWithin c (O c) ((rdatG A P B0 O R 0 c).bound none t.castSucc) ∗ owns (c.tc : Thread nD τ) _ fullShare (Y 0)) ⊢ _
  iintro ⟨HK, ⟨%W, %hW, HO⟩, Hst⟩
  iapply (wp_wand_r Idealize.ShloMosaic.frame (wpE (defs₀ (F := F)) 𝒱₀ (tG c) none) Set.univ)
  isplitl
  · have e := coords0 t
    ihave HK := (Entails.of_eq (show KeepG c (A c) (P c) t.val = KeepG c (A c) (P c) (grid0.coords t 0).val by rw [e])) $$ HK
    iapply (key W (hO c) (hP c) (grid0.coords t) _ (hstage0_0 _) (Y 0))
    isplitl [HK]; · iexact HK
    isplitl [HO]
    · iexists W; isplitr
      swap; · iexact HO
      ipureintro; exact fun p hp => .inl hp
    iexact Hst
  iintro %_ ⟨HK, ⟨%W', %hW', HO⟩, ⟨%X, %hX, Hst⟩⟩
  have e := coords0 t
  isplitl [HK]
  · iapply (Entails.of_eq (show KeepG c (A c) (P c) ((grid0.coords t 0).val + 1) = (rdatG A P B0 O R 0 c).Φ t.succ by rw [e]; rfl)) $$ HK
  isplitl [HO]
  · iexists W'
    isplitr
    swap; · iexact HO
    ipureintro
    intro p hp
    rcases hW' p hp with h | h
    · exact hW h
    · exact .inl (hR c p h)
  · iexists X
    isplitr
    swap; · iexact Hst
    ipureintro
    rw [e] at hX
    exact hX

end

end Cert.Proof.Run

end
-- ==== Proof.Pay.lean ====
/-
  What the call of the gather carries to its tasks and back, and the obligation of each task.
-/
module

public import proofs.«01_k».proof.Proof.Task
public import proofs.«01_k».proof.Proof.Host
public import proofs.«01_k».proof.Proof.Region
public import Idealize.ShloMosaic.Lib.ShareLeaves

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx (ix1 ix2)

section

variable (m : (ℓ : Loc nD τ sig) → Buf (Elt F) ℓ)

/-! ## The words of the lists -/

/-- What the proof asks of the launch memory: every index is below 10000. -/
def PreOK : Prop := ∀ (d : Dev nD) (j : S5120.Idx), (m ((tG d).loc main_arg2) j).toNat < 10000

section

variable {idx : S5120.Idx → BitVec 32} (h : ∀ j, (idx j).toNat < 10000)
include h

theorem idxS_lt (z : S5000.Idx) : (idxS idx z).toNat < 10000 := h _
theorem colS_lt (z : S5008.Idx) : (colS idx z).toNat < 10000 := h _

omit h in
theorem pad_lt {s t u : Shape} {lo hi st : Fin s.rank → ℕ} {v : s.Idx → BitVec 32} {w : u.Idx → BitVec 32} {hp : s.Pads lo hi st t} {hu : 0 < u.numel}
    (hv : ∀ z, (v z).toNat < 10000) (hw : ∀ z, (w z).toNat < 10000) (z : t.Idx) : (pad t lo hi st v w hp hu z).toNat < 10000 := by
  unfold pad
  split
  · exact hv _
  · exact hw _

theorem idx8S_lt (z : S32x320.Idx) : (idx8S idx z).toNat < 10000 := by
  have h0 : ∀ z : S_.Idx, (constantI S_ 32 0#32 z).toNat < 10000 := fun z => (by decide : (0#32 : BitVec 32).toNat < 10000)
  unfold idx8S shapeCast
  refine pad_lt (fun z => ?_) h0 _
  unfold transpose
  exact pad_lt (fun z => idxS_lt h _) h0 _

end

/-! ## What the handshakes carry -/

/-- The task on subcore `i` of core `c`. -/
def coordsV (c : Fin 2) (i : Fin 16) : grid1.Coords := fun | 0 => c | 1 => i | ⟨_ + 2, h⟩ => absurd h (Nat.not_lt.2 (Nat.le_add_left _ _))

/-- A task's share of what all of them read. -/
def lf (L : grid1.Coords) : PosShare TreeShare := ShareLeaves.leaf 5 fullShare ⟨wn L, wn_lt L⟩

abbrev Am (d : Dev nD) : S10000x10000.Idx → Elt F .f32 := m ((tG d).loc main_arg0)
abbrev Xm (d : Dev nD) : S10000x128.Idx → Elt F .f32 := m ((tG d).loc main_arg1)
abbrev Im (d : Dev nD) : S5120.Idx → BitVec 32 := m ((tG d).loc main_arg2)
abbrev Vm (d : Dev nD) : S5120.Idx → Elt F .f32 := m ((tG d).loc main_arg3)

/-- The pooled adjacency: rows and columns by the index list. -/
def A2T (A : S10000x10000.Idx → Elt F .f32) (P : S5000.Idx → BitVec 32) : S5000x5000.Idx → Elt F .f32 := fun i =>
  A (ix2 ⟨(P (ix1 (i 0))).toNat % 10000, Nat.mod_lt _ (by decide)⟩ ⟨(P (ix1 (i 1))).toNat % 10000, Nat.mod_lt _ (by decide)⟩)

/-- The rows laid out hold the pooled adjacency, at the columns the list names. -/
theorem A2f_eq {A : S10000x10000.Idx → Elt F .f32} {idx : S5120.Idx → BitVec 32} {RL : S51200000.Idx → Elt F .f32} (h : ∀ j, (idx j).toNat < 10000)
    (hR : RowsTo 5000 A (idxS idx) RL) : A2f RL (colS idx) = A2T A (idxS idx) := by
  funext i
  have h0 : (i 0).val < 5000 := (i 0).isLt
  have h1 : (i 1).val < 5000 := (i 1).isLt
  have hc : colS idx (ix1 ⟨(i 1).val, by omega⟩) = idxS idx (ix1 (i 1)) := by
    unfold colS idxS extractStridedSlice
    refine congrArg idx (funext fun a => ?_)
    match a with | 0 => rfl
  have hj := idxS_lt h (ix1 (i 1))
  have hi := idxS_lt h (ix1 (i 0))
  unfold A2f A2T
  refine (congrArg RL (show _ = ix1 (n := 51200000) ⟨((i 0).val * 10240 + (idxS idx (ix1 (i 1))).toNat) % 51200000, Nat.mod_lt _ (by decide)⟩ from
    congrArg ix1 (Fin.ext (by show (_ + (colS idx (ix1 ⟨(i 1).val, _⟩)).toNat) % _ = _; rw [hc])))).trans ?_
  have e0 : (((i 0).val * 10240 + (idxS idx (ix1 (i 1))).toNat) % 51200000) / 10240 = (i 0).val := by omega
  have e1 : (((i 0).val * 10240 + (idxS idx (ix1 (i 1))).toNat) % 51200000) % 10240 = (idxS idx (ix1 (i 1))).toNat := by omega
  refine hR _ (e0.trans_lt h0) (e1.trans_lt (by omega)) _ ?_ ?_
  · show (idxS idx (ix1 (i 0))).toNat % 10000 = rowOf (idxS idx) ((((i 0).val * 10240 + (idxS idx (ix1 (i 1))).toNat) % 51200000) / 10240)
    rw [e0]
    unfold rowOf
    rw [Nat.mod_eq_of_lt hi]
    refine congrArg (fun j => (idxS idx (ix1 j)).toNat) (Fin.ext ?_)
    exact (Nat.mod_eq_of_lt h0).symm
  · show (idxS idx (ix1 (i 1))).toNat % 10000 = (((i 0).val * 10240 + (idxS idx (ix1 (i 1))).toNat) % 51200000) % 10240
    rw [e1]
    exact Nat.mod_eq_of_lt hj

abbrev a2Pts (d : Dev nD) (L : grid1.Coords) (f : S5000x5000.Idx → Elt F .f32) : sProp 𝕄 := a2V.view.loc (th d L) ↦[mine L 5000]{fullShare} f
abbrev nxPts (d : Dev nD) (L : grid1.Coords) (f : S5000x128.Idx → Elt F .f32) : sProp 𝕄 := nxV.view.loc (th d L) ↦[mine L 128]{fullShare} f

/-- The new features. -/
abbrev NXm (d : Dev nD) : S5000x128.Idx → Elt F .f32 := NXf (Xm m d) (idx8S (Im m d)) (val16S (Vm m d))
/-- The pooled adjacency of the launch memory. -/
abbrev A2m (d : Dev nD) : S5000x5000.Idx → Elt F .f32 := A2T (Am m d) (idxS (Im m d))

/-- A task takes its share of the rows laid out, of the features and of the three lists, and its rows of the two results. -/
def goP (d : Dev nD) (L : grid1.Coords) : sProp 𝕄 :=
  iprop((∃ RL, ⌜RowsTo 5000 (Am m d) (idxS (Im m d)) RL⌝ ∗ Reads d L RL (Xm m d) (colS (Im m d)) (idx8S (Im m d)) (val16S (Vm m d)) (lf L))
    ∗ a2Pts d L (m ((tG d).loc main_v17_0)) ∗ nxPts d L (m ((tG d).loc main_v17_1)))
/-- It brings back its share of the features, and its rows filled. -/
def tdP (d : Dev nD) (L : grid1.Coords) : sProp 𝕄 :=
  iprop((xV.view.loc (th d L) ↦{lf L} Xm m d) ∗ a2Pts d L (A2m m d) ∗ nxPts d L (NXm m d))

instance goP_storable (d : Dev nD) (L : grid1.Coords) : BI.Storable (upEmb : UEmb _ 𝕄) (goP m d L) := by unfold goP Reads; infer_instance
instance tdP_storable (d : Dev nD) (L : grid1.Coords) : BI.Storable (upEmb : UEmb _ 𝕄) (tdP m d L) := by unfold tdP; infer_instance

def stP (d : Dev nD) (c : Fin 2) : sProp 𝕄 := bigSep Finset.univ fun i : Fin 16 => goP m d (coordsV c i)
def dnP (d : Dev nD) (c : Fin 2) : sProp 𝕄 := bigSep Finset.univ fun i : Fin 16 => tdP m d (coordsV c i)

instance stP_storable (d : Dev nD) (c : Fin 2) : BI.Storable (upEmb : UEmb _ 𝕄) (stP m d c) := by unfold stP; infer_instance
instance dnP_storable (d : Dev nD) (c : Fin 2) : BI.Storable (upEmb : UEmb _ 𝕄) (dnP m d c) := by unfold dnP; infer_instance

/-- The one call: a core takes what its sixteen tasks take, and brings back what they bring back. -/
def Py : (K (F := F)).Pay (nD := nD) (Val := Elt F) (Name := ℕ) (U := UU) where
  st := fun q d c => match q with | 0 => stP m d (Fin.cast nCore_zero c)
  dn := fun q d c => match q with | 0 => dnP m d (Fin.cast nCore_zero c)
  go := fun q d c i => match q with | 0 => goP m d (coordsV (Fin.cast nCore_zero c) (Fin.cast nSub_zero i))
  td := fun q d c i => match q with | 0 => tdP m d (coordsV (Fin.cast nCore_zero c) (Fin.cast nSub_zero i))
  x := fun _ _ => iprop(emp)

instance Py_storable : (Py (F := F) m).IsStorable where
  st q d c := match q with | 0 => stP_storable m d (Fin.cast nCore_zero c)
  dn q d c := match q with | 0 => dnP_storable m d (Fin.cast nCore_zero c)
  go q d c i := match q with | 0 => goP_storable m d (coordsV (Fin.cast nCore_zero c) (Fin.cast nSub_zero i))
  td q d c i := match q with | 0 => tdP_storable m d (coordsV (Fin.cast nCore_zero c) (Fin.cast nSub_zero i))

/-! ## The task's obligation -/

theorem defs₀_vector (c : Fin τ.nSC) (s : Fin τ.nSub) :
    defs₀ (F := F) (.scVector c s) 1 ()
      = SparseCore.onTile hcore1 hsub1 (fun c s => cc1__sc_gather_body (coordsV c s) rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18) ⟨⟩ c s := rfl

theorem task_run (hF : (K (F := F)).Facts) (hpre : PreOK m) (d : Dev nD) (L : grid1.Coords) (O : CellTallies nD τ sig (HIx 1)) (W : Waits sig (HIx 1)) (hO : ∀ g, O g none = 0) :
    iprop(levAts (K (F := F)).L (K (F := F)).lev ∗ emp ∗ goP m d L ∗ scopedBufs (th d L) ∗ scopedSems0 (th d L) ∗ owes (th d L) O W)
      ⊢ wpT d L (cc1__sc_gather_body L rlV (Memref.isWhole_whole _) xV (Memref.isWhole_whole _) ciV (Memref.isWhole_whole _) i8V (Memref.isWhole_whole _) v16V (Memref.isWhole_whole _) a2V (Memref.isWhole_whole _) nxV (Memref.isWhole_whole _) rows0 (Memref.isWhole_whole _) rows1 (Memref.isWhole_whole _) xb0 (Memref.isWhole_whole _) xb1 (Memref.isWhole_whole _) outB (Memref.isWhole_whole _) cidB (Memref.isWhole_whole _) midB (Memref.isWhole_whole _) vvB (Memref.isWhole_whole _) nxB (Memref.isWhole_whole _) cc1_scratch9 cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18)
          fun _ => iprop(tdP m d L ∗ scopedBufs (th d L) ∗ scopedSems0 (th d L)
            ∗ ∃ W', ⌜∀ p ∈ W', p ∈ W ∨ p.2 = none ∨ p.2 = some (0 : Fin 1)⌝ ∗ owes (th d L) O W') := by
  unfold goP
  iintro ⟨#Hlv, -, ⟨⟨%RL, %hR, HR⟩, Ha, Hn⟩, Hb, Hs, HO⟩
  unfold wpT
  iapply (wp_wand_r Idealize.ShloMosaic.frame (wpE (defs₀ (F := F)) 𝒱₀ (th d L) none) Set.univ)
  isplitl [HR Ha Hn Hb Hs HO]
  · iapply (tile_body d L O W RL (Xm m d) (colS (Im m d)) (idx8S (Im m d)) (val16S (Vm m d)) (lf L) hF hO (idx8S_lt (hpre d)) (colS_lt (hpre d)) _ _)
    isplitr; · iexact Hlv
    isplitr; · iempintro
    isplitl [HR Ha Hn]
    · isplitl [HR]; · iexact HR
      isplitl [Ha] <;> iassumption
    isplitl [Hb]; · iexact Hb
    isplitl [Hs] <;> iassumption
  iintro %_ ⟨⟨HR, Ha, Hn⟩, Hb, Hs, %W', %hW', HO⟩
  unfold Reads tdP
  icases HR with ⟨-, Hx, -⟩
  isplitl [Hx Ha Hn]
  · isplitl [Hx]; · iexact Hx
    isplitl [Ha]
    · iapply (Entails.of_eq (congrArg (a2Pts d L) (A2f_eq (hpre d) hR))) $$ Ha
    iexact Hn
  isplitl [Hb]; · iexact Hb
  isplitl [Hs]; · iexact Hs
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (Py m) v₀ 0 := by
  intro d c i O W hO _ _
  simp only [show (Py m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task_run m hF hpre d (coordsV ⟨_, hci.1⟩ ⟨_, hci.2⟩) O W hO

theorem vecSplit : (K (F := F)).VecSplit' (Py m) 0 := by
  intro d c
  show stP m d (Fin.cast nCore_zero c) ⊢ |={Set.univ}=> iprop(stP m d (Fin.cast nCore_zero c) ∗ (dnP m d (Fin.cast nCore_zero c) -∗ dnP m d (Fin.cast nCore_zero c)))
  iintro H; imodintro
  isplitl [H]; · iexact H
  iintro H; iexact H

end

end Cert.Proof.Run

end
-- ==== Proof.Deal.lean ====
/-
  The arrays of the gather dealt to its thirty-two tasks, and collected from them.
-/
module

public import proofs.«01_k».proof.Proof.Pay

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx (ix1 ix2)

section

variable (m : (ℓ : Loc nD τ sig) → Buf (Elt F) ℓ)

/-! ## Every task at once -/

/-- One proposition per task. -/
def B2 (Φ : grid1.Coords → sProp 𝕄) : sProp 𝕄 := bigSep Finset.univ fun c : Fin 2 => bigSep Finset.univ fun i : Fin 16 => Φ (coordsV c i)

theorem B2_sep (Φ Ψ : grid1.Coords → sProp 𝕄) : B2 (fun L => iprop(Φ L ∗ Ψ L)) = iprop(B2 Φ ∗ B2 Ψ) := by
  unfold B2
  rw [← bigSep_sep']
  exact bigSep_congr fun c _ => bigSep_sep' _ _ _

theorem B2_mono {Φ Ψ : grid1.Coords → sProp 𝕄} (h : ∀ L, Φ L ⊢ Ψ L) : B2 Φ ⊢ B2 Ψ :=
  bigSep_mono fun _ _ => bigSep_mono fun _ _ => h _

theorem B2_of (Φ : Fin 32 → sProp 𝕄) : bigSep Finset.univ Φ = B2 fun L => Φ ⟨wn L, wn_lt L⟩ := by
  unfold B2
  rw [bigSep_univ_equiv (finProdFinEquiv : Fin 16 × Fin 2 ≃ Fin 32) Φ, bigSep_univ_prod, bigSep_univ_comm]
  refine bigSep_congr fun c _ => bigSep_congr fun i _ => congrArg Φ (Fin.ext ?_)
  show c.val + 2 * i.val = 2 * i.val + c.val
  omega

theorem share_split (ℓ : Loc nD τ sig) (f : Buf (Elt F) ℓ) : (ℓ ↦{fullShare} f : sProp 𝕄) = B2 fun L => (ℓ ↦{lf L} f : sProp 𝕄) :=
  (ShareLeaves.pointsTo_leaves Finset.univ f 5 fullShare).trans (B2_of fun k => (ℓ ↦{ShareLeaves.leaf 5 fullShare k} f : sProp 𝕄))

/-- The rows of task `k`. -/
def rowsN (s : ℕ) (k : Fin 32) : Finset (⟨2, ![5000, s]⟩ : Shape).Idx := Finset.univ.filter fun i => (i 0).val / 4 % 32 = k.val

theorem rowsN_disjoint (s : ℕ) : ∀ k ∈ (Finset.univ : Finset (Fin 32)), ∀ k' ∈ (Finset.univ : Finset (Fin 32)), k ≠ k' → Disjoint (rowsN s k) (rowsN s k') := by
  intro k _ k' _ h
  refine Finset.disjoint_left.2 fun i hi hi' => h (Fin.ext ?_)
  exact (Finset.mem_filter.1 hi).2.symm.trans (Finset.mem_filter.1 hi').2

theorem rowsN_cover (s : ℕ) : (Finset.univ : Finset (Fin 32)).biUnion (rowsN s) = Finset.univ := by
  refine Finset.eq_univ_of_forall fun i => Finset.mem_biUnion.2 ⟨⟨(i 0).val / 4 % 32, Nat.mod_lt _ (by decide)⟩, Finset.mem_univ _, ?_⟩
  exact Finset.mem_filter.2 ⟨Finset.mem_univ _, rfl⟩

variable (d : Dev nD)

theorem a2_split (f : S5000x5000.Idx → Elt F .f32) : ((tG d).loc main_v17_0 ↦{fullShare} f : sProp 𝕄) = B2 fun L => a2Pts d L f := by
  have h : ((tG d).loc main_v17_0 ↦{fullShare} f : sProp 𝕄) = bigSep Finset.univ fun k : Fin 32 => ((tG d).loc main_v17_0 ↦[rowsN 5000 k]{fullShare} f : sProp 𝕄) := by
    rw [← pointsTo_biUnion Finset.univ (ℓ := (tG d).loc main_v17_0) (rowsN 5000) (rowsN_disjoint 5000)]
    exact congrArg (fun S => ((tG d).loc main_v17_0 ↦[S]{fullShare} f : sProp 𝕄)) (rowsN_cover 5000).symm
  exact h.trans (B2_of fun k => ((tG d).loc main_v17_0 ↦[rowsN 5000 k]{fullShare} f : sProp 𝕄))

theorem nx_split (f : S5000x128.Idx → Elt F .f32) : ((tG d).loc main_v17_1 ↦{fullShare} f : sProp 𝕄) = B2 fun L => nxPts d L f := by
  have h : ((tG d).loc main_v17_1 ↦{fullShare} f : sProp 𝕄) = bigSep Finset.univ fun k : Fin 32 => ((tG d).loc main_v17_1 ↦[rowsN 128 k]{fullShare} f : sProp 𝕄) := by
    rw [← pointsTo_biUnion Finset.univ (ℓ := (tG d).loc main_v17_1) (rowsN 128) (rowsN_disjoint 128)]
    exact congrArg (fun S => ((tG d).loc main_v17_1 ↦[S]{fullShare} f : sProp 𝕄)) (rowsN_cover 128).symm
  exact h.trans (B2_of fun k => ((tG d).loc main_v17_1 ↦[rowsN 128 k]{fullShare} f : sProp 𝕄))

/-! ## The call's arrays dealt, and collected -/

theorem deal (G : S51200000.Idx → Elt F .f32) (hG : RowsTo 5000 (Am m d) (idxS (Im m d)) G) :
    iprop(((tG d).loc main_v16 ↦{fullShare} G) ∗ ((tG d).loc main_arg1 ↦{fullShare} Xm m d) ∗ ((tG d).loc main_v2 ↦{fullShare} colS (Im m d))
        ∗ ((tG d).loc main_v8 ↦{fullShare} idx8S (Im m d)) ∗ ((tG d).loc main_v15 ↦{fullShare} val16S (Vm m d))
        ∗ ((tG d).loc main_v17_0 ↦{fullShare} m ((tG d).loc main_v17_0)) ∗ ((tG d).loc main_v17_1 ↦{fullShare} m ((tG d).loc main_v17_1)))
      ⊢ (bigSep Finset.univ fun c : Fin 2 => stP m d c : sProp 𝕄) := by
  rw [share_split ((tG d).loc main_v16) G, share_split ((tG d).loc main_arg1) (Xm m d), share_split ((tG d).loc main_v2) (colS (Im m d)),
    share_split ((tG d).loc main_v8) (idx8S (Im m d)), share_split ((tG d).loc main_v15) (val16S (Vm m d)), a2_split d (m ((tG d).loc main_v17_0)),
    nx_split d (m ((tG d).loc main_v17_1)), ← B2_sep, ← B2_sep, ← B2_sep, ← B2_sep, ← B2_sep, ← B2_sep]
  refine B2_mono (Ψ := fun L => goP m d L) fun L => ?_
  unfold goP Reads
  iintro ⟨H1, H2, H3, H4, H5, Ha, Hn⟩
  isplitl [H1 H2 H3 H4 H5]
  · iexists G
    isplitr
    · ipureintro; exact hG
    isplitl [H1]; · iexact H1
    isplitl [H2]; · iexact H2
    isplitl [H3]; · iexact H3
    isplitl [H4] <;> iassumption
  isplitl [Ha] <;> iassumption

theorem collect : (bigSep Finset.univ fun c : Fin 2 => dnP m d c : sProp 𝕄)
    ⊢ iprop(((tG d).loc main_arg1 ↦{fullShare} Xm m d) ∗ ((tG d).loc main_v17_0 ↦{fullShare} A2m m d) ∗ ((tG d).loc main_v17_1 ↦{fullShare} NXm m d)) := by
  rw [share_split ((tG d).loc main_arg1) (Xm m d), a2_split d (A2m m d), nx_split d (NXm m d), ← B2_sep, ← B2_sep]
  refine B2_mono (Φ := fun L => tdP m d L) fun L => ?_
  unfold tdP
  iintro ⟨H1, Ha, Hn⟩
  isplitl [H1]; · iexact H1
  isplitl [Ha] <;> iassumption

end

end Cert.Proof.Run

end
-- ==== Proof.Seg.lean ====
/-
  The kernel that lays out the fetched rows, as a region of the program: entered and left.
-/
module

public import proofs.«01_k».proof.Proof.Region

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx (ix1 ix2)
open Idealize.ShloMosaic.Pipeline (RDat)

section

variable (A : Dev nD → S10000x10000.Idx → Elt F .f32) (P : Dev nD → S5000.Idx → BitVec 32) (B0 : Dev nD → S51200000.Idx → Elt F .f32)
variable (O : Dev nD → CellTallies nD τ sig (HIx 1)) (R : Dev nD → Set (SemLoc sig × HIx 1))

/-- The two semaphores the kernel completes its rows on. -/
def osemG (k : Fin 2) : SemLoc sig := .dma (gsem k.val)

theorem ownG (c : Dev nD) : (Pipeline.ownSems0 (Ix := HIx 1) (Name := ℕ) (U := UU) (Lvl := ℕ) (Val := Elt F) (τ := τ) osemG c : sProp 𝕄)
    = iprop(semVal (tG c, SemLoc.dma (gsem 0)) 0 ∗ semVal (tG c, SemLoc.dma (gsem 1)) 0) :=
  Pipeline.ownSems0_eq_of_list c osemG [0, 1] (by decide) (by decide)

/-- The fetched rows' array, as the region names it. -/
abbrev rlT : Memref sig .tc .hbm S51200000 .f32 := Memref.whole main_v16

theorem compl_plane : (Finset.univ : Finset S2x1x10000.Idx) \ plane 0 = plane 1 := by
  ext x
  have := (x 0).isLt
  change (x 0).val < 2 at this
  rw [Finset.mem_sdiff, mem_plane, mem_plane]
  simp only [Finset.mem_univ, true_and]
  omega

/-- Both slots idle, from the buffers whole, -/
theorem free_in (c : Dev nD) (A : S10000x10000.Idx → Elt F .f32) (f : S2x1x10000.Idx → Elt F .f32) :
    iprop((aT.view.loc (tG c) ↦{fullShare} A) ∗ (vbT.view.loc (tG c) ↦{fullShare} f) ∗ semVal (tG c, SemLoc.dma (gsem 0)) 0 ∗ semVal (tG c, SemLoc.dma (gsem 1)) 0)
      ⊢ iprop(Free c A 0 ∗ Free c A 1) := by
  iintro ⟨Ha, Hv, H0, H1⟩
  ihave Ha := (pointsTo_share (PosShare.mem_left_op_right fullShare)).1 $$ Ha
  icases Ha with ⟨Hl, Hr⟩
  ihave Hv := (pointsTo_split_subset (S := Finset.univ) (Finset.subset_univ (plane 0))).1 $$ Hv
  rw [compl_plane]
  icases Hv with ⟨Hv0, Hv1⟩
  unfold Free
  isplitl [Hl Hv0 H0]
  · isplitl [Hl]; · iexact Hl
    isplitl [Hv0]; · iexists f; iexact Hv0
    iexact H0
  · isplitl [Hr]; · iexact Hr
    isplitl [Hv1]; · iexists f; iexact Hv1
    iexact H1

/-- and back. -/
theorem free_out (c : Dev nD) (A : S10000x10000.Idx → Elt F .f32) :
    iprop(Free c A 0 ∗ Free c A 1)
      ⊢ iprop((aT.view.loc (tG c) ↦{fullShare} A) ∗ (∃ f : S2x1x10000.Idx → Elt F .f32, vbT.view.loc (tG c) ↦{fullShare} f) ∗ semVal (tG c, SemLoc.dma (gsem 0)) 0 ∗ semVal (tG c, SemLoc.dma (gsem 1)) 0) := by
  unfold Free
  iintro ⟨⟨Hl, ⟨%f0, Hv0⟩, H0⟩, ⟨Hr, ⟨%f1, Hv1⟩, H1⟩⟩
  isplitl [Hl Hr]
  · iapply (pointsTo_share (PosShare.mem_left_op_right fullShare)).2
    isplitl [Hl]
    · iexact Hl
    · iexact Hr
  isplitl [Hv0 Hv1]
  · iexists _
    iapply (pointsTo_join_subset (S := Finset.univ) (Finset.subset_univ (plane 0)))
    rw [compl_plane]
    isplitl [Hv0]
    · iexact Hv0
    · iexact Hv1
  isplitl [H0] <;> iassumption

/-- What the core owes around the region. -/
abbrev OWR (c : Dev nD) : sProp 𝕄 := iprop(∃ W, ⌜∀ p ∈ W, p ∈ R c⌝ ∗ owes (tG c) (O c) W)

variable (hO : ∀ c g, O c g none = 0) (hR : ∀ c (p : SemLoc sig × HIx 1), p.2 = none → p ∈ R c) (hP : ∀ c z, (P c z).toNat < 10000)

theorem rl_set (c : Dev nD) (p : Fin 1) : ((Pipeline.pinD (pcfgs (F := F)) (admG P) c p).win 0).arr.view.set = Finset.univ := View.set_whole _

/-- The array as the region's data name it. -/
theorem rl_pts (c : Dev nD) (G : S51200000.Idx → Elt F .f32) :
    (((Pipeline.pinD (pcfgs (F := F)) (admG P) c 0).win 0).arr.view.loc (c.tc : Thread nD τ) ↦[((Pipeline.pinD (pcfgs (F := F)) (admG P) c 0).win 0).arr.view.set]{(rdatG A P B0 O R 0 c).share 0} G : sProp 𝕄)
      = (rlT.view.loc (tG c) ↦{fullShare} G) := by
  rw [rl_set]; rfl

/-- The region's array at its end. -/
theorem arraysAt_eq (c : Dev nD) :
    ((rdatG A P B0 O R 0 c).arraysAt (Pipeline.pinD (pcfgs (F := F)) (admG P) c 0).N : sProp 𝕄)
      = iprop(∃ G, ⌜(rdatG A P B0 O R 0 c).ArrAt 0 (Pipeline.pinD (pcfgs (F := F)) (admG P) c 0).N G⌝
        ∗ ((Pipeline.pinD (pcfgs (F := F)) (admG P) c 0).win 0).arr.view.loc (c.tc : Thread nD τ) ↦[((Pipeline.pinD (pcfgs (F := F)) (admG P) c 0).win 0).arr.view.set]{(rdatG A P B0 O R 0 c).share 0} G) := by
  unfold RDat.arraysAt
  rw [bigSep_W0]
  rfl

set_option maxRecDepth 16384 in
set_option backward.isDefEq.respectTransparency.types false in
/-- The region: from the indices, the adjacency and any contents of its array, to the array with every row laid out. -/
def segG : Pipeline.PerCore.RDat.RegionSeg (pcfgs (F := F)) (admG P) (rdatG A P B0 O R) none (defs₀ (F := F)) 𝒱₀ (K (F := F)).L (K (F := F)).lev 0 where
  win := (launch0 (F := F)).win.to₀
  block_pos := (launch0 (F := F)).block_pos
  stage_whole := (launch0 (F := F)).stage_whole
  K := Fin 2
  osem := osemG
  ho := (show Pipeline.OwnSemFacts spec0 osemG by decide)
  hbody c := bodyG A P B0 O R hO hR hP c
  hwaits c := Pipeline.PerCore.RDat.cellsWaits_intro (Pipeline.pinD (pcfgs (F := F)) (admG P)) (rdatG A P B0 O R) none 0 c fun w s t =>
    (K (F := F)).mayWait_none (thr := tG c) _ (hO c)
  pre c := iprop((idT.view.loc (tG c) ↦{fullShare} P c) ∗ (aT.view.loc (tG c) ↦{fullShare} A c) ∗ (rlT.view.loc (tG c) ↦{fullShare} B0 c) ∗ OWR O R c)
  post c := iprop((idT.view.loc (tG c) ↦{fullShare} P c) ∗ (aT.view.loc (tG c) ↦{fullShare} A c)
    ∗ (∃ G : S51200000.Idx → Elt F .f32, ⌜RowsTo 5000 (A c) (P c) G⌝ ∗ rlT.view.loc (tG c) ↦{fullShare} G) ∗ OWR O R c)
  X c := iprop(levAts (K (F := F)).L (K (F := F)).lev ∗ (aT.view.loc (tG c) ↦{fullShare} A c) ∗ Pipeline.ownSems0 osemG c)
  Y c := iprop((idT.view.loc (tG c) ↦{fullShare} P c) ∗ (aT.view.loc (tG c) ↦{fullShare} A c))
  Z _ := iprop(emp)
  hentry c := by
    iintro ⟨⟨Hid, Ha, Hrl, ⟨%W, %hW, HO⟩⟩, Hos, #Hlv⟩
    imodintro
    isplitl [Hrl]
    · unfold RDat.arrays
      rw [bigSep_W0]
      iapply (Entails.of_eq (rl_pts A P B0 O R c (B0 c)).symm) $$ Hrl
    isplitl [Hid]
    · unfold Pipeline.prefHeld
      rw [bigSep_W0]
      iexact Hid
    isplitl [HO]
    · iexists W
      isplitr
      swap; · iexact HO
      ipureintro
      exact fun p hp => .inl (hW p hp)
    isplitl [Ha Hos]
    · isplitr; · iexact Hlv
      isplitl [Ha] <;> iassumption
    iempintro
  hin c := by
    rw [scopedRest0_eq, ownG]
    unfold Pipeline.prefHeld
    rw [bigSep_W0]
    show _ ⊢ KeepG c (A c) (P c) 0
    unfold KeepG
    rw [GS_zero]
    iintro ⟨⟨#Hlv, Ha, H0, H1⟩, Hid, ⟨%f, Hv⟩⟩
    isplitr; · iexact Hlv
    isplitl [Hid]; · iexact Hid
    iapply (free_in c (A c) f)
    isplitl [Ha]; · iexact Ha
    isplitl [Hv]; · iexact Hv
    isplitl [H0] <;> iassumption
  hout c := by
    rw [scopedRest0_eq, ownG]
    show KeepG c (A c) (P c) grid0.N ⊢ _
    unfold KeepG
    rw [N_0, GS_last]
    iintro ⟨-, Hid, HG⟩
    ihave HG := (free_out c (A c)) $$ HG
    icases HG with ⟨Ha, Hv, H0, H1⟩
    isplitl [Hid Ha]
    · isplitl [Hid] <;> iassumption
    isplitl [H0 H1]
    · isplitl [H0] <;> iassumption
    iexact Hv
  hexit c := by
    iintro ⟨Har, ⟨%W, %hW, HO⟩, ⟨Hid, Ha⟩, -⟩
    imodintro
    isplitl [Hid]; · iexact Hid
    isplitl [Ha]; · iexact Ha
    isplitl [Har]
    · ihave Har := (Entails.of_eq (arraysAt_eq A P B0 O R c)) $$ Har
      icases Har with ⟨%G, %hG, Hrl⟩
      iexists G
      isplitr
      swap; · iapply (Entails.of_eq (rl_pts A P B0 O R c G)) $$ Hrl
      ipureintro
      refine arr_rows A P B0 O R c 5000 le_rfl G ?_
      have e : (Pipeline.pinD (pcfgs (F := F)) (admG P) c 0).N = 5000 := N_0
      rw [← e]
      exact hG
    iexists W
    isplitr
    swap; · iexact HO
    ipureintro
    intro p hp
    rcases hW hp with h | ⟨w, s, h⟩
    · exact h
    · exact hR c p (by rw [h])

end

end Cert.Proof.Run

end
-- ==== Proof.Launch.lean ====
/-
  The launch: the ghost state dealt, the program on the TensorCore, and what a run leaves.
-/
module

public import proofs.«01_k».proof.Proof.Deal
public import proofs.«01_k».proof.Proof.Seg
public import Idealize.ShloMosaic.Lib.Pipeline.Frame

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx (ix1 ix2)

section

variable (m : (ℓ : Loc nD τ sig) → Buf (Elt F) ℓ) (ρ : Dev nD → PrngReg)

/-! ## The ghost state at launch -/

/-- The region's configuration on every core: its table the index list. -/
abbrev cfgsG : Dev nD → Fin 1 → Pipeline.Cfg sig Λ₀ := Pipeline.pinD (pcfgs (F := F)) (admG fun c => idxS (Im m c))

theorem phinj : Function.Injective (Pipeline.PerCore.cellOf (nD := nD) (τ := τ) (cfgsG m)) :=
  Pipeline.PerCore.cellOf_injective (cfgsG m) (fun _ p => Pipeline.specSemsDistinct_of_nodup _ (match p with | 0 => semsDistinct 0))
    (fun _ p p' h => absurd (Subsingleton.elim p p') h)

def u₀ : UU := (initOf (K (F := F)).hsCells (K (F := F)).hsToks,
  (initOf (Pipeline.PerCore.cells (cfgsG m) (phinj m)) (Pipeline.PerCore.launchToks (cfgsG m) (phinj m)), 1))

/-- What the launch leaves the core for the region. -/
abbrev Gh (d : Dev nD) : sProp 𝕄 := iprop(Pipeline.PerCore.cellsGhost (cfgsG m) EP 0 d ∗ Pipeline.PerCore.toksInit (cfgsG m) EP 0 d)

theorem bigSep_emp' {I : Type} (s : Finset I) : (bigSep s fun _ => iprop(emp)) = (iprop(emp) : sProp 𝕄) := bigSep_emp_const s

theorem own_R (a : UP) (b : Counters) : (BI.own ((embR : Emb (UP × Counters) 𝕄) (a, b)) : sProp 𝕄) ⊢ BI.own ((EP (F := F)) a) := by
  have h : (BI.own ((embR : Emb (UP × Counters) 𝕄) (a, b)) : sProp 𝕄)
      ⊢ iprop(BI.own ((embR : Emb (UP × Counters) 𝕄) (a, 1)) ∗ BI.own ((embR : Emb (UP × Counters) 𝕄) (1, b))) := BI.own_op_elim ((embR : Emb (UP × Counters) 𝕄).op_of_mem (Prod.mk_mem_op (URA.mem_op_one a) (URA.mem_one_op b)))
  have e : (EP (F := F)) a = (embR : Emb (UP × Counters) 𝕄) (a, 1) := by unfold EP; rfl
  rw [e]
  exact h.trans sep_elim_left

theorem hu₀ : (ownU (u₀ m) : sProp 𝕄)
    ⊢ |={Set.univ}=> iprop(BI.own (EH (initOf (K (F := F)).hsCells (K (F := F)).hsToks)) ∗ (bigSep Finset.univ fun d : Dev nD => Gh m d)
        ∗ bigSep Finset.univ fun thr : Thread nD τ => bigSep Finset.univ fun q : Fin 1 => (Py m).x q thr) := by
  unfold u₀
  iintro Hu
  ihave H := (ownU_pair (initOf (K (F := F)).hsCells (K (F := F)).hsToks)
    ((initOf (Pipeline.PerCore.cells (cfgsG m) (phinj m)) (Pipeline.PerCore.launchToks (cfgsG m) (phinj m)), 1) : UP × Counters)) $$ Hu
  icases H with ⟨HH, HR⟩
  ihave HR := (own_R (F := F) _ _) $$ HR
  imod (Pipeline.PerCore.fund_ghost (cfgsG m) (EP (F := F)) (phinj m)) $$ HR with ⟨Hc, Ht⟩
  imodintro
  isplitl [HH]; · iexact HH
  isplitl [Hc Ht]
  · rw [bigSep_sep']
    isplitl [Hc]
    · iapply (Entails.of_eq (show (bigSep Finset.univ fun c : Dev nD => bigSep Finset.univ fun p : Fin 1 => (Pipeline.PerCore.cellsGhost (cfgsG m) EP p c : sProp 𝕄))
        = bigSep Finset.univ fun c : Dev nD => Pipeline.PerCore.cellsGhost (cfgsG m) EP 0 c from bigSep_congr fun _ _ => bigSep_univ_of_subsingleton (0 : Fin 1))) $$ Hc
    · iapply (Entails.of_eq (show (bigSep Finset.univ fun c : Dev nD => bigSep Finset.univ fun p : Fin 1 => (Pipeline.PerCore.toksInit (cfgsG m) EP p c : sProp 𝕄))
        = bigSep Finset.univ fun c : Dev nD => Pipeline.PerCore.toksInit (cfgsG m) EP 0 c from bigSep_congr fun _ _ => bigSep_univ_of_subsingleton (0 : Fin 1))) $$ Ht
  rw [show (bigSep Finset.univ fun thr : Thread nD τ => bigSep Finset.univ fun q : Fin 1 => (Py (F := F) m).x q thr) = bigSep Finset.univ fun _ => iprop(emp) from
    bigSep_congr fun _ _ => bigSep_univ_of_subsingleton (0 : Fin 1), bigSep_emp']
  iempintro

/-! ## The program on the TensorCore -/

/-- The arrays the two calls and the claims are about. -/
def usedRefs : Finset (DevRef τ sig) :=
  {Proc.devRef .tc main_arg0, Proc.devRef .tc main_arg1, Proc.devRef .tc main_arg2, Proc.devRef .tc main_arg3, Proc.devRef .tc main_v0, Proc.devRef .tc main_v2,
    Proc.devRef .tc main_v8, Proc.devRef .tc main_v15, Proc.devRef .tc main_v16, Proc.devRef .tc main_v17_0, Proc.devRef .tc main_v17_1}

set_option maxRecDepth 8192 in
theorem usedRefs_sub : usedRefs ⊆ Pipeline.ucRefs τ sig := by
  intro b hb
  simp only [usedRefs, Finset.mem_insert, Finset.mem_singleton] at hb
  rcases hb with rfl | rfl | rfl | rfl | rfl | rfl | rfl | rfl | rfl | rfl | rfl <;>
    exact Finset.mem_filter.mpr ⟨StableHlo.devRef_mem_tcRefs _, by decide⟩

set_option maxRecDepth 8192 in
theorem held_used (d : Dev nD) (V : Valuation τ sig (Elt F)) : (StableHlo.held (d.tc : Thread nD τ) usedRefs V : sProp 𝕄)
    = iprop(((tG d).loc main_arg0 ↦{fullShare} V (Proc.devRef .tc main_arg0)) ∗ ((tG d).loc main_arg1 ↦{fullShare} V (Proc.devRef .tc main_arg1))
      ∗ ((tG d).loc main_arg2 ↦{fullShare} V (Proc.devRef .tc main_arg2)) ∗ ((tG d).loc main_arg3 ↦{fullShare} V (Proc.devRef .tc main_arg3))
      ∗ ((tG d).loc main_v0 ↦{fullShare} V (Proc.devRef .tc main_v0)) ∗ ((tG d).loc main_v2 ↦{fullShare} V (Proc.devRef .tc main_v2))
      ∗ ((tG d).loc main_v8 ↦{fullShare} V (Proc.devRef .tc main_v8)) ∗ ((tG d).loc main_v15 ↦{fullShare} V (Proc.devRef .tc main_v15))
      ∗ ((tG d).loc main_v16 ↦{fullShare} V (Proc.devRef .tc main_v16)) ∗ ((tG d).loc main_v17_0 ↦{fullShare} V (Proc.devRef .tc main_v17_0))
      ∗ ((tG d).loc main_v17_1 ↦{fullShare} V (Proc.devRef .tc main_v17_1))) := by
  unfold StableHlo.held usedRefs
  rw [bigSep_eq_bigSepL_of_eq [Proc.devRef .tc main_arg0, Proc.devRef .tc main_arg1, Proc.devRef .tc main_arg2, Proc.devRef .tc main_arg3, Proc.devRef .tc main_v0,
    Proc.devRef .tc main_v2, Proc.devRef .tc main_v8, Proc.devRef .tc main_v15, Proc.devRef .tc main_v16, Proc.devRef .tc main_v17_0, Proc.devRef .tc main_v17_1]
    (by decide) (by decide)]
  rfl

/-- What the waits before the call may be on. -/
abbrev Rw (c : Dev nD) : Set (SemLoc sig × HIx 1) := {p | (K (F := F)).lev (tG c, p.1) p.2 ≤ 8 * (0 : ℕ)}

theorem Otc_none (d : Dev nD) (g : GSem nD τ sig) : (K (F := F)).Otc d 0 g none = 0 := by
  by_contra h
  have := SparseCore.Cfg.lev_of_Otc_pos (K := K (F := F)) (Nat.pos_of_ne_zero h)
  rw [SparseCore.Cfg.lev_none] at this
  omega

/-- The core's state before call `n`, what it owes apart. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) : ((K (F := F)).tcSt EH d 0 : sProp 𝕄) = iprop(OWR (fun c => (K (F := F)).Otc c 0) (Rw (F := F)) d ∗ tcRest d 0) := rfl

variable [∀ e, Nonempty (Elt F e)]

abbrev segM (hpre : PreOK m) :=
  segG (F := F) (Am m) (fun c => idxS (Im m c)) (fun c => m ((tG c).loc main_v16)) (fun c => (K (F := F)).Otc c 0) (Rw (F := F)) (Otc_none (F := F))
    (fun c p h => by show (K (F := F)).lev (tG c, p.1) p.2 ≤ _; rw [h]; exact Nat.zero_le _) (fun c z => idxS_lt (hpre c) z)

theorem pre_eq (hpre : PreOK m) (d : Dev nD) : ((segM m hpre).pre d : sProp 𝕄)
    = iprop(((tG d).loc main_v0 ↦{fullShare} idxS (Im m d)) ∗ ((tG d).loc main_arg0 ↦{fullShare} Am m d) ∗ ((tG d).loc main_v16 ↦{fullShare} m ((tG d).loc main_v16))
      ∗ OWR (fun c => (K (F := F)).Otc c 0) (Rw (F := F)) d) := rfl
theorem post_eq (hpre : PreOK m) (d : Dev nD) : ((segM m hpre).post d : sProp 𝕄)
    = iprop(((tG d).loc main_v0 ↦{fullShare} idxS (Im m d)) ∗ ((tG d).loc main_arg0 ↦{fullShare} Am m d)
      ∗ (∃ G : S51200000.Idx → Elt F .f32, ⌜RowsTo 5000 (Am m d) (idxS (Im m d)) G⌝ ∗ (tG d).loc main_v16 ↦{fullShare} G)
      ∗ OWR (fun c => (K (F := F)).Otc c 0) (Rw (F := F)) d) := rfl

/-- The call of the region, as the program has it and as the region's own rule has it. -/
theorem call_eq : (Prog.lift (.customCall (SparseCore.inner (Pipeline.entry 0)) ()) : Prog (TpuEff nD τ sig (Elt F) (SparseCore.Sig (Pipeline.Sig Λ₀ (Fin 1) fun p => (pcfgs (F := F) p).Adm) 1) .tc) PUnit)
    = SparseCore.liftProg (.op (.customCall (Pipeline.entry 0) ()) fun _ => .ret ⟨⟩) := rfl

set_option maxRecDepth 16384 in
set_option backward.isDefEq.respectTransparency.types false in
/-- The layout of the rows, as the program calls it. -/
theorem layout (hpre : PreOK m) (d : Dev nD) :
    iprop(levAts (K (F := F)).L (K (F := F)).lev ∗ boundary (tG d) ∗ (segM m hpre).pre d ∗ Gh m d)
      ⊢ wp frame (wpE ((K (F := F)).defs (D (F := F))) 𝒱 (tG d) none) Set.univ
          (Prog.lift (.customCall (SparseCore.inner (Pipeline.entry 0)) ()) : Prog (TpuEff nD τ sig (Elt F) (SparseCore.Sig (Pipeline.Sig Λ₀ (Fin 1) fun p => (pcfgs (F := F) p).Adm) 1) .tc) PUnit)
          fun _ => iprop(boundary (tG d) ∗ (segM m hpre).post d) := by
  rw [call_eq]
  suffices h : iprop(levAts (K (F := F)).L (K (F := F)).lev ∗ boundary (tG d) ∗ (segM m hpre).pre d ∗ Gh m d)
      ⊢ wp frame (wpE (D (F := F)) 𝒱 (tG d) none) Set.univ
          (.op (.customCall (Pipeline.entry 0) ()) fun _ => .ret ⟨⟩ : Prog (TpuEff nD τ sig (Elt F) (ΛP (F := F)) .tc) PUnit)
          fun _ => iprop(boundary (tG d) ∗ (segM m hpre).post d) from
    BI.Entails.trans h ((K (F := F)).wp_liftProg (D (F := F)) 𝒱 (tG d) Set.univ none _ _)
  iintro ⟨#Hlv, Hb, Hp, Hc, Ht⟩
  iapply (Pipeline.PerCore.RDat.RegionSeg.wp (pcfgs (F := F)) (admG fun c => idxS (Im m c)) _ none (phinj m) (EP (F := F)) (defs₀ (F := F)) 𝒱₀
    (K (F := F)).L (K (F := F)).lev (segM m hpre) d none (fun u hu => nomatch hu) (fun _ => .ret ⟨⟩) _)
  isplitr [Hb Hp Hc Ht]
  · iintro H
    rw [wp_ret]
    imodintro
    iexact H
  isplitl [Hb]; · iexact Hb
  isplitl [Hp]; · iexact Hp
  isplitr; · iexact Hlv
  isplitl [Hc] <;> iassumption

abbrev FIN (d : Dev nD) : sProp 𝕄 :=
  iprop(((tG d).loc main_arg0 ↦{fullShare} m ((tG d).loc main_arg0)) ∗ ((tG d).loc main_arg1 ↦{fullShare} m ((tG d).loc main_arg1))
    ∗ ((tG d).loc main_arg2 ↦{fullShare} m ((tG d).loc main_arg2)) ∗ ((tG d).loc main_arg3 ↦{fullShare} m ((tG d).loc main_arg3))
    ∗ ((tG d).loc main_v17_0 ↦{fullShare} A2m m d) ∗ ((tG d).loc main_v17_1 ↦{fullShare} NXm m d))

theorem st_eq (d : Dev nD) : (bigSep Finset.univ fun c : Fin ((K (F := F)).nCore 0) => (Py m).st 0 d c) = (bigSep Finset.univ fun c : Fin 2 => stP m d c : sProp 𝕄) :=
  bigSep_congr fun _ _ => congrArg (stP m d) (Fin.ext rfl)
theorem dn_eq (d : Dev nD) : (bigSep Finset.univ fun c : Fin ((K (F := F)).nCore 0) => (Py m).dn 0 d c) = (bigSep Finset.univ fun c : Fin 2 => dnP m d c : sProp 𝕄) :=
  bigSep_congr fun _ _ => congrArg (dnP m d) (Fin.ext rfl)

set_option maxRecDepth 16384 in
set_option backward.isDefEq.respectTransparency.types false in
/-- The program: the host's operations, the layout of the rows, the gather. -/
theorem hmain (hpre : PreOK m) (κ : GSem nD τ sig → ℕ) (d : Dev nD) :
    iprop((K (F := F)).ctx EH (Py m) κ ∗ (K (F := F)).tcSt EH d 0 ∗ (K (F := F)).tcRes m ρ d ∗ Gh m d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄)
        = StableHlo.held (d.tc : Thread nD τ) (Pipeline.ucRefs τ sig) (StableHlo.launchContents m d)
      from Pipeline.unscopedBufs_held d (StableHlo.launchContents m d)]
  iintro ⟨#Hctx, Hst, ⟨Hb, Hh, Hts, -⟩, HG⟩
  iapply (StableHlo.wp_seq 𝒱 none Set.univ d (Pipeline.ucRefs τ sig) (fun _ => rest d) hops
    (fun op h => Pipeline.sub_ucRefs op (hops_sub op h)) hops_fresh (StableHlo.launchContents m d)) $$ [Hb Hh]
  · isplitl [Hb] <;> iassumption
  iintro ⟨Hb, Hh⟩
  ihave Hh := (Entails.of_eq (StableHlo.held_sub_split (d.tc : Thread nD τ) usedRefs_sub (V1 m d))) $$ Hh
  icases Hh with ⟨Hh, -⟩
  ihave Hh := (Entails.of_eq (held_used d (V1 m d))) $$ Hh
  rw [V1_arg0, V1_arg1, V1_arg2, V1_arg3, V1_v0, V1_v2, V1_v8, V1_v15, V1_v16, V1_v17_0, V1_v17_1]
  icases Hh with ⟨H0, H1, H2, H3, Hid, Hci, Hi8, Hv16, Hrl, Ha2, Hnx⟩
  ihave Hst := (Entails.of_eq (tcSt_eq (F := F) d)) $$ Hst
  icases Hst with ⟨HO, Hst⟩
  unfold rest
  rw [wp_bind]
  ihave Hlv := (SparseCore.Cfg.ctx_levAts (K := K (F := F)) (EH := EH) (P := Py m) κ) $$ Hctx
  iapply (wp_wand_r Idealize.ShloMosaic.frame (wpE ((K (F := F)).defs (D (F := F))) 𝒱 (tG d) none) Set.univ)
  isplitl [Hlv Hb Hid H0 Hrl HO HG]
  · iapply (layout m hpre d)
    isplitl [Hlv]; · iexact Hlv
    isplitl [Hb]; · iexact Hb
    isplitl [Hid H0 Hrl HO]
    · iapply (Entails.of_eq (pre_eq m hpre d).symm)
      isplitl [Hid]; · iexact Hid
      isplitl [H0]; · iexact H0
      isplitl [Hrl] <;> iassumption
    iexact HG
  iintro %_ ⟨Hb, Hpost⟩
  ihave Hpost := (Entails.of_eq (post_eq m hpre d)) $$ Hpost
  icases Hpost with ⟨Hid, H0, ⟨%G, %hG, Hrl⟩, HO⟩
  rw [wp_bind]
  iapply ((K (F := F)).wp_run (D (F := F)) 𝒱 (EH := EH) (P := Py m) κ d 0)
  isplitr; · iexact Hctx
  isplitl [HO Hst]
  · iapply (Entails.of_eq (tcSt_eq (F := F) d).symm)
    isplitl [HO] <;> iassumption
  isplitl [H1 Hci Hi8 Hv16 Hrl Ha2 Hnx]
  · iapply (Entails.of_eq (st_eq m d).symm)
    iapply (deal m d G hG)
    isplitl [Hrl]; · iexact Hrl
    isplitl [H1]; · iexact H1
    isplitl [Hci]; · iexact Hci
    isplitl [Hi8]; · iexact Hi8
    isplitl [Hv16]; · iexact Hv16
    isplitl [Ha2] <;> iassumption
  iintro ⟨Hst, Hdn⟩
  ihave Hdn := (Entails.of_eq (dn_eq m d)) $$ Hdn
  ihave Hdn := (collect m d) $$ Hdn
  icases Hdn with ⟨H1, Ha2, Hnx⟩
  rw [wp_pure]
  imodintro
  isplitl [Hst]; · iexact Hst
  isplitr [Hb Hts]
  · isplitl [H0]; · iexact H0
    isplitl [H1]; · iexact H1
    isplitl [H2]; · iexact H2
    isplitl [H3]; · iexact H3
    isplitl [Ha2] <;> iassumption
  isplitl [Hb] <;> iassumption

/-! ## What the final memory holds -/

def fq (d : Dev nD) (s' : Phys nD τ sig (Elt F)) : Prop :=
  s'.mem.mem ((tG d).loc main_arg0) = m ((tG d).loc main_arg0) ∧ s'.mem.mem ((tG d).loc main_arg1) = m ((tG d).loc main_arg1)
    ∧ s'.mem.mem ((tG d).loc main_arg2) = m ((tG d).loc main_arg2) ∧ s'.mem.mem ((tG d).loc main_arg3) = m ((tG d).loc main_arg3)
    ∧ s'.mem.mem ((tG d).loc main_v17_0) = A2m m d ∧ s'.mem.mem ((tG d).loc main_v17_1) = NXm m d

theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, Ha, Hn⟩, HSI⟩
  ihave H := (agree s' ((tG d).loc main_arg0) _) $$ [H0 HSI]
  · isplitl [H0] <;> iassumption
  icases H with ⟨%h0, HSI⟩
  ihave H := (agree s' ((tG d).loc main_arg1) _) $$ [H1 HSI]
  · isplitl [H1] <;> iassumption
  icases H with ⟨%h1, HSI⟩
  ihave H := (agree s' ((tG d).loc main_arg2) _) $$ [H2 HSI]
  · isplitl [H2] <;> iassumption
  icases H with ⟨%h2, HSI⟩
  ihave H := (agree s' ((tG d).loc main_arg3) _) $$ [H3 HSI]
  · isplitl [H3] <;> iassumption
  icases H with ⟨%h3, HSI⟩
  ihave H := (agree s' ((tG d).loc main_v17_0) _) $$ [Ha HSI]
  · isplitl [Ha] <;> iassumption
  icases H with ⟨%h4, HSI⟩
  ihave H := (agree s' ((tG d).loc main_v17_1) _) $$ [Hn HSI]
  · isplitl [Hn] <;> iassumption
  icases H with ⟨%h5, -⟩
  ipureintro
  exact ⟨h0, h1, h2, h3, h4, h5⟩

/-- After the program: the arguments as they were, the results at their values, every semaphore at zero. -/
def QC : PUnit × MemSt nD τ sig (Elt F) → Prop := fun r =>
  (∀ d : Dev nD, r.2.mem ((tG d).loc main_arg0) = m ((tG d).loc main_arg0) ∧ r.2.mem ((tG d).loc main_arg1) = m ((tG d).loc main_arg1)
    ∧ r.2.mem ((tG d).loc main_arg2) = m ((tG d).loc main_arg2) ∧ r.2.mem ((tG d).loc main_arg3) = m ((tG d).loc main_arg3)
    ∧ r.2.mem ((tG d).loc main_v17_0) = A2m m d ∧ r.2.mem ((tG d).loc main_v17_1) = NXm m d) ∧ r.2.sem = fun _ => 0

theorem run_main (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Py m) (A := ∅) facts v₀
    (fun q hq => match q with | 0 => nomatch hq)
    (fun q _ => match q with | 0 => tileObl m facts hpre)
    (fun q _ => match q with | 0 => SparseCore.Cfg.VecSplit.of_plain (vecSplit m))
    m ρ main (fun d => Gh m d) (FIN m) (u₀ m) (sep_elim_left.trans (hu₀ m)) (hmain m ρ hpre) (fq m) (hfin m) (QC m) (fun _ h hz => ⟨h, hz⟩)

end

end Cert.Proof.Run

end
-- ==== Proof.Same.lean ====
/-
  The program as it runs on the chip and the program read at the ideal instance are the same program: each definition of the one
  unfolds to that of the other.
-/
module

public import proofs.«01_k».proof.Defs
public import proofs.«01_k».proof.Proof.Gen.Kernel
public import proofs.«01_k».proof.Proof.Gen.KernelIdeal

@[expose] public section

set_option backward.isDefEq.respectTransparency false
set_option backward.isDefEq.respectTransparency.types false

noncomputable section

namespace Cert.Proof.Run
open Idealize.ShloMosaic Idealize.SL.Sem

variable {F : FTy → Type} [FloatOps F]
set_option maxHeartbeats 4000000 in
set_option maxRecDepth 16384 in
theorem body0_same : @Cert.Kernel.cc0__rowgather_body F _ = @Cert.KernelIdeal.cc0__rowgather_body F _ := by
  rfl

set_option maxHeartbeats 4000000 in
set_option maxRecDepth 16384 in
theorem body1_same : @Cert.Kernel.cc1__sc_gather_body F _ _ = @Cert.KernelIdeal.cc1__sc_gather_body F _ _ := by
  rfl

set_option maxHeartbeats 4000000 in
set_option maxRecDepth 16384 in
theorem defs₀_same : ∀ p ℓ a, @Cert.Kernel.defs₀ F _ _ p ℓ a = @Cert.KernelIdeal.defs₀ F _ _ p ℓ a
  | .tc, 0, (t, s) => rfl
  | .tc, 1, _ => rfl
  | .scVector c s, 0, _ => rfl
  | .scVector c s, 1, _ => rfl
  | .scScalar c, 0, _ => rfl
  | .scScalar c, 1, _ => rfl

set_option maxHeartbeats 4000000 in
set_option maxRecDepth 16384 in
theorem pcfgs_same : @Cert.Kernel.pcfgs F _ _ = @Cert.KernelIdeal.pcfgs F _ _ := by
  rfl

set_option maxHeartbeats 4000000 in
set_option maxRecDepth 16384 in
theorem sc_same : @Cert.Kernel.sc F _ _ = @Cert.KernelIdeal.sc F _ _ := by
  rfl

set_option maxHeartbeats 4000000 in
set_option maxRecDepth 16384 in
theorem defs_same : @Cert.Kernel.defs F _ _ = @Cert.KernelIdeal.defs F _ _ := by
  have e : @Cert.Kernel.defs₀ F _ _ = @Cert.KernelIdeal.defs₀ F _ _ := funext fun p => funext fun ℓ => funext fun a => defs₀_same p ℓ a
  exact congrArg (fun D => (Cert.KernelIdeal.sc (F := F)).defs (Pipeline.defs (Cert.KernelIdeal.pcfgs (F := F)) D)) e

set_option maxHeartbeats 4000000 in
set_option maxRecDepth 16384 in
theorem main_same : @Cert.Kernel.main F _ _ = @Cert.KernelIdeal.main F _ _ := by
  rfl

set_option maxHeartbeats 4000000 in
set_option maxRecDepth 16384 in
theorem threads_same : @Cert.Kernel.threads F _ _ = @Cert.KernelIdeal.threads F _ _ := by
  exact congrArg (fun p => (Cert.KernelIdeal.sc (F := F)).threads p) main_same

end Cert.Proof.Run

end
-- ==== Proof.Frames.lean ====
/-
  From the statement's precondition to what the run asks, and the claims that the programs end with their arguments as
  they were.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Same
public import Idealize.ShloMosaic.Lib.ReduceAll

@[expose] public section

set_option backward.isDefEq.respectTransparency false
set_option backward.isDefEq.respectTransparency.types false

noncomputable section

namespace Cert.Proof.Run

open Cert.KernelIdeal Cert.KernelIdeal.Gen
open Idealize.ShloMosaic Idealize.SL.Sem

/-- The precondition gives that every index is below the number of rows. -/
theorem lt_of_pre {F : FTy → Type} [FloatOps F] (A : FVec F S10000x10000 .f32) (X : FVec F S10000x128 .f32) (idx : IVec S5120 32) (val : FVec F S5120 .f32)
    (h : Cert.Pre_in_range.fn (F := F) A X idx val = fun _ => 1#1) (j : S5120.Idx) : (idx j).toNat < 10000 := by
  have e := congrFun h (fun a => a.elim0)
  unfold Cert.Pre_in_range.fn at e
  haveI : Subsingleton Cert.Pre_in_range.S_.Idx := ⟨fun a b => funext fun q => q.elim0⟩
  have e1 := Host.reduce_andi_all _ _ _ _ _ e j
  obtain ⟨h0, h1⟩ := IntOp.andi_eq_one.1 e1
  have h2 := IntOp.cmpi_sge.1 h0
  have h3 := IntOp.cmpi_slt.1 h1
  simp only [broadcastInDim, constantI] at h2 h3
  have e0 : (0#32 : BitVec 32).toInt = 0 := by decide
  have e2 : (10000#32 : BitVec 32).toInt = 10000 := by decide
  rw [e0] at h2
  rw [e2] at h3
  rw [BitVec.toInt_eq_toNat_cond] at h2 h3
  split at h2 <;> omega

theorem preOK_ideal (m : (ℓ : Loc nD τ sig) → Buf (Elt Ideal) ℓ) (h : Cert.Pre_KernelIdeal m) : PreOK (F := Ideal) m :=
  fun d j => lt_of_pre (F := Ideal) _ _ _ _ (h d) j

theorem preOK_bits (m : (ℓ : Loc nD τ sig) → Buf (Elt Bits) ℓ) (h : Cert.Pre_Kernel m) : PreOK (F := Bits) m :=
  fun d j => lt_of_pre (F := Bits) _ _ _ _ (h d) j

set_option maxHeartbeats 4000000 in
set_option maxRecDepth 16384 in
theorem run_bits (m : (ℓ : Loc Cert.Kernel.nD Cert.Kernel.τ Cert.Kernel.sig) → Buf (Elt Bits) ℓ) (g : Dev Cert.Kernel.nD → PrngReg) (hpre : Cert.Pre_Kernel m) :
    θ_run (Cert.Kernel.defs (F := Bits)) (Cert.Kernel.threads (F := Bits)) ⟨m, fun _ => 0, g⟩ (QC (F := Bits) m) := by
  have h := run_main (F := Bits) m g (preOK_bits m hpre)
  rw [← defs_same, ← threads_same] at h
  exact h

theorem frame_kernel : Cert.quiescent_Kernel := fun m g hpre =>
  (θ_run (Cert.Kernel.defs (F := Bits)) _ _).mono (fun _ h => ⟨fun c => ⟨(h.1 c).1, (h.1 c).2.1, (h.1 c).2.2.1, (h.1 c).2.2.2.1⟩, h.2⟩)
    (run_bits m g hpre)

theorem frame_ideal : Cert.quiescent_KernelIdeal := fun m g hpre =>
  (θ_run (Cert.KernelIdeal.defs (F := Ideal)) _ _).mono (fun _ h => ⟨fun c => ⟨(h.1 c).1, (h.1 c).2.1, (h.1 c).2.2.1, (h.1 c).2.2.2.1⟩, h.2⟩)
    (run_main (F := Ideal) m g (preOK_ideal m hpre))

theorem frame_reference : Cert.quiescent_ReferenceIdeal := fun m g _ =>
  (θ_run (Cert.ReferenceIdeal.defs (F := Ideal)) _ _).mono
    (fun r h => ⟨fun c => ⟨(h c).2.2.1, (h c).2.2.2.1, (h c).2.2.2.2.1, (h c).2.2.2.2.2⟩, Idealize.ShloMosaic.sem_eq_zero_of_no_sems (by decide) r.2⟩)
    (Cert.ReferenceIdeal.Value.run (F := Ideal) m g)

end Cert.Proof.Run

end
-- ==== Proof.Reads.lean ====
/-
  What the arrays laid out for the SparseCore's tasks hold at the places that a row's task reads: the row's index and its score.
-/
module

public import proofs.«01_k».proof.Proof.Pay
public import Idealize.ShloMosaic.Lib.KernelVsHost
public import Idealize.ShloMosaic.Lib.Pipeline.Value

@[expose] public section

noncomputable section

namespace Cert.Proof.Run

open Cert.KernelIdeal Cert.KernelIdeal.Gen
open Idealize.ShloMosaic
open Idealize.ShloMosaic.ValueIdx (ix1 ix2 ix3 ix4)

variable {F : FTy → Type} [FloatOps F]

/-- Rows counted four to a block, the blocks dealt out to the tasks in turn: place `r` of task `w`'s block `t` is row `128 t + 4 w + r`. -/
theorem dealt_apply {α : Type} (x : S5000.Idx → α) (z : S_.Idx → α) (w : Fin 32) (t : Fin 40) (r : Fin 4) (hρ : 128 * t.val + 4 * w.val + r.val < 5000) :
    transpose S32x40x4 [1, 0, 2]
      (shapeCast S40x32x4
        (pad S1280x4 ![0, 0] ![30, 0] ![0, 0] (shapeCast S1250x4 x shapeCasts_S5000_S1250x4) z pads_S1250x4_S1280x4_0300_000 h_S_)
        shapeCasts_S1280x4_S40x32x4)
      transposes_S40x32x4_S32x40x4_1_0_2 (ix3 w t r)
      = x (ix1 ⟨128 * t.val + 4 * w.val + r.val, hρ⟩) := by
  have hb : 32 * t.val + w.val < 1250 := by omega
  refine (transpose_apply [1, 0, 2] _ transposes_S40x32x4_S32x40x4_1_0_2 (ix3 w t r) (ix3 t w r) (fun b => ?_)).trans ?_
  · match b with
    | ⟨0, _⟩ => rfl
    | ⟨1, _⟩ => rfl
    | ⟨2, _⟩ => rfl
  refine (shapeCast_apply _ shapeCasts_S1280x4_S40x32x4 (ix3 t w r) (ix2 (⟨32 * t.val + w.val, by omega⟩ : Fin 1280) r) ?_).trans ?_
  · rw [Shape.rowMajor_val_two, Shape.rowMajor_val_three]
    show (32 * t.val + w.val) * 4 + r.val = (t.val * 32 + w.val) * 4 + r.val
    omega
  refine (pad_apply_of_inside ![0, 0] ![30, 0] ![0, 0] _ z pads_S1250x4_S1280x4_0300_000 h_S_ _ (ix2 (⟨32 * t.val + w.val, hb⟩ : Fin 1250) r) (fun a => ?_)).trans ?_
  · match a with
    | ⟨0, _⟩ => show 32 * t.val + w.val = 0 + (32 * t.val + w.val) * (0 + 1); omega
    | ⟨1, _⟩ => show r.val = 0 + r.val * (0 + 1); omega
  refine shapeCast_apply x shapeCasts_S5000_S1250x4 _ _ ?_
  rw [Shape.rowMajor_val_one, Shape.rowMajor_val_two]
  show 128 * t.val + 4 * w.val + r.val = (32 * t.val + w.val) * 4 + r.val
  omega

theorem idx8S_at (idx : S5120.Idx → BitVec 32) (ρ : ℕ) (h : ρ < 5000) : idx8S idx (i8At ρ h) = idxS idx (ix1 ⟨ρ, h⟩) := by
  unfold idx8S i8At
  refine (shapeCast_apply _ shapeCasts_S32x40x8_S32x320 _ (ix3 (⟨ρ / 4 % 32, by omega⟩ : Fin 32) (⟨ρ / 128, by omega⟩ : Fin 40) (⟨ρ % 4, by omega⟩ : Fin 8)) ?_).trans ?_
  · rw [Shape.rowMajor_val_two, Shape.rowMajor_val_three]
    show (ρ / 4 % 32 * 40 + ρ / 128) * 8 + ρ % 4 = ρ / 4 % 32 * 320 + (8 * (ρ / 128) + ρ % 4)
    omega
  refine (pad_apply_of_inside ![0, 0, 0] ![0, 0, 4] ![0, 0, 0] _ _ pads_S32x40x4_S32x40x8_000_000_040 h_S_ _
    (ix3 (⟨ρ / 4 % 32, by omega⟩ : Fin 32) (⟨ρ / 128, by omega⟩ : Fin 40) (⟨ρ % 4, by omega⟩ : Fin 4)) (fun a => ?_)).trans ?_
  · match a with
    | ⟨0, _⟩ => show ρ / 4 % 32 = 0 + ρ / 4 % 32 * (0 + 1); omega
    | ⟨1, _⟩ => show ρ / 128 = 0 + ρ / 128 * (0 + 1); omega
    | ⟨2, _⟩ => show ρ % 4 = 0 + ρ % 4 * (0 + 1); omega
  refine (dealt_apply (idxS idx) _ _ _ _ (by show 128 * (ρ / 128) + 4 * (ρ / 4 % 32) + ρ % 4 < 5000; omega)).trans ?_
  exact congrArg (idxS idx) (congrArg ix1 (Fin.ext (by show 128 * (ρ / 128) + 4 * (ρ / 4 % 32) + ρ % 4 = ρ; omega)))

theorem val16S_at (val : S5120.Idx → Elt F .f32) (ρ k : ℕ) (h : ρ < 5000) : val16S val (v16At ρ k h) = valS val (ix1 ⟨ρ, h⟩) := by
  unfold val16S v16At
  refine (shapeCast_apply _ shapeCasts_S32x40x4x16_S32x2560 _
    (ix4 (⟨ρ / 4 % 32, by omega⟩ : Fin 32) (⟨ρ / 128, by omega⟩ : Fin 40) (⟨ρ % 4, by omega⟩ : Fin 4) (⟨k % 16, by omega⟩ : Fin 16)) ?_).trans ?_
  · rw [Shape.rowMajor_val_two, Shape.rowMajor_val_four]
    show ((ρ / 4 % 32 * 40 + ρ / 128) * 4 + ρ % 4) * 16 + k % 16 = ρ / 4 % 32 * 2560 + (64 * (ρ / 128) + 16 * (ρ % 4) + k % 16)
    omega
  refine (broadcastInDim_apply ![0, 1, 2, 3] bcast_S32x40x4x1_S32x40x4x16_0_1_2_3 _ _
    (ix4 (⟨ρ / 4 % 32, by omega⟩ : Fin 32) (⟨ρ / 128, by omega⟩ : Fin 40) (⟨ρ % 4, by omega⟩ : Fin 4) (0 : Fin 1)) (fun a => ?_)).trans ?_
  · match a with
    | ⟨0, _⟩ => rfl
    | ⟨1, _⟩ => rfl
    | ⟨2, _⟩ => rfl
    | ⟨3, _⟩ => rfl
  refine (broadcastInDim_apply ![0, 1, 2] bcast_S32x40x4_S32x40x4x1_0_1_2 _ _
    (ix3 (⟨ρ / 4 % 32, by omega⟩ : Fin 32) (⟨ρ / 128, by omega⟩ : Fin 40) (⟨ρ % 4, by omega⟩ : Fin 4)) (fun a => ?_)).trans ?_
  · match a with
    | ⟨0, _⟩ => rfl
    | ⟨1, _⟩ => rfl
    | ⟨2, _⟩ => rfl
  refine (dealt_apply (valS val) _ _ _ _ (by show 128 * (ρ / 128) + 4 * (ρ / 4 % 32) + ρ % 4 < 5000; omega)).trans ?_
  exact congrArg (valS val) (congrArg ix1 (Fin.ext (by show 128 * (ρ / 128) + 4 * (ρ / 4 % 32) + ρ % 4 = ρ; omega)))

/-- The scaled rows: row `i` is the row of `X` that the `i`-th index names, times the `i`-th score. -/
theorem NXf_eq (X : S10000x128.Idx → Elt F .f32) (idx : S5120.Idx → BitVec 32) (val : S5120.Idx → Elt F .f32) (i : Fin 5000) (k : Fin 128) :
    NXf X (idx8S idx) (val16S val) (ix2 i k)
      = FloatOps.mulf (X (ix2 ⟨(idxS idx (ix1 i)).toNat % 10000, Nat.mod_lt _ (by decide)⟩ k)) (valS val (ix1 i)) := by
  unfold NXf
  refine congrArg₂ FloatOps.mulf ?_ ?_
  · refine congrArg X (funext fun a => ?_)
    match a with
    | ⟨0, _⟩ => exact Fin.ext (congrArg (fun v : BitVec 32 => v.toNat % 10000) (idx8S_at idx i.val i.isLt))
    | ⟨1, _⟩ => rfl
  · exact val16S_at val i.val k.val i.isLt

end Cert.Proof.Run

end
-- ==== Proof.Refs.lean ====
/-
  What the reference's operations give at an index: rows and columns taken at the indices, and the taken rows scaled.
-/
module

public import proofs.«01_k».proof.Proof.Gen.ReferenceIdeal
public import Idealize.ShloMosaic.Lib.KernelVsHost
public import Idealize.ShloMosaic.Lib.Pipeline.Value
public import Idealize.ShloMosaic.Lib.Routing.Ops

@[expose] public section

noncomputable section

namespace Cert.Proof.Ref

open Cert.ReferenceIdeal Cert.ReferenceIdeal.Gen
open Idealize.ShloMosaic
open Idealize.ShloMosaic.ValueIdx (ix1 ix2)

variable {F : FTy → Type} [FloatOps F]

/-- The first 5000 indices. -/
def picks (idx : S5120.Idx → BitVec 32) : S5000.Idx → BitVec 32 := extractStridedSlice S5000 ![0] idx slices_S5120_S5000_0
/-- The first 5000 scores. -/
def scores (val : S5120.Idx → Elt F .f32) : S5000.Idx → Elt F .f32 := extractStridedSlice S5000 ![0] val slices_S5120_S5000_0
/-- The indices as the reference hands them to a gather: a negative one counted from the end. -/
def starts (idx : S5120.Idx → BitVec 32) : S5000x1.Idx → BitVec 32 :=
  broadcastInDim S5000x1 ![0] bcast_S5000_S5000x1_0
    (select (cmpi .slt (picks idx) (broadcastInDim S5000 ![] bcast_S_S5000 (constantI S_ 32 0#32)))
      (addi (picks idx) (broadcastInDim S5000 ![] bcast_S_S5000 (constantI S_ 32 10000#32))) (picks idx))

variable {idx : S5120.Idx → BitVec 32} (h : ∀ j, (idx j).toNat < 10000)
include h

theorem picks_lt (z : S5000.Idx) : (picks idx z).toNat < 10000 := h _

/-- An index in range is handed on as it is. -/
theorem starts_at (c : Fin 5000) : starts idx (ix2 c (0 : Fin 1)) = BitVec.ofNat 32 (picks idx (ix1 c)).toNat := by
  have hp := picks_lt h (ix1 c)
  unfold starts
  refine (broadcastInDim_apply ![0] bcast_S5000_S5000x1_0 _ _ (ix1 c) (fun a => ?_)).trans ?_
  · match a with
    | ⟨0, _⟩ => rfl
  rw [BitVec.ofNat_toNat, BitVec.setWidth_eq]
  show Scalar.select (IntOp.cmpi .slt (picks idx (ix1 c)) (0#32)) _ _ = _
  have hc : ¬ IntOp.cmpi .slt (picks idx (ix1 c)) (0#32) = 1#1 := fun e => by
    have h1 := IntOp.cmpi_slt.1 e
    rw [BitVec.toInt_eq_toNat_cond] at h1
    have e0 : (0#32 : BitVec 32).toInt = 0 := by decide
    rw [e0] at h1
    split at h1 <;> omega
  rw [ValueIdx.eq_zero_of_ne_one hc]
  rfl

theorem rowsX (X : S10000x128.Idx → Elt F .f32) (c : Fin 5000) (k : Fin 128) :
    Host.gather gather_S10000x128_S5000x1_S5000x128_1_0_n_n_0_1_1128 X (starts idx) (ix2 c k)
      = X (ix2 ⟨(picks idx (ix1 c)).toNat, picks_lt h _⟩ k) :=
  Routing.gather_row gather_S10000x128_S5000x1_S5000x128_1_0_n_n_0_1_1128 rfl rfl rfl rfl rfl X (starts idx) c k
    ⟨(picks idx (ix1 c)).toNat, picks_lt h _⟩ (starts_at h c) (by decide)

theorem rowsA (A : S10000x10000.Idx → Elt F .f32) (c : Fin 5000) (k : Fin 10000) :
    Host.gather gather_S10000x10000_S5000x1_S5000x10000_1_0_n_n_0_1_110000 A (starts idx) (ix2 c k)
      = A (ix2 ⟨(picks idx (ix1 c)).toNat, picks_lt h _⟩ k) :=
  Routing.gather_row gather_S10000x10000_S5000x1_S5000x10000_1_0_n_n_0_1_110000 rfl rfl rfl rfl rfl A (starts idx) c k
    ⟨(picks idx (ix1 c)).toNat, picks_lt h _⟩ (starts_at h c) (by decide)

/-- The gather over columns. -/
theorem colsA (B : S5000x10000.Idx → Elt F .f32) (c e : Fin 5000) :
    Host.gather gather_S5000x10000_S5000x1_S5000x5000_0_1_n_n_1_1_50001 B (starts idx) (ix2 c e)
      = B (ix2 c ⟨(picks idx (ix1 e)).toNat, picks_lt h _⟩) := by
  unfold Host.gather
  refine congrArg B (funext fun a => Fin.ext ?_)
  show (gather_S5000x10000_S5000x1_S5000x5000_0_1_n_n_1_1_50001).start (ix2 c e) (starts idx) a
    + (gather_S5000x10000_S5000x1_S5000x5000_0_1_n_n_1_1_50001).batchCoord (ix2 c e) a
    + (gather_S5000x10000_S5000x1_S5000x5000_0_1_n_n_1_1_50001).offCoord (ix2 c e) a = _
  rw [GatherDims.batchCoord_eq_zero _ _ _ List.not_mem_nil, Nat.add_zero]
  match a with
  | ⟨0, _⟩ =>
    unfold GatherDims.start
    refine (congrArg (· + _) (dif_neg (show ¬ (0 : Fin 2) ∈ [(1 : Fin 2)] by decide))).trans ?_
    rw [Nat.zero_add]
    rfl
  | ⟨1, _⟩ =>
    rw [GatherDims.offCoord_eq_zero _ _ _ (fun hk => ((GatherDims.mem_sKept _ _).mp hk).1 (List.mem_singleton.mpr rfl)), Nat.add_zero]
    unfold GatherDims.start
    refine (dif_pos (show (1 : Fin 2) ∈ [(1 : Fin 2)] by decide)).trans ?_
    have hsi : (gather_S5000x10000_S5000x1_S5000x5000_0_1_n_n_1_1_50001).siIdx (ix2 c e)
        ⟨List.idxOf (1 : Fin 2) [(1 : Fin 2)], List.idxOf_lt_length_iff.2 (by decide)⟩ = ix2 e (0 : Fin 1) := by
      funext b
      refine Fin.ext ?_
      match b with
      | ⟨0, _⟩ => rfl
      | ⟨1, _⟩ => rfl
    refine (congrArg (fun v : BitVec 32 => min v.toInt.toNat 9999) ((congrArg (starts idx) hsi).trans (starts_at h e))).trans ?_
    have hp := picks_lt h (ix1 e)
    show min (BitVec.ofNat 32 (picks idx (ix1 e)).toNat).toInt.toNat 9999 = (picks idx (ix1 e)).toNat
    rw [StableHlo.Predicate.toInt_ofNat_small _ (by omega)]
    omega

end Cert.Proof.Ref

end
-- ==== Proof.Value.lean ====
/-
  The kernel's two results are the reference's: the pooled adjacency and the scaled rows.
-/
module

public import proofs.«01_k».proof.Proof.Frames
public import proofs.«01_k».proof.Proof.Reads
public import proofs.«01_k».proof.Proof.Refs

@[expose] public section

noncomputable section

namespace Cert.Proof.Run

open Cert.KernelIdeal Cert.KernelIdeal.Gen
open Idealize.ShloMosaic Idealize.SL.Sem
open Idealize.ShloMosaic.ValueIdx (ix1 ix2)

section

variable {F : FTy → Type} [FloatOps F] {idx : S5120.Idx → BitVec 32} (h : ∀ j, (idx j).toNat < 10000)
include h

/-- The rows and then the columns that the indices name. -/
theorem pooled_eq (A : S10000x10000.Idx → Elt F .f32) :
    Host.gather Cert.ReferenceIdeal.gather_S5000x10000_S5000x1_S5000x5000_0_1_n_n_1_1_50001
      (Host.gather Cert.ReferenceIdeal.gather_S10000x10000_S5000x1_S5000x10000_1_0_n_n_0_1_110000 A (Ref.starts idx)) (Ref.starts idx)
      = A2T A (idxS idx) := by
  funext i
  obtain ⟨c, e, rfl⟩ : ∃ c e : Fin 5000, i = ix2 c e := ⟨i 0, i 1, funext fun a => match a with | ⟨0, _⟩ => rfl | ⟨1, _⟩ => rfl⟩
  refine (Ref.colsA h _ c e).trans ((Ref.rowsA h A c _).trans ?_)
  unfold A2T
  refine congrArg A (funext fun a => ?_)
  match a with
  | ⟨0, _⟩ => exact Fin.ext (Nat.mod_eq_of_lt (idxS_lt h (ix1 c))).symm
  | ⟨1, _⟩ => exact Fin.ext (Nat.mod_eq_of_lt (idxS_lt h (ix1 e))).symm

/-- The rows that the indices name, each times its score. -/
theorem scaled_eq (X : S10000x128.Idx → Elt F .f32) (val : S5120.Idx → Elt F .f32) :
    mulf (Host.gather Cert.ReferenceIdeal.gather_S10000x128_S5000x1_S5000x128_1_0_n_n_0_1_1128 X (Ref.starts idx))
      (broadcastInDim Cert.ReferenceIdeal.S5000x128 ![0, 1] Cert.ReferenceIdeal.Gen.bcast_S5000x1_S5000x128_0_1
        (broadcastInDim Cert.ReferenceIdeal.S5000x1 ![0] Cert.ReferenceIdeal.Gen.bcast_S5000_S5000x1_0 (Ref.scores val)))
      = NXf X (idx8S idx) (val16S val) := by
  funext i
  obtain ⟨c, k, rfl⟩ : ∃ (c : Fin 5000) (k : Fin 128), i = ix2 c k := ⟨i 0, i 1, funext fun a => match a with | ⟨0, _⟩ => rfl | ⟨1, _⟩ => rfl⟩
  refine Eq.trans ?_ (NXf_eq X idx val c k).symm
  refine congrArg₂ FloatOps.mulf ?_ ?_
  · refine (Ref.rowsX h X c k).trans (congrArg X (funext fun a => ?_))
    match a with
    | ⟨0, _⟩ => exact Fin.ext (Nat.mod_eq_of_lt (idxS_lt h (ix1 c))).symm
    | ⟨1, _⟩ => rfl
  · refine (broadcastInDim_apply ![0, 1] Cert.ReferenceIdeal.Gen.bcast_S5000x1_S5000x128_0_1 _ _ (ix2 c (0 : Fin 1)) (fun a => ?_)).trans ?_
    · match a with
      | ⟨0, _⟩ => rfl
      | ⟨1, _⟩ => rfl
    refine (broadcastInDim_apply ![0] Cert.ReferenceIdeal.Gen.bcast_S5000_S5000x1_0 _ _ (ix1 c) (fun a => ?_)).trans rfl
    match a with
    | ⟨0, _⟩ => rfl

end

theorem value : Cert.algebraic_KernelIdeal_ReferenceIdeal := by
  intro m g m' g' hpre hm
  have hOK := preOK_ideal m hpre
  refine ⟨fun d => A2m m d, fun d => NXm m d, ?_, ?_⟩
  · exact (θ_run (Cert.KernelIdeal.defs (F := Ideal)) _ _).mono
      (fun _ h c => ⟨(h.1 c).2.2.2.2.1, (h.1 c).2.2.2.2.2, (h.1 c).1, (h.1 c).2.1, (h.1 c).2.2.1, (h.1 c).2.2.2.1⟩)
      (run_main (F := Ideal) m g hOK)
  · refine (θ_run (Cert.ReferenceIdeal.defs (F := Ideal)) _ _).mono (fun _ h c => ?_) (Cert.ReferenceIdeal.Value.run (F := Ideal) m' g')
    obtain ⟨h0, h1, h2⟩ := h c
    obtain ⟨e0, e1, e2, e3⟩ := hm c
    rw [e0, e2] at h0
    rw [e1, e2, e3] at h1
    exact ⟨h0.trans (pooled_eq (F := Ideal) (hOK c) _), h1.trans (scaled_eq (F := Ideal) (hOK c) _ _), h2⟩

end Cert.Proof.Run

end
-- ==== Proof.TopBody.lean ====
/-
  The two kernels of the top k, one grid point each: what a point reads of its inputs' blocks and what it stores in its outputs'.
-/
module

public import proofs.«01_k».proof.Defs
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Writes
public import proofs.«01_k».proof.Proof.Gen.TopIdeal
public import proofs.«01_k».proof.Proof.Gen.TopIdeal.Skeleton
public import proofs.«01_k».proof.Proof.Gen.TopIdeal.Launch
public import proofs.«01_k».proof.Proof.Gen.TopIdeal.Points

@[expose] public section

noncomputable section

namespace Cert.Proof.Top

open Cert.TopIdeal Cert.TopIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev UP : Type := URounds (GSem nD τ sig) Unit

local notation "𝕄" => MT nD τ sig Unit (Elt F) ℕ UP ℕ

abbrev EP : Emb UP (MT nD τ sig Unit (Elt F) ℕ UP ℕ) := (uEmb : UEmb UP (MT nD τ sig Unit (Elt F) ℕ UP ℕ)).toEmb

abbrev 𝒱₀ : Variants := Variants.none

abbrev wpT (c : Dev nD) {α : Type} (p : Prog (TpuEff nD τ sig (Elt F) Λ₀ .tc) α) (Q : α → sProp 𝕄) : sProp 𝕄 :=
  wp frame (wpE (defs₀ (F := F)) 𝒱₀ (c.tc : Thread nD τ) none) Set.univ p Q

/-- A load from a memref held at `X` reads `X` where the rectangle lies. -/
theorem ld (c : Dev nD) {sh : Shape} {e : EltTy} {α : Type} (m : Memref sig .tc .vmem sh e) (r : Rect sh) (X : sh.Idx → Elt F e) {hl}
    {k : (r.shape.Idx → Elt F e) → Prog (TpuEff nD τ sig (Elt F) Λ₀ .tc) α} {Q : α → sProp 𝕄} :
    owns (c.tc : Thread nD τ) m fullShare X
      ⊢ iprop((owns (c.tc : Thread nD τ) m fullShare X -∗ wpT c (k fun j => X (r.emb j)) Q) -∗ wpT c (.op (.load m r.toLoadRect hl) k) Q) := by
  unfold owns
  iintro ⟨%g, %hg, Hm⟩ Hk
  iapply (wp_load 𝒱₀ (c.tc : Thread nD τ) none Set.univ (m := m) (S := m.view.set) (m.view.setOn_subset_set _)) $$ Hm
  iintro Hm
  have e : m.view.readAt (Elt F) r.toLoadRect g = fun j => X (r.emb j) := by rw [← hg]; rfl
  rw [e]
  iapply Hk
  iexists g
  isplitr
  · ipureintro; exact hg
  iexact Hm

/-- A store of `w` to a rectangle of a memref held at `X` leaves it at `X` with `w` laid over. -/
theorem st (c : Dev nD) {sh : Shape} {e : EltTy} {α : Type} (m : Memref sig .tc .vmem sh e) (r : Rect sh) (X : sh.Idx → Elt F e) (w : r.shape.Idx → Elt F e) {hx hm}
    {k : PUnit → Prog (TpuEff nD τ sig (Elt F) Λ₀ .tc) α} {Q : α → sProp 𝕄} :
    owns (c.tc : Thread nD τ) m fullShare X
      ⊢ iprop((owns (c.tc : Thread nD τ) m fullShare (r.overlay X w) -∗ wpT c (k ⟨⟩) Q) -∗ wpT c (.op (.store m r w Finset.univ hx hm) k) Q) := by
  unfold owns
  iintro ⟨%g, %hg, Hm⟩ Hk
  iapply (wp_store 𝒱₀ (c.tc : Thread nD τ) none Set.univ (m := m) (r := r) (Mk := Finset.univ) (S := m.view.set) (f := g) (m.setOn_access_subset _ _)) $$ Hm
  iintro Hm
  iapply Hk
  iexists _
  isplitr
  swap
  · iexact Hm
  ipureintro
  funext j
  by_cases hj : j ∈ r.set
  · have hj' := hj
    rw [← Rect.map_emb_univ] at hj'
    obtain ⟨i, -, rfl⟩ := Finset.mem_map.mp hj'
    rw [Rect.overlay_emb]
    exact View.read_slice_write_emb (v := m.view) _ _ _ (Finset.mem_univ _)
  · rw [Rect.overlay_of_not_mem _ _ _ hj, ← hg]
    exact View.read_slice_write_of_not_mem (v := m.view) r g w Finset.univ (by rw [Rect.map_emb_univ]; exact hj)

/-! ## The first kernel: a block of ranks -/

/-- How many of a block of 1024 scores come before each of the rows' 1024: the greater ones, and the equal ones of a lower index. -/
def rankStep (i : grid0.Coords) (v2 : Vec F S1024x1 .f32) (k : BitVec 32) (v9 : Vec F S1x1024 .f32) : FVec F S1024x1 .f32 :=
  shapeCast S1024x1 (multiReduction .add [1] S1024 (sitofp .f32 (extui 32
    (ori (cmpf .ogt (broadcastTo S1024x1024 (shapeCast S1x1024 v9 shapeCasts_S1x1024_S1x1024) broadcasts_S1x1024_S1024x1024) (broadcastTo S1024x1024 (k0_pay2 v2) broadcasts_S1024x1_S1024x1024))
      (andi (cmpf .oeq (broadcastTo S1024x1024 (shapeCast S1x1024 v9 shapeCasts_S1x1024_S1x1024) broadcasts_S1x1024_S1024x1024) (broadcastTo S1024x1024 (k0_pay2 v2) broadcasts_S1024x1_S1024x1024))
        (cmpi .slt (broadcastTo S1024x1024 (addi (broadcast S1x1024 k) (iota .tc S1x1024 32 [1] iota_S1x1024_d1_w32)) broadcasts_S1x1024_S1024x1024) (broadcastTo S1024x1024 (k0_pay3 i) broadcasts_S1024x1_S1024x1024))))
    natLt_1_32)) 0x00000000#32 reduces_S1024x1024_S1024 (.inl rfl) rfl) shapeCasts_S1024_S1024x1

/-- The block of the row of scores that starts at `o`. -/
abbrev rowAt (s : S1x10240.Idx → Elt F .f32) (o : ℕ) (h : ∀ a, (![0, o] : Fin 2 → ℕ) a + S1x1024.size a ≤ S1x10240.size a) : Vec F S1x1024 .f32 :=
  fun j => s ((Rect.unit (s := S1x10240) ![0, o] S1x1024.size h).emb j)

/-- The block of rows a point works on. -/
abbrev rect0 (i : grid0.Coords) : Rect S10240x1 := Rect.unit (s := S10240x1) (k0_off1 i) S1024x1.size (k0_off1_inb i)

/-- The ranks a point stores. -/
def rankRow (i : grid0.Coords) (s : S1x10240.Idx → Elt F .f32) (x : S10240x1.Idx → Elt F .f32) : FVec F S1024x1 .f32 :=
  let v2 : Vec F S1024x1 .f32 := fun j => x ((rect0 i).emb j)
  addf (addf (addf (addf (addf (addf (addf (addf (addf (addf (broadcast S1024x1 (Scalar.ofBits .f32 0x00000000#32 : F .f32)) (rankStep i v2 0#32 (rowAt s 0 inb_S1x10240_S1x1024_0_0))) (rankStep i v2 1024#32 (rowAt s 1024 inb_S1x10240_S1x1024_0_1024))) (rankStep i v2 2048#32 (rowAt s 2048 inb_S1x10240_S1x1024_0_2048))) (rankStep i v2 3072#32 (rowAt s 3072 inb_S1x10240_S1x1024_0_3072))) (rankStep i v2 4096#32 (rowAt s 4096 inb_S1x10240_S1x1024_0_4096))) (rankStep i v2 5120#32 (rowAt s 5120 inb_S1x10240_S1x1024_0_5120))) (rankStep i v2 6144#32 (rowAt s 6144 inb_S1x10240_S1x1024_0_6144))) (rankStep i v2 7168#32 (rowAt s 7168 inb_S1x10240_S1x1024_0_7168))) (rankStep i v2 8192#32 (rowAt s 8192 inb_S1x10240_S1x1024_0_8192))) (rankStep i v2 9216#32 (rowAt s 9216 inb_S1x10240_S1x1024_0_9216))

set_option maxRecDepth 16384 in
theorem rank_chain (i : grid0.Coords) (s : S1x10240.Idx → Elt F .f32) (x : S10240x1.Idx → Elt F .f32) :
    k0_pay1 (k0_pay2 (fun j => x ((rect0 i).emb j))) (k0_pay3 i) (k0_pay14 (k0_pay2 (fun j => x ((rect0 i).emb j))) (k0_pay3 i) (k0_pay8 (k0_pay2 (fun j => x ((rect0 i).emb j))) (k0_pay3 i) (k0_pay6 (k0_pay2 (fun j => x ((rect0 i).emb j))) (k0_pay3 i) (k0_pay4 i (fun j => x ((rect0 i).emb j)) (rowAt s 0 inb_S1x10240_S1x1024_0_0)) (k0_pay5 i (fun j => x ((rect0 i).emb j)) (rowAt s 1024 inb_S1x10240_S1x1024_0_1024)) (rowAt s 2048 inb_S1x10240_S1x1024_0_2048) (rowAt s 3072 inb_S1x10240_S1x1024_0_3072)) (k0_pay7 (rowAt s 4096 inb_S1x10240_S1x1024_0_4096)) (iota .tc S1x1024 32 [1] iota_S1x1024_d1_w32) 4096#32 (rowAt s 5120 inb_S1x10240_S1x1024_0_5120)) (k0_pay10 (k0_pay2 (fun j => x ((rect0 i).emb j))) (rowAt s 6144 inb_S1x10240_S1x1024_0_6144)) (k0_pay11 (k0_pay2 (fun j => x ((rect0 i).emb j))) (rowAt s 6144 inb_S1x10240_S1x1024_0_6144)) k0_pay12 (k0_pay13 (k0_pay3 i)) (rowAt s 7168 inb_S1x10240_S1x1024_0_7168) (rowAt s 8192 inb_S1x10240_S1x1024_0_8192)) (rowAt s 9216 inb_S1x10240_S1x1024_0_9216) = rankRow i s x := rfl

set_option maxHeartbeats 1000000 in
set_option maxRecDepth 16384 in
/-- One point of the first kernel: its block of ranks laid over what the output held. -/
theorem rank_body (c : Dev nD) (i : grid0.Coords) (arg1 : Memref sig .tc .vmem S1x10240 .f32) (harg1 : arg1.IsWhole) (arg2 : Memref sig .tc .vmem S10240x1 .f32) (harg2 : arg2.IsWhole)
    (arg3 : Memref sig .tc .vmem S10240x1 .f32) (harg3 : arg3.IsWhole) (s : S1x10240.Idx → Elt F .f32) (x Y : S10240x1.Idx → Elt F .f32) :
    iprop(owns (c.tc : Thread nD τ) arg1 fullShare s ∗ owns (c.tc : Thread nD τ) arg2 fullShare x ∗ owns (c.tc : Thread nD τ) arg3 fullShare Y)
      ⊢ wpT c (cc0__rank_body i arg1 harg1 arg2 harg2 arg3 harg3) fun _ =>
        iprop(owns (c.tc : Thread nD τ) arg1 fullShare s ∗ owns (c.tc : Thread nD τ) arg2 fullShare x ∗ owns (c.tc : Thread nD τ) arg3 fullShare ((rect0 i).overlay Y (rankRow i s x))) := by
  rw [cc0__rank_body_eq_skeleton]
  unfold cc0__rank_body_skel
  rw [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, Prog.bind_assoc]
  iintro ⟨H1, H2, H3⟩
  iapply (ld c arg2 _ x) $$ H2
  iintro H2
  iapply (ld c arg1 _ s) $$ H1
  iintro H1
  iapply (ld c arg1 _ s) $$ H1
  iintro H1
  iapply (ld c arg1 _ s) $$ H1
  iintro H1
  iapply (ld c arg1 _ s) $$ H1
  iintro H1
  iapply (ld c arg1 _ s) $$ H1
  iintro H1
  iapply (ld c arg1 _ s) $$ H1
  iintro H1
  iapply (ld c arg1 _ s) $$ H1
  iintro H1
  iapply (ld c arg1 _ s) $$ H1
  iintro H1
  iapply (ld c arg1 _ s) $$ H1
  iintro H1
  iapply (ld c arg1 _ s) $$ H1
  iintro H1
  iapply (ld c arg3 _ Y) $$ H3
  iintro H3
  iapply (st c arg3 _ Y _) $$ H3
  iintro H3
  unfold wpT; rw [wp_ret]
  imodintro
  isplitl [H1]; · iexact H1
  isplitl [H2]; · iexact H2
  rw [← rank_chain]
  iexact H3

/-! ## The second kernel: a block of indices and a block of values -/

/-- The rows of a block of 1024 whose rank a point's columns name: their sum, of whatever is listed by row. -/
def pickStep (i : grid1.Coords) (v7 : Vec F S1024x1 .f32) (w : FVec F S1024x1 .f32) : FVec F S1x1024 .f32 :=
  shapeCast S1x1024 (multiReduction .add [0] S1024 (select
    (cmpf .oeq (broadcastTo S1024x1024 (shapeCast S1024x1 v7 shapeCasts_S1024x1_S1024x1) broadcasts_S1024x1_S1024x1024) (broadcastTo S1024x1024 (k1_pay1 (F := F) i) broadcasts_S1x1024_S1024x1024))
    (broadcastTo S1024x1024 (shapeCast S1024x1 w shapeCasts_S1024x1_S1024x1) broadcasts_S1024x1_S1024x1024) (broadcast S1024x1024 (Scalar.ofBits .f32 0x00000000#32 : F .f32)))
    0x00000000#32 reduces_S1024x1024_S1024_2 (.inl rfl) rfl) shapeCasts_S1024_S1x1024

/-- The rows' own numbers, of the block that starts at `k`. -/
def rowNo (k : BitVec 32) : FVec F S1024x1 .f32 := sitofp .f32 (addi (broadcast S1024x1 k) (iota .tc S1024x1 32 [0] iota_S1024x1_d0_w32))

/-- The block of a column that starts at `o`. -/
abbrev colAt (x : S10240x1.Idx → Elt F .f32) (o : ℕ) (h : ∀ a, (![o, 0] : Fin 2 → ℕ) a + S1024x1.size a ≤ S10240x1.size a) : Vec F S1024x1 .f32 :=
  fun j => x ((Rect.unit (s := S10240x1) ![o, 0] S1024x1.size h).emb j)

/-- The block of columns a point works on. -/
abbrev rect1 (i : grid1.Coords) : Rect S1x5120 := Rect.unit (s := S1x5120) (k1_off1 i) S1x1024.size (k1_off1_inb i)

/-- The indices a point stores. -/
def idxRow (i : grid1.Coords) (r : S10240x1.Idx → Elt F .f32) : IVec S1x1024 32 :=
  fptosi 32 (addf (addf (addf (addf (addf (addf (addf (addf (addf (addf (broadcast S1x1024 (Scalar.ofBits .f32 0x00000000#32 : F .f32)) (pickStep i (colAt r 0 inb_S10240x1_S1024x1_0_0) (rowNo 0#32))) (pickStep i (colAt r 1024 inb_S10240x1_S1024x1_1024_0) (rowNo 1024#32))) (pickStep i (colAt r 2048 inb_S10240x1_S1024x1_2048_0) (rowNo 2048#32))) (pickStep i (colAt r 3072 inb_S10240x1_S1024x1_3072_0) (rowNo 3072#32))) (pickStep i (colAt r 4096 inb_S10240x1_S1024x1_4096_0) (rowNo 4096#32))) (pickStep i (colAt r 5120 inb_S10240x1_S1024x1_5120_0) (rowNo 5120#32))) (pickStep i (colAt r 6144 inb_S10240x1_S1024x1_6144_0) (rowNo 6144#32))) (pickStep i (colAt r 7168 inb_S10240x1_S1024x1_7168_0) (rowNo 7168#32))) (pickStep i (colAt r 8192 inb_S10240x1_S1024x1_8192_0) (rowNo 8192#32))) (pickStep i (colAt r 9216 inb_S10240x1_S1024x1_9216_0) (rowNo 9216#32)))

/-- The values a point stores. -/
def valRow (i : grid1.Coords) (r x : S10240x1.Idx → Elt F .f32) : FVec F S1x1024 .f32 :=
  addf (addf (addf (addf (addf (addf (addf (addf (addf (addf (broadcast S1x1024 (Scalar.ofBits .f32 0x00000000#32 : F .f32)) (pickStep i (colAt r 0 inb_S10240x1_S1024x1_0_0) (shapeCast S1024x1 (colAt x 0 inb_S10240x1_S1024x1_0_0) shapeCasts_S1024x1_S1024x1))) (pickStep i (colAt r 1024 inb_S10240x1_S1024x1_1024_0) (shapeCast S1024x1 (colAt x 1024 inb_S10240x1_S1024x1_1024_0) shapeCasts_S1024x1_S1024x1))) (pickStep i (colAt r 2048 inb_S10240x1_S1024x1_2048_0) (shapeCast S1024x1 (colAt x 2048 inb_S10240x1_S1024x1_2048_0) shapeCasts_S1024x1_S1024x1))) (pickStep i (colAt r 3072 inb_S10240x1_S1024x1_3072_0) (shapeCast S1024x1 (colAt x 3072 inb_S10240x1_S1024x1_3072_0) shapeCasts_S1024x1_S1024x1))) (pickStep i (colAt r 4096 inb_S10240x1_S1024x1_4096_0) (shapeCast S1024x1 (colAt x 4096 inb_S10240x1_S1024x1_4096_0) shapeCasts_S1024x1_S1024x1))) (pickStep i (colAt r 5120 inb_S10240x1_S1024x1_5120_0) (shapeCast S1024x1 (colAt x 5120 inb_S10240x1_S1024x1_5120_0) shapeCasts_S1024x1_S1024x1))) (pickStep i (colAt r 6144 inb_S10240x1_S1024x1_6144_0) (shapeCast S1024x1 (colAt x 6144 inb_S10240x1_S1024x1_6144_0) shapeCasts_S1024x1_S1024x1))) (pickStep i (colAt r 7168 inb_S10240x1_S1024x1_7168_0) (shapeCast S1024x1 (colAt x 7168 inb_S10240x1_S1024x1_7168_0) shapeCasts_S1024x1_S1024x1))) (pickStep i (colAt r 8192 inb_S10240x1_S1024x1_8192_0) (shapeCast S1024x1 (colAt x 8192 inb_S10240x1_S1024x1_8192_0) shapeCasts_S1024x1_S1024x1))) (pickStep i (colAt r 9216 inb_S10240x1_S1024x1_9216_0) (shapeCast S1024x1 (colAt x 9216 inb_S10240x1_S1024x1_9216_0) shapeCasts_S1024x1_S1024x1))

set_option maxRecDepth 16384 in
theorem idx_chain (i : grid1.Coords) (r : S10240x1.Idx → Elt F .f32) : k1_pay32 (k1_pay1 (F := F) i) (k1_pay25 (k1_pay1 (F := F) i) (k1_pay23 (k1_pay1 (F := F) i) (k1_pay17 (k1_pay1 (F := F) i) (k1_pay11 (k1_pay1 (F := F) i) (k1_pay3 i (colAt r 0 inb_S10240x1_S1024x1_0_0)) (k1_pay6 (F := F)) (k1_pay7 (colAt r 1024 inb_S10240x1_S1024x1_1024_0)) (k1_pay8 (F := F) i) (colAt r 2048 inb_S10240x1_S1024x1_2048_0)) (k1_pay13 (colAt r 3072 inb_S10240x1_S1024x1_3072_0)) (colAt r 4096 inb_S10240x1_S1024x1_4096_0)) (colAt r 5120 inb_S10240x1_S1024x1_5120_0) (colAt r 6144 inb_S10240x1_S1024x1_6144_0)) (colAt r 7168 inb_S10240x1_S1024x1_7168_0)) (k1_pay28 (F := F)) (k1_pay29 (k1_pay1 (F := F) i) (colAt r 8192 inb_S10240x1_S1024x1_8192_0)) (Scalar.ofBits .f32 0x00000000#32 : F .f32) (colAt r 9216 inb_S10240x1_S1024x1_9216_0) = idxRow i r := rfl

set_option maxRecDepth 16384 in
theorem val_chain (i : grid1.Coords) (r x : S10240x1.Idx → Elt F .f32) : k1_pay31 (k1_pay1 (F := F) i) (k1_pay26 (k1_pay1 (F := F) i) (k1_pay20 (k1_pay1 (F := F) i) (k1_pay15 (k1_pay1 (F := F) i) (k1_pay12 (k1_pay1 (F := F) i) (k1_pay4 i (colAt r 0 inb_S10240x1_S1024x1_0_0) (colAt x 0 inb_S10240x1_S1024x1_0_0)) (k1_pay5 (colAt x 1024 inb_S10240x1_S1024x1_1024_0)) (k1_pay7 (colAt r 1024 inb_S10240x1_S1024x1_1024_0)) (k1_pay8 (F := F) i) (colAt r 2048 inb_S10240x1_S1024x1_2048_0) (colAt x 2048 inb_S10240x1_S1024x1_2048_0)) (k1_pay13 (colAt r 3072 inb_S10240x1_S1024x1_3072_0)) (colAt x 3072 inb_S10240x1_S1024x1_3072_0)) (k1_pay18 (k1_pay1 (F := F) i) (colAt r 4096 inb_S10240x1_S1024x1_4096_0) (colAt x 4096 inb_S10240x1_S1024x1_4096_0)) (colAt r 5120 inb_S10240x1_S1024x1_5120_0) (colAt x 5120 inb_S10240x1_S1024x1_5120_0)) (k1_pay21 (colAt x 6144 inb_S10240x1_S1024x1_6144_0)) (k1_pay22 (k1_pay1 (F := F) i) (colAt r 6144 inb_S10240x1_S1024x1_6144_0)) (colAt r 7168 inb_S10240x1_S1024x1_7168_0) (colAt x 7168 inb_S10240x1_S1024x1_7168_0)) (k1_pay27 (colAt x 8192 inb_S10240x1_S1024x1_8192_0)) (k1_pay29 (k1_pay1 (F := F) i) (colAt r 8192 inb_S10240x1_S1024x1_8192_0)) (colAt r 9216 inb_S10240x1_S1024x1_9216_0) (colAt x 9216 inb_S10240x1_S1024x1_9216_0) = valRow i r x := rfl

set_option maxHeartbeats 1000000 in
set_option maxRecDepth 16384 in
/-- One point of the second kernel: its blocks of indices and values laid over what the outputs held. -/
theorem extract_body (c : Dev nD) (i : grid1.Coords) (arg1 : Memref sig .tc .vmem S10240x1 .f32) (harg1 : arg1.IsWhole) (arg2 : Memref sig .tc .vmem S10240x1 .f32) (harg2 : arg2.IsWhole)
    (arg3 : Memref sig .tc .vmem S1x5120 .i32) (harg3 : arg3.IsWhole) (arg4 : Memref sig .tc .vmem S1x5120 .f32) (harg4 : arg4.IsWhole)
    (r x : S10240x1.Idx → Elt F .f32) (Y : S1x5120.Idx → Elt F .i32) (Z : S1x5120.Idx → Elt F .f32) :
    iprop(owns (c.tc : Thread nD τ) arg1 fullShare r ∗ owns (c.tc : Thread nD τ) arg2 fullShare x ∗ owns (c.tc : Thread nD τ) arg3 fullShare Y ∗ owns (c.tc : Thread nD τ) arg4 fullShare Z)
      ⊢ wpT c (cc1__extract_body i arg1 harg1 arg2 harg2 arg3 harg3 arg4 harg4) fun _ =>
        iprop(owns (c.tc : Thread nD τ) arg1 fullShare r ∗ owns (c.tc : Thread nD τ) arg2 fullShare x ∗ owns (c.tc : Thread nD τ) arg3 fullShare ((rect1 i).overlay Y (idxRow i r))
          ∗ owns (c.tc : Thread nD τ) arg4 fullShare ((rect1 i).overlay Z (valRow i r x))) := by
  rw [cc1__extract_body_eq_skeleton]
  unfold cc1__extract_body_skel
  rw [k1_part1_eq_skeleton, k1_part2_eq_skeleton, k1_part3_eq_skeleton, k1_part4_eq_skeleton, k1_part5_eq_skeleton, k1_part6_eq_skeleton]
  unfold k1_part1_skel k1_part2_skel k1_part3_skel k1_part4_skel k1_part5_skel k1_part6_skel
  simp only [Prog.lift, Prog.bind_op, Prog.bind_ret, Prog.pure_eq_ret, Prog.bind_assoc]
  iintro ⟨H1, H2, H3, H4⟩
  iapply (ld c arg1 _ r) $$ H1
  iintro H1
  iapply (ld c arg2 _ x) $$ H2
  iintro H2
  iapply (ld c arg1 _ r) $$ H1
  iintro H1
  iapply (ld c arg2 _ x) $$ H2
  iintro H2
  iapply (ld c arg1 _ r) $$ H1
  iintro H1
  iapply (ld c arg2 _ x) $$ H2
  iintro H2
  iapply (ld c arg1 _ r) $$ H1
  iintro H1
  iapply (ld c arg2 _ x) $$ H2
  iintro H2
  iapply (ld c arg1 _ r) $$ H1
  iintro H1
  iapply (ld c arg2 _ x) $$ H2
  iintro H2
  iapply (ld c arg1 _ r) $$ H1
  iintro H1
  iapply (ld c arg2 _ x) $$ H2
  iintro H2
  iapply (ld c arg1 _ r) $$ H1
  iintro H1
  iapply (ld c arg2 _ x) $$ H2
  iintro H2
  iapply (ld c arg1 _ r) $$ H1
  iintro H1
  iapply (ld c arg2 _ x) $$ H2
  iintro H2
  iapply (ld c arg1 _ r) $$ H1
  iintro H1
  iapply (ld c arg2 _ x) $$ H2
  iintro H2
  iapply (ld c arg1 _ r) $$ H1
  iintro H1
  iapply (ld c arg2 _ x) $$ H2
  iintro H2
  iapply (ld c arg3 _ Y) $$ H3
  iintro H3
  iapply (st c arg3 _ Y _) $$ H3
  iintro H3
  iapply (ld c arg4 _ Z) $$ H4
  iintro H4
  iapply (st c arg4 _ Z _) $$ H4
  iintro H4
  unfold wpT; rw [wp_ret]
  imodintro
  isplitl [H1]; · iexact H1
  isplitl [H2]; · iexact H2
  isplitl [H3]
  · rw [← idx_chain]
    iexact H3
  rw [← val_chain]
  iexact H4

end Cert.Proof.Top

end
-- ==== Proof.TopRegion.lean ====
/-
  The two kernels of the top k over their grids: the arrays each leaves, of the arrays it finds.
-/
module

public import proofs.«01_k».proof.Proof.TopBody
public import Idealize.ShloMosaic.Lib.Pipeline.FrameBody
public import Idealize.ShloMosaic.Lib.Pipeline.FrameSuffix

@[expose] public section

noncomputable section

namespace Cert.Proof.Top

open Cert.TopIdeal Cert.TopIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat Cfg)

variable {F : FTy → Type} [FloatOps F]

local notation "𝕄" => MT nD τ sig Unit (Elt F) ℕ UP ℕ

/-! ## Where the blocks lie -/

theorem coords0 : ∀ t : Fin grid0.N, (grid0.coords t 0).val = t.val := by decide +kernel
theorem coords1 : ∀ t : Fin grid1.N, (grid1.coords t 0).val = t.val := by decide +kernel

theorem off0 (t : Fin grid0.N) : k0_off1 (grid0.coords t) = ![1024 * t.val, 0] := by
  revert t; decide +kernel
theorem off1 (t : Fin grid1.N) : k1_off1 (grid1.coords t) = ![0, 1024 * t.val] := by
  revert t; decide +kernel

/-- An index of a column, and one of a row. -/
abbrev colIx {n : ℕ} (z : Fin n) : (⟨2, ![n, 1]⟩ : Shape).Idx := fun | 0 => z | 1 => (0 : Fin 1)
abbrev rowIx {n : ℕ} (z : Fin n) : (⟨2, ![1, n]⟩ : Shape).Idx := fun | 0 => (0 : Fin 1) | 1 => z

theorem col_eq {n : ℕ} (z : (⟨2, ![n, 1]⟩ : Shape).Idx) : z = colIx (z 0) := by
  funext a
  match a with
  | 0 => rfl
  | 1 => exact Subsingleton.elim (α := Fin 1) _ _

theorem row_eq {n : ℕ} (z : (⟨2, ![1, n]⟩ : Shape).Idx) : z = rowIx (z 1) := by
  funext a
  match a with
  | 0 => exact Subsingleton.elim (α := Fin 1) _ _
  | 1 => rfl

/-- The column of ranks the first kernel makes. -/
def rankArr (s : S1x10240.Idx → Elt F .f32) (x : S10240x1.Idx → Elt F .f32) : S10240x1.Idx → Elt F .f32 := fun z =>
  rankRow (grid0.coords ⟨(z 0).val / 1024, by have h := (z 0).isLt; change (z 0).val < 10240 at h; rw [N_0]; omega⟩) s x
    (colIx (n := 1024) ⟨(z 0).val % 1024, Nat.mod_lt _ (by decide)⟩)

/-- The rows of indices and of values the second kernel makes. -/
def idxArr (r : S10240x1.Idx → Elt F .f32) : S1x5120.Idx → Elt F .i32 := fun z =>
  idxRow (grid1.coords ⟨(z 1).val / 1024, by have h := (z 1).isLt; change (z 1).val < 5120 at h; rw [N_1]; omega⟩) r
    (rowIx (n := 1024) ⟨(z 1).val % 1024, Nat.mod_lt _ (by decide)⟩)
def valArr (r x : S10240x1.Idx → Elt F .f32) : S1x5120.Idx → Elt F .f32 := fun z =>
  valRow (grid1.coords ⟨(z 1).val / 1024, by have h := (z 1).isLt; change (z 1).val < 5120 at h; rw [N_1]; omega⟩) r x
    (rowIx (n := 1024) ⟨(z 1).val % 1024, Nat.mod_lt _ (by decide)⟩)

theorem emb0 (t : Fin grid0.N) (j : S1024x1.Idx) : (((rect0 (grid0.coords t)).emb j) 0).val = 1024 * t.val + (j 0).val := by
  show k0_off1 (grid0.coords t) 0 + 1 * (j 0).val = _
  rw [off0]; show 1024 * t.val + 1 * (j 0).val = _; omega
theorem emb1 (t : Fin grid1.N) (j : S1x1024.Idx) : (((rect1 (grid1.coords t)).emb j) 1).val = 1024 * t.val + (j 1).val := by
  show k1_off1 (grid1.coords t) 1 + 1 * (j 1).val = _
  rw [off1]; show 1024 * t.val + 1 * (j 1).val = _; omega

/-- Laying a block over a column that is right below it makes one that is right to its end. -/
theorem lay0 {α : Type} (t : Fin grid0.N) (G Y : S10240x1.Idx → α) (w : S1024x1.Idx → α)
    (hw : ∀ j : Fin 1024, ∀ z : S10240x1.Idx, (z 0).val = 1024 * t.val + j.val → w (colIx j) = G z)
    (hY : ∀ z : S10240x1.Idx, (z 0).val < 1024 * t.val → Y z = G z) :
    ∀ z : S10240x1.Idx, (z 0).val < 1024 * (t.val + 1) → (rect0 (grid0.coords t)).overlay Y w z = G z := by
  intro z hz
  by_cases hb : (z 0).val < 1024 * t.val
  · rw [Rect.overlay_of_not_mem _ _ _ ?_, hY z hb]
    intro hm
    rw [← Rect.map_emb_univ] at hm
    obtain ⟨j, -, rfl⟩ := Finset.mem_map.mp hm
    rw [emb0] at hb; omega
  · have e : z = (rect0 (grid0.coords t)).emb (colIx (n := 1024) ⟨(z 0).val - 1024 * t.val, by omega⟩) := by
      refine (col_eq z).trans ((congrArg colIx (Fin.ext ?_)).trans (col_eq ((rect0 (grid0.coords t)).emb _)).symm)
      rw [emb0]; show (z 0).val = 1024 * t.val + ((z 0).val - 1024 * t.val); omega
    have e' : (rect0 (grid0.coords t)).overlay Y w z = w (colIx (n := 1024) ⟨(z 0).val - 1024 * t.val, by omega⟩) := by
      conv_lhs => rw [e]
      exact Rect.overlay_emb _ _ _ _
    rw [e', hw _ z (by show (z 0).val = 1024 * t.val + ((z 0).val - 1024 * t.val); omega)]

/-- The same of a row. -/
theorem lay1 {α : Type} (t : Fin grid1.N) (G Y : S1x5120.Idx → α) (w : S1x1024.Idx → α)
    (hw : ∀ j : Fin 1024, ∀ z : S1x5120.Idx, (z 1).val = 1024 * t.val + j.val → w (rowIx j) = G z)
    (hY : ∀ z : S1x5120.Idx, (z 1).val < 1024 * t.val → Y z = G z) :
    ∀ z : S1x5120.Idx, (z 1).val < 1024 * (t.val + 1) → (rect1 (grid1.coords t)).overlay Y w z = G z := by
  intro z hz
  by_cases hb : (z 1).val < 1024 * t.val
  · rw [Rect.overlay_of_not_mem _ _ _ ?_, hY z hb]
    intro hm
    rw [← Rect.map_emb_univ] at hm
    obtain ⟨j, -, rfl⟩ := Finset.mem_map.mp hm
    rw [emb1] at hb; omega
  · have e : z = (rect1 (grid1.coords t)).emb (rowIx (n := 1024) ⟨(z 1).val - 1024 * t.val, by omega⟩) := by
      refine (row_eq z).trans ((congrArg rowIx (Fin.ext ?_)).trans (row_eq ((rect1 (grid1.coords t)).emb _)).symm)
      rw [emb1]; show (z 1).val = 1024 * t.val + ((z 1).val - 1024 * t.val); omega
    have e' : (rect1 (grid1.coords t)).overlay Y w z = w (rowIx (n := 1024) ⟨(z 1).val - 1024 * t.val, by omega⟩) := by
      conv_lhs => rw [e]
      exact Rect.overlay_emb _ _ _ _
    rw [e', hw _ z (by show (z 1).val = 1024 * t.val + ((z 1).val - 1024 * t.val); omega)]

theorem blk_div {n j : ℕ} (k : ℕ) (h : n = 1024 * k + j) (hj : j < 1024) : n / 1024 = k ∧ n % 1024 = j := by omega

theorem rank_block (s : S1x10240.Idx → Elt F .f32) (x : S10240x1.Idx → Elt F .f32) (t : Fin grid0.N) (j : Fin 1024) (z : S10240x1.Idx)
    (h : (z 0).val = 1024 * t.val + j.val) : rankRow (grid0.coords t) s x (colIx j) = rankArr s x z := by
  obtain ⟨h1, h2⟩ := blk_div t.val h j.isLt
  unfold rankArr
  congr 2
  · exact Fin.ext h1.symm
  · exact Fin.ext h2.symm

theorem idx_block (r : S10240x1.Idx → Elt F .f32) (t : Fin grid1.N) (j : Fin 1024) (z : S1x5120.Idx)
    (h : (z 1).val = 1024 * t.val + j.val) : idxRow (grid1.coords t) r (rowIx j) = idxArr r z := by
  obtain ⟨h1, h2⟩ := blk_div t.val h j.isLt
  unfold idxArr
  congr 2
  · exact Fin.ext h1.symm
  · exact Fin.ext h2.symm

theorem val_block (r x : S10240x1.Idx → Elt F .f32) (t : Fin grid1.N) (j : Fin 1024) (z : S1x5120.Idx)
    (h : (z 1).val = 1024 * t.val + j.val) : valRow (grid1.coords t) r x (rowIx j) = valArr r x z := by
  obtain ⟨h1, h2⟩ := blk_div t.val h j.isLt
  unfold valArr
  congr 2
  · exact Fin.ext h1.symm
  · exact Fin.ext h2.symm

/-! ## A window over the grid -/

section Window

variable {cfg : Cfg sig Λ₀} {c : Dev nD} (rd : RDat τ (Elt F) Unit ℕ UP ℕ cfg c) (w : Fin cfg.W)

/-- What an output's buffer may hold after a point, by what each point does to it. -/
theorem leaves_done (D : ℕ → ((cfg.win w).block.Idx → Elt F (cfg.win w).elt) → Prop)
    (hfetch : ∀ t, (cfg.win w).fetch t = false) (hflush : ∀ t : Fin cfg.N, t.val + 1 < cfg.N → (cfg.win w).flush t = false)
    (h0 : ∀ Y, D 0 Y) (hs : ∀ (t : Fin cfg.N) Y X, D t.val Y → rd.after w t Y X → D (t.val + 1) X) :
    ∀ (n : ℕ) (h : n < cfg.N) X, rd.Leaves w ⟨n, h⟩ X → D (n + 1) X := by
  intro n
  induction n with
  | zero => intro h X hL; obtain ⟨Y, -, hX⟩ := hL; exact hs ⟨0, h⟩ Y X (h0 Y) hX
  | succ n ih =>
    intro h X hL
    obtain ⟨Y, hY, hX⟩ := hL
    refine hs ⟨n + 1, h⟩ Y X ?_ hX
    rcases (rd.finds_of_pos (hfetch _) (Nat.succ_ne_zero n) Y).mp hY with hf | hl
    · have := hflush ⟨n, Nat.lt_of_succ_lt h⟩ h
      exact absurd (hf.symm.trans this) (by simp)
    · exact ih _ Y hl

/-- What an output's array holds at the end, written back at the last point. -/
theorem arr_last (n : ℕ) (hn : n < cfg.N) (hN : cfg.N = n + 1) (hfl : (cfg.win w).flush ⟨n, hn⟩ = true)
    (G : Buf (Elt F) ((cfg.win w).arr.view.loc (c.tc : Thread nD τ))) (h : rd.ArrAt w cfg.N G) :
    ∃ G₀ X, rd.Leaves w ⟨n, hn⟩ X ∧ G = ((cfg.win w).blk ⟨n, hn⟩).view.write (Elt F) G₀ ((cfg.win w).cut (cfg.grid.coords ⟨n, hn⟩) X) Finset.univ := by
  have h' : rd.ArrAt w (n + 1) G := hN ▸ h
  unfold RDat.ArrAt at h'
  dsimp only at h'
  rw [dif_pos hn, if_pos hfl] at h'
  obtain ⟨G₀, X, -, hX, e⟩ := h'
  exact ⟨G₀, X, hX, e⟩

end Window

/-! ## The first kernel -/

variable (V : Dev nD → Valuation τ sig (Elt F))

/-- The first kernel's proof data: its two inputs stay, a point lays its block of ranks over the output. -/
def rdat0 (c : Dev nD) : RDat τ (Elt F) Unit ℕ UP ℕ cfg0 c where
  A w := V c (Proc.devRef .tc (Pipeline.arrRef spec0 w))
  after := fun
    | 0 => fun _ Y X => X = Y
    | 1 => fun _ Y X => X = Y
    | 2 => fun t Y X => X = (rect0 (grid0.coords t)).overlay Y (rankRow (grid0.coords t) (V c (Proc.devRef .tc main_v15)) (V c (Proc.devRef .tc main_v16)))
    | ⟨_ + 3, h⟩ => absurd h (Nat.not_lt.2 (Nat.le_add_left _ _))
  Φ _ := Pipeline.scopedRest spec0 c
  q _ := fullShare
  owed _ := 0

theorem in0_0 (c : Dev nD) (t : Fin cfg0.N) (Y : S1x10240.Idx → Elt F .f32) (h : (rdat0 V c).Finds 0 t Y) : Y = V c (Proc.devRef .tc main_v15) := by
  obtain ⟨d, rfl⟩ := RDat.finds_in_eq_fetched (rdat0 V c) 0 rfl (fun _ _ _ => rfl) (fun _ _ _ h => h) t Y h
  funext j
  unfold RDat.fetched Pipeline.Window.fill
  rw [dif_pos (((cfg0.win 0).moved_iff _ j).mpr fun a => (j a).isLt)]
  refine congrArg (V c (Proc.devRef .tc main_v15)) (funext fun (a : Fin 2) => Fin.ext ?_)
  match a with
  | 0 => show 0 * 1 + 1 * (j 0).val = (j 0).val; omega
  | 1 => show 0 * 10240 + 1 * (j 1).val = (j 1).val; omega

theorem in0_1 (c : Dev nD) (t : Fin cfg0.N) (Y : S10240x1.Idx → Elt F .f32) (h : (rdat0 V c).Finds 1 t Y) : Y = V c (Proc.devRef .tc main_v16) := by
  obtain ⟨d, rfl⟩ := RDat.finds_in_eq_fetched (rdat0 V c) 1 rfl (fun _ _ _ => rfl) (fun _ _ _ h => h) t Y h
  funext j
  unfold RDat.fetched Pipeline.Window.fill
  rw [dif_pos (((cfg0.win 1).moved_iff _ j).mpr fun a => (j a).isLt)]
  refine congrArg (V c (Proc.devRef .tc main_v16)) (funext fun (a : Fin 2) => Fin.ext ?_)
  match a with
  | 0 => show 0 * 10240 + 1 * (j 0).val = (j 0).val; omega
  | 1 => show 0 * 1 + 1 * (j 1).val = (j 1).val; omega

/-- The column the first kernel leaves. -/
theorem out0 (c : Dev nD) (G : S10240x1.Idx → Elt F .f32) (h : (rdat0 V c).ArrAt 2 cfg0.N G) :
    G = rankArr (V c (Proc.devRef .tc main_v15)) (V c (Proc.devRef .tc main_v16)) := by
  have hN : cfg0.N = 9 + 1 := N_0
  have h9 : 9 < cfg0.N := by omega
  obtain ⟨G₀, X, hX, rfl⟩ := arr_last (rdat0 V c) 2 9 h9 hN ((flush0_2 _).mpr rfl) G h
  have hD := leaves_done (rdat0 V c) 2
    (fun n X => ∀ z : S10240x1.Idx, (z 0).val < 1024 * n → X z = rankArr (V c (Proc.devRef .tc main_v15)) (V c (Proc.devRef .tc main_v16)) z)
    (fun _ => rfl) (fun t ht => by
      have := (flush0_2 t).not.mpr (by omega)
      simpa using this)
    (fun _ z hz => absurd hz (by omega))
    (fun t Y X hY hX => by
      obtain rfl : X = _ := hX
      exact lay0 t _ Y _ (fun j z hz => rank_block _ _ t j z hz) hY) 9 h9 X hX
  funext z
  have e : ((cfg0.win 2).blk ⟨9, h9⟩).view.emb (show S10240x1.Idx from z) = z := by
    refine funext fun (a : Fin 2) => Fin.ext ?_
    match a with
    | 0 => show 0 * 10240 + 1 * (z 0).val = (z 0).val; omega
    | 1 => show 0 * 1 + 1 * (z 1).val = (z 1).val; omega
  conv_lhs => rw [← e]
  refine (View.write_emb_of_mem _ _ (Finset.mem_univ _)).trans ?_
  exact hD z (by have h := (z 0).isLt; change (z 0).val < 10240 at h; omega)

theorem body0 (c : Dev nD) : (rdat0 V c).BodyObligation (defs₀ (F := F)) 𝒱₀ () Set.univ := by
  intro t Y hY
  have e0 := in0_0 V c t (Y 0) (hY 0)
  have e1 := in0_1 V c t (Y 1) (hY 1)
  have key := rank_body c (grid0.coords t) _ (hstage0_0 ((cfg0.slots t 0).cast nbuf0_0)) _ (hstage0_1 ((cfg0.slots t 1).cast nbuf0_1)) _ (hstage0_2 ((cfg0.slots t 2).cast nbuf0_2))
    (Y 0) (Y 1) (Y 2)
  rw [bigSep_W0, bigSep_W0]
  iintro ⟨HK, HO, Hst⟩
  iapply (wp_wand_r Idealize.ShloMosaic.frame (wpE (defs₀ (F := F)) 𝒱₀ (c.tc : Thread nD τ) none) Set.univ)
  isplitl [Hst]
  · iapply key
    iexact Hst
  iintro %_ ⟨H0, H1, H2⟩
  isplitl [HK]
  · iapply (Entails.of_eq (show (rdat0 V c).Φ t.castSucc = (rdat0 V c).Φ t.succ from rfl)) $$ HK
  isplitl [HO]
  · iapply (Entails.of_eq (show (rdat0 V c).owesAt () t.castSucc = (rdat0 V c).owesAt () t.succ from rfl)) $$ HO
  isplitl [H0]
  · iexists _; isplitr
    swap; · iexact H0
    ipureintro; rfl
  isplitl [H1]
  · iexists _; isplitr
    swap; · iexact H1
    ipureintro; rfl
  · iexists _; isplitr
    swap; · iexact H2
    ipureintro
    rw [e0, e1]
    rfl

/-! ## The second kernel -/

/-- The second kernel's proof data: its two inputs stay, a point lays its blocks of indices and of values over the outputs. -/
def rdat1 (c : Dev nD) : RDat τ (Elt F) Unit ℕ UP ℕ cfg1 c where
  A w := V c (Proc.devRef .tc (Pipeline.arrRef spec1 w))
  after := fun
    | 0 => fun _ Y X => X = Y
    | 1 => fun _ Y X => X = Y
    | 2 => fun t Y X => X = (rect1 (grid1.coords t)).overlay Y (idxRow (grid1.coords t) (V c (Proc.devRef .tc main_v17)))
    | 3 => fun t Y X => X = (rect1 (grid1.coords t)).overlay Y (valRow (grid1.coords t) (V c (Proc.devRef .tc main_v17)) (V c (Proc.devRef .tc main_v16)))
    | ⟨_ + 4, h⟩ => absurd h (Nat.not_lt.2 (Nat.le_add_left _ _))
  Φ _ := Pipeline.scopedRest spec1 c
  q _ := fullShare
  owed _ := 0

theorem in1_0 (c : Dev nD) (t : Fin cfg1.N) (Y : S10240x1.Idx → Elt F .f32) (h : (rdat1 V c).Finds 0 t Y) : Y = V c (Proc.devRef .tc main_v17) := by
  obtain ⟨d, rfl⟩ := RDat.finds_in_eq_fetched (rdat1 V c) 0 rfl (fun _ _ _ => rfl) (fun _ _ _ h => h) t Y h
  funext j
  unfold RDat.fetched Pipeline.Window.fill
  rw [dif_pos (((cfg1.win 0).moved_iff _ j).mpr fun a => (j a).isLt)]
  refine congrArg (V c (Proc.devRef .tc main_v17)) (funext fun (a : Fin 2) => Fin.ext ?_)
  match a with
  | 0 => show 0 * 10240 + 1 * (j 0).val = (j 0).val; omega
  | 1 => show 0 * 1 + 1 * (j 1).val = (j 1).val; omega

theorem in1_1 (c : Dev nD) (t : Fin cfg1.N) (Y : S10240x1.Idx → Elt F .f32) (h : (rdat1 V c).Finds 1 t Y) : Y = V c (Proc.devRef .tc main_v16) := by
  obtain ⟨d, rfl⟩ := RDat.finds_in_eq_fetched (rdat1 V c) 1 rfl (fun _ _ _ => rfl) (fun _ _ _ h => h) t Y h
  funext j
  unfold RDat.fetched Pipeline.Window.fill
  rw [dif_pos (((cfg1.win 1).moved_iff _ j).mpr fun a => (j a).isLt)]
  refine congrArg (V c (Proc.devRef .tc main_v16)) (funext fun (a : Fin 2) => Fin.ext ?_)
  match a with
  | 0 => show 0 * 10240 + 1 * (j 0).val = (j 0).val; omega
  | 1 => show 0 * 1 + 1 * (j 1).val = (j 1).val; omega

/-- The row of indices the second kernel leaves, -/
theorem out1_2 (c : Dev nD) (G : S1x5120.Idx → Elt F .i32) (h : (rdat1 V c).ArrAt 2 cfg1.N G) : G = idxArr (V c (Proc.devRef .tc main_v17)) := by
  have hN : cfg1.N = 4 + 1 := N_1
  have h4 : 4 < cfg1.N := by omega
  obtain ⟨G₀, X, hX, rfl⟩ := arr_last (rdat1 V c) 2 4 h4 hN ((flush1_2 _).mpr rfl) G h
  have hD := leaves_done (rdat1 V c) 2
    (fun n X => ∀ z : S1x5120.Idx, (z 1).val < 1024 * n → X z = idxArr (V c (Proc.devRef .tc main_v17)) z)
    (fun _ => rfl) (fun t ht => by
      have := (flush1_2 t).not.mpr (by omega)
      simpa using this)
    (fun _ z hz => absurd hz (by omega))
    (fun t Y X hY hX => by
      obtain rfl : X = _ := hX
      exact lay1 t _ Y _ (fun j z hz => idx_block _ t j z hz) hY) 4 h4 X hX
  funext z
  have e : ((cfg1.win 2).blk ⟨4, h4⟩).view.emb (show S1x5120.Idx from z) = z := by
    refine funext fun (a : Fin 2) => Fin.ext ?_
    match a with
    | 0 => show 0 * 1 + 1 * (z 0).val = (z 0).val; omega
    | 1 => show 0 * 5120 + 1 * (z 1).val = (z 1).val; omega
  conv_lhs => rw [← e]
  refine (View.write_emb_of_mem _ _ (Finset.mem_univ _)).trans ?_
  exact hD z (by have h := (z 1).isLt; change (z 1).val < 5120 at h; omega)

/-- and the row of values. -/
theorem out1_3 (c : Dev nD) (G : S1x5120.Idx → Elt F .f32) (h : (rdat1 V c).ArrAt 3 cfg1.N G) :
    G = valArr (V c (Proc.devRef .tc main_v17)) (V c (Proc.devRef .tc main_v16)) := by
  have hN : cfg1.N = 4 + 1 := N_1
  have h4 : 4 < cfg1.N := by omega
  obtain ⟨G₀, X, hX, rfl⟩ := arr_last (rdat1 V c) 3 4 h4 hN ((flush1_3 _).mpr rfl) G h
  have hD := leaves_done (rdat1 V c) 3
    (fun n X => ∀ z : S1x5120.Idx, (z 1).val < 1024 * n → X z = valArr (V c (Proc.devRef .tc main_v17)) (V c (Proc.devRef .tc main_v16)) z)
    (fun _ => rfl) (fun t ht => by
      have := (flush1_3 t).not.mpr (by omega)
      simpa using this)
    (fun _ z hz => absurd hz (by omega))
    (fun t Y X hY hX => by
      obtain rfl : X = _ := hX
      exact lay1 t _ Y _ (fun j z hz => val_block _ _ t j z hz) hY) 4 h4 X hX
  funext z
  have e : ((cfg1.win 3).blk ⟨4, h4⟩).view.emb (show S1x5120.Idx from z) = z := by
    refine funext fun (a : Fin 2) => Fin.ext ?_
    match a with
    | 0 => show 0 * 1 + 1 * (z 0).val = (z 0).val; omega
    | 1 => show 0 * 5120 + 1 * (z 1).val = (z 1).val; omega
  conv_lhs => rw [← e]
  refine (View.write_emb_of_mem _ _ (Finset.mem_univ _)).trans ?_
  exact hD z (by have h := (z 1).isLt; change (z 1).val < 5120 at h; omega)

theorem body1 (c : Dev nD) : (rdat1 V c).BodyObligation (defs₀ (F := F)) 𝒱₀ () Set.univ := by
  intro t Y hY
  have e0 := in1_0 V c t (Y 0) (hY 0)
  have e1 := in1_1 V c t (Y 1) (hY 1)
  have key := extract_body c (grid1.coords t) _ (hstage1_0 ((cfg1.slots t 0).cast nbuf1_0)) _ (hstage1_1 ((cfg1.slots t 1).cast nbuf1_1)) _ (hstage1_2 ((cfg1.slots t 2).cast nbuf1_2))
    _ (hstage1_3 ((cfg1.slots t 3).cast nbuf1_3)) (Y 0) (Y 1) (Y 2) (Y 3)
  rw [bigSep_W1, bigSep_W1]
  iintro ⟨HK, HO, Hst⟩
  iapply (wp_wand_r Idealize.ShloMosaic.frame (wpE (defs₀ (F := F)) 𝒱₀ (c.tc : Thread nD τ) none) Set.univ)
  isplitl [Hst]
  · iapply key
    iexact Hst
  iintro %_ ⟨H0, H1, H2, H3⟩
  isplitl [HK]
  · iapply (Entails.of_eq (show (rdat1 V c).Φ t.castSucc = (rdat1 V c).Φ t.succ from rfl)) $$ HK
  isplitl [HO]
  · iapply (Entails.of_eq (show (rdat1 V c).owesAt () t.castSucc = (rdat1 V c).owesAt () t.succ from rfl)) $$ HO
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro
    rw [e0]
    rfl
  · iexists _; isplitr
    swap; · iexact H3
    ipureintro
    rw [e0, e1]
    rfl

end Cert.Proof.Top

end
-- ==== Proof.TopRun.lean ====
/-
  The top k's run: the score lines, the two kernels, the closing lines.
-/
module

public import proofs.«01_k».proof.Proof.TopRegion
public import Idealize.ShloMosaic.Lib.Pipeline.RegionArrays

@[expose] public section

noncomputable section

namespace Cert.Proof.Top

open Cert.TopIdeal Cert.TopIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat Cfg)

variable {F : FTy → Type} [FloatOps F]

local notation "𝕄" => MT nD τ sig Unit (Elt F) ℕ UP ℕ

/-! ## The values along the run -/

/-- The scores, -/
def scoresOf (X : S10000x128.Idx → Elt F .f32) (W : S1x128.Idx → Elt F .f32) : S10000.Idx → Elt F .f32 :=
  Host.divf (broadcastInDim S10000 ![] bcast_S_S10000 (constant S_ .f32 0x3F800000#32)) (addf (broadcastInDim S10000 ![] bcast_S_S10000 (constant S_ .f32 0x3F800000#32)) (Host.exp (Host.negf (shapeCast _ (Host.divf (Host.dotGeneral dot_S10000x128_S128x1_S10000x1_1_0_0_1_n_n none X (transpose S128x1 [1, 0] W transposes_S1x128_S128x1_1_0)) (broadcastInDim S10000x1 ![0, 1] bcast_S1x1_S10000x1_0_1 (broadcastInDim S1x1 ![1] bcast_S1_S1x1_1 (Host.sqrt (Host.reduceAdd (mulf W W) (constant S_ .f32 0x00000000#32) reducesTo_S1x128_S1_d1 h_S_))))) shapeCasts_S10000x1_S10000))))

/-- padded with minus ones, -/
def padOf (s : S10000.Idx → Elt F .f32) : S10240.Idx → Elt F .f32 :=
  concatenate S10240 0 [⟨S10000, s⟩, ⟨S240, broadcastInDim S240 ![] bcast_S_S240 (constant S_ .f32 0xBF800000#32)⟩] concatenates_S10000_S240_S10240_d0

/-- their ranks, -/
def ranksOf (s : S10000.Idx → Elt F .f32) : S10240x1.Idx → Elt F .f32 :=
  rankArr (shapeCast S1x10240 (padOf s) shapeCasts_S10240_S1x10240) (shapeCast S10240x1 (padOf s) shapeCasts_S10240_S10240x1)

/-- the indices of the first 5000 by rank, and their scores. -/
def indicesOf (s : S10000.Idx → Elt F .f32) : S5000.Idx → Elt F .i32 :=
  extractStridedSlice S5000 ![0] (shapeCast S5120 (idxArr (ranksOf s)) shapeCasts_S1x5120_S5120) slices_S5120_S5000_0
def valuesOf (s : S10000.Idx → Elt F .f32) : S5000.Idx → Elt F .f32 :=
  extractStridedSlice S5000 ![0] (shapeCast S5120 (valArr (ranksOf s) (shapeCast S10240x1 (padOf s) shapeCasts_S10240_S10240x1)) shapeCasts_S1x5120_S5120) slices_S5120_S5000_0

variable (m : (ℓ : Loc nD τ sig) → Buf (Elt F) ℓ) (ρ : Dev nD → PrngReg)

/-- A core's buffers at launch, after the score lines, after each kernel, and at the end. -/
def V0 (c : Dev nD) : Valuation τ sig (Elt F) := fun b => m (c, b)
def V1a (c : Dev nD) : Valuation τ sig (Elt F) := StableHlo.after hostOps0 (V0 m c)
def V1b (c : Dev nD) : Valuation τ sig (Elt F) := StableHlo.after hostOps0_1 (V1a m c)
def V1 (c : Dev nD) : Valuation τ sig (Elt F) := StableHlo.after hostOps0_2 (V1b m c)
def V2 (c : Dev nD) : Valuation τ sig (Elt F) :=
  Function.update (V1 m c) (Proc.devRef .tc main_v17) (rankArr (V1 m c (Proc.devRef .tc main_v15)) (V1 m c (Proc.devRef .tc main_v16)))
def V3 (c : Dev nD) : Valuation τ sig (Elt F) :=
  Function.update (Function.update (V2 m c) (Proc.devRef .tc main_v18_0) (idxArr (V2 m c (Proc.devRef .tc main_v17)))) (Proc.devRef .tc main_v18_1)
    (valArr (V2 m c (Proc.devRef .tc main_v17)) (V2 m c (Proc.devRef .tc main_v16)))
def V4 (c : Dev nD) : Valuation τ sig (Elt F) := StableHlo.after hostOps2 (V3 m c)

theorem V1_eq (c : Dev nD) : V1 m c = StableHlo.after (hostOps0 ++ hostOps0_1 ++ hostOps0_2) (V0 m c) := rfl

set_option maxHeartbeats 1000000 in
theorem V1_v12 (c : Dev nD) : V1 m c (Proc.devRef .tc main_v12) = scoresOf (m ((c.tc : Thread nD τ).loc main_arg0)) (m ((c.tc : Thread nD τ).loc main_arg1)) := by
  unfold V1 V1b V1a
  simp only [hostOps0, hostOps0_1, hostOps0_2, StableHlo.TRef.binary, StableHlo.TRef.nullary, StableHlo.TRef.unary, StableHlo.TRef.toBuf, StableHlo.TRef.ofBuf, cast_eq]
  after_results <;> rfl
set_option maxHeartbeats 1000000 in
theorem V1_v15 (c : Dev nD) : V1 m c (Proc.devRef .tc main_v15)
    = shapeCast S1x10240 (padOf (scoresOf (m ((c.tc : Thread nD τ).loc main_arg0)) (m ((c.tc : Thread nD τ).loc main_arg1)))) shapeCasts_S10240_S1x10240 := by
  unfold V1 V1b V1a
  simp only [hostOps0, hostOps0_1, hostOps0_2, StableHlo.TRef.binary, StableHlo.TRef.nullary, StableHlo.TRef.unary, StableHlo.TRef.toBuf, StableHlo.TRef.ofBuf, cast_eq]
  after_results <;> rfl
set_option maxHeartbeats 1000000 in
theorem V1_v16 (c : Dev nD) : V1 m c (Proc.devRef .tc main_v16)
    = shapeCast S10240x1 (padOf (scoresOf (m ((c.tc : Thread nD τ).loc main_arg0)) (m ((c.tc : Thread nD τ).loc main_arg1)))) shapeCasts_S10240_S10240x1 := by
  unfold V1 V1b V1a
  simp only [hostOps0, hostOps0_1, hostOps0_2, StableHlo.TRef.binary, StableHlo.TRef.nullary, StableHlo.TRef.unary, StableHlo.TRef.toBuf, StableHlo.TRef.ofBuf, cast_eq]
  after_results <;> rfl
set_option maxHeartbeats 1000000 in
theorem V1_arg0 (c : Dev nD) : V1 m c (Proc.devRef .tc main_arg0) = m ((c.tc : Thread nD τ).loc main_arg0) := by
  unfold V1 V1b V1a
  simp only [hostOps0, hostOps0_1, hostOps0_2, StableHlo.TRef.binary, StableHlo.TRef.nullary, StableHlo.TRef.unary, StableHlo.TRef.toBuf, StableHlo.TRef.ofBuf, cast_eq]
  after_results <;> rfl
set_option maxHeartbeats 1000000 in
theorem V1_arg1 (c : Dev nD) : V1 m c (Proc.devRef .tc main_arg1) = m ((c.tc : Thread nD τ).loc main_arg1) := by
  unfold V1 V1b V1a
  simp only [hostOps0, hostOps0_1, hostOps0_2, StableHlo.TRef.binary, StableHlo.TRef.nullary, StableHlo.TRef.unary, StableHlo.TRef.toBuf, StableHlo.TRef.ofBuf, cast_eq]
  after_results <;> rfl

theorem V2_v17 (c : Dev nD) : V2 m c (Proc.devRef .tc main_v17) = ranksOf (scoresOf (m ((c.tc : Thread nD τ).loc main_arg0)) (m ((c.tc : Thread nD τ).loc main_arg1))) := by
  unfold V2
  rw [Function.update_self, V1_v15, V1_v16]; rfl

theorem V2_of_ne (c : Dev nD) (b : Ref sig .tc) (h : b ≠ main_v17) : V2 m c (Proc.devRef .tc b) = V1 m c (Proc.devRef .tc b) :=
  Function.update_of_ne (StableHlo.devRef_ne_of_ne h) _ _
theorem V3_of_ne (c : Dev nD) (b : Ref sig .tc) (h : b ≠ main_v18_0) (h' : b ≠ main_v18_1) : V3 m c (Proc.devRef .tc b) = V2 m c (Proc.devRef .tc b) :=
  (Function.update_of_ne (StableHlo.devRef_ne_of_ne h') _ _).trans (Function.update_of_ne (StableHlo.devRef_ne_of_ne h) _ _)
theorem V3_idx (c : Dev nD) : V3 m c (Proc.devRef .tc main_v18_0) = idxArr (V2 m c (Proc.devRef .tc main_v17)) :=
  (Function.update_of_ne (StableHlo.devRef_ne_of_ne (by decide)) _ _).trans (Function.update_self _ _ _)
theorem V3_val (c : Dev nD) : V3 m c (Proc.devRef .tc main_v18_1) = valArr (V2 m c (Proc.devRef .tc main_v17)) (V2 m c (Proc.devRef .tc main_v16)) :=
  Function.update_self _ _ _

theorem V4_v21 (c : Dev nD) : V4 m c (Proc.devRef .tc main_v21) = indicesOf (scoresOf (m ((c.tc : Thread nD τ).loc main_arg0)) (m ((c.tc : Thread nD τ).loc main_arg1))) := by
  have e : V4 m c (Proc.devRef .tc main_v21) = extractStridedSlice S5000 ![0] (shapeCast S5120 (V3 m c (Proc.devRef .tc main_v18_0)) shapeCasts_S1x5120_S5120) slices_S5120_S5000_0 := by
    unfold V4
    simp only [hostOps2]
    after_results <;> rfl
  rw [e, V3_idx, V2_v17]; rfl
theorem V4_v22 (c : Dev nD) : V4 m c (Proc.devRef .tc main_v22) = valuesOf (scoresOf (m ((c.tc : Thread nD τ).loc main_arg0)) (m ((c.tc : Thread nD τ).loc main_arg1))) := by
  have e : V4 m c (Proc.devRef .tc main_v22) = extractStridedSlice S5000 ![0] (shapeCast S5120 (V3 m c (Proc.devRef .tc main_v18_1)) shapeCasts_S1x5120_S5120) slices_S5120_S5000_0 := by
    unfold V4
    simp only [hostOps2]
    after_results <;> rfl
  rw [e, V3_val, V2_v17, V2_of_ne m c main_v16 (by decide), V1_v16]; rfl
/-- A buffer neither kernel nor closing line writes. -/
theorem V4_keep (c : Dev nD) (b : Ref sig .tc) (h17 : b ≠ main_v17) (h0 : b ≠ main_v18_0) (h1 : b ≠ main_v18_1)
    (h : b ≠ main_v19 ∧ b ≠ main_v20 ∧ b ≠ main_v21 ∧ b ≠ main_v22) : V4 m c (Proc.devRef .tc b) = V1 m c (Proc.devRef .tc b) := by
  refine (StableHlo.after_of_forall_not_mem (b := Proc.devRef .tc b) hostOps2 (V3 m c) ?_).trans ((V3_of_ne m c b h0 h1).trans (V2_of_ne m c b h17))
  obtain ⟨h2, h3, h4, h5⟩ := h
  intro op hop
  simp only [List.mem_cons, List.mem_nil_iff, or_false] at hop
  rcases hop with rfl | rfl | rfl | rfl <;>
    simp only [StableHlo.unary_writes, StableHlo.reshape_writes, Finset.mem_singleton] <;>
    exact StableHlo.devRef_ne_of_ne ‹_›

/-! ## The launch -/

abbrev L : GSem nD τ sig → Finset Unit := fun _ => ∅
abbrev lv : GSem nD τ sig → Unit → ℕ := fun _ _ => 0
abbrev adm : (p : Fin 2) → (pcfgs (F := F) p).Adm := fun p => (cfgs p).toPCfg_adm

/-- What rides beside the buffers: the core owes nothing. -/
abbrev R (c : Dev nD) : sProp 𝕄 := iprop(∃ W, owes (c.tc : Thread nD τ) (0 : CellTallies nD τ sig Unit) W)

def rdats : (p : Fin 2) → (c : Dev nD) → RDat τ (Elt F) Unit ℕ UP ℕ (Pipeline.pin (pcfgs (F := F)) adm p) c :=
  fun | 0 => fun c => rdat0 (V1 m) c | 1 => fun c => rdat1 (V2 m) c | ⟨_ + 2, h⟩ => absurd h (Nat.not_lt.2 (Nat.le_add_left _ _))

theorem share_full0 (c : Dev nD) (w : Fin (Pipeline.pin (pcfgs (F := F)) adm 0).W) : (rdats m 0 c).share w = fullShare := by
  unfold RDat.share; split <;> rfl
theorem share_full1 (c : Dev nD) (w : Fin (Pipeline.pin (pcfgs (F := F)) adm 1).W) : (rdats m 1 c).share w = fullShare := by
  unfold RDat.share; split <;> rfl

abbrev hostSeg (ops : List (HloOp τ sig (Elt F))) (hs : ops.Forall fun op => op.bufs ⊆ StableHlo.tcRefs τ sig) (hf : ∀ op ∈ ops, op.fresh = ∅)
    (V : Dev nD → Valuation τ sig (Elt F)) : Pipeline.HostSeg (Name := ℕ) (U := UP) (pcfgs (F := F)) defs₀ 𝒱₀ L lv :=
  Pipeline.HostSeg.ofOps _ _ _ _ _ (Pipeline.ucRefs τ sig) ops (fun op h => Pipeline.sub_ucRefs op ((List.forall_iff_forall_mem.mp hs) op h)) hf V R

/-- A kernel's arrays at the end and the buffers beside them are the buffers at a valuation that has the arrays so. -/
theorem exit_bufs (p : Fin 2) (hw : Pipeline.WinFacts (Pipeline.pin (pcfgs (F := F)) adm p).spec)
    (harr : ∀ w, ((Pipeline.pin (pcfgs (F := F)) adm p).spec w).arr.IsWhole) (c : Dev nD) (hshare : ∀ w, (rdats m p c).share w = fullShare)
    (n : ℕ) (V V' : Valuation τ sig (Elt F))
    (hF : ∀ w G, (rdats m p c).ArrAt w n G → G = V' (Proc.devRef .tc (Pipeline.arrRef (Pipeline.pin (pcfgs (F := F)) adm p).spec w)))
    (hrest : ∀ b, b ∉ Finset.univ.image (Pipeline.arrRef (Pipeline.pin (pcfgs (F := F)) adm p).spec) → V' (Proc.devRef .tc b) = V (Proc.devRef .tc b)) :
    iprop((rdats m p c).arraysAt n ∗ Pipeline.unscopedRest (Pipeline.pin (pcfgs (F := F)) adm p).spec c (fun b => V (Proc.devRef .tc b)))
      ⊢ (StableHlo.held (c.tc : Thread nD τ) (Pipeline.ucRefs τ sig) V' : sProp 𝕄) := by
  rw [← Pipeline.unscopedBufs_held, Pipeline.unscopedBufs_split (Pipeline.pin (pcfgs (F := F)) adm) p hw.arr_unscoped hw.arr_inj c, Pipeline.RDat.arraysAt_eq (pcfgs (F := F)) adm (rdats m) p c harr hshare]
  refine sep_mono (bigSep_mono fun w _ => show (iprop(∃ G, ⌜(rdats m p c).ArrAt w n G⌝
      ∗ (((c.tc : Thread nD τ).loc (Pipeline.arrRef (Pipeline.pin (pcfgs (F := F)) adm p).spec w)) ↦{fullShare} G)) : sProp 𝕄)
      ⊢ iprop(((c.tc : Thread nD τ).loc (Pipeline.arrRef (Pipeline.pin (pcfgs (F := F)) adm p).spec w))
        ↦{fullShare} V' (Proc.devRef .tc (Pipeline.arrRef (Pipeline.pin (pcfgs (F := F)) adm p).spec w))) from ?_) (Entails.of_eq ?_)
  · iintro ⟨%G, %hG, H⟩
    rw [← hF w G hG]
    iexact H
  · unfold Pipeline.unscopedRest
    exact bigSep_congr fun b hb => congrArg (fun f => (((c.tc : Thread nD τ).loc b) ↦{fullShare} f : sProp 𝕄)) (hrest b (Finset.mem_sdiff.mp hb).2).symm

set_option backward.isDefEq.respectTransparency.types false in
/-- The first kernel, -/
def reg0 : RDat.RegionSeg (pcfgs (F := F)) adm (rdats m) () defs₀ 𝒱₀ L lv 0 where
  win := launch0.win.to₀
  block_pos := launch0.block_pos
  stage_whole := launch0.stage_whole
  K := PEmpty
  osem := fun k => k.elim
  ho := Pipeline.OwnSemFacts.none _
  hbody c := body0 (V1 m) c
  hwaits := RDat.hwaits_of_owed_zero _ _ _ _ L lv 0 fun _ _ => rfl
  pre c := iprop(StableHlo.held (c.tc : Thread nD τ) (Pipeline.ucRefs τ sig) (V1 m c) ∗ R c)
  post c := iprop(StableHlo.held (c.tc : Thread nD τ) (Pipeline.ucRefs τ sig) (V2 m c) ∗ R c)
  X _ := BI.emp
  Y _ := BI.emp
  Z c := Pipeline.unscopedRest spec0 c (fun b => V1 m c (Proc.devRef .tc b))
  hentry c := by
    rw [Pipeline.ownSems0_none, Pipeline.prefHeld_of_none _ rfl, ← Pipeline.unscopedBufs_held]
    have hsplit := RDat.arrays_of_unscopedBufs (pcfgs (F := F)) adm (rdats m) (p := 0) launch0.win launch0.arr_whole c (share_full0 m c)
      (fun b => V1 m c (Proc.devRef .tc b)) (fun _ => rfl)
    iintro ⟨⟨Hub, HO⟩, -, -⟩
    ihave H := hsplit $$ Hub
    icases H with ⟨Ha, Hr⟩
    imodintro
    isplitl [Ha]; · iexact Ha
    isplitr; · iempintro
    isplitl [HO]
    · icases HO with ⟨%W, HO⟩; iexists W; isplitr; · ipureintro; exact fun _ _ => Or.inl trivial
      iexact HO
    isplitr; · iempintro
    iexact Hr
  hin c := by
    iintro ⟨-, -, Hr⟩
    iapply (Entails.of_eq (show (Pipeline.scopedRest spec0 c : sProp 𝕄) = (rdats m 0 c).Φ 0 from rfl)) $$ Hr
  hout c := by
    rw [Pipeline.ownSems0_none]
    iintro Hr
    isplitr; · iempintro
    isplitr; · iempintro
    iapply (Entails.of_eq (show (rdats m 0 c).Φ (Fin.last cfg0.N) = (Pipeline.scopedRest spec0 c : sProp 𝕄) from rfl)) $$ Hr
  hexit c := by
    have hj := exit_bufs m 0 launch0.win launch0.arr_whole c (share_full0 m c) cfg0.N (V1 m c) (V2 m c)
      (by
        intro w G hG
        match w with
        | 0 => exact ((congrFun (RDat.ArrAt_in (rdats m 0 c) 0 rfl _) G).mp hG).trans (V2_of_ne m c main_v15 (by decide)).symm
        | 1 => exact ((congrFun (RDat.ArrAt_in (rdats m 0 c) 1 rfl _) G).mp hG).trans (V2_of_ne m c main_v16 (by decide)).symm
        | 2 => exact (out0 (V1 m) c G hG).trans (Function.update_self (Proc.devRef .tc main_v17) _ (V1 m c)).symm)
      (by
        intro b hb
        exact V2_of_ne m c b fun e => hb (Finset.mem_image.mpr ⟨2, Finset.mem_univ _, e.symm⟩))
    iintro ⟨Ha, ⟨%W, -, HO⟩, -, HZ⟩
    imodintro
    isplitr [HO]
    · iapply hj
      isplitl [Ha] <;> iassumption
    · iexists W; iexact HO

set_option backward.isDefEq.respectTransparency.types false in
/-- and the second. -/
def reg1 : RDat.RegionSeg (pcfgs (F := F)) adm (rdats m) () defs₀ 𝒱₀ L lv 1 where
  win := launch1.win.to₀
  block_pos := launch1.block_pos
  stage_whole := launch1.stage_whole
  K := PEmpty
  osem := fun k => k.elim
  ho := Pipeline.OwnSemFacts.none _
  hbody c := body1 (V2 m) c
  hwaits := RDat.hwaits_of_owed_zero _ _ _ _ L lv 1 fun _ _ => rfl
  pre c := iprop(StableHlo.held (c.tc : Thread nD τ) (Pipeline.ucRefs τ sig) (V2 m c) ∗ R c)
  post c := iprop(StableHlo.held (c.tc : Thread nD τ) (Pipeline.ucRefs τ sig) (V3 m c) ∗ R c)
  X _ := BI.emp
  Y _ := BI.emp
  Z c := Pipeline.unscopedRest spec1 c (fun b => V2 m c (Proc.devRef .tc b))
  hentry c := by
    rw [Pipeline.ownSems0_none, Pipeline.prefHeld_of_none _ rfl, ← Pipeline.unscopedBufs_held]
    have hsplit := RDat.arrays_of_unscopedBufs (pcfgs (F := F)) adm (rdats m) (p := 1) launch1.win launch1.arr_whole c (share_full1 m c)
      (fun b => V2 m c (Proc.devRef .tc b)) (fun _ => rfl)
    iintro ⟨⟨Hub, HO⟩, -, -⟩
    ihave H := hsplit $$ Hub
    icases H with ⟨Ha, Hr⟩
    imodintro
    isplitl [Ha]; · iexact Ha
    isplitr; · iempintro
    isplitl [HO]
    · icases HO with ⟨%W, HO⟩; iexists W; isplitr; · ipureintro; exact fun _ _ => Or.inl trivial
      iexact HO
    isplitr; · iempintro
    iexact Hr
  hin c := by
    iintro ⟨-, -, Hr⟩
    iapply (Entails.of_eq (show (Pipeline.scopedRest spec1 c : sProp 𝕄) = (rdats m 1 c).Φ 0 from rfl)) $$ Hr
  hout c := by
    rw [Pipeline.ownSems0_none]
    iintro Hr
    isplitr; · iempintro
    isplitr; · iempintro
    iapply (Entails.of_eq (show (rdats m 1 c).Φ (Fin.last cfg1.N) = (Pipeline.scopedRest spec1 c : sProp 𝕄) from rfl)) $$ Hr
  hexit c := by
    have hj := exit_bufs m 1 launch1.win launch1.arr_whole c (share_full1 m c) cfg1.N (V2 m c) (V3 m c)
      (by
        intro w G hG
        match w with
        | 0 => exact ((congrFun (RDat.ArrAt_in (rdats m 1 c) 0 rfl _) G).mp hG).trans (V3_of_ne m c main_v17 (by decide) (by decide)).symm
        | 1 => exact ((congrFun (RDat.ArrAt_in (rdats m 1 c) 1 rfl _) G).mp hG).trans (V3_of_ne m c main_v16 (by decide) (by decide)).symm
        | 2 => exact (out1_2 (V2 m) c G hG).trans (V3_idx m c).symm
        | 3 => exact (out1_3 (V2 m) c G hG).trans (V3_val m c).symm)
      (by
        intro b hb
        exact V3_of_ne m c b (fun e => hb (Finset.mem_image.mpr ⟨2, Finset.mem_univ _, e.symm⟩)) fun e => hb (Finset.mem_image.mpr ⟨3, Finset.mem_univ _, e.symm⟩))
    iintro ⟨Ha, ⟨%W, -, HO⟩, -, HZ⟩
    imodintro
    isplitr [HO]
    · iapply hj
      isplitl [Ha] <;> iassumption
    · iexists W; iexact HO

theorem fresh0 : ∀ op ∈ (hostOps0 (F := F)), op.fresh = ∅ := by
  intro _ h; (repeat (cases h with | head => rfl | tail _ h => ?_)); exact nomatch h
theorem fresh0_1 : ∀ op ∈ (hostOps0_1 (F := F)), op.fresh = ∅ := by
  intro _ h; (repeat (cases h with | head => rfl | tail _ h => ?_)); exact nomatch h
theorem fresh0_2 : ∀ op ∈ (hostOps0_2 (F := F)), op.fresh = ∅ := by
  intro _ h; (repeat (cases h with | head => rfl | tail _ h => ?_)); exact nomatch h
theorem fresh2 : ∀ op ∈ (hostOps2 (F := F)), op.fresh = ∅ := by
  intro _ h; (repeat (cases h with | head => rfl | tail _ h => ?_)); exact nomatch h

abbrev segs : List (RDat.Seg (pcfgs (F := F)) adm (rdats m) () defs₀ 𝒱₀ L lv) :=
  [.host (hostSeg hostOps0 hostOps0_sub fresh0 (V0 m)), .host (hostSeg hostOps0_1 hostOps0_1_sub fresh0_1 (V1a m)),
    .host (hostSeg hostOps0_2 hostOps0_2_sub fresh0_2 (V1b m)), .region (reg0 m), .region (reg1 m), .host (hostSeg hostOps2 hostOps2_sub fresh2 (V3 m))]

/-- What the run ends at. -/
def Ends (c : Dev nD) (s : MemSt nD τ sig (Elt F)) : Prop :=
  s.mem ((c.tc : Thread nD τ).loc main_v21) = indicesOf (scoresOf (m ((c.tc : Thread nD τ).loc main_arg0)) (m ((c.tc : Thread nD τ).loc main_arg1)))
    ∧ s.mem ((c.tc : Thread nD τ).loc main_v22) = valuesOf (scoresOf (m ((c.tc : Thread nD τ).loc main_arg0)) (m ((c.tc : Thread nD τ).loc main_arg1)))
    ∧ s.mem ((c.tc : Thread nD τ).loc main_v12) = scoresOf (m ((c.tc : Thread nD τ).loc main_arg0)) (m ((c.tc : Thread nD τ).loc main_arg1))
    ∧ s.mem ((c.tc : Thread nD τ).loc main_arg0) = m ((c.tc : Thread nD τ).loc main_arg0)
    ∧ s.mem ((c.tc : Thread nD τ).loc main_arg1) = m ((c.tc : Thread nD τ).loc main_arg1)

set_option backward.isDefEq.respectTransparency.types false in
/-- The top k's run, for any floats: it ends with its results at the values above, its arguments as they were, every semaphore at zero. -/
theorem run_main : θ_run defs (onTc (τ := τ) (main (F := F))) ⟨m, fun _ => 0, ρ⟩ (fun r => (∀ c, Ends m c r.2) ∧ r.2.sem = fun _ => 0) :=
  RDat.θ_run_regions_kit_sems (pcfgs (F := F)) adm (rdats m) () cellOf_inj EP defs₀ 𝒱₀ L lv m ρ main (segs m)
    (fun c Q => by rw [main_chain, RDat.Seg.run_eq_chain]; exact .rfl)
    (by simp only [RDat.Seg.pipes_host, RDat.Seg.pipes_region, RDat.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu
      imodintro
      isplitl [Hu]; · iapply (show (ownU _ : sProp 𝕄) ⊢ BI.own (EP (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (V0 m c) ∗ R c))
    (Tₙ := fun c => StableHlo.held (c.tc : Thread nD τ) (Pipeline.ucRefs τ sig) (V4 m c))
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c.tc : Thread nD τ).loc b)) = StableHlo.held (c.tc : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := Ends m)
    (hfin := fun c s' => by
      have hT : ({main_v21, main_v22, main_v12, main_arg0, main_arg1} : Finset (Ref sig .tc)).map ⟨Proc.devRef (sig := sig) .tc, Proc.devRef_injective _⟩ ⊆ Pipeline.ucRefs τ sig := by decide
      have hlist : (StableHlo.held (c.tc : Thread nD τ) (({main_v21, main_v22, main_v12, main_arg0, main_arg1} : Finset (Ref sig .tc)).map ⟨Proc.devRef (sig := sig) .tc, Proc.devRef_injective _⟩) (V4 m c) : sProp 𝕄)
          = iprop((((c.tc : Thread nD τ).loc main_v21) ↦{fullShare} V4 m c (Proc.devRef .tc main_v21)) ∗ (((c.tc : Thread nD τ).loc main_v22) ↦{fullShare} V4 m c (Proc.devRef .tc main_v22)) ∗ (((c.tc : Thread nD τ).loc main_v12) ↦{fullShare} V4 m c (Proc.devRef .tc main_v12)) ∗ (((c.tc : Thread nD τ).loc main_arg0) ↦{fullShare} V4 m c (Proc.devRef .tc main_arg0)) ∗ (((c.tc : Thread nD τ).loc main_arg1) ↦{fullShare} V4 m c (Proc.devRef .tc main_arg1))) := by
        unfold StableHlo.held
        rw [bigSep_map]
        exact bigSep_eq_bigSepL_of_eq (I := Ref sig .tc) [main_v21, main_v22, main_v12, main_arg0, main_arg1] (by decide) (by decide) _
      rw [StableHlo.held_sub_split (c.tc : Thread nD τ) hT, hlist]
      iintro ⟨⟨⟨H0, H1, H2, H3, H4⟩, -⟩, HSI⟩
      icombine HSI H0 gives %h0
      icombine HSI H1 gives %h1
      icombine HSI H2 gives %h2
      icombine HSI H3 gives %h3
      icombine HSI H4 gives %h4
      imodintro
      isplitr
      · ipureintro
        exact ⟨(Buf.eq_of_forall_mem_univ h0).trans (V4_v21 m c), (Buf.eq_of_forall_mem_univ h1).trans (V4_v22 m c),
          (Buf.eq_of_forall_mem_univ h2).trans ((V4_keep m c main_v12 (by decide) (by decide) (by decide) (by decide)).trans (V1_v12 m c)),
          (Buf.eq_of_forall_mem_univ h3).trans ((V4_keep m c main_arg0 (by decide) (by decide) (by decide) (by decide)).trans (V1_arg0 m c)),
          (Buf.eq_of_forall_mem_univ h4).trans ((V4_keep m c main_arg1 (by decide) (by decide) (by decide) (by decide)).trans (V1_arg1 m c))⟩
      iexact HSI)
    (hQ := fun _ h hz => ⟨h, funext fun g => hz g (.inr (by revert g; decide))⟩)

end Cert.Proof.Top

end
-- ==== Proof.TopSort.lean ====
/-
  Ranks and the stable sort: counting who comes before inverts the sorted order.
-/
module

public import Idealize.ShloMosaic.PureOps
public import Idealize.ShloMosaic.PureOps.Ideal
public import Idealize.ShloMosaic.Lib.SortFacts
public import Mathlib.Order.Interval.Finset.Fin
public import Mathlib.Algebra.BigOperators.Fin

@[expose] public section

noncomputable section

namespace Cert.Proof.Top

open Idealize.ShloMosaic

/-- Position `a` comes before `b`: a greater score, or an equal one at a lower position. -/
def Before {n : ℕ} (s : Fin n → EReal) (a b : Fin n) : Prop := s b < s a ∨ (s a = s b ∧ a < b)

open Classical in
/-- How many positions come before `b`. -/
def rankN {n : ℕ} (s : Fin n → EReal) (b : Fin n) : ℕ := (Finset.univ.filter fun a => Before s a b).card

theorem Before.irrefl {n : ℕ} (s : Fin n → EReal) (a : Fin n) : ¬ Before s a a := by
  rintro (h | ⟨-, h⟩) <;> exact lt_irrefl _ h

theorem Before.trans {n : ℕ} {s : Fin n → EReal} {a b c : Fin n} (h : Before s a b) (h' : Before s b c) : Before s a c := by
  rcases h with h | ⟨e, h⟩ <;> rcases h' with h' | ⟨e', h'⟩
  · exact .inl (h'.trans h)
  · exact .inl (e' ▸ h)
  · exact .inl (e ▸ h')
  · exact .inr ⟨e.trans e', h.trans h'⟩

theorem Before.total {n : ℕ} (s : Fin n → EReal) {a b : Fin n} (h : a ≠ b) : Before s a b ∨ Before s b a := by
  rcases lt_trichotomy (s a) (s b) with h' | h' | h'
  · exact .inr (.inl h')
  · rcases lt_or_gt_of_ne h with h'' | h''
    · exact .inl (.inr ⟨h', h''⟩)
    · exact .inr (.inr ⟨h'.symm, h''⟩)
  · exact .inl (.inl h')

/-- One who comes before another has the lower rank, -/
theorem rankN_lt {n : ℕ} {s : Fin n → EReal} {a b : Fin n} (h : Before s a b) : rankN s a < rankN s b := by
  classical
  refine Finset.card_lt_card ((Finset.ssubset_iff_of_subset fun c hc => ?_).mpr ⟨a, ?_, ?_⟩)
  · exact Finset.mem_filter.mpr ⟨Finset.mem_univ _, (Finset.mem_filter.mp hc).2.trans h⟩
  · exact Finset.mem_filter.mpr ⟨Finset.mem_univ _, h⟩
  · exact fun hc => Before.irrefl s a (Finset.mem_filter.mp hc).2

/-- so no two have the same. -/
theorem rankN_injective {n : ℕ} (s : Fin n → EReal) : Function.Injective (rankN s) := by
  intro a b e
  by_contra h
  rcases Before.total s h with h | h <;> exact absurd e (by have := rankN_lt h; omega)

/-- Insertion before later positions keeps a list in order. -/
theorem pairwise_insert {n : ℕ} (s : Fin n → EReal) (a : Fin n) (l : List (Fin n)) (ha : ∀ b ∈ l, a < b)
    (hl : l.Pairwise (Before s)) : (insertBefore (fun k k' => Ideal.cmp .ogt (s k) (s k') == 1#1) a l).Pairwise (Before s) := by
  have hR : ∀ k k', (Ideal.cmp .ogt (s k) (s k') == 1#1) = true ↔ s k' < s k := by
    intro k k'
    unfold Ideal.cmp
    by_cases h : s k' < s k <;> simp [h]
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem b hc)) hl.2⟩
      rcases List.mem_cons.mp ((perm_insertBefore _ a l).mem_iff.mp hc) with rfl | hc'
      · exact .inl ((hR b c).mp h)
      · exact hl.1 c hc'
    · rename_i h
      have hab : Before s a b := by
        rcases lt_or_eq_of_le (not_lt.mp fun h' => h ((hR b a).mpr h')) with h' | h'
        · exact .inl h'
        · exact .inr ⟨h'.symm, ha b List.mem_cons_self⟩
      refine List.pairwise_cons.mpr ⟨fun c hc => ?_, List.pairwise_cons.mpr hl⟩
      rcases List.mem_cons.mp hc with rfl | hc'
      · exact hab
      · exact hab.trans (hl.1 c hc')

theorem pairwise_sort {n : ℕ} (s : Fin n → EReal) (l : List (Fin n)) (hl : l.Pairwise (· < ·)) :
    (stableSort (fun k k' => Ideal.cmp .ogt (s k) (s k') == 1#1) l).Pairwise (Before s) := by
  induction l with
  | nil => exact List.Pairwise.nil
  | cons a l ih =>
    rw [List.pairwise_cons] at hl
    unfold stableSort
    exact pairwise_insert s a _ (fun b hb => hl.1 b ((perm_stableSort _ l).mem_iff.mp hb)) (ih hl.2)

/-- The stable sort's positions. -/
abbrev sorted {n : ℕ} (s : Fin n → EReal) : Fin n → Fin n := sortedFrom fun k k' => Ideal.cmp .ogt (s k) (s k') == 1#1

theorem sorted_before {n : ℕ} (s : Fin n → EReal) {i j : Fin n} (h : i < j) : Before s (sorted s i) (sorted s j) := by
  have hp : ∀ a b : Fin (sortPositions n fun k k' => Ideal.cmp .ogt (s k) (s k') == 1#1).length, a < b →
      Before s ((sortPositions n fun k k' => Ideal.cmp .ogt (s k) (s k') == 1#1).get a) ((sortPositions n fun k k' => Ideal.cmp .ogt (s k) (s k') == 1#1).get b) :=
    List.pairwise_iff_get.mp (pairwise_sort s (List.finRange n) (List.pairwise_lt_finRange n))
  exact hp _ _ (by simp only [Fin.lt_def, Fin.val_cast]; exact h)

theorem sorted_before_iff {n : ℕ} (s : Fin n → EReal) (i j : Fin n) : Before s (sorted s i) (sorted s j) ↔ i < j := by
  refine ⟨fun h => ?_, sorted_before s⟩
  by_contra h'
  rcases lt_or_eq_of_le (not_lt.mp h') with h'' | rfl
  · exact Before.irrefl s _ (h.trans (sorted_before s h''))
  · exact Before.irrefl s _ h

/-- Scores padded below every one of them. -/
def padN {n : ℕ} (N : ℕ) (s : Fin n → EReal) : Fin N → EReal := fun z => if h : z.val < n then s ⟨z.val, h⟩ else -1

theorem padN_cast {n N : ℕ} (hN : n ≤ N) (s : Fin n → EReal) (a : Fin n) : padN N s (a.castLE hN) = s a := dif_pos a.isLt

theorem padN_before {n N : ℕ} (hN : n ≤ N) (s : Fin n → EReal) (a b : Fin n) : Before (padN N s) (a.castLE hN) (b.castLE hN) ↔ Before s a b := by
  unfold Before
  rw [padN_cast, padN_cast]
  rfl

/-- The rank, among the padded scores, of the one that the sort puts at `k` is `k`. -/
theorem rank_sorted {n N : ℕ} (hN : n ≤ N) (s : Fin n → EReal) (h0 : ∀ a, 0 ≤ s a) (k : Fin n) : rankN (padN N s) ((sorted s k).castLE hN) = k.val := by
  classical
  have e : (Finset.univ.filter fun a => Before (padN N s) a ((sorted s k).castLE hN))
      = (Finset.Iio k).image fun i => (sorted s i).castLE hN := by
    ext a
    rw [Finset.mem_filter, Finset.mem_image]
    constructor
    · rintro ⟨-, h⟩
      by_cases ha : a.val < n
      · obtain ⟨i, hi⟩ := sortedFrom_surjective (fun k k' => Ideal.cmp .ogt (s k) (s k') == 1#1) ⟨a.val, ha⟩
        have ea : a = (sorted s i).castLE hN := Fin.ext (by rw [Fin.val_castLE]; exact (congrArg Fin.val hi).symm)
        refine ⟨i, Finset.mem_Iio.mpr ?_, ea.symm⟩
        rw [ea, padN_before, sorted_before_iff] at h
        exact h
      · exfalso
        have hp : padN N s a = -1 := dif_neg ha
        have hn : (-1 : EReal) < 0 := by norm_num
        have h1 : padN N s a < padN N s ((sorted s k).castLE hN) := by
          rw [hp, padN_cast]; exact hn.trans_le (h0 _)
        rcases h with h | ⟨h, -⟩
        · exact absurd h1 (not_lt.mpr h.le)
        · exact absurd h h1.ne
    · rintro ⟨i, hi, rfl⟩
      exact ⟨Finset.mem_univ _, (padN_before hN s _ _).mpr (sorted_before s (Finset.mem_Iio.mp hi))⟩
  unfold rankN
  rw [e, Finset.card_image_of_injective _ fun a b h => sortedFrom_injective _ (Fin.castLE_injective hN h), Fin.card_Iio]

/-- So what a rank picks out is what the sort puts there. -/
theorem pick_sorted {n N : ℕ} (hN : n ≤ N) (s : Fin n → EReal) (h0 : ∀ a, 0 ≤ s a) (k : Fin n) (w : Fin N → EReal) :
    (∑ z, if rankN (padN N s) z = k.val then w z else 0) = w ((sorted s k).castLE hN) := by
  rw [Finset.sum_eq_single ((sorted s k).castLE hN)]
  · rw [if_pos (rank_sorted hN s h0 k)]
  · intro z _ hz
    exact if_neg fun e => hz (rankN_injective _ (e.trans (rank_sorted hN s h0 k).symm))
  · exact fun h => absurd (Finset.mem_univ _) h

/-- A sum over ten blocks of 1024, block after block. -/
theorem ten_blocks (G : ℕ → EReal) :
    0 + (∑ k : Fin 1024, G (0 + k.val)) + (∑ k : Fin 1024, G (1024 + k.val)) + (∑ k : Fin 1024, G (2048 + k.val)) + (∑ k : Fin 1024, G (3072 + k.val))
      + (∑ k : Fin 1024, G (4096 + k.val)) + (∑ k : Fin 1024, G (5120 + k.val)) + (∑ k : Fin 1024, G (6144 + k.val)) + (∑ k : Fin 1024, G (7168 + k.val))
      + (∑ k : Fin 1024, G (8192 + k.val)) + (∑ k : Fin 1024, G (9216 + k.val)) = ∑ z : Fin 10240, G z.val := by
  have hb : ∀ b : ℕ, (∑ x ∈ Finset.range (b + 1024), G x) = (∑ x ∈ Finset.range b, G x) + ∑ k : Fin 1024, G (b + k.val) := fun b => by
    rw [Finset.sum_range_add, Finset.sum_range fun x => G (b + x)]
  rw [← Finset.sum_range fun x => G x]
  rw [show (10240 : ℕ) = 9216 + 1024 from rfl, hb, show (9216 : ℕ) = 8192 + 1024 from rfl, hb 8192]
  rw [show (∑ x ∈ Finset.range 8192, G x) = 0 + (∑ k : Fin 1024, G (0 + k.val)) + (∑ k : Fin 1024, G (1024 + k.val)) + (∑ k : Fin 1024, G (2048 + k.val)) + (∑ k : Fin 1024, G (3072 + k.val))
      + (∑ k : Fin 1024, G (4096 + k.val)) + (∑ k : Fin 1024, G (5120 + k.val)) + (∑ k : Fin 1024, G (6144 + k.val)) + (∑ k : Fin 1024, G (7168 + k.val)) from by
    rw [show (Finset.range 8192) = Finset.range (7168 + 1024) from rfl, hb 7168, show (Finset.range 7168) = Finset.range (6144 + 1024) from rfl, hb 6144,
      show (Finset.range 6144) = Finset.range (5120 + 1024) from rfl, hb 5120, show (Finset.range 5120) = Finset.range (4096 + 1024) from rfl, hb 4096,
      show (Finset.range 4096) = Finset.range (3072 + 1024) from rfl, hb 3072, show (Finset.range 3072) = Finset.range (2048 + 1024) from rfl, hb 2048,
      show (Finset.range 2048) = Finset.range (1024 + 1024) from rfl, hb 1024, show (Finset.range 1024) = Finset.range (0 + 1024) from rfl, hb 0, Finset.sum_range_zero]]

end Cert.Proof.Top

end
-- ==== Proof.TopMath.lean ====
/-
  The top k's values at the extended reals: ranks are counts, and what they pick out is the stable sort.
-/
module

public import proofs.«01_k».proof.Proof.TopRun
public import proofs.«01_k».proof.Proof.TopSort
public import Idealize.ShloMosaic.Lib.Pointwise
public import Idealize.ShloMosaic.Lib.IdealHost

@[expose] public section

noncomputable section

namespace Cert.Proof.Top

open Cert.TopIdeal Cert.TopIdeal.Gen
open Idealize.ShloMosaic

/-! ## Small words -/

theorem toInt_small {n : ℕ} (h : n < 2 ^ 31) : (BitVec.ofNat 32 n).toInt = n := by
  rw [BitVec.toInt_eq_toNat_cond, BitVec.toNat_ofNat]
  omega

theorem block_word (i j : ℕ) : IntOp.addi (Scalar.muli (BitVec.ofNat 32 i) 1024#32) (BitVec.ofNat 32 j) = BitVec.ofNat 32 (i * 1024 + j) := by
  show BitVec.ofNat 32 i * 1024#32 + BitVec.ofNat 32 j = _
  rw [BitVec.ofNat_add, BitVec.ofNat_mul]

theorem add_word (i j : ℕ) : IntOp.addi (BitVec.ofNat 32 i) (BitVec.ofNat 32 j) = BitVec.ofNat 32 (i + j) := (BitVec.ofNat_add i j).symm

theorem slt_word {a b : ℕ} (ha : a < 2 ^ 31) (hb : b < 2 ^ 31) : IntOp.cmpi .slt (BitVec.ofNat 32 a) (BitVec.ofNat 32 b) = BitVec.ofBool (decide (a < b)) := by
  show BitVec.ofBool (BitVec.slt _ _) = _
  rw [BitVec.slt_eq_decide, toInt_small ha, toInt_small hb]
  congr 1
  exact decide_eq_decide.mpr Int.ofNat_lt

/-- A flag as a float. -/
theorem flag (p q r : Prop) [Decidable p] [Decidable q] [Decidable r] [Decidable (p ∨ q ∧ r)] :
    (FloatOps.sitofp (F := Ideal) .f32 ((IntOp.ori (BitVec.ofBool (decide p)) (IntOp.andi (BitVec.ofBool (decide q)) (BitVec.ofBool (decide r)))).setWidth 32) : EReal)
      = if p ∨ q ∧ r then 1 else 0 := by
  have h1 : (FloatOps.sitofp (F := Ideal) .f32 1#32 : EReal) = 1 := by
    show (((1#32 : BitVec 32).toInt : ℝ) : EReal) = 1
    rw [show (1#32 : BitVec 32).toInt = 1 from rfl]; norm_cast
  have h0 : (FloatOps.sitofp (F := Ideal) .f32 0#32 : EReal) = 0 := by
    show (((0#32 : BitVec 32).toInt : ℝ) : EReal) = 0
    rw [show (0#32 : BitVec 32).toInt = 0 from rfl]; norm_cast
  by_cases hp : p <;> by_cases hq : q <;> by_cases hr : r <;> simp [hp, hq, hr, IntOp.ori, IntOp.andi] <;> first | exact h1 | exact h0

/-! ## Ranks -/

open Classical in
theorem rankStep_apply (i : grid0.Coords) (v2 : Vec Ideal S1024x1 .f32) (b : ℕ) (hb : b ≤ 9216) (v9 : Vec Ideal S1x1024 .f32) (j : Fin 1024) :
    rankStep i v2 (BitVec.ofNat 32 b) v9 (colIx j)
      = ∑ x : Fin 1024, if v2 (colIx j) < v9 (rowIx x) ∨ v9 (rowIx x) = v2 (colIx j) ∧ b + x.val < (i 0).val * 1024 + j.val then (1 : EReal) else 0 := by
  have hi : (i 0).val < 10 := (i 0).isLt
  pointwise [rankStep, k0_pay2, k0_pay3]
  refine Finset.sum_congr rfl fun x _ => ?_
  rw [block_word, add_word, slt_word (by omega) (show _ < 2 ^ 31 from by show (i 0).val * 1024 + j.val < 2 ^ 31; omega), flag]
  rw [show (ix2 (colIx j 0) 0 : S1024x1.Idx) = colIx j from (col_eq _).trans rfl, show (ix2 0 x : S1x1024.Idx) = rowIx x from (row_eq _).trans rfl]

open Classical in
/-- Whether position `n` comes before position `z`, as a number. -/
def beats (P : Fin 10240 → EReal) (z : Fin 10240) (n : ℕ) : EReal := if h : n < 10240 then (if Before P ⟨n, h⟩ z then 1 else 0) else 0

theorem row_emb (o : ℕ) (h : ∀ a, (![0, o] : Fin 2 → ℕ) a + S1x1024.size a ≤ S1x10240.size a) (k : Fin 1024) (hk : o + k.val < 10240) :
    (Rect.unit (s := S1x10240) ![0, o] S1x1024.size h).emb (rowIx k) = rowIx (n := 10240) ⟨o + k.val, hk⟩ :=
  (row_eq _).trans (congrArg rowIx (Fin.ext (show o + 1 * k.val = o + k.val by omega)))

theorem col_emb (o : ℕ) (h : ∀ a, (![o, 0] : Fin 2 → ℕ) a + S1024x1.size a ≤ S10240x1.size a) (k : Fin 1024) (hk : o + k.val < 10240) :
    (Rect.unit (s := S10240x1) ![o, 0] S1024x1.size h).emb (colIx k) = colIx (n := 10240) ⟨o + k.val, hk⟩ :=
  (col_eq _).trans (congrArg colIx (Fin.ext (show o + 1 * k.val = o + k.val by omega)))

theorem rankStep_block (s : S1x10240.Idx → EReal) (x : S10240x1.Idx → EReal) (P : Fin 10240 → EReal) (hs : ∀ z, s (rowIx z) = P z) (hx : ∀ z, x (colIx z) = P z)
    (z : Fin 10240) (t : Fin grid0.N) (ht : t.val = z.val / 1024) (j : Fin 1024) (hj : j.val = z.val % 1024) (b : ℕ) (hb : b ≤ 9216)
    (h : ∀ a, (![0, b] : Fin 2 → ℕ) a + S1x1024.size a ≤ S1x10240.size a) :
    rankStep (F := Ideal) (grid0.coords t) (fun j => x ((rect0 (grid0.coords t)).emb j)) (BitVec.ofNat 32 b) (rowAt s b h) (colIx j) = ∑ k : Fin 1024, beats P z (b + k.val) := by
  rw [rankStep_apply _ _ b hb]
  have e : (rect0 (grid0.coords t)).emb (colIx j) = colIx (n := 10240) z :=
    (col_eq _).trans (congrArg colIx (Fin.ext ((emb0 t (colIx j)).trans (show 1024 * t.val + j.val = z.val by omega))))
  refine Finset.sum_congr rfl fun k _ => ?_
  have hk : b + k.val < 10240 := by omega
  have er : rowAt (F := Ideal) s b h (rowIx k) = P ⟨b + k.val, hk⟩ := (congrArg s (row_emb b h k hk)).trans (hs _)
  have ec : x ((rect0 (grid0.coords t)).emb (colIx j)) = P z := (congrArg x e).trans (hx z)
  unfold beats
  rw [dif_pos hk]
  simp only [er, ec, coords0]
  have e3 : (b + k.val < t.val * 1024 + j.val) = ((⟨b + k.val, hk⟩ : Fin 10240) < z) := by
    rw [Fin.lt_def, show t.val * 1024 + j.val = z.val by omega]
  unfold Before
  simp only [e3]
  congr

/-- A rank is how many of the padded scores come before. -/
theorem rankArr_apply (s : S1x10240.Idx → EReal) (x : S10240x1.Idx → EReal) (P : Fin 10240 → EReal) (hs : ∀ z, s (rowIx z) = P z) (hx : ∀ z, x (colIx z) = P z)
    (z : Fin 10240) : rankArr (F := Ideal) s x (colIx z) = ((rankN P z : ℕ) : EReal) := by
  classical
  have hN : z.val / 1024 < grid0.N := by have := z.isLt; rw [N_0]; omega
  have hB := fun b hb h => rankStep_block s x P hs hx z ⟨z.val / 1024, hN⟩ rfl ⟨z.val % 1024, Nat.mod_lt _ (by decide)⟩ rfl b hb h
  unfold rankArr rankRow
  simp only [addf_apply, ValueIdx.broadcast_apply, Ideal.addf_def]
  refine Eq.trans ?_ ((ten_blocks (beats P z)).trans ?_)
  · refine congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) Ideal.ofBits_zero_f32
      (hB 0 (by omega) _)) (hB 1024 (by omega) _)) (hB 2048 (by omega) _)) (hB 3072 (by omega) _)) (hB 4096 (by omega) _))
      (hB 5120 (by omega) _)) (hB 6144 (by omega) _)) (hB 7168 (by omega) _)) (hB 8192 (by omega) _)) (hB 9216 (by omega) _)
  · have e : ∀ a : Fin 10240, beats P z a.val = if Before P a z then 1 else 0 := fun a => dif_pos a.isLt
    rw [Finset.sum_congr rfl fun a _ => e a, Finset.sum_boole]
    rfl

/-! ## Picking -/

theorem pickStep_apply (i : grid1.Coords) (v7 w : Vec Ideal S1024x1 .f32) (j : Fin 1024) :
    pickStep i v7 w (rowIx j) = ∑ x : Fin 1024, if v7 (colIx x) = (((i 0).val * 1024 + j.val : ℕ) : EReal) then (w (colIx x) : EReal) else 0 := by
  have hi : (i 0).val < 5 := (i 0).isLt
  pointwise [pickStep, k1_pay1]
  refine Finset.sum_congr rfl fun x _ => ?_
  rw [block_word]
  have e : (FloatOps.sitofp (F := Ideal) .f32 (BitVec.ofNat 32 ((i 0).val * 1024 + (rowIx j 1).val)) : EReal) = (((i 0).val * 1024 + j.val : ℕ) : EReal) := by
    show (((BitVec.ofNat 32 ((i 0).val * 1024 + j.val)).toInt : ℝ) : EReal) = _
    rw [toInt_small (by omega)]
    norm_cast
  rw [e, show ((ix2 x 0 : S1024x1.Idx)) = colIx x from (col_eq _).trans rfl]

/-- What is listed at position `n` if its rank is `q`. -/
def picked (R W : Fin 10240 → EReal) (q n : ℕ) : EReal := if h : n < 10240 then (if R ⟨n, h⟩ = (q : EReal) then W ⟨n, h⟩ else 0) else 0

theorem pickStep_block (r : S10240x1.Idx → EReal) (W : Fin 10240 → EReal) (q : Fin 5120) (t : Fin grid1.N) (ht : t.val = q.val / 1024) (j : Fin 1024) (hj : j.val = q.val % 1024)
    (b : ℕ) (hb : b ≤ 9216) (h : ∀ a, (![b, 0] : Fin 2 → ℕ) a + S1024x1.size a ≤ S10240x1.size a) (w : Vec Ideal S1024x1 .f32)
    (hw : ∀ (k : Fin 1024) (hk : b + k.val < 10240), w (colIx k) = W ⟨b + k.val, hk⟩) :
    pickStep (F := Ideal) (grid1.coords t) (colAt r b h) w (rowIx j) = ∑ k : Fin 1024, picked (fun z => r (colIx z)) W q.val (b + k.val) := by
  rw [pickStep_apply]
  refine Finset.sum_congr rfl fun k _ => ?_
  have hk : b + k.val < 10240 := by omega
  have er : colAt (F := Ideal) r b h (colIx k) = r (colIx (n := 10240) ⟨b + k.val, hk⟩) := congrArg r (col_emb b h k hk)
  unfold picked
  rw [dif_pos hk, er, hw k hk, coords1, show t.val * 1024 + j.val = q.val by omega]

theorem sum_picked (R W : Fin 10240 → EReal) (q : ℕ) : (∑ z : Fin 10240, picked R W q z.val) = ∑ z, if R z = (q : EReal) then W z else 0 :=
  Finset.sum_congr rfl fun z _ => dif_pos z.isLt

theorem rowNo_apply (b : ℕ) (hb : b ≤ 9216) (k : Fin 1024) : rowNo (F := Ideal) (BitVec.ofNat 32 b) (colIx k) = ((b + k.val : ℕ) : EReal) := by
  have e : rowNo (F := Ideal) (BitVec.ofNat 32 b) (colIx k) = FloatOps.sitofp .f32 (IntOp.addi (BitVec.ofNat 32 b) (BitVec.ofNat 32 k.val)) := by
    pointwise [rowNo]
  rw [e, add_word]
  show (((BitVec.ofNat 32 (b + k.val)).toInt : ℝ) : EReal) = _
  rw [toInt_small (by omega)]
  norm_cast

theorem fptosi_small {n : ℕ} (h : n < 2 ^ 31) : FloatOps.fptosi (F := Ideal) (φ := .f32) 32 ((n : ℕ) : EReal) = BitVec.ofNat 32 n := by
  show BitVec.ofInt 32 (Ideal.toIntClamped _ _ (((n : ℝ)) : EReal)) = _
  have e : Ideal.toIntClamped (-(2 ^ (32 - 1) : Nat)) ((2 ^ (32 - 1) : Nat) - 1) ((n : ℝ) : EReal) = (n : ℤ) := by
    show max _ (min _ (if 0 ≤ (n : ℝ) then ⌊(n : ℝ)⌋ else ⌈(n : ℝ)⌉)) = _
    rw [if_pos (Nat.cast_nonneg n), Int.floor_natCast]
    omega
  rw [e]
  exact BitVec.ofInt_natCast 32 n

/-- An index the second kernel makes: the sum of the positions whose rank is the column's, -/
theorem idxArr_apply (r : S10240x1.Idx → EReal) (q : Fin 5120) (k : ℕ) (hk : k < 2 ^ 31)
    (h : (∑ z : Fin 10240, if r (colIx z) = (q.val : EReal) then ((z.val : ℕ) : EReal) else 0) = (k : EReal)) : idxArr (F := Ideal) r (rowIx q) = BitVec.ofNat 32 k := by
  have hN : q.val / 1024 < grid1.N := by have := q.isLt; rw [N_1]; omega
  have hB := fun b hb h => pickStep_block r (fun z => ((z.val : ℕ) : EReal)) q ⟨q.val / 1024, hN⟩ rfl ⟨q.val % 1024, Nat.mod_lt _ (by decide)⟩ rfl b hb h (rowNo (F := Ideal) (BitVec.ofNat 32 b))
    (fun k _ => rowNo_apply b hb k)
  unfold idxArr idxRow
  refine Eq.trans (congrArg (FloatOps.fptosi (F := Ideal) (φ := .f32) 32) ?_) (fptosi_small hk)
  simp only [addf_apply, ValueIdx.broadcast_apply, Ideal.addf_def]
  refine Eq.trans ?_ ((ten_blocks (picked (fun z => r (colIx z)) (fun z => ((z.val : ℕ) : EReal)) q.val)).trans ((sum_picked _ _ _).trans h))
  refine congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) Ideal.ofBits_zero_f32
    (hB 0 (by omega) _)) (hB 1024 (by omega) _)) (hB 2048 (by omega) _)) (hB 3072 (by omega) _)) (hB 4096 (by omega) _))
    (hB 5120 (by omega) _)) (hB 6144 (by omega) _)) (hB 7168 (by omega) _)) (hB 8192 (by omega) _)) (hB 9216 (by omega) _)

/-- and a value: the sum of their scores. -/
theorem valArr_apply (r x : S10240x1.Idx → EReal) (q : Fin 5120) :
    valArr (F := Ideal) r x (rowIx q) = ∑ z : Fin 10240, if r (colIx z) = (q.val : EReal) then x (colIx z) else 0 := by
  have hN : q.val / 1024 < grid1.N := by have := q.isLt; rw [N_1]; omega
  have hB := fun b hb h => pickStep_block r (fun z => x (colIx z)) q ⟨q.val / 1024, hN⟩ rfl ⟨q.val % 1024, Nat.mod_lt _ (by decide)⟩ rfl b hb h
    (shapeCast S1024x1 (colAt (F := Ideal) x b h) shapeCasts_S1024x1_S1024x1) fun k hk => by
      rw [shapeCast_self]
      exact congrArg x (col_emb b h k hk)
  unfold valArr valRow
  simp only [addf_apply, ValueIdx.broadcast_apply, Ideal.addf_def]
  refine Eq.trans ?_ ((ten_blocks (picked (fun z => r (colIx z)) (fun z => x (colIx z)) q.val)).trans (sum_picked _ _ _))
  refine congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) Ideal.ofBits_zero_f32
    (hB 0 (by omega) _)) (hB 1024 (by omega) _)) (hB 2048 (by omega) _)) (hB 3072 (by omega) _)) (hB 4096 (by omega) _))
    (hB 5120 (by omega) _)) (hB 6144 (by omega) _)) (hB 7168 (by omega) _)) (hB 8192 (by omega) _)) (hB 9216 (by omega) _)

/-! ## The padded scores -/

/-- A sigmoid is not negative. -/
theorem logistic_nonneg (x : EReal) : 0 ≤ Ideal.logistic x := by
  induction x with
  | bot => rw [Ideal.logistic_bot]
  | top => rw [Ideal.logistic_top]; exact zero_le_one
  | coe r => rw [Ideal.logistic_coe]; exact EReal.coe_nonneg.mpr (by positivity)

abbrev fiber (s : S10000.Idx → EReal) : Fin 10000 → EReal := fun a => s (ix1 a)

theorem scores_nonneg (X : S10000x128.Idx → EReal) (W : S1x128.Idx → EReal) (a : Fin 10000) : 0 ≤ fiber (scoresOf (F := Ideal) X W) a := by
  have e : ∃ y : EReal, fiber (scoresOf (F := Ideal) X W) a = Ideal.logistic y := by
    unfold fiber scoresOf
    pointwise []
    exact ⟨_, rfl⟩
  obtain ⟨y, e⟩ := e
  rw [e]
  exact logistic_nonneg y

theorem pad_apply (s : S10000.Idx → EReal) (z : Fin 10240) : padOf (F := Ideal) s (ix1 z) = padN 10240 (fiber s) z := by
  have e : Ideal.ofBits .f32 0xBF800000#32 = -1 := by
    rw [show (-1 : EReal) = ((-(1 : ℝ) : ℝ) : EReal) by rw [EReal.coe_neg, EReal.coe_one]]
    simp [Ideal.ofBits, Ideal.ieee, -EReal.coe_mul, -EReal.coe_neg]; norm_num
  pointwise [padOf, padN]
  rw [e]

theorem padRow_apply (s : S10000.Idx → EReal) (z : Fin 10240) : shapeCast S1x10240 (padOf (F := Ideal) s) shapeCasts_S10240_S1x10240 (rowIx z) = padN 10240 (fiber s) z := by
  rw [← pad_apply]
  pointwise []
theorem padCol_apply (s : S10000.Idx → EReal) (z : Fin 10240) : shapeCast S10240x1 (padOf (F := Ideal) s) shapeCasts_S10240_S10240x1 (colIx z) = padN 10240 (fiber s) z := by
  rw [← pad_apply]
  pointwise []

/-! ## The top k -/

variable (s : S10000.Idx → EReal) (h0 : ∀ a, 0 ≤ fiber s a)

theorem ranks_eq (z : Fin 10240) (q : ℕ) : (ranksOf (F := Ideal) s (colIx z) = (q : EReal)) ↔ rankN (padN 10240 (fiber s)) z = q := by
  unfold ranksOf
  rw [rankArr_apply _ _ (padN 10240 (fiber s)) (padRow_apply s) (padCol_apply s)]
  exact Nat.cast_inj

include h0 in
/-- The entry picked by rank is the sorted one. -/
theorem pick_ranks (k : Fin 10000) (w : Fin 10240 → EReal) :
    (∑ z, if ranksOf (F := Ideal) s (colIx z) = ((k.val : ℕ) : EReal) then w z else 0) = w ((sorted (fiber s) k).castLE (by norm_num)) := by
  rw [← pick_sorted (N := 10240) (by norm_num) (fiber s) h0 k w]
  refine Finset.sum_congr rfl fun z _ => ?_
  have e := ranks_eq s z k.val
  by_cases hz : rankN (padN 10240 (fiber s)) z = k.val
  · rw [if_pos hz, if_pos (e.mpr hz)]
  · rw [if_neg hz, if_neg fun h => hz (e.mp h)]

theorem along_eq (j : S10000.Idx) (k : Fin 10000) : j.along 0 k = ix1 k := by
  funext a
  match a with
  | 0 => exact Function.update_self _ _ _

include h0 in
/-- The indices are the top k's, -/
theorem indices_eq (hf : S10000.Slices (fun _ => 0) S5000) : indicesOf (F := Ideal) s = (Host.topK S5000 0 (FloatOps.cmpfTotal (F := Ideal) (φ := .f32) .gt) s hf).2 := by
  funext j
  have hj : (j 0).val < 5000 := (j 0).isLt
  have hk : (j 0).val < 10000 := by omega
  have hlt : (sorted (fiber s) ⟨(j 0).val, hk⟩).val < 2 ^ 31 := lt_trans (Fin.isLt _) (by norm_num)
  have key := idxArr_apply (ranksOf (F := Ideal) s) ⟨(j 0).val, by omega⟩ _ hlt
    ((pick_ranks s h0 ⟨(j 0).val, hk⟩ fun z => ((z.val : ℕ) : EReal)).trans (by rw [Fin.val_castLE]))
  pointwise [indicesOf, Host.topK, Host.sort2]
  simp only [along_eq]
  rw [show (ix2 0 ⟨(j 0).val, by omega⟩ : S1x5120.Idx) = rowIx ⟨(j 0).val, by omega⟩ from (row_eq _).trans rfl]
  exact key

include h0 in
/-- and the values are. -/
theorem values_eq (hf : S10000.Slices (fun _ => 0) S5000) : valuesOf (F := Ideal) s = (Host.topK S5000 0 (FloatOps.cmpfTotal (F := Ideal) (φ := .f32) .gt) s hf).1 := by
  funext j
  have hj : (j 0).val < 5000 := (j 0).isLt
  have hk : (j 0).val < 10000 := by omega
  have key := (pick_ranks s h0 ⟨(j 0).val, hk⟩ fun z => shapeCast S10240x1 (padOf (F := Ideal) s) shapeCasts_S10240_S10240x1 (colIx z)).trans
    ((padCol_apply s ((sorted (fiber s) ⟨(j 0).val, hk⟩).castLE (by norm_num))).trans (padN_cast _ _ _))
  pointwise [valuesOf, Host.topK, Host.sort2]
  simp only [along_eq]
  rw [show (ix2 0 ⟨(j 0).val, by omega⟩ : S1x5120.Idx) = rowIx ⟨(j 0).val, by omega⟩ from (row_eq _).trans rfl, valArr_apply]
  exact key

end Cert.Proof.Top

end
-- ==== Proof.TopClaims.lean ====
/-
  The top k's claims: its frames, and its results against the reference's.
-/
module

public import proofs.«01_k».proof.Defs
public import proofs.«01_k».proof.Proof.TopMath
public import proofs.«01_k».proof.Proof.Gen.Top
public import proofs.«01_k».proof.Proof.Gen.TopReferenceIdeal
public import proofs.«01_k».proof.Proof.Gen.TopReferenceIdeal.Run

@[expose] public section

set_option backward.isDefEq.respectTransparency false
set_option backward.isDefEq.respectTransparency.types false

noncomputable section

namespace Cert.Proof.Top

open Idealize.ShloMosaic
open Idealize.ShloMosaic.TcCoe
open Idealize.SL.Sem

/-! ## The two printings are one program -/

section
variable {F : FTy → Type} [FloatOps F]

/-! The bodies, the tables of bodies, the pipelines and the main functions, each in turn. -/

set_option maxHeartbeats 4000000 in
set_option maxRecDepth 16384 in
theorem rank_same : @Cert.Top.cc0__rank_body F _ _ = @Cert.TopIdeal.cc0__rank_body F _ _ := by
  rfl

set_option maxHeartbeats 4000000 in
set_option maxRecDepth 16384 in
theorem extract_same : @Cert.Top.cc1__extract_body F _ _ = @Cert.TopIdeal.cc1__extract_body F _ _ := by
  rfl

set_option maxHeartbeats 4000000 in
set_option maxRecDepth 16384 in
theorem defs₀_same : ∀ p ℓ a, @Cert.Top.defs₀ F _ _ p ℓ a = @Cert.TopIdeal.defs₀ F _ _ p ℓ a
  | .tc, 0, (t, s) => rfl
  | .tc, 1, (t, s) => rfl
  | .scVector c s, 0, _ => rfl
  | .scVector c s, 1, _ => rfl
  | .scScalar c, 0, _ => rfl
  | .scScalar c, 1, _ => rfl

set_option maxHeartbeats 4000000 in
set_option maxRecDepth 16384 in
theorem pcfgs_same : @Cert.Top.pcfgs F _ = @Cert.TopIdeal.pcfgs F _ := by
  rfl

set_option maxHeartbeats 4000000 in
set_option maxRecDepth 16384 in
theorem defs_same : @Cert.Top.defs F _ _ = @Cert.TopIdeal.defs F _ _ := by
  have e : @Cert.Top.defs₀ F _ _ = @Cert.TopIdeal.defs₀ F _ _ := funext fun p => funext fun ℓ => funext fun a => defs₀_same p ℓ a
  exact congrArg (fun D => Pipeline.defs (Cert.TopIdeal.pcfgs (F := F)) D) e

set_option maxHeartbeats 4000000 in
set_option maxRecDepth 16384 in
theorem main_same : @Cert.Top.main F _ _ = @Cert.TopIdeal.main F _ _ := by
  rfl
end

/-! ## The claims -/

set_option maxHeartbeats 4000000 in
set_option maxRecDepth 16384 in
/-- The run, over float words. -/
theorem run_bits (m : (ℓ : Loc Cert.Top.nD Cert.Top.τ Cert.Top.sig) → Buf (Elt Bits) ℓ) (g : Dev Cert.Top.nD → PrngReg) :
    θ_run (Cert.Top.defs (F := Bits)) (onTc (τ := Cert.Top.τ) (Cert.Top.main (F := Bits))) ⟨m, fun _ => 0, g⟩
      (fun r => (∀ c, Ends (F := Bits) m c r.2) ∧ r.2.sem = fun _ => 0) := by
  have h := run_main (F := Bits) m g
  rw [← defs_same, ← main_same] at h
  exact h

/-- The top k ends with its arguments as they were, -/
theorem frame_kernel : Cert.quiescent_Top := fun m g _ =>
  (θ_run (Cert.Top.defs (F := Bits)) _ _).mono (fun _ h => ⟨fun c => ⟨(h.1 c).2.2.2.1, (h.1 c).2.2.2.2⟩, h.2⟩) (run_bits m g)

/-- so does its ideal program, -/
theorem frame_ideal : Cert.quiescent_TopIdeal := fun m g _ =>
  (θ_run (Cert.TopIdeal.defs (F := Ideal)) _ _).mono (fun _ h => ⟨fun c => ⟨(h.1 c).2.2.2.1, (h.1 c).2.2.2.2⟩, h.2⟩) (run_main (F := Ideal) m g)

/-- and so does the reference. -/
theorem frame_reference : Cert.quiescent_TopReferenceIdeal := fun m g _ =>
  (θ_run (Cert.TopReferenceIdeal.defs (F := Ideal)) _ _).mono
    (fun r h => ⟨fun c => ⟨(h c).2.2.2.2.1, (h c).2.2.2.2.2⟩, Idealize.ShloMosaic.sem_eq_zero_of_no_sems (by decide) r.2⟩)
    (Cert.TopReferenceIdeal.Value.run (F := Ideal) m g)

set_option maxHeartbeats 4000000 in
/-- The top k and its reference leave the same indices, values, scores and weights. -/
theorem value : Cert.algebraic_TopIdeal_TopReferenceIdeal := by
  intro m g m' g' _ hm
  refine ⟨fun c => indicesOf (F := Ideal) (scoresOf (m ((c.tc : Thread _ _).loc Cert.TopIdeal.main_arg0)) (m ((c.tc : Thread _ _).loc Cert.TopIdeal.main_arg1))),
    fun c => valuesOf (F := Ideal) (scoresOf (m ((c.tc : Thread _ _).loc Cert.TopIdeal.main_arg0)) (m ((c.tc : Thread _ _).loc Cert.TopIdeal.main_arg1))),
    fun c => scoresOf (F := Ideal) (m ((c.tc : Thread _ _).loc Cert.TopIdeal.main_arg0)) (m ((c.tc : Thread _ _).loc Cert.TopIdeal.main_arg1)),
    fun c => m ((c.tc : Thread _ _).loc Cert.TopIdeal.main_arg1), ?_, ?_⟩
  · exact (θ_run (Cert.TopIdeal.defs (F := Ideal)) _ _).mono
      (fun _ h c => ⟨(h.1 c).1, (h.1 c).2.1, (h.1 c).2.2.1, (h.1 c).2.2.2.2, (h.1 c).2.2.2.1, (h.1 c).2.2.2.2⟩)
      (run_main (F := Ideal) m g)
  · refine (θ_run (Cert.TopReferenceIdeal.defs (F := Ideal)) _ _).mono (fun _ h c => ?_) (Cert.TopReferenceIdeal.Value.run (F := Ideal) m' g')
    obtain ⟨h0, h1, h2, h3, h4, h5⟩ := h c
    obtain ⟨e0, e1⟩ := hm c
    rw [e0, e1] at h0 h1 h2
    exact ⟨h0.trans (indices_eq _ (scores_nonneg _ _) _).symm, h1.trans (values_eq _ (scores_nonneg _ _) _).symm, h2, h3.trans e1, h4, h5⟩

end Cert.Proof.Top

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Value
public import proofs.«01_k».proof.Proof.Gen.Top
public import proofs.«01_k».proof.Proof.Gen.TopIdeal
public import proofs.«01_k».proof.Proof.Gen.TopIdeal.Points
public import proofs.«01_k».proof.Proof.Gen.TopIdeal.Launch
public import proofs.«01_k».proof.Proof.Gen.TopIdeal.Skeleton
public import proofs.«01_k».proof.Proof.Gen.TopReferenceIdeal
public import proofs.«01_k».proof.Proof.Gen.TopReferenceIdeal.Run
public import proofs.«01_k».proof.Proof.TopClaims

@[expose] public section

noncomputable section

namespace Cert.Proof

theorem claim : Cert.Claim := ⟨Cert.Kernel.Gen.facts, Cert.KernelIdeal.Gen.facts, Cert.ReferenceIdeal.Gen.facts, Cert.Top.Gen.facts,
  Cert.TopIdeal.Gen.facts, Cert.TopReferenceIdeal.Gen.facts, Cert.Pre_in_range.Gen.facts,
  Run.frame_kernel, Run.frame_ideal, Run.frame_reference, fun m g _ => Run.frame_reference m g trivial,
  Top.frame_kernel, Top.frame_ideal, Top.frame_reference, trivial, Run.value, trivial, Top.value⟩

end Cert.Proof

end
